-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v92_0)) (v1 : (c : Dev Cert.KernelIdeal.nD) → Buf (Elt Ideal) ((c.tc : Thread Cert.KernelIdeal.nD Cert.KernelIdeal.τ).loc Cert.KernelIdeal.main_v92_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92_0) = v0 c
          ∧ r.2.mem ((c.tc : Thread Cert.KernelIdeal.nD Cert.KernelIdeal.τ).loc Cert.KernelIdeal.main_v92_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v55) = v0 c
          ∧ r.2.mem ((c.tc : Thread Cert.Reference10Ideal.nD Cert.Reference10Ideal.τ).loc Cert.Reference10Ideal.main_v57) = v1 c
          ∧ r.2.mem ((c.tc : Thread Cert.Reference10Ideal.nD Cert.Reference10Ideal.τ).loc Cert.Reference10Ideal.main_v56) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  IdealRules.named_const.Statement Cert.Kernel11Ideal.κ "c1" .f32 0x3FC48605#32 ((8388608 / 5463681 : ℝ) : EReal)
  ∧ IdealRules.named_const.Statement Cert.Kernel11Ideal.κ "c2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "c1" .f32 0x3FC48605#32 ((8388608 / 5463681 : ℝ) : EReal)
  ∧ IdealRules.named_const.Statement Cert.Kernel12Ideal.κ "c2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "c1" .f32 0x3FC48605#32 ((8388608 / 5463681 : ℝ) : EReal)
  ∧ IdealRules.named_const.Statement Cert.Kernel13Ideal.κ "c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "c1" .f32 0x3FC48605#32 ((8388608 / 5463681 : ℝ) : EReal)
  ∧ IdealRules.named_const.Statement Cert.Kernel14Ideal.κ "c2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "c1" .f32 0x3FC48605#32 ((8388608 / 5463681 : ℝ) : EReal)
  ∧ IdealRules.named_const.Statement Cert.Kernel15Ideal.κ "c2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "c1" .f32 0x3FC48605#32 ((8388608 / 5463681 : ℝ) : EReal)
  ∧ IdealRules.named_const.Statement Cert.Kernel16Ideal.κ "c2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S2x4096x768 : Shape := ⟨3, ![2, 4096, 768]⟩
abbrev S8 : Shape := ⟨1, ![8]⟩
abbrev S2x4096x512 : Shape := ⟨3, ![2, 4096, 512]⟩
abbrev S_ : Shape := ⟨0, ![]⟩

class Facts : Prop where
  bitsLt_bf16_f32 : FTy.bits .bf16 < FTy.bits .f32
  bcast_S_S2x4096x768 : S_.BroadcastsInDim S2x4096x768 (![] : Fin 0 → Fin S2x4096x768.rank)
  bcast_S_S8 : S_.BroadcastsInDim S8 (![] : Fin 0 → Fin S8.rank)
  bcast_S_S2x4096x512 : S_.BroadcastsInDim S2x4096x512 (![] : Fin 0 → Fin S2x4096x512.rank)

variable [Facts]

def fn {F : FTy → Type} [FloatOps F] (main_arg0 : FVec F S2x4096x768 .bf16) (main_arg1 : FVec F S8 .f32) (main_arg2 : FVec F S2x4096x512 .bf16) : IVec S2x4096x768 1 × IVec S8 1 × IVec S2x4096x512 1 :=
  let main_v0 : FVec F S2x4096x768 .f32 := (extf .f32 · bitsLt_bf16_f32) main_arg0
  let main_v1 : FVec F S2x4096x768 .f32 := Host.absf main_v0
  let main_cst : FVec F S_ .f32 := constant S_ .f32 0x7F800000#32
  let main_v2 : FVec F S2x4096x768 .f32 := broadcastInDim S2x4096x768 ![] bcast_S_S2x4096x768 main_cst
  let main_v3 : IVec S2x4096x768 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_v7 : FVec F S2x4096x512 .f32 := (extf .f32 · bitsLt_bf16_f32) main_arg2
  let main_v8 : FVec F S2x4096x512 .f32 := Host.absf main_v7
  let main_cst_1 : FVec F S_ .f32 := constant S_ .f32 0x7F800000#32
  let main_v9 : FVec F S2x4096x512 .f32 := broadcastInDim S2x4096x512 ![] bcast_S_S2x4096x512 main_cst_1
  let main_v10 : IVec S2x4096x512 1 := cmpf .olt main_v8 main_v9
  (main_v3, main_v6, main_v10)
-- ==== Kernel.lean ====
abbrev S2x4096x768 : Shape := ⟨3, ![2, 4096, 768]⟩
abbrev S8 : Shape := ⟨1, ![8]⟩
abbrev S2x4096x512 : Shape := ⟨3, ![2, 4096, 512]⟩
abbrev S2x4096x8x64 : Shape := ⟨4, ![2, 4096, 8, 64]⟩
abbrev S2x4096x128 : Shape := ⟨3, ![2, 4096, 128]⟩
abbrev S2x4096x2x64 : Shape := ⟨4, ![2, 4096, 2, 64]⟩
abbrev S2x32x128x2x4x64 : Shape := ⟨6, ![2, 32, 128, 2, 4, 64]⟩
abbrev S_ : Shape := ⟨0, ![]⟩
abbrev S2x128x2x64 : Shape := ⟨4, ![2, 128, 2, 64]⟩
abbrev S2x4224x2x64 : Shape := ⟨4, ![2, 4224, 2, 64]⟩
abbrev S2x33x128x2x64 : Shape := ⟨5, ![2, 33, 128, 2, 64]⟩
abbrev S2x32x128x2x64 : Shape := ⟨5, ![2, 32, 128, 2, 64]⟩
abbrev S2x32x256x2x64 : Shape := ⟨5, ![2, 32, 256, 2, 64]⟩
abbrev S2x32x2x256x128x4 : Shape := ⟨6, ![2, 32, 2, 256, 128, 4]⟩
abbrev S2x32x2x4x128x256 : Shape := ⟨6, ![2, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x2x4x128x256 : Shape := ⟨6, ![1, 1, 2, 4, 128, 256]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x8x128x256 : Shape := ⟨5, ![2, 32, 8, 128, 256]⟩
abbrev S2x32x8x128 : Shape := ⟨4, ![2, 32, 8, 128]⟩
abbrev S2x32x128x8 : Shape := ⟨4, ![2, 32, 128, 8]⟩
abbrev S2x4096x8 : Shape := ⟨3, ![2, 4096, 8]⟩
abbrev S1x128 : Shape := ⟨2, ![1, 128]⟩
abbrev S1x128x512 : Shape := ⟨3, ![1, 128, 512]⟩
abbrev S1x128x128 : Shape := ⟨3, ![1, 128, 128]⟩
abbrev S1x1x8x128x256 : Shape := ⟨5, ![1, 1, 8, 128, 256]⟩
abbrev S1x128x768 : Shape := ⟨3, ![1, 128, 768]⟩
abbrev S2x128x128 : Shape := ⟨3, ![2, 128, 128]⟩
abbrev S128x128 : Shape := ⟨2, ![128, 128]⟩
abbrev S1x1x1x128x256 : Shape := ⟨5, ![1, 1, 1, 128, 256]⟩
abbrev S256x128 : Shape := ⟨2, ![256, 128]⟩

abbrev nBuf : Space → Nat
  | .hbm => 117
  | .vmem => 20
  | .smem => 0
  | _ => 0

abbrev bufTy : (tb : Table) → Fin (tcTables nBuf tb) → BufTy
  | .hbm, ⟨0, _⟩ => ⟨S2x4096x768, .bf16⟩
  | .hbm, ⟨1, _⟩ => ⟨S8, .f32⟩
  | .hbm, ⟨2, _⟩ => ⟨S2x4096x512, .bf16⟩
  | .hbm, ⟨3, _⟩ => ⟨S2x4096x768, .f32⟩
  | .hbm, ⟨4, _⟩ => ⟨S2x4096x512, .f32⟩
  | .hbm, ⟨5, _⟩ => ⟨S2x4096x8x64, .f32⟩
  | .hbm, ⟨6, _⟩ => ⟨S2x4096x128, .f32⟩
  | .hbm, ⟨7, _⟩ => ⟨S2x4096x2x64, .f32⟩
  | .hbm, ⟨8, _⟩ => ⟨S2x32x128x2x4x64, .f32⟩
  | .hbm, ⟨9, _⟩ => ⟨S_, .f32⟩
  | .hbm, ⟨10, _⟩ => ⟨S2x128x2x64, .f32⟩
  | .hbm, ⟨11, _⟩ => ⟨S2x4224x2x64, .f32⟩
  | .hbm, ⟨12, _⟩ => ⟨S2x33x128x2x64, .f32⟩
  | .hbm, ⟨13, _⟩ => ⟨S2x32x128x2x64, .f32⟩
  | .hbm, ⟨14, _⟩ => ⟨S2x32x128x2x64, .f32⟩
  | .hbm, ⟨15, _⟩ => ⟨S2x32x256x2x64, .f32⟩
  | .hbm, ⟨16, _⟩ => ⟨S2x32x2x256x128x4, .f32⟩
  | .hbm, ⟨17, _⟩ => ⟨S2x32x2x4x128x256, .f32⟩
  | .hbm, ⟨18, _⟩ => ⟨S_, .f32⟩
  | .hbm, ⟨19, _⟩ => ⟨S2x32x2x4x128x256, .f32⟩
  | .hbm, ⟨20, _⟩ => ⟨S2x32x2x4x128x256, .f32⟩
  | .hbm, ⟨21, _⟩ => ⟨S128, .i32⟩
  | .hbm, ⟨22, _⟩ => ⟨S128x1, .i32⟩
  | .hbm, ⟨23, _⟩ => ⟨S256, .i32⟩
  | .hbm, ⟨24, _⟩ => ⟨S1x256, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S_, .i32⟩
  | .hbm, ⟨29, _⟩ => ⟨S128x256, .i32⟩
  | .hbm, ⟨30, _⟩ => ⟨S128x256, .i32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S2x4x1x1, .f32⟩
  | .hbm, ⟨46, _⟩ => ⟨S2x4x1x1, .f32⟩
  | .hbm, ⟨47, _⟩ => ⟨S128x256, .f32⟩
  | .hbm, ⟨48, _⟩ => ⟨S1x1x128x256, .f32⟩
  | .hbm, ⟨49, _⟩ => ⟨S2x4x128x256, .f32⟩
  | .hbm, ⟨50, _⟩ => ⟨S2x4x128x256, .f32⟩
  | .hbm, ⟨51, _⟩ => ⟨S2x4x128x256, .f32⟩
  | .hbm, ⟨52, _⟩ => ⟨S32, .i32⟩
  | .hbm, ⟨53, _⟩ => ⟨S32x1, .i32⟩
  | .hbm, ⟨54, _⟩ => ⟨S_, .i32⟩
  | .hbm, ⟨55, _⟩ => ⟨S32x1, .i32⟩
  | .hbm, ⟨56, _⟩ => ⟨S32x1, .i32⟩
  | .hbm, ⟨57, _⟩ => ⟨S256, .i32⟩
  | .hbm, ⟨58, _⟩ => ⟨S1x256, .i32⟩
  | .hbm, ⟨59, _⟩ => ⟨S32x256, .i32⟩
  | .hbm, ⟨60, _⟩ => ⟨S32x256, .i32⟩
  | .hbm, ⟨61, _⟩ => ⟨S32x256, .i32⟩
  | .hbm, ⟨62, _⟩ => ⟨S_, .i32⟩
  | .hbm, ⟨63, _⟩ => ⟨S32x256, .i32⟩
  | .hbm, ⟨64, _⟩ => ⟨S32x256, .i32⟩
  | .hbm, ⟨65, _⟩ => ⟨S_, .i32⟩
  | .hbm, ⟨66, _⟩ => ⟨S128x256, .i32⟩
  | .hbm, ⟨67, _⟩ => ⟨S128x256, .i1⟩
  | .hbm, ⟨68, _⟩ => ⟨S_, .i32⟩
  | .hbm, ⟨69, _⟩ => ⟨S128x256, .i32⟩
  | .hbm, ⟨70, _⟩ => ⟨S128x256, .i1⟩
  | .hbm, ⟨71, _⟩ => ⟨S128x256, .i1⟩
  | .hbm, ⟨72, _⟩ => ⟨S1x128x256, .i1⟩
  | .hbm, ⟨73, _⟩ => ⟨S_, .i32⟩
  | .hbm, ⟨74, _⟩ => ⟨S32x256, .i32⟩
  | .hbm, ⟨75, _⟩ => ⟨S32x256, .i1⟩
  | .hbm, ⟨76, _⟩ => ⟨S32x1x256, .i1⟩
  | .hbm, ⟨77, _⟩ => ⟨S32x128x256, .i1⟩
  | .hbm, ⟨78, _⟩ => ⟨S32x128x256, .i1⟩
  | .hbm, ⟨79, _⟩ => ⟨S32x128x256, .i1⟩
  | .hbm, ⟨80, _⟩ => ⟨S1x32x1x1x128x256, .i1⟩
  | .hbm, ⟨81, _⟩ => ⟨S1x1x2x4x128x256, .f32⟩
  | .hbm, ⟨82, _⟩ => ⟨S2x32x2x4x128x256, .f32⟩
  | .hbm, ⟨83, _⟩ => ⟨S2x32x2x4x128x256, .f32⟩
  | .hbm, ⟨84, _⟩ => ⟨S_, .f32⟩
  | .hbm, ⟨85, _⟩ => ⟨S_, .f32⟩
  | .hbm, ⟨86, _⟩ => ⟨S2x32x2x4x128x256, .i1⟩
  | .hbm, ⟨87, _⟩ => ⟨S2x32x2x4x128x256, .f32⟩
  | .hbm, ⟨88, _⟩ => ⟨S2x32x2x4x128x256, .f32⟩
  | .hbm, ⟨89, _⟩ => ⟨S1x1x2x4x1x1, .f32⟩
  | .hbm, ⟨90, _⟩ => ⟨S_, .f32⟩
  | .hbm, ⟨91, _⟩ => ⟨S2x32x2x4x128, .f32⟩
  | .hbm, ⟨92, _⟩ => ⟨S2x32x2x4x128x1, .f32⟩
  | .hbm, ⟨93, _⟩ => ⟨S2x32x2x4x128x1, .f32⟩
  | .hbm, ⟨94, _⟩ => ⟨S2x32x2x4x128x1, .f32⟩
  | .hbm, ⟨95, _⟩ => ⟨S2x32x2x4x128x256, .f32⟩
  | .hbm, ⟨96, _⟩ => ⟨S2x32x2x4x128x256, .f32⟩
  | .hbm, ⟨97, _⟩ => ⟨S2x32x2x4x128x256, .f32⟩
  | .hbm, ⟨98, _⟩ => ⟨S2x32x2x4x128x1, .f32⟩
  | .hbm, ⟨99, _⟩ => ⟨S2x32x2x4x128x1, .f32⟩
  | .hbm, ⟨100, _⟩ => ⟨S2x32x2x4x128x1, .f32⟩
  | .hbm, ⟨101, _⟩ => ⟨S_, .f32⟩
  | .hbm, ⟨102, _⟩ => ⟨S2x32x2x4x128, .f32⟩
  | .hbm, ⟨103, _⟩ => ⟨S2x32x2x4x128x1, .f32⟩
  | .hbm, ⟨104, _⟩ => ⟨S2x32x2x4x128x1, .f32⟩
  | .hbm, ⟨105, _⟩ => ⟨S2x32x2x4x128x256, .f32⟩
  | .hbm, ⟨106, _⟩ => ⟨S2x32x2x4x128x256, .f32⟩
  | .hbm, ⟨107, _⟩ => ⟨S2x32x2x4x128x1, .f32⟩
  | .hbm, ⟨108, _⟩ => ⟨S2x32x8x128x256, .f32⟩
  | .hbm, ⟨109, _⟩ => ⟨S2x32x8x128, .f32⟩
  | .hbm, ⟨110, _⟩ => ⟨S2x32x128x8, .f32⟩
  | .hbm, ⟨111, _⟩ => ⟨S2x4096x8, .f32⟩
  | .hbm, ⟨112, _⟩ => ⟨S_, .i32⟩
  | .hbm, ⟨113, _⟩ => ⟨S_, .f32⟩
  | .hbm, ⟨114, _⟩ => ⟨S2x4096x128, .f32⟩
  | .hbm, ⟨115, _⟩ => ⟨S2x4096x768, .bf16⟩
  | .hbm, ⟨116, _⟩ => ⟨S1x128, .f32⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x512, .bf16⟩
  | .local _ .vmem, ⟨11, _⟩ => ⟨S1x128x512, .bf16⟩
  | .local _ .vmem, ⟨12, _⟩ => ⟨S1x1x8x128x256, .f32⟩
  | .local _ .vmem, ⟨13, _⟩ => ⟨S1x1x8x128x256, .f32⟩
  | .local _ .vmem, ⟨14, _⟩ => ⟨S1x128x128, .f32⟩
  | .local _ .vmem, ⟨15, _⟩ => ⟨S1x128x128, .f32⟩
  | .local _ .vmem, ⟨16, _⟩ => ⟨S1x128x768, .bf16⟩
  | .local _ .vmem, ⟨17, _⟩ => ⟨S1x128x768, .bf16⟩
  | .local _ .vmem, ⟨18, _⟩ => ⟨S1x128, .f32⟩
  | .local _ .vmem, ⟨19, _⟩ => ⟨S2x128x128, .f32⟩
  | _, _ => ⟨S2x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_c_7 : Ref sig .tc := ⟨.hbm, 65, rfl⟩
abbrev main_v53 : Ref sig .tc := ⟨.hbm, 66, rfl⟩
abbrev main_v54 : Ref sig .tc := ⟨.hbm, 67, rfl⟩
abbrev main_c_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_10 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_13 : Ref sig .tc := ⟨.hbm, 112, rfl⟩
abbrev main_call1_v0 : Ref sig .tc := ⟨.hbm, 113, rfl⟩
abbrev main_v91 : Ref sig .tc := ⟨.hbm, 114, rfl⟩
abbrev main_v92_0 : Ref sig .tc := ⟨.hbm, 115, rfl⟩
abbrev main_v92_1 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let c0_i32 : BitVec 32 := 0#32
  ![arg0.toNat, v0.toNat, c4_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c5_i32 : BitVec 32 := 5#32
  let c0_i32 : BitVec 32 := 0#32
  ![arg0.toNat, v0.toNat, c5_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_6 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S2x4096x768 : Shape := ⟨3, ![2, 4096, 768]⟩
abbrev S8 : Shape := ⟨1, ![8]⟩
abbrev S2x4096x512 : Shape := ⟨3, ![2, 4096, 512]⟩
abbrev S2x4096x8x64 : Shape := ⟨4, ![2, 4096, 8, 64]⟩
abbrev S2x4096x128 : Shape := ⟨3, ![2, 4096, 128]⟩
abbrev S2x4096x2x64 : Shape := ⟨4, ![2, 4096, 2, 64]⟩
abbrev S2x32x128x2x4x64 : Shape := ⟨6, ![2, 32, 128, 2, 4, 64]⟩
abbrev S_ : Shape := ⟨0, ![]⟩
abbrev S2x128x2x64 : Shape := ⟨4, ![2, 128, 2, 64]⟩
abbrev S2x4224x2x64 : Shape := ⟨4, ![2, 4224, 2, 64]⟩
abbrev S2x33x128x2x64 : Shape := ⟨5, ![2, 33, 128, 2, 64]⟩
abbrev S2x32x128x2x64 : Shape := ⟨5, ![2, 32, 128, 2, 64]⟩
abbrev S2x32x256x2x64 : Shape := ⟨5, ![2, 32, 256, 2, 64]⟩
abbrev S2x32x2x256x128x4 : Shape := ⟨6, ![2, 32, 2, 256, 128, 4]⟩
abbrev S2x32x2x4x128x256 : Shape := ⟨6, ![2, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x2x4x128x256 : Shape := ⟨6, ![1, 1, 2, 4, 128, 256]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x2x64x4x128 : Shape := ⟨6, ![2, 32, 2, 64, 4, 128]⟩
abbrev S2x32x2x64x256 : Shape := ⟨5, ![2, 32, 2, 64, 256]⟩
abbrev S2x4x1 : Shape := ⟨3, ![2, 4, 1]⟩
abbrev S2x32x2x128x4x64 : Shape := ⟨6, ![2, 32, 2, 128, 4, 64]⟩
abbrev S2x32x2x256x64 : Shape := ⟨5, ![2, 32, 2, 256, 64]⟩
abbrev S1x128 : Shape := ⟨2, ![1, 128]⟩

abbrev nBuf : Space → Nat
  | .hbm => 250
  | .vmem => 0
  | .smem => 0
  | _ => 0

abbrev hbmTy0_0 (i : Nat) : BufTy := match i % 128 with
  | 0 => ⟨S2x4096x768, .bf16⟩
  | 1 => ⟨S8, .f32⟩
  | 2 => ⟨S2x4096x512, .bf16⟩
  | 3 => ⟨S2x4096x512, .f32⟩
  | 4 => ⟨S2x4096x768, .f32⟩
  | 5 => ⟨S2x4096x512, .f32⟩
  | 6 => ⟨S2x4096x8x64, .f32⟩
  | 7 => ⟨S2x4096x128, .f32⟩
  | 8 => ⟨S2x4096x2x64, .f32⟩
  | 9 => ⟨S2x4096x128, .f32⟩
  | 10 => ⟨S2x4096x2x64, .f32⟩
  | 11 => ⟨S2x32x128x2x4x64, .f32⟩
  | 12 => ⟨S_, .f32⟩
  | 13 => ⟨S2x128x2x64, .f32⟩
  | 14 => ⟨S2x4224x2x64, .f32⟩
  | 15 => ⟨S_, .f32⟩
  | 16 => ⟨S2x128x2x64, .f32⟩
  | 17 => ⟨S2x33x128x2x64, .f32⟩
  | 18 => ⟨S2x32x128x2x64, .f32⟩
  | 19 => ⟨S2x32x128x2x64, .f32⟩
  | 20 => ⟨S2x32x256x2x64, .f32⟩
  | 21 => ⟨S_, .f32⟩
  | 22 => ⟨S2x128x2x64, .f32⟩
  | 23 => ⟨S2x4224x2x64, .f32⟩
  | 24 => ⟨S_, .f32⟩
  | 25 => ⟨S2x128x2x64, .f32⟩
  | 26 => ⟨S2x33x128x2x64, .f32⟩
  | 27 => ⟨S2x32x128x2x64, .f32⟩
  | 28 => ⟨S2x32x128x2x64, .f32⟩
  | 29 => ⟨S2x32x256x2x64, .f32⟩
  | 30 => ⟨S2x32x2x256x128x4, .f32⟩
  | 31 => ⟨S2x32x2x4x128x256, .f32⟩
  | 32 => ⟨S_, .f32⟩
  | 33 => ⟨S2x32x2x4x128x256, .f32⟩
  | 34 => ⟨S2x32x2x4x128x256, .f32⟩
  | 35 => ⟨S128, .i32⟩
  | 36 => ⟨S128x1, .i32⟩
  | 37 => ⟨S256, .i32⟩
  | 38 => ⟨S1x256, .i32⟩
  | 39 => ⟨S128x256, .i32⟩
  | 40 => ⟨S128x256, .i32⟩
  | 41 => ⟨S128x256, .i32⟩
  | 42 => ⟨S_, .i32⟩
  | 43 => ⟨S128x256, .i32⟩
  | 44 => ⟨S128x256, .i32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S8, .f32⟩
  | 59 => ⟨S2x4x1x1, .f32⟩
  | 60 => ⟨S2x4x1x1, .f32⟩
  | 61 => ⟨S128x256, .f32⟩
  | 62 => ⟨S1x1x128x256, .f32⟩
  | 63 => ⟨S2x4x128x256, .f32⟩
  | 64 => ⟨S2x4x128x256, .f32⟩
  | 65 => ⟨S2x4x128x256, .f32⟩
  | 66 => ⟨S32, .i32⟩
  | 67 => ⟨S32x1, .i32⟩
  | 68 => ⟨S_, .i32⟩
  | 69 => ⟨S32x1, .i32⟩
  | 70 => ⟨S32x1, .i32⟩
  | 71 => ⟨S256, .i32⟩
  | 72 => ⟨S1x256, .i32⟩
  | 73 => ⟨S32x256, .i32⟩
  | 74 => ⟨S32x256, .i32⟩
  | 75 => ⟨S32x256, .i32⟩
  | 76 => ⟨S_, .i32⟩
  | 77 => ⟨S32x256, .i32⟩
  | 78 => ⟨S32x256, .i32⟩
  | 79 => ⟨S_, .i32⟩
  | 80 => ⟨S128x256, .i32⟩
  | 81 => ⟨S128x256, .i1⟩
  | 82 => ⟨S_, .i32⟩
  | 83 => ⟨S128x256, .i32⟩
  | 84 => ⟨S128x256, .i1⟩
  | 85 => ⟨S128x256, .i1⟩
  | 86 => ⟨S1x128x256, .i1⟩
  | 87 => ⟨S_, .i32⟩
  | 88 => ⟨S32x256, .i32⟩
  | 89 => ⟨S32x256, .i1⟩
  | 90 => ⟨S32x1x256, .i1⟩
  | 91 => ⟨S32x128x256, .i1⟩
  | 92 => ⟨S32x128x256, .i1⟩
  | 93 => ⟨S32x128x256, .i1⟩
  | 94 => ⟨S1x32x1x1x128x256, .i1⟩
  | 95 => ⟨S1x1x2x4x128x256, .f32⟩
  | 96 => ⟨S2x32x2x4x128x256, .f32⟩
  | 97 => ⟨S2x32x2x4x128x256, .f32⟩
  | 98 => ⟨S_, .f32⟩
  | 99 => ⟨S_, .f32⟩
  | 100 => ⟨S2x32x2x4x128x256, .i1⟩
  | 101 => ⟨S2x32x2x4x128x256, .f32⟩
  | 102 => ⟨S2x32x2x4x128x256, .f32⟩
  | 103 => ⟨S_, .f32⟩
  | 104 => ⟨S2x32x2x4x128x256, .f32⟩
  | 105 => ⟨S1x1x2x4x1x1, .f32⟩
  | 106 => ⟨S_, .f32⟩
  | 107 => ⟨S2x32x2x4x128, .f32⟩
  | 108 => ⟨S2x32x2x4x128x1, .f32⟩
  | 109 => ⟨S2x32x2x4x128x256, .f32⟩
  | 110 => ⟨S2x32x2x4x128x256, .i1⟩
  | 111 => ⟨S2x32x2x4x128x256, .f32⟩
  | 112 => ⟨S_, .f32⟩
  | 113 => ⟨S2x32x2x4x128, .f32⟩
  | 114 => ⟨S2x32x2x4x128x1, .f32⟩
  | 115 => ⟨S2x32x2x4x128x1, .f32⟩
  | 116 => ⟨S2x32x2x4x128x1, .f32⟩
  | 117 => ⟨S2x32x2x4x128x1, .f32⟩
  | 118 => ⟨S2x32x2x4x128x1, .i1⟩
  | 119 => ⟨S2x32x2x4x128x1, .f32⟩
  | 120 => ⟨S2x32x2x4x128x1, .i1⟩
  | 121 => ⟨S_, .f32⟩
  | 122 => ⟨S2x32x2x4x128x1, .f32⟩
  | 123 => ⟨S_, .f32⟩
  | 124 => ⟨S2x32x2x4x128x1, .f32⟩
  | 125 => ⟨S_, .f32⟩
  | 126 => ⟨S2x32x2x4x128x1, .f32⟩
  | 127 => ⟨S2x32x2x4x128x1, .f32⟩
  | _ => ⟨S2x4096x768, .bf16⟩

abbrev hbmTy0_1 (i : Nat) : BufTy := match i % 128 with
  | 0 => ⟨S2x32x2x4x128x1, .f32⟩
  | 1 => ⟨S2x32x2x4x128x1, .f32⟩
  | 2 => ⟨S2x32x2x4x128x1, .i1⟩
  | 3 => ⟨S2x32x2x4x128x1, .f32⟩
  | 4 => ⟨S2x32x2x4x128x1, .i1⟩
  | 5 => ⟨S_, .f32⟩
  | 6 => ⟨S2x32x2x4x128x1, .f32⟩
  | 7 => ⟨S_, .f32⟩
  | 8 => ⟨S2x32x2x4x128x1, .f32⟩
  | 9 => ⟨S_, .f32⟩
  | 10 => ⟨S2x32x2x4x128x1, .f32⟩
  | 11 => ⟨S2x32x2x4x128x1, .f32⟩
  | 12 => ⟨S2x32x2x4x128x1, .f32⟩
  | 13 => ⟨S2x32x2x4x128x256, .f32⟩
  | 14 => ⟨S2x32x2x4x128x256, .f32⟩
  | 15 => ⟨S2x32x2x4x128x256, .f32⟩
  | 16 => ⟨S2x32x2x4x128x1, .f32⟩
  | 17 => ⟨S2x32x2x4x128x1, .f32⟩
  | 18 => ⟨S2x32x2x4x128x1, .f32⟩
  | 19 => ⟨S_, .f32⟩
  | 20 => ⟨S2x32x2x4x128, .f32⟩
  | 21 => ⟨S2x32x2x4x128x1, .f32⟩
  | 22 => ⟨S2x32x2x4x128x1, .f32⟩
  | 23 => ⟨S2x32x2x4x128x256, .f32⟩
  | 24 => ⟨S2x32x2x4x128x256, .f32⟩
  | 25 => ⟨S2x32x2x4x128x1, .f32⟩
  | 26 => ⟨S_, .f32⟩
  | 27 => ⟨S2x32x2x4x128x1, .f32⟩
  | 28 => ⟨S2x32x2x4x128x1, .f32⟩
  | 29 => ⟨S2x32x2x64x4x128, .f32⟩
  | 30 => ⟨S2x32x128x2x4x64, .f32⟩
  | 31 => ⟨S2x4096x512, .f32⟩
  | 32 => ⟨S2x32x128x2x4x64, .f32⟩
  | 33 => ⟨S2x32x2x64x4x128, .f32⟩
  | 34 => ⟨S2x32x2x4x128x256, .f32⟩
  | 35 => ⟨S2x32x2x64x256, .f32⟩
  | 36 => ⟨S2x32x256x2x64, .f32⟩
  | 37 => ⟨S2x32x2x4x128x256, .f32⟩
  | 38 => ⟨S2x32x2x4x128x256, .f32⟩
  | 39 => ⟨S2x32x2x4x128x256, .f32⟩
  | 40 => ⟨S_, .f32⟩
  | 41 => ⟨S2x32x2x4x128, .f32⟩
  | 42 => ⟨S2x32x2x4x128x1, .f32⟩
  | 43 => ⟨S2x32x2x4x128x1, .f32⟩
  | 44 => ⟨S2x32x2x4x128x256, .f32⟩
  | 45 => ⟨S2x32x2x4x128x256, .f32⟩
  | 46 => ⟨S_, .f32⟩
  | 47 => ⟨S2x32x2x4x128, .f32⟩
  | 48 => ⟨S2x32x2x4x128x256, .f32⟩
  | 49 => ⟨S2x32x2x4x128x256, .f32⟩
  | 50 => ⟨S2x32x2x4x128x1, .f32⟩
  | 51 => ⟨S_, .f32⟩
  | 52 => ⟨S2x4x1, .f32⟩
  | 53 => ⟨S1x1x2x4x1x1, .f32⟩
  | 54 => ⟨S2x32x2x4x128x1, .f32⟩
  | 55 => ⟨S2x32x2x4x128x256, .f32⟩
  | 56 => ⟨S2x32x2x4x128x256, .f32⟩
  | 57 => ⟨S_, .f32⟩
  | 58 => ⟨S2x32x2x4x128, .f32⟩
  | 59 => ⟨S2x32x2x4x128x1, .f32⟩
  | 60 => ⟨S2x32x2x4x128x1, .f32⟩
  | 61 => ⟨S2x32x2x4x128x1, .f32⟩
  | 62 => ⟨S_, .f32⟩
  | 63 => ⟨S2x4x1, .f32⟩
  | 64 => ⟨S1x1x2x4x1x1, .f32⟩
  | 65 => ⟨S1x1x2x4x1x1, .f32⟩
  | 66 => ⟨S2x32x2x4x128x1, .f32⟩
  | 67 => ⟨S_, .f32⟩
  | 68 => ⟨S2x32x2x4x128, .f32⟩
  | 69 => ⟨S2x32x2x4x128, .f32⟩
  | 70 => ⟨S2x32x2x4x128x256, .f32⟩
  | 71 => ⟨S2x32x2x4x128x256, .f32⟩
  | 72 => ⟨S2x32x2x4x128x256, .f32⟩
  | 73 => ⟨S8, .f32⟩
  | 74 => ⟨S_, .f32⟩
  | 75 => ⟨S2x32x2x4x128x256, .f32⟩
  | 76 => ⟨S2x32x2x4x128x256, .f32⟩
  | 77 => ⟨S_, .f32⟩
  | 78 => ⟨S2x32x2x4x128x256, .f32⟩
  | 79 => ⟨S2x32x2x4x128x256, .f32⟩
  | 80 => ⟨S2x32x2x256x128x4, .f32⟩
  | 81 => ⟨S2x32x2x128x4x64, .f32⟩
  | 82 => ⟨S2x32x128x2x4x64, .f32⟩
  | 83 => ⟨S2x32x2x256x64, .f32⟩
  | 84 => ⟨S2x32x256x2x64, .f32⟩
  | 85 => ⟨S2x32x128x2x64, .f32⟩
  | 86 => ⟨S2x32x128x2x64, .f32⟩
  | 87 => ⟨S_, .f32⟩
  | 88 => ⟨S2x33x128x2x64, .f32⟩
  | 89 => ⟨S_, .f32⟩
  | 90 => ⟨S2x33x128x2x64, .f32⟩
  | 91 => ⟨S2x33x128x2x64, .f32⟩
  | 92 => ⟨S2x4224x2x64, .f32⟩
  | 93 => ⟨S2x128x2x64, .f32⟩
  | 94 => ⟨S2x4096x2x64, .f32⟩
  | 95 => ⟨S2x32x128x2x64, .f32⟩
  | 96 => ⟨S2x32x128x2x64, .f32⟩
  | 97 => ⟨S_, .f32⟩
  | 98 => ⟨S2x33x128x2x64, .f32⟩
  | 99 => ⟨S_, .f32⟩
  | 100 => ⟨S2x33x128x2x64, .f32⟩
  | 101 => ⟨S2x33x128x2x64, .f32⟩
  | 102 => ⟨S2x4224x2x64, .f32⟩
  | 103 => ⟨S2x128x2x64, .f32⟩
  | 104 => ⟨S2x4096x2x64, .f32⟩
  | 105 => ⟨S2x4096x8x64, .f32⟩
  | 106 => ⟨S2x4096x128, .f32⟩
  | 107 => ⟨S_, .f32⟩
  | 108 => ⟨S2x4096x768, .f32⟩
  | 109 => ⟨S2x4096x128, .f32⟩
  | 110 => ⟨S_, .f32⟩
  | 111 => ⟨S2x4096x768, .f32⟩
  | 112 => ⟨S2x4096x768, .f32⟩
  | 113 => ⟨S2x4096x512, .f32⟩
  | 114 => ⟨S_, .f32⟩
  | 115 => ⟨S2x4096x768, .f32⟩
  | 116 => ⟨S2x4096x768, .f32⟩
  | 117 => ⟨S2x4096x768, .bf16⟩
  | 118 => ⟨S_, .i32⟩
  | 119 => ⟨S_, .f32⟩
  | 120 => ⟨S128, .f32⟩
  | 121 => ⟨S1x128, .f32⟩
  | _ => ⟨S2x4096x768, .bf16⟩

abbrev hbmTy (i : Nat) : BufTy := match i / 128 with
  | 0 => hbmTy0_0 i
  | 1 => hbmTy0_1 i
  | _ => ⟨S2x4096x768, .bf16⟩

abbrev bufTy : (tb : Table) → Fin (tcTables nBuf tb) → BufTy
  | .hbm, ⟨i, _⟩ => hbmTy i
  | _, _ => ⟨S2x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c_9 : Ref sig .tc := ⟨.hbm, 76, rfl⟩
abbrev main_v62 : Ref sig .tc := ⟨.hbm, 77, rfl⟩
abbrev main_v63 : Ref sig .tc := ⟨.hbm, 78, rfl⟩
abbrev main_c_10 : Ref sig .tc := ⟨.hbm, 79, rfl⟩
abbrev main_v64 : Ref sig .tc := ⟨.hbm, 80, rfl⟩
abbrev main_v65 : Ref sig .tc := ⟨.hbm, 81, rfl⟩
abbrev main_c_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_13 : Ref sig .tc := ⟨.hbm, 98, rfl⟩
abbrev main_call0_v0 : Ref sig .tc := ⟨.hbm, 99, rfl⟩
abbrev main_v80_1 : Ref sig .tc := ⟨.hbm, 100, rfl⟩
abbrev main_call0_v2 : Ref sig .tc := ⟨.hbm, 101, rfl⟩
abbrev main_v80_0 : Ref sig .tc := ⟨.hbm, 102, rfl⟩
abbrev main_call0_cst : Ref sig .tc := ⟨.hbm, 103, rfl⟩
abbrev main_v80_2 : Ref sig .tc := ⟨.hbm, 104, rfl⟩
abbrev main_v81 : Ref sig .tc := ⟨.hbm, 105, rfl⟩
abbrev main_cst_14 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_16 : Ref sig .tc := ⟨.hbm, 121, rfl⟩
abbrev main_v95 : Ref sig .tc := ⟨.hbm, 122, rfl⟩
abbrev main_cst_17 : Ref sig .tc := ⟨.hbm, 123, rfl⟩
abbrev main_v96 : Ref sig .tc := ⟨.hbm, 124, rfl⟩
abbrev main_cst_18 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_19 : Ref sig .tc := ⟨.hbm, 133, rfl⟩
abbrev main_v104 : Ref sig .tc := ⟨.hbm, 134, rfl⟩
abbrev main_cst_20 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_22 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_23 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_24 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_25 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_26 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_27 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_28 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_29 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_call1_cst : Ref sig .tc := ⟨.hbm, 202, rfl⟩
abbrev main_call1_v0 : Ref sig .tc := ⟨.hbm, 203, rfl⟩
abbrev main_v162 : Ref sig .tc := ⟨.hbm, 204, rfl⟩
abbrev main_cst_30 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_31 : Ref sig .tc := ⟨.hbm, 215, rfl⟩
abbrev main_v172 : Ref sig .tc := ⟨.hbm, 216, rfl⟩
abbrev main_cst_32 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_33 : Ref sig .tc := ⟨.hbm, 225, rfl⟩
abbrev main_v180 : Ref sig .tc := ⟨.hbm, 226, rfl⟩
abbrev main_cst_34 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_cst_35 : Ref sig .tc := ⟨.hbm, 235, rfl⟩
abbrev main_v188 : Ref sig .tc := ⟨.hbm, 236, rfl⟩
abbrev main_v189 : Ref sig .tc := ⟨.hbm, 237, rfl⟩
abbrev main_cst_36 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_cst_37 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_c_38 : Ref sig .tc := ⟨.hbm, 246, rfl⟩
abbrev main_call2_v0 : Ref sig .tc := ⟨.hbm, 247, rfl⟩
abbrev main_v196 : Ref sig .tc := ⟨.hbm, 248, rfl⟩
abbrev main_v197 : Ref sig .tc := ⟨.hbm, 249, rfl⟩

abbrev nD : Nat := 1
abbrev τ : Topo := Topo.v7x

variable {F : FTy → Type} [FloatOps F]
-- ==== Kernel2.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel5.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_35 : BitVec 32 := 0#32
  let v83 : BitVec 1 := Scalar.cmpi .ne v82 c0_i32_35
  v83

def k0_cond2 (i : grid0.Coords) : BitVec 1 :=
  let arg0 : BitVec 32 := BitVec.ofNat 32 (i 0).val
  let c0_i32_36 : BitVec 32 := 0#32
  let v84 : BitVec 1 := Scalar.cmpi .sgt arg0 c0_i32_36
  let v85 : BitVec 32 := Scalar.extui v84
  let c0_i32_37 : BitVec 32 := 0#32
  let v86 : BitVec 1 := Scalar.cmpi .ne v85 c0_i32_37
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x4096, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S_, .f32⟩
  | .hbm, ⟨3, _⟩ => ⟨S1024x768, .f32⟩
  | .hbm, ⟨4, _⟩ => ⟨S8192x1024, .f32⟩
  | .hbm, ⟨5, _⟩ => ⟨S8192x768, .f32⟩
  | .hbm, ⟨6, _⟩ => ⟨S8192x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S8192x1792 : Shape := ⟨2, ![8192, 1792]⟩
abbrev S1024x1792 : Shape := ⟨2, ![1024, 1792]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S1024x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x1792 : Shape := ⟨2, ![8192, 1792]⟩
abbrev S_ : Shape := ⟨0, ![]⟩
abbrev S1024x1792 : Shape := ⟨2, ![1024, 1792]⟩
abbrev S1792x1024 : Shape := ⟨2, ![1792, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S_, .f32⟩
  | .hbm, ⟨3, _⟩ => ⟨S1024x1792, .f32⟩
  | .hbm, ⟨4, _⟩ => ⟨S8192x1024, .f32⟩
  | .hbm, ⟨5, _⟩ => ⟨S8192x1792, .f32⟩
  | .hbm, ⟨6, _⟩ => ⟨S8192x1792, .f32⟩
  | .hbm, ⟨7, _⟩ => ⟨S1792x1024, .f32⟩
  | .hbm, ⟨8, _⟩ => ⟨S1024x1792, .f32⟩
  | .hbm, ⟨9, _⟩ => ⟨S1024x1792, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x128, .f32⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v114 : BitVec 1 := Scalar.cmpi .eq arg0 c0_i32
  let v115 : BitVec 32 := Scalar.extui v114
  let c0_i32_45 : BitVec 32 := 0#32
  let v116 : BitVec 1 := Scalar.cmpi .ne v115 c0_i32_45
  v116

def k0_cond2 (i : grid0.Coords) : BitVec 1 :=
  let arg0 : BitVec 32 := BitVec.ofNat 32 (i 0).val
  let c0_i32_46 : BitVec 32 := 0#32
  let v117 : BitVec 1 := Scalar.cmpi .sgt arg0 c0_i32_46
  let v118 : BitVec 32 := Scalar.extui v117
  let c0_i32_47 : BitVec 32 := 0#32
  let v119 : BitVec 1 := Scalar.cmpi .ne v118 c0_i32_47
  v119

def k0_cond3 (i : grid0.Coords) : BitVec 1 :=
  let arg0 : BitVec 32 := BitVec.ofNat 32 (i 0).val
  let c0_i32_48 : BitVec 32 := 0#32
  let v120 : BitVec 1 := Scalar.cmpi .eq arg0 c0_i32_48
  let v121 : BitVec 32 := Scalar.extui v120
  let c0_i32_49 : BitVec 32 := 0#32
  let v122 : BitVec 1 := Scalar.cmpi .ne v121 c0_i32_49
  v122

def k0_cond4 (i : grid0.Coords) : BitVec 1 :=
  let arg0 : BitVec 32 := BitVec.ofNat 32 (i 0).val
  let c0_i32_50 : BitVec 32 := 0#32
  let v123 : BitVec 1 := Scalar.cmpi .sgt arg0 c0_i32_50
  let v124 : BitVec 32 := Scalar.extui v123
  let c0_i32_51 : BitVec 32 := 0#32
  let v125 : BitVec 1 := Scalar.cmpi .ne v124 c0_i32_51
  v125

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .f32⟩
  | .hbm, ⟨6, _⟩ => ⟨S4096x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S1x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel11.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference11Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S8x1024x320 : Shape := ⟨3, ![8, 1024, 320]⟩
abbrev S1024x320 : Shape := ⟨2, ![1024, 320]⟩
abbrev S8x256x320 : Shape := ⟨3, ![8, 256, 320]⟩
abbrev S256x320 : Shape := ⟨2, ![256, 320]⟩
abbrev S1x256x320 : Shape := ⟨3, ![1, 256, 320]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x320, .bf16⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .hbm, ⟨7, _⟩ => ⟨S1024x320, .f32⟩
  | .local _ .vmem, ⟨0, _⟩ => ⟨S8x256x320, .bf16⟩
  | .local _ .vmem, ⟨1, _⟩ => ⟨S8x256x320, .bf16⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | .local _ .vmem, ⟨14, _⟩ => ⟨S256x320, .f32⟩
  | .local _ .vmem, ⟨15, _⟩ => ⟨S256x320, .f32⟩
  | _, _ => ⟨S8x1024x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel12Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference12Ideal.lean ====
abbrev S8x1024x320 : Shape := ⟨3, ![8, 1024, 320]⟩
abbrev S1024x320 : Shape := ⟨2, ![1024, 320]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x320, .bf16⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S8x1024x320, .f32⟩
  | .hbm, ⟨5, _⟩ => ⟨S_, .f32⟩
  | .hbm, ⟨6, _⟩ => ⟨S1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S_, .f32⟩
  | .hbm, ⟨11, _⟩ => ⟨S1024x320, .f32⟩
  | .hbm, ⟨12, _⟩ => ⟨S1024x320, .f32⟩
  | .hbm, ⟨13, _⟩ => ⟨S1024x320, .f32⟩
  | .hbm, ⟨14, _⟩ => ⟨S_, .f32⟩
  | .hbm, ⟨15, _⟩ => ⟨S1024x320, .f32⟩
  | .hbm, ⟨16, _⟩ => ⟨S1024x320, .f32⟩
  | .hbm, ⟨17, _⟩ => ⟨S1024x320, .f32⟩
  | .hbm, ⟨18, _⟩ => ⟨S_, .f32⟩
  | .hbm, ⟨19, _⟩ => ⟨S1024x320, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S_, .f32⟩
  | .hbm, ⟨26, _⟩ => ⟨S1024x320, .f32⟩
  | .hbm, ⟨27, _⟩ => ⟨S1024x320, .f32⟩
  | .hbm, ⟨28, _⟩ => ⟨S1024x320, .f32⟩
  | .hbm, ⟨29, _⟩ => ⟨S_, .f32⟩
  | .hbm, ⟨30, _⟩ => ⟨S1024x320, .f32⟩
  | .hbm, ⟨31, _⟩ => ⟨S1024x320, .f32⟩
  | .hbm, ⟨32, _⟩ => ⟨S1024x320, .f32⟩
  | .hbm, ⟨33, _⟩ => ⟨S_, .f32⟩
  | .hbm, ⟨34, _⟩ => ⟨S1024x320, .f32⟩
  | .hbm, ⟨35, _⟩ => ⟨S1024x320, .f32⟩
  | .hbm, ⟨36, _⟩ => ⟨S1024x320, .f32⟩
  | .hbm, ⟨37, _⟩ => ⟨S_, .f32⟩
  | .hbm, ⟨38, _⟩ => ⟨S1024x320, .f32⟩
  | .hbm, ⟨39, _⟩ => ⟨S1024x320, .f32⟩
  | _, _ => ⟨S8x1024x320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel13Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference13Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference14Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S8x256x64 : Shape := ⟨3, ![8, 256, 64]⟩
abbrev S256x64 : Shape := ⟨2, ![256, 64]⟩
abbrev S1x256x64 : Shape := ⟨3, ![1, 256, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x256x64, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x64, .f32⟩
  | .local _ .vmem, ⟨0, _⟩ => ⟨S8x256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | _, _ => ⟨S8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel15Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference15Ideal.lean ====
abbrev S8x256x64 : Shape := ⟨3, ![8, 256, 64]⟩
abbrev S256x64 : Shape := ⟨2, ![256, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x64, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S_, .f32⟩
  | .hbm, ⟨5, _⟩ => ⟨S256x64, .f32⟩
  | .hbm, ⟨6, _⟩ => ⟨S_, .f32⟩
  | .hbm, ⟨7, _⟩ => ⟨S256x64, .f32⟩
  | .hbm, ⟨8, _⟩ => ⟨S256x64, .f32⟩
  | .hbm, ⟨9, _⟩ => ⟨S_, .f32⟩
  | .hbm, ⟨10, _⟩ => ⟨S256x64, .f32⟩
  | .hbm, ⟨11, _⟩ => ⟨S256x64, .f32⟩
  | .hbm, ⟨12, _⟩ => ⟨S256x64, .f32⟩
  | .hbm, ⟨13, _⟩ => ⟨S_, .f32⟩
  | .hbm, ⟨14, _⟩ => ⟨S256x64, .f32⟩
  | .hbm, ⟨15, _⟩ => ⟨S256x64, .f32⟩
  | .hbm, ⟨16, _⟩ => ⟨S256x64, .f32⟩
  | .hbm, ⟨17, _⟩ => ⟨S_, .f32⟩
  | .hbm, ⟨18, _⟩ => ⟨S256x64, .f32⟩
  | .hbm, ⟨19, _⟩ => ⟨S256x64, .f32⟩
  | .hbm, ⟨20, _⟩ => ⟨S256x64, .f32⟩
  | .hbm, ⟨21, _⟩ => ⟨S_, .f32⟩
  | .hbm, ⟨22, _⟩ => ⟨S256x64, .f32⟩
  | .hbm, ⟨23, _⟩ => ⟨S256x64, .f32⟩
  | .hbm, ⟨24, _⟩ => ⟨S_, .f32⟩
  | .hbm, ⟨25, _⟩ => ⟨S256x64, .f32⟩
  | .hbm, ⟨26, _⟩ => ⟨S256x64, .f32⟩
  | .hbm, ⟨27, _⟩ => ⟨S256x64, .f32⟩
  | .hbm, ⟨28, _⟩ => ⟨S_, .f32⟩
  | .hbm, ⟨29, _⟩ => ⟨S256x64, .f32⟩
  | .hbm, ⟨30, _⟩ => ⟨S256x64, .f32⟩
  | .hbm, ⟨31, _⟩ => ⟨S256x64, .f32⟩
  | .hbm, ⟨32, _⟩ => ⟨S_, .f32⟩
  | .hbm, ⟨33, _⟩ => ⟨S256x64, .f32⟩
  | .hbm, ⟨34, _⟩ => ⟨S256x64, .f32⟩
  | .hbm, ⟨35, _⟩ => ⟨S256x64, .f32⟩
  | .hbm, ⟨36, _⟩ => ⟨S_, .f32⟩
  | .hbm, ⟨37, _⟩ => ⟨S256x64, .f32⟩
  | .hbm, ⟨38, _⟩ => ⟨S256x64, .f32⟩
  | _, _ => ⟨S8x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S8x1x8576 : Shape := ⟨3, ![8, 1, 8576]⟩
abbrev S1x8576 : Shape := ⟨2, ![1, 8576]⟩
abbrev S1x1x8576 : Shape := ⟨3, ![1, 1, 8576]⟩

abbrev nBuf : Space → Nat
  | .hbm => 8
  | .vmem => 8
  | .smem => 0
  | _ => 0

abbrev bufTy : (tb : Table) → Fin (tcTables nBuf tb) → BufTy
  | .hbm, ⟨0, _⟩ => ⟨S8x1x8576, .f32⟩
  | .hbm, ⟨1, _⟩ => ⟨S1x8576, .f32⟩
  | .hbm, ⟨2, _⟩ => ⟨S1x8576, .f32⟩
  | .hbm, ⟨3, _⟩ => ⟨S1x8576, .f32⟩
  | .hbm, ⟨4, _⟩ => ⟨S1x8576, .f32⟩
  | .hbm, ⟨5, _⟩ => ⟨S1x8576, .f32⟩
  | .hbm, ⟨6, _⟩ => ⟨S1x8576, .f32⟩
  | .hbm, ⟨7, _⟩ => ⟨S1x8576, .f32⟩
  | .local _ .vmem, ⟨0, _⟩ => ⟨S8x1x8576, .f32⟩
  | .local _ .vmem, ⟨1, _⟩ => ⟨S1x8576, .f32⟩
  | .local _ .vmem, ⟨2, _⟩ => ⟨S1x8576, .f32⟩
  | .local _ .vmem, ⟨3, _⟩ => ⟨S1x8576, .f32⟩
  | .local _ .vmem, ⟨4, _⟩ => ⟨S1x8576, .f32⟩
  | .local _ .vmem, ⟨5, _⟩ => ⟨S1x8576, .f32⟩
  | .local _ .vmem, ⟨6, _⟩ => ⟨S1x8576, .f32⟩
  | .local _ .vmem, ⟨7, _⟩ => ⟨S1x8576, .f32⟩
  | _, _ => ⟨S8x1x8576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x8576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel16Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference16Ideal.lean ====
abbrev S8x1x8576 : Shape := ⟨3, ![8, 1, 8576]⟩
abbrev S1x8576 : Shape := ⟨2, ![1, 8576]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x8576, .f32⟩
  | .hbm, ⟨1, _⟩ => ⟨S1x8576, .f32⟩
  | .hbm, ⟨2, _⟩ => ⟨S1x8576, .f32⟩
  | .hbm, ⟨3, _⟩ => ⟨S1x8576, .f32⟩
  | .hbm, ⟨4, _⟩ => ⟨S_, .f32⟩
  | .hbm, ⟨5, _⟩ => ⟨S1x8576, .f32⟩
  | .hbm, ⟨6, _⟩ => ⟨S_, .f32⟩
  | .hbm, ⟨7, _⟩ => ⟨S1x8576, .f32⟩
  | .hbm, ⟨8, _⟩ => ⟨S1x8576, .f32⟩
  | .hbm, ⟨9, _⟩ => ⟨S_, .f32⟩
  | .hbm, ⟨10, _⟩ => ⟨S1x8576, .f32⟩
  | .hbm, ⟨11, _⟩ => ⟨S1x8576, .f32⟩
  | .hbm, ⟨12, _⟩ => ⟨S1x8576, .f32⟩
  | .hbm, ⟨13, _⟩ => ⟨S_, .f32⟩
  | .hbm, ⟨14, _⟩ => ⟨S1x8576, .f32⟩
  | .hbm, ⟨15, _⟩ => ⟨S1x8576, .f32⟩
  | .hbm, ⟨16, _⟩ => ⟨S1x8576, .f32⟩
  | .hbm, ⟨17, _⟩ => ⟨S_, .f32⟩
  | .hbm, ⟨18, _⟩ => ⟨S1x8576, .f32⟩
  | .hbm, ⟨19, _⟩ => ⟨S1x8576, .f32⟩
  | .hbm, ⟨20, _⟩ => ⟨S1x8576, .f32⟩
  | .hbm, ⟨21, _⟩ => ⟨S_, .f32⟩
  | .hbm, ⟨22, _⟩ => ⟨S1x8576, .f32⟩
  | .hbm, ⟨23, _⟩ => ⟨S1x8576, .f32⟩
  | .hbm, ⟨24, _⟩ => ⟨S_, .f32⟩
  | .hbm, ⟨25, _⟩ => ⟨S1x8576, .f32⟩
  | .hbm, ⟨26, _⟩ => ⟨S1x8576, .f32⟩
  | .hbm, ⟨27, _⟩ => ⟨S1x8576, .f32⟩
  | .hbm, ⟨28, _⟩ => ⟨S_, .f32⟩
  | .hbm, ⟨29, _⟩ => ⟨S1x8576, .f32⟩
  | .hbm, ⟨30, _⟩ => ⟨S1x8576, .f32⟩
  | .hbm, ⟨31, _⟩ => ⟨S1x8576, .f32⟩
  | .hbm, ⟨32, _⟩ => ⟨S_, .f32⟩
  | .hbm, ⟨33, _⟩ => ⟨S1x8576, .f32⟩
  | .hbm, ⟨34, _⟩ => ⟨S1x8576, .f32⟩
  | .hbm, ⟨35, _⟩ => ⟨S1x8576, .f32⟩
  | .hbm, ⟨36, _⟩ => ⟨S_, .f32⟩
  | .hbm, ⟨37, _⟩ => ⟨S1x8576, .f32⟩
  | .hbm, ⟨38, _⟩ => ⟨S1x8576, .f32⟩
  | _, _ => ⟨S8x1x8576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Body.lean ====
module

public import proofs.«01_k».proof.Proof.Gen.KernelIdeal.Skeleton
public import Idealize.ShloMosaic.Lib.Pointwise.Tactic
public import Idealize.ShloMosaic.Lib.Pointwise.Reduce
public import Idealize.ShloMosaic.Lib.Pointwise.Contract
public import Idealize.ShloMosaic.Lib.Pointwise.Select
public import Idealize.ShloMosaic.Lib.Pointwise.ShapeOps
public import Idealize.ShloMosaic.Lib.Pointwise.Reshape

@[expose] public section
noncomputable section
namespace Cert.Proof
open Idealize.ShloMosaic Cert.KernelIdeal Cert.KernelIdeal.Gen

/-- The matrix of real numbers `f i j`, as an array of extended reals. -/
def R2 {n m : ℕ} {φ : FTy} (f : ℕ → ℕ → ℝ) : FVec Ideal ⟨2, ![n, m]⟩ φ := fun i => ((f (i 0).val (i 1).val : ℝ) : EReal)

theorem R2_apply {n m : ℕ} {φ : FTy} (f : ℕ → ℕ → ℝ) (i : Shape.Idx ⟨2, ![n, m]⟩) :
    (R2 f : FVec Ideal ⟨2, ![n, m]⟩ φ) i = ((f (i 0).val (i 1).val : ℝ) : EReal) := rfl

theorem coe_sum_real {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over `Fin n` of real numbers is the real sum over the range. -/
theorem sum_fin_coe (n : ℕ) (f : ℕ → ℝ) : ∑ k : Fin n, ((f k.val : ℝ) : EReal) = ((∑ k ∈ Finset.range n, f k : ℝ) : EReal) := by
  rw [Finset.sum_range, coe_sum_real]

/-- Rows by rows: the product of `a` with the transpose of `b`, over 128 columns. -/
def nt (a b : ℕ → ℕ → ℝ) (i k : ℕ) : ℝ := ∑ c ∈ Finset.range 128, a i c * b k c
/-- The product of `g` and `b`, over 256 columns. -/
def nn (g b : ℕ → ℕ → ℝ) (i c : ℕ) : ℝ := ∑ k ∈ Finset.range 256, g i k * b k c
/-- The product of the transpose of `g` with `q`, over 128 rows. -/
def tn (g q : ℕ → ℕ → ℝ) (k c : ℕ) : ℝ := ∑ i ∈ Finset.range 128, g i k * q i c
/-- The product of `g` and `w`, over 128 columns. -/
def swp (g w : ℕ → ℕ → ℝ) (k c : ℕ) : ℝ := ∑ r ∈ Finset.range 128, g k r * w r c
/-- Every column of `x` times the mask's entry of that column. -/
def masked (x w : ℕ → ℕ → ℝ) (i c : ℕ) : ℝ := x i c * w 0 c
/-- The sum of each row of the elementwise product, over 256 columns. -/
def rowdot (p e : ℕ → ℕ → ℝ) (i _c : ℕ) : ℝ := ∑ k ∈ Finset.range 256, p i k * e i k
/-- The gradient of a softmax before its scale: `p (e - Σ p e)`, row by row. -/
def dsR (p e : ℕ → ℕ → ℝ) (i k : ℕ) : ℝ := p i k * (e i k - rowdot p e i 0)

/-- The literal `0x3E000000` is 1/8. -/
theorem ofBits_eighth : Ideal.ofBits .f32 1040187392#32 = (((1 / 8 : ℝ)) : EReal) := by
  simp [Ideal.ofBits, Ideal.ieee, -EReal.coe_mul]; norm_num

theorem coe_mul_of {x y : EReal} {r s : ℝ} (hx : x = (r : EReal)) (hy : y = (s : EReal)) : x * y = ((r * s : ℝ) : EReal) := by
  rw [hx, hy, EReal.coe_mul]
theorem coe_add_of {x y : EReal} {r s : ℝ} (hx : x = (r : EReal)) (hy : y = (s : EReal)) : x + y = ((r + s : ℝ) : EReal) := by
  rw [hx, hy, EReal.coe_add]
theorem coe_sub_of {x y : EReal} {r s : ℝ} (hx : x = (r : EReal)) (hy : y = (s : EReal)) : x - y = ((r - s : ℝ) : EReal) := by
  rw [hx, hy, EReal.coe_sub]
theorem coe_sum_of {n : ℕ} {x : Fin n → EReal} {f : ℕ → ℝ} (h : ∀ k, x k = ((f k.val : ℝ) : EReal)) :
    ∑ k : Fin n, x k = ((∑ k ∈ Finset.range n, f k : ℝ) : EReal) := by
  rw [← sum_fin_coe]; exact Finset.sum_congr rfl fun k _ => h k

def pmul (p e r : ℕ → ℕ → ℝ) (i k : ℕ) : ℝ := p i k * (e i k - r i 0)
def pmul3 (p e r : ℕ → ℕ → ℝ) (i k : ℕ) : ℝ := p i k * (e i k - r i k)
def mulR (a b : ℕ → ℕ → ℝ) (i c : ℕ) : ℝ := a i c * b i c
def rowOf (a : ℕ → ℕ → ℝ) (_i c : ℕ) : ℝ := a 0 c
def nnq (g b w : ℕ → ℕ → ℝ) (i c : ℕ) : ℝ := nn g b i c * (1 / 8 * w 0 c)
def tnq (g q : ℕ → ℕ → ℝ) (k c : ℕ) : ℝ := tn g q k c * (1 / 8)
/-- One block of 128 rows above another. -/
def catR (a b : ℕ → ℕ → ℝ) (k c : ℕ) : ℝ := if k < 128 then a k c else b (k - 128) c
/-- One on the first 64 columns. -/
def low (c : ℕ) : ℝ := if c < 64 then 1 else 0
/-- One on the last 64 of 128 columns. -/
def high (c : ℕ) : ℝ := if c < 64 then 0 else 1
/-- The permutation matrix which exchanges the two halves of 128 columns. -/
def swap (r c : ℕ) : ℝ := if (r + 64) % 128 = c then 1 else 0

/-- The arrays of rank three and five whose elements are real numbers. -/
def R3 {a n m : ℕ} {φ : FTy} (f : ℕ → ℕ → ℕ → ℝ) : FVec Ideal ⟨3, ![a, n, m]⟩ φ :=
  fun i => ((f (i 0).val (i 1).val (i 2).val : ℝ) : EReal)
def R5 {a b c n m : ℕ} {φ : FTy} (f : ℕ → ℕ → ℕ → ℝ) : FVec Ideal ⟨5, ![a, b, c, n, m]⟩ φ :=
  fun i => ((f (i 2).val (i 3).val (i 4).val : ℝ) : EReal)
theorem R3_apply {a n m : ℕ} {φ : FTy} (f : ℕ → ℕ → ℕ → ℝ) (i : Shape.Idx ⟨3, ![a, n, m]⟩) :
    (R3 f : FVec Ideal ⟨3, ![a, n, m]⟩ φ) i = ((f (i 0).val (i 1).val (i 2).val : ℝ) : EReal) := rfl
theorem R5_apply {a b c n m : ℕ} {φ : FTy} (f : ℕ → ℕ → ℕ → ℝ) (i : Shape.Idx ⟨5, ![a, b, c, n, m]⟩) :
    (R5 f : FVec Ideal ⟨5, ![a, b, c, n, m]⟩ φ) i = ((f (i 2).val (i 3).val (i 4).val : ℝ) : EReal) := rfl

theorem select_lane (a n : ℕ) (ha : a < 128) (hn : n < 128) (x : ℝ) :
    Scalar.select (IntOp.cmpi CmpIPredicate.eq (BitVec.ofNat 32 a) (BitVec.ofNat 32 n)) (x : EReal) 0
      = ((if a = n then x else 0 : ℝ) : EReal) := by
  have h : IntOp.cmpi CmpIPredicate.eq (BitVec.ofNat 32 a) (BitVec.ofNat 32 n) = if a = n then 1#1 else 0#1 := by
    have : ∀ a n : Fin 128, IntOp.cmpi CmpIPredicate.eq (BitVec.ofNat 32 a.val) (BitVec.ofNat 32 n.val) = if a = n then 1#1 else 0#1 := by
      decide +kernel
    have h := this ⟨a, ha⟩ ⟨n, hn⟩
    simpa only [Fin.mk.injEq] using h
  rw [h]; split <;> simp [Scalar.select]

theorem pay7_R2 (v8 : ℕ → ℕ → ℝ) : k0_pay7 (F := Ideal) (R3 (φ := .bf16) (fun _ => v8)) = R2 v8 := by
  funext j; unfold k0_pay7; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay8_R2 (v10 : ℕ → ℕ → ℝ) : k0_pay8 (F := Ideal) (R3 (φ := .bf16) (fun _ => v10)) = R2 v10 := by
  funext j; unfold k0_pay8; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay9_R2 (v12 : ℕ → ℕ → ℝ) : k0_pay9 (F := Ideal) (R3 (φ := .bf16) (fun _ => v12)) = R2 v12 := by
  funext j; unfold k0_pay9; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay10_R2 (v14 : ℕ → ℕ → ℝ) : k0_pay10 (F := Ideal) (R3 (φ := .bf16) (fun _ => v14)) = R2 v14 := by
  funext j; unfold k0_pay10; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay11_R2 (v16 : ℕ → ℕ → ℝ) : k0_pay11 (F := Ideal) (R3 (φ := .bf16) (fun _ => v16)) = R2 v16 := by
  funext j; unfold k0_pay11; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay12_R2 (v18 : ℕ → ℕ → ℝ) : k0_pay12 (F := Ideal) (R3 (φ := .bf16) (fun _ => v18)) = R2 v18 := by
  funext j; unfold k0_pay12; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay13_R2 (v20 : ℕ → ℕ → ℝ) : k0_pay13 (F := Ideal) (R3 (φ := .bf16) (fun _ => v20)) = R2 v20 := by
  funext j; unfold k0_pay13; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay14_R2 (v22 : ℕ → ℕ → ℝ) : k0_pay14 (F := Ideal) (R3 (φ := .bf16) (fun _ => v22)) = R2 v22 := by
  funext j; unfold k0_pay14; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay23_R2 (v40 : ℕ → ℕ → ℝ) : k0_pay23 (F := Ideal) (R3 (φ := .bf16) (fun _ => v40)) = R2 v40 := by
  funext j; unfold k0_pay23; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay24_R2 (v42 : ℕ → ℕ → ℝ) : k0_pay24 (F := Ideal) (R3 (φ := .bf16) (fun _ => v42)) = R2 v42 := by
  funext j; unfold k0_pay24; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay25_R2 (v44 : ℕ → ℕ → ℝ) : k0_pay25 (F := Ideal) (R3 (φ := .bf16) (fun _ => v44)) = R2 v44 := by
  funext j; unfold k0_pay25; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay26_R2 (v46 : ℕ → ℕ → ℝ) : k0_pay26 (F := Ideal) (R3 (φ := .bf16) (fun _ => v46)) = R2 v46 := by
  funext j; unfold k0_pay26; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay118_R2 (v399 : ℕ → ℕ → ℝ) : k0_pay118 (F := Ideal) (R3 (φ := .f32) (fun _ => v399)) = R2 v399 := by
  funext j; unfold k0_pay118; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay15_R2 (v24 : ℕ → ℕ → ℝ) : k0_pay15 (F := Ideal) (R5 (φ := .f32) (fun _ => v24)) = R2 v24 := by
  funext j; unfold k0_pay15; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay16_R2 (v26 : ℕ → ℕ → ℝ) : k0_pay16 (F := Ideal) (R5 (φ := .f32) (fun _ => v26)) = R2 v26 := by
  funext j; unfold k0_pay16; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay17_R2 (v28 : ℕ → ℕ → ℝ) : k0_pay17 (F := Ideal) (R5 (φ := .f32) (fun _ => v28)) = R2 v28 := by
  funext j; unfold k0_pay17; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay18_R2 (v30 : ℕ → ℕ → ℝ) : k0_pay18 (F := Ideal) (R5 (φ := .f32) (fun _ => v30)) = R2 v30 := by
  funext j; unfold k0_pay18; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay19_R2 (v32 : ℕ → ℕ → ℝ) : k0_pay19 (F := Ideal) (R5 (φ := .f32) (fun _ => v32)) = R2 v32 := by
  funext j; unfold k0_pay19; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay20_R2 (v34 : ℕ → ℕ → ℝ) : k0_pay20 (F := Ideal) (R5 (φ := .f32) (fun _ => v34)) = R2 v34 := by
  funext j; unfold k0_pay20; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay21_R2 (v36 : ℕ → ℕ → ℝ) : k0_pay21 (F := Ideal) (R5 (φ := .f32) (fun _ => v36)) = R2 v36 := by
  funext j; unfold k0_pay21; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay22_R2 (v38 : ℕ → ℕ → ℝ) : k0_pay22 (F := Ideal) (R5 (φ := .f32) (fun _ => v38)) = R2 v38 := by
  funext j; unfold k0_pay22; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay33_R2 (v41 v43 : ℕ → ℕ → ℝ) : k0_pay33 (F := Ideal) (R2 v41) (R2 v43) = R2 (catR v41 v43) := by
  funext j; unfold k0_pay33; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
  split <;> exact rfl
theorem pay34_R2 (v45 v47 : ℕ → ℕ → ℝ) : k0_pay34 (F := Ideal) (R2 v45) (R2 v47) = R2 (catR v45 v47) := by
  funext j; unfold k0_pay34; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
  split <;> exact rfl
theorem pay32_R2 : k0_pay32 (F := Ideal) k0_pay31 = R2 swap := by
  funext j; unfold k0_pay32 k0_pay31; pointwise
  refine (congrArg (fun w : BitVec 32 => Scalar.select (IntOp.cmpi CmpIPredicate.eq w (BitVec.ofNat 32 (j 1).val)) (1 : EReal) 0)
    (?_ : _ = BitVec.ofNat 32 (((j 0).val + 64) % 128))).trans ?_
  · generalize (j 0) = l; change Fin 128 at l; revert l; decide +kernel
  · exact select_lane _ _ (Nat.mod_lt _ (by norm_num)) (j 1).isLt 1
theorem pay35_R2 (v41 v43 : ℕ → ℕ → ℝ) : k0_pay35 (F := Ideal) (R2 v41) (R2 v43) k0_pay31 = R2 (swp (catR v41 v43) swap) := by
  funext j; unfold k0_pay35; rw [pay33_R2, pay32_R2]; pointwise [dot_S256x128_S128x128_S256x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay36_R2 (v45 v47 : ℕ → ℕ → ℝ) : k0_pay36 (F := Ideal) (R2 v45) (R2 v47) k0_pay31 = R2 (swp (catR v45 v47) swap) := by
  funext j; unfold k0_pay36; rw [pay34_R2, pay32_R2]; pointwise [dot_S256x128_S128x128_S256x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay27_R2 : k0_pay27 (F := Ideal) = R2 (fun _ => low) := by
  funext j; unfold k0_pay27; pointwise
  refine (congrArg (fun w : BitVec 1 => Scalar.select w (1 : EReal) 0) (?_ : _ = if (j 1).val < 64 then 1#1 else 0#1)).trans ?_
  · generalize (j 1) = l; change Fin 128 at l; revert l; decide +kernel
  · rw [R2_apply]; simp only [low, high]; split <;> simp [Scalar.select]
theorem pay30_R2 : k0_pay30 (F := Ideal) (iota .tc S1x128 32 [1] iota_S1x128_d1_w32) 64#32 k0_pay28 k0_pay29 = R2 (fun _ => high) := by
  funext j; unfold k0_pay30 k0_pay28 k0_pay29; pointwise
  refine (congrArg (fun w : BitVec 1 => Scalar.select w (1 : EReal) 0) (?_ : _ = if (j 1).val < 64 then 0#1 else 1#1)).trans ?_
  · generalize (j 1) = l; change Fin 128 at l; revert l; decide +kernel
  · rw [R2_apply]; simp only [low, high]; split <;> simp [Scalar.select]
theorem pay120_R2 : k0_pay120 (F := Ideal) = R2 (fun _ c => if c = 4 then 1 else 0) := by
  funext j; unfold k0_pay120; pointwise
  exact select_lane _ _ (j 1).isLt (by norm_num) 1
theorem pay37_R2 (v9 v77 : ℕ → ℕ → ℝ) : k0_pay37 (F := Ideal) (R2 v9) (R2 v77) = R2 (masked v9 v77) := by
  funext j; unfold k0_pay37; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay38_R2 (v9 v106 : ℕ → ℕ → ℝ) : k0_pay38 (F := Ideal) (R2 v9) (R2 v106) = R2 (masked v9 v106) := by
  funext j; unfold k0_pay38; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay39_R2 (v11 v77 : ℕ → ℕ → ℝ) : k0_pay39 (F := Ideal) (R2 v11) (R2 v77) = R2 (masked v11 v77) := by
  funext j; unfold k0_pay39; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay40_R2 (v11 v106 : ℕ → ℕ → ℝ) : k0_pay40 (F := Ideal) (R2 v11) (R2 v106) = R2 (masked v11 v106) := by
  funext j; unfold k0_pay40; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay41_R2 (v13 v77 : ℕ → ℕ → ℝ) : k0_pay41 (F := Ideal) (R2 v13) (R2 v77) = R2 (masked v13 v77) := by
  funext j; unfold k0_pay41; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay42_R2 (v13 v106 : ℕ → ℕ → ℝ) : k0_pay42 (F := Ideal) (R2 v13) (R2 v106) = R2 (masked v13 v106) := by
  funext j; unfold k0_pay42; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay43_R2 (v15 v77 : ℕ → ℕ → ℝ) : k0_pay43 (F := Ideal) (R2 v15) (R2 v77) = R2 (masked v15 v77) := by
  funext j; unfold k0_pay43; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay44_R2 (v15 v106 : ℕ → ℕ → ℝ) : k0_pay44 (F := Ideal) (R2 v15) (R2 v106) = R2 (masked v15 v106) := by
  funext j; unfold k0_pay44; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay45_R2 (v17 v77 : ℕ → ℕ → ℝ) : k0_pay45 (F := Ideal) (R2 v17) (R2 v77) = R2 (masked v17 v77) := by
  funext j; unfold k0_pay45; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay46_R2 (v17 v106 : ℕ → ℕ → ℝ) : k0_pay46 (F := Ideal) (R2 v17) (R2 v106) = R2 (masked v17 v106) := by
  funext j; unfold k0_pay46; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay47_R2 (v19 v77 : ℕ → ℕ → ℝ) : k0_pay47 (F := Ideal) (R2 v19) (R2 v77) = R2 (masked v19 v77) := by
  funext j; unfold k0_pay47; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay48_R2 (v19 v106 : ℕ → ℕ → ℝ) : k0_pay48 (F := Ideal) (R2 v19) (R2 v106) = R2 (masked v19 v106) := by
  funext j; unfold k0_pay48; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay49_R2 (v21 v77 : ℕ → ℕ → ℝ) : k0_pay49 (F := Ideal) (R2 v21) (R2 v77) = R2 (masked v21 v77) := by
  funext j; unfold k0_pay49; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay50_R2 (v21 v106 : ℕ → ℕ → ℝ) : k0_pay50 (F := Ideal) (R2 v21) (R2 v106) = R2 (masked v21 v106) := by
  funext j; unfold k0_pay50; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay51_R2 (v23 v77 : ℕ → ℕ → ℝ) : k0_pay51 (F := Ideal) (R2 v23) (R2 v77) = R2 (masked v23 v77) := by
  funext j; unfold k0_pay51; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay52_R2 (v106 : ℕ → ℕ → ℝ) : k0_pay52 (F := Ideal) (R2 v106) = R2 (rowOf v106) := by
  funext j; unfold k0_pay52; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay53_R2 (v23 v183 : ℕ → ℕ → ℝ) : k0_pay53 (F := Ideal) (R2 v23) (R2 v183) = R2 (mulR v23 v183) := by
  funext j; unfold k0_pay53; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay54_R2 (v132 v163 : ℕ → ℕ → ℝ) : k0_pay54 (F := Ideal) (R2 v132) (R2 v163) = R2 (nt v163 v132) := by
  funext j; unfold k0_pay54; pointwise [dot_S128x128_S256x128_S128x256_1_1_0_0_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay55_R2 (v136 v166 : ℕ → ℕ → ℝ) : k0_pay55 (F := Ideal) (R2 v136) (R2 v166) = R2 (nt v166 v136) := by
  funext j; unfold k0_pay55; pointwise [dot_S128x128_S256x128_S128x256_1_1_0_0_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay56_R2 (v132 v169 : ℕ → ℕ → ℝ) : k0_pay56 (F := Ideal) (R2 v132) (R2 v169) = R2 (nt v169 v132) := by
  funext j; unfold k0_pay56; pointwise [dot_S128x128_S256x128_S128x256_1_1_0_0_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay57_R2 (v136 v172 : ℕ → ℕ → ℝ) : k0_pay57 (F := Ideal) (R2 v136) (R2 v172) = R2 (nt v172 v136) := by
  funext j; unfold k0_pay57; pointwise [dot_S128x128_S256x128_S128x256_1_1_0_0_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay58_R2 (v136 v175 : ℕ → ℕ → ℝ) : k0_pay58 (F := Ideal) (R2 v136) (R2 v175) = R2 (nt v175 v136) := by
  funext j; unfold k0_pay58; pointwise [dot_S128x128_S256x128_S128x256_1_1_0_0_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay59_R2 (v132 v178 : ℕ → ℕ → ℝ) : k0_pay59 (F := Ideal) (R2 v132) (R2 v178) = R2 (nt v178 v132) := by
  funext j; unfold k0_pay59; pointwise [dot_S128x128_S256x128_S128x256_1_1_0_0_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay60_R2 (v136 v181 : ℕ → ℕ → ℝ) : k0_pay60 (F := Ideal) (R2 v136) (R2 v181) = R2 (nt v181 v136) := by
  funext j; unfold k0_pay60; pointwise [dot_S128x128_S256x128_S128x256_1_1_0_0_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay61_R2 (v23 v132 v183 : ℕ → ℕ → ℝ) : k0_pay61 (F := Ideal) (R2 v23) (R2 v132) (R2 v183) = R2 (nt (mulR v23 v183) v132) := by
  funext j; unfold k0_pay61; rw [pay53_R2]; pointwise [dot_S128x128_S256x128_S128x256_1_1_0_0_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay62_R2 (v25 v132 v163 : ℕ → ℕ → ℝ) : k0_pay62 (F := Ideal) (R2 v25) (R2 v132) (R2 v163) = R2 (rowdot v25 (nt v163 v132)) := by
  funext j; unfold k0_pay62; rw [pay54_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay63_R2 (v27 v136 v166 : ℕ → ℕ → ℝ) : k0_pay63 (F := Ideal) (R2 v27) (R2 v136) (R2 v166) = R2 (rowdot v27 (nt v166 v136)) := by
  funext j; unfold k0_pay63; rw [pay55_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay64_R2 (v29 v132 v169 : ℕ → ℕ → ℝ) : k0_pay64 (F := Ideal) (R2 v29) (R2 v132) (R2 v169) = R2 (rowdot v29 (nt v169 v132)) := by
  funext j; unfold k0_pay64; rw [pay56_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay65_R2 (v31 v136 v172 : ℕ → ℕ → ℝ) : k0_pay65 (F := Ideal) (R2 v31) (R2 v136) (R2 v172) = R2 (rowdot v31 (nt v172 v136)) := by
  funext j; unfold k0_pay65; rw [pay57_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay66_R2 (v33 v136 v175 : ℕ → ℕ → ℝ) : k0_pay66 (F := Ideal) (R2 v33) (R2 v136) (R2 v175) = R2 (rowdot v33 (nt v175 v136)) := by
  funext j; unfold k0_pay66; rw [pay58_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay67_R2 (v35 v132 v178 : ℕ → ℕ → ℝ) : k0_pay67 (F := Ideal) (R2 v35) (R2 v132) (R2 v178) = R2 (rowdot v35 (nt v178 v132)) := by
  funext j; unfold k0_pay67; rw [pay59_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay68_R2 (v37 v136 v181 : ℕ → ℕ → ℝ) : k0_pay68 (F := Ideal) (R2 v37) (R2 v136) (R2 v181) = R2 (rowdot v37 (nt v181 v136)) := by
  funext j; unfold k0_pay68; rw [pay60_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay69_R2 (v23 v39 v132 v183 : ℕ → ℕ → ℝ) : k0_pay69 (F := Ideal) (R2 v23) (R2 v39) (R2 v132) (R2 v183) = R2 (rowdot v39 (nt (mulR v23 v183) v132)) := by
  funext j; unfold k0_pay69; rw [pay61_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay70_R2 (v25 v132 v163 : ℕ → ℕ → ℝ) : k0_pay70 (F := Ideal) (R2 v25) (R2 v132) (R2 v163) = R2 (dsR v25 (nt v163 v132)) := by
  funext j; unfold k0_pay70; rw [pay62_R2, pay54_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay71_R2 (v27 v136 v166 : ℕ → ℕ → ℝ) : k0_pay71 (F := Ideal) (R2 v27) (R2 v136) (R2 v166) = R2 (dsR v27 (nt v166 v136)) := by
  funext j; unfold k0_pay71; rw [pay63_R2, pay55_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay72_R2 (v29 v132 v169 : ℕ → ℕ → ℝ) : k0_pay72 (F := Ideal) (R2 v29) (R2 v132) (R2 v169) = R2 (rowdot v29 (nt v169 v132)) := by
  funext j; unfold k0_pay72; rw [pay64_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay73_R2 (v29 v188 v227 : ℕ → ℕ → ℝ) : k0_pay73 (F := Ideal) (R2 v29) (R2 v188) (R2 v227) = R2 (pmul3 v29 v188 v227) := by
  funext j; unfold k0_pay73; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay74_R2 (v31 v190 v208 : ℕ → ℕ → ℝ) : k0_pay74 (F := Ideal) (R2 v31) (R2 v190) (R2 v208) = R2 (pmul v31 v190 v208) := by
  funext j; unfold k0_pay74; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay75_R2 (v33 v192 v211 : ℕ → ℕ → ℝ) : k0_pay75 (F := Ideal) (R2 v33) (R2 v192) (R2 v211) = R2 (pmul v33 v192 v211) := by
  funext j; unfold k0_pay75; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay76_R2 (v35 v193 v214 : ℕ → ℕ → ℝ) : k0_pay76 (F := Ideal) (R2 v35) (R2 v193) (R2 v214) = R2 (pmul v35 v193 v214) := by
  funext j; unfold k0_pay76; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay77_R2 (v37 v195 v217 : ℕ → ℕ → ℝ) : k0_pay77 (F := Ideal) (R2 v37) (R2 v195) (R2 v217) = R2 (pmul v37 v195 v217) := by
  funext j; unfold k0_pay77; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay78_R2 (v39 v196 v220 : ℕ → ℕ → ℝ) : k0_pay78 (F := Ideal) (R2 v39) (R2 v196) (R2 v220) = R2 (pmul v39 v196 v220) := by
  funext j; unfold k0_pay78; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay79_R2 (v77 v131 v223 : ℕ → ℕ → ℝ) : k0_pay79 (F := Ideal) (R2 v77) (R2 v131) (R2 v223) = R2 (nnq v223 v131 v77) := by
  funext j; unfold k0_pay79; pointwise [dot_S128x256_S256x128_S128x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay80_R2 (v106 v134 v226 : ℕ → ℕ → ℝ) : k0_pay80 (F := Ideal) (R2 v106) (R2 v134) (R2 v226) = R2 (nnq v226 v134 v106) := by
  funext j; unfold k0_pay80; pointwise [dot_S128x256_S256x128_S128x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay84_R2 (v106 v131 v238 : ℕ → ℕ → ℝ) : k0_pay84 (F := Ideal) (R2 v106) (R2 v131) (R2 v238) = R2 (nnq v238 v131 v106) := by
  funext j; unfold k0_pay84; pointwise [dot_S128x256_S256x128_S128x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay85_R2 (v77 v134 v241 : ℕ → ℕ → ℝ) : k0_pay85 (F := Ideal) (R2 v77) (R2 v134) (R2 v241) = R2 (nnq v241 v134 v77) := by
  funext j; unfold k0_pay85; pointwise [dot_S128x256_S256x128_S128x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay86_R2 (v106 v131 v244 : ℕ → ℕ → ℝ) : k0_pay86 (F := Ideal) (R2 v106) (R2 v131) (R2 v244) = R2 (nnq v244 v131 v106) := by
  funext j; unfold k0_pay86; pointwise [dot_S128x256_S256x128_S128x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay81_R2 (v29 v77 v131 v188 v227 : ℕ → ℕ → ℝ) : k0_pay81 (F := Ideal) (R2 v29) (R2 v77) (R2 v131) (R2 v188) (R2 v227) = R2 (nnq (pmul3 v29 v188 v227) v131 v77) := by
  funext j; unfold k0_pay81; rw [pay73_R2]; pointwise [dot_S128x256_S256x128_S128x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay82_R2 (v31 v106 v134 v190 v208 : ℕ → ℕ → ℝ) : k0_pay82 (F := Ideal) (R2 v31) (R2 v106) (R2 v134) (R2 v190) (R2 v208) = R2 (nnq (pmul v31 v190 v208) v134 v106) := by
  funext j; unfold k0_pay82; rw [pay74_R2]; pointwise [dot_S128x256_S256x128_S128x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay83_R2 (v33 v77 v134 v192 v211 : ℕ → ℕ → ℝ) : k0_pay83 (F := Ideal) (R2 v33) (R2 v77) (R2 v134) (R2 v192) (R2 v211) = R2 (nnq (pmul v33 v192 v211) v134 v77) := by
  funext j; unfold k0_pay83; rw [pay75_R2]; pointwise [dot_S128x256_S256x128_S128x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay87_R2 (v139 v223 : ℕ → ℕ → ℝ) : k0_pay87 (F := Ideal) (R2 v139) (R2 v223) = R2 (tnq v223 v139) := by
  funext j; unfold k0_pay87; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay88_R2 (v142 v226 : ℕ → ℕ → ℝ) : k0_pay88 (F := Ideal) (R2 v142) (R2 v226) = R2 (tnq v226 v142) := by
  funext j; unfold k0_pay88; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay89_R2 (v145 v229 : ℕ → ℕ → ℝ) : k0_pay89 (F := Ideal) (R2 v145) (R2 v229) = R2 (tnq v229 v145) := by
  funext j; unfold k0_pay89; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay90_R2 (v148 v232 : ℕ → ℕ → ℝ) : k0_pay90 (F := Ideal) (R2 v148) (R2 v232) = R2 (tnq v232 v148) := by
  funext j; unfold k0_pay90; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay91_R2 (v151 v235 : ℕ → ℕ → ℝ) : k0_pay91 (F := Ideal) (R2 v151) (R2 v235) = R2 (tnq v235 v151) := by
  funext j; unfold k0_pay91; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay92_R2 (v154 v238 : ℕ → ℕ → ℝ) : k0_pay92 (F := Ideal) (R2 v154) (R2 v238) = R2 (tn v238 v154) := by
  funext j; unfold k0_pay92; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay93_R2 : k0_pay93 (F := Ideal)  = R2 (fun _ _ => 1 / 8) := by
  funext j; unfold k0_pay93; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay94_R2 (v25 v163 : ℕ → ℕ → ℝ) : k0_pay94 (F := Ideal) (R2 v25) (R2 v163) = R2 (tn v25 v163) := by
  funext j; unfold k0_pay94; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay95_R2 (v27 v166 : ℕ → ℕ → ℝ) : k0_pay95 (F := Ideal) (R2 v27) (R2 v166) = R2 (tn v27 v166) := by
  funext j; unfold k0_pay95; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay96_R2 (v29 v169 : ℕ → ℕ → ℝ) : k0_pay96 (F := Ideal) (R2 v29) (R2 v169) = R2 (tn v29 v169) := by
  funext j; unfold k0_pay96; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay97_R2 (v31 v172 : ℕ → ℕ → ℝ) : k0_pay97 (F := Ideal) (R2 v31) (R2 v172) = R2 (tn v31 v172) := by
  funext j; unfold k0_pay97; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay98_R2 (v33 v175 : ℕ → ℕ → ℝ) : k0_pay98 (F := Ideal) (R2 v33) (R2 v175) = R2 (tn v33 v175) := by
  funext j; unfold k0_pay98; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay99_R2 (v35 v178 : ℕ → ℕ → ℝ) : k0_pay99 (F := Ideal) (R2 v35) (R2 v178) = R2 (tn v35 v178) := by
  funext j; unfold k0_pay99; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay100_R2 (v37 v181 : ℕ → ℕ → ℝ) : k0_pay100 (F := Ideal) (R2 v37) (R2 v181) = R2 (tn v37 v181) := by
  funext j; unfold k0_pay100; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay101_R2 (v39 v184 : ℕ → ℕ → ℝ) : k0_pay101 (F := Ideal) (R2 v39) (R2 v184) = R2 (tn v39 v184) := by
  funext j; unfold k0_pay101; pointwise [dot_S128x256_S128x128_S256x128_0_0_1_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay102_R2 (v250 v257 : ℕ → ℕ → ℝ) : k0_pay102 (F := Ideal) (R2 v250) (R2 v257) = R2 (fun i c => v250 i c + v257 i c) := by
  funext j; unfold k0_pay102; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay103_R2 (v263 v270 : ℕ → ℕ → ℝ) : k0_pay103 (F := Ideal) (R2 v263) (R2 v270) = R2 (fun i c => v263 i c + v270 i c) := by
  funext j; unfold k0_pay103; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay104_R2 (v277 v283 : ℕ → ℕ → ℝ) : k0_pay104 (F := Ideal) (R2 v277) (R2 v283) = R2 (fun i c => v277 i c + v283 i c) := by
  funext j; unfold k0_pay104; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay105_R2 (v290 v296 : ℕ → ℕ → ℝ) : k0_pay105 (F := Ideal) (R2 v290) (R2 v296) = R2 (fun i c => v290 i c + v296 i c) := by
  funext j; unfold k0_pay105; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay106_R2 (v130 v157 v160 v241 v244 v300 v304 v308 v312 v316 v318 v319 : ℕ → ℕ → ℝ) : k0_pay106 (F := Ideal) (R2 v130) (R2 v157) (R2 v160) (R2 v241) (R2 v244) (R2 v300) (R2 v304) (R2 v308) (R2 v312) (R2 v316) (R2 v318) (R2 v319) = R2 (fun k c => v300 k c + v308 k c + v318 k c * v319 k c + tn v244 v160 k c * (1 / 8)
    + swp (fun k c => v304 k c + v312 k c + v316 k c + tn v241 v157 k c * (1 / 8)) v130 k c) := by
  funext j; unfold k0_pay106; pointwise [dot_S128x256_S128x128_S256x128_0_0_1_1_n_n, dot_S256x128_S128x128_S256x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay107_R2 : k0_pay107 (F := Ideal)  = R2 (fun _ _ => 0) := by
  funext j; unfold k0_pay107; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay108_R2 (v130 v330 v332 v334 v336 v338 v340 v342 v344 v363 : ℕ → ℕ → ℝ) : k0_pay108 (F := Ideal) (R2 v130) (R2 v330) (R2 v332) (R2 v334) (R2 v336) (R2 v338) (R2 v340) (R2 v342) (R2 v344) (R2 v363) = R2 (fun k c => v363 k c + v330 k c + v334 k c + v340 k c + v344 k c + swp (fun k c => v332 k c + v336 k c + v338 k c + v342 k c) v130 k c) := by
  funext j; unfold k0_pay108; pointwise [dot_S256x128_S128x128_S256x128_1_0_0_1_n_n]
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay109_R2 (v362 : ℕ → ℕ → ℝ) : k0_pay109 (F := Ideal) (R2 v362) = R2 (v362) := by
  funext j; unfold k0_pay109; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay110_R2 (v362 : ℕ → ℕ → ℝ) : k0_pay110 (F := Ideal) (R2 v362) = R2 (fun i c => v362 (128 + i) c) := by
  funext j; unfold k0_pay110; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay111_R2 (v130 v330 v332 v334 v336 v338 v340 v342 v344 v363 : ℕ → ℕ → ℝ) : k0_pay111 (F := Ideal) (R2 v130) (R2 v330) (R2 v332) (R2 v334) (R2 v336) (R2 v338) (R2 v340) (R2 v342) (R2 v344) (R2 v363) = R2 (fun k c => v363 k c + v330 k c + v334 k c + v340 k c + v344 k c + swp (fun k c => v332 k c + v336 k c + v338 k c + v342 k c) v130 k c) := by
  funext j; unfold k0_pay111; rw [pay108_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay112_R2 (v130 v330 v332 v334 v336 v338 v340 v342 v344 v363 : ℕ → ℕ → ℝ) : k0_pay112 (F := Ideal) (R2 v130) (R2 v330) (R2 v332) (R2 v334) (R2 v336) (R2 v338) (R2 v340) (R2 v342) (R2 v344) (R2 v363) = R2 (fun i c => (fun k c => v363 k c + v330 k c + v334 k c + v340 k c + v344 k c + swp (fun k c => v332 k c + v336 k c + v338 k c + v342 k c) v130 k c) (128 + i) c) := by
  funext j; unfold k0_pay112; rw [pay108_R2]; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay119_R2 (v199 v202 v205 v208 : ℕ → ℕ → ℝ) : k0_pay119 (F := Ideal) (R2 v199) (R2 v202) (R2 v205) (R2 v208) = R2 (fun i c => (if c = 0 then v199 i 0 else 0) + (if c = 1 then v202 i 0 else 0) + (if c = 2 then v205 i 0 else 0) + (if c = 3 then v208 i 0 else 0)) := by
  funext j; unfold k0_pay119; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
  all_goals exact select_lane _ _ (j 1).isLt (by norm_num) _
theorem pay121_R2 (v211 : ℕ → ℕ → ℝ) : k0_pay121 (F := Ideal) (R2 v211) = R2 (fun i _ => v211 i 0) := by
  funext j; unfold k0_pay121; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay113_R2 (v345 : ℕ → ℕ → ℝ) : k0_pay113 (F := Ideal) (R2 (φ := .f32) v345) = R3 (fun _ => v345) := by
  funext j; unfold k0_pay113; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay114_R2 (v346 : ℕ → ℕ → ℝ) : k0_pay114 (F := Ideal) (R2 (φ := .f32) v346) = R3 (fun _ => v346) := by
  funext j; unfold k0_pay114; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay115_R2 (v347 : ℕ → ℕ → ℝ) : k0_pay115 (F := Ideal) (R2 (φ := .f32) v347) = R3 (fun _ => v347) := by
  funext j; unfold k0_pay115; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay116_R2 (v348 : ℕ → ℕ → ℝ) : k0_pay116 (F := Ideal) (R2 (φ := .f32) v348) = R3 (fun _ => v348) := by
  funext j; unfold k0_pay116; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay3_R2 (v377 : ℕ → ℕ → ℝ) : k0_pay3 (F := Ideal) (R2 (φ := .f32) v377) = R3 (fun _ => v377) := by
  funext j; unfold k0_pay3; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay4_R2 (v379 : ℕ → ℕ → ℝ) : k0_pay4 (F := Ideal) (R2 (φ := .f32) v379) = R3 (fun _ => v379) := by
  funext j; unfold k0_pay4; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay1_R2 (v483 : ℕ → ℕ → ℝ) : k0_pay1 (F := Ideal) (R2 (φ := .bf16) v483) = R3 (fun _ => v483) := by
  funext j; unfold k0_pay1; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay2_R2 (v380 v487 : ℕ → ℕ → ℝ) : k0_pay2 (F := Ideal) (R2 (φ := .f32) v380) (R3 (φ := .f32) (fun _ => v487)) = R3 (fun _ i c => v380 i c + v487 i c) := by
  funext j; unfold k0_pay2; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay123_R2 (v378 v480 : ℕ → ℕ → ℝ) : k0_pay123 (F := Ideal) (R2 (φ := .f32) v378) (R3 (φ := .f32) (fun _ => v480)) = R2 (fun i c => v378 i c + v480 i c) := by
  funext j; unfold k0_pay123; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay117_R2 (v397 : ℕ → ℕ → ℝ) : k0_pay117 (F := Ideal) (R2 (φ := .f32) v397) = R2 v397 := by
  funext j; unfold k0_pay117; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
theorem pay5_R3 : k0_pay5 (F := Ideal) = R3 (fun _ _ _ => 0) := by
  funext j; unfold k0_pay5; pointwise
  exact rfl
theorem pay6_R2 : k0_pay6 (F := Ideal) = R2 (fun _ _ => 0) := by
  funext j; unfold k0_pay6; pointwise
  exact rfl
theorem pay122_R2 (v214 v217 v220 v398 v400 v438 v443 v444 : ℕ → ℕ → ℝ) :
    k0_pay122 (F := Ideal) (R2 v214) (R2 v217) (R2 v220) (R2 v398) (R2 v400) (iota .tc S1x128 32 [1] iota_S1x128_d1_w32) (R2 v438) (R2 v443) (R2 v444)
      = R2 (fun i c => v398 i c - ∑ r ∈ Finset.range 128, v400 r c * (v438 r c + v444 r c * v443 0 c + (if c = 5 then v214 r 0 else 0)
          + (if c = 6 then v217 r 0 else 0) + (if c = 7 then v220 r 0 else 0))) := by
  funext j; unfold k0_pay122; pointwise
  try simp only [R2_apply, R3_apply, R5_apply, masked, nt, nn, tn, nnq, tnq, swp, rowdot, dsR, pmul, pmul3, mulR, rowOf, catR, ofBits_eighth, zero_add]
  repeat' first | apply coe_sum_of | apply coe_mul_of | apply coe_add_of | apply coe_sub_of | (intro _) | exact rfl
  all_goals exact select_lane _ _ (j 1).isLt (by norm_num) _
end Cert.Proof
end
end
-- ==== Proof.Heads.lean ====
module

public import proofs.«01_k».proof.Proof.Body
public import proofs.«01_k».proof.Proof.Gen.KernelIdeal.Value

@[expose] public section
noncomputable section
namespace Cert.Proof
open Idealize.ShloMosaic Idealize.ShloMosaic.TcCoe Cert.KernelIdeal Cert.KernelIdeal.Gen Idealize.SL.Sem

/-- The columns of the `p`-th group of 128. -/
def col (q : ℕ → ℕ → ℝ) (p i c : ℕ) : ℝ := q i (128 * p + c)
/-- The gradient of the probabilities of head `h`: its 64 columns of `d` against the values of its group. -/
def dpR (d v : ℕ → ℕ → ℝ) (h i k : ℕ) : ℝ := ∑ e ∈ Finset.range 64, d i (64 * h + e) * v k (64 * (h / 4) + e)
/-- The gradient of the scores of head `h`. -/
def dsH (P : ℕ → ℕ → ℕ → ℝ) (d v : ℕ → ℕ → ℝ) (h : ℕ) : ℕ → ℕ → ℝ := dsR (P h) (dpR d v h)
/-- The gradient of the queries: column `c` belongs to head `c / 64`, its group's keys are 64 columns wide. -/
def gqR (P : ℕ → ℕ → ℕ → ℝ) (d k v : ℕ → ℕ → ℝ) (i c : ℕ) : ℝ :=
  (∑ r ∈ Finset.range 256, dsH P d v (c / 64) i r * k r (64 * (c / 256) + c % 64)) * (1 / 8)
/-- The gradient of the keys: the sum over the group's four heads and the block's queries. -/
def gkR (P : ℕ → ℕ → ℕ → ℝ) (d q v : ℕ → ℕ → ℝ) (r c : ℕ) : ℝ :=
  (∑ j ∈ Finset.range 4, ∑ i ∈ Finset.range 128, dsH P d v (4 * (c / 64) + j) i r * q i (64 * (4 * (c / 64) + j) + c % 64)) * (1 / 8)
/-- The gradient of the values. -/
def gvR (P : ℕ → ℕ → ℕ → ℝ) (d : ℕ → ℕ → ℝ) (r c : ℕ) : ℝ :=
  ∑ j ∈ Finset.range 4, ∑ i ∈ Finset.range 128, P (4 * (c / 64) + j) i r * d i (64 * (4 * (c / 64) + j) + c % 64)
/-- The block's share of the gradient of the sinks, lane by lane. -/
def gsR (P : ℕ → ℕ → ℕ → ℝ) (d v S : ℕ → ℕ → ℝ) (l : ℕ) : ℝ :=
  ∑ i ∈ Finset.range 128, S i l * (if l < 8 then rowdot (P l) (dpR d v l) i 0 else 0)
/-- The block of `dz` a point writes: the queries' columns, then the keys' and the values' with what the next block sent back. -/
def outB (P : ℕ → ℕ → ℕ → ℝ) (d q k v : ℕ → ℕ → ℝ) (C : ℕ → ℕ → ℕ → ℝ) (i c : ℕ) : ℝ :=
  if c < 512 then gqR P d k v i c
  else if c < 640 then gkR P d q v (128 + i) (c - 512) + C 0 i (c - 512)
  else gvR P d (128 + i) (c - 640) + C 1 i (c - 640)
/-- What a point hands to the block before it. -/
def carryB (P : ℕ → ℕ → ℕ → ℝ) (d q v : ℕ → ℕ → ℝ) (g i c : ℕ) : ℝ := if g = 0 then gkR P d q v i c else gvR P d i c

theorem half128 (f : ℕ → ℝ) : ∑ c ∈ Finset.range 128, f c = ∑ c ∈ Finset.range 64, f c + ∑ c ∈ Finset.range 64, f (64 + c) :=
  Finset.sum_range_add f 64 64

theorem sum_low (f g : ℕ → ℝ) : ∑ c ∈ Finset.range 128, f c * low c * g c = ∑ c ∈ Finset.range 64, f c * g c := by
  rw [half128]
  have h1 : ∀ c ∈ Finset.range 64, f c * low c * g c = f c * g c := fun c hc => by
    rw [low, if_pos (Finset.mem_range.mp hc), mul_one]
  have h2 : ∀ c ∈ Finset.range 64, f (64 + c) * low (64 + c) * g (64 + c) = 0 := fun c _ => by
    rw [low, if_neg (by omega)]; ring
  rw [Finset.sum_congr rfl h1, Finset.sum_eq_zero h2, add_zero]

theorem sum_high (f g : ℕ → ℝ) : ∑ c ∈ Finset.range 128, f c * high c * g c = ∑ c ∈ Finset.range 64, f (64 + c) * g (64 + c) := by
  rw [half128]
  have h1 : ∀ c ∈ Finset.range 64, f c * high c * g c = 0 := fun c hc => by
    rw [high, if_pos (Finset.mem_range.mp hc)]; ring
  have h2 : ∀ c ∈ Finset.range 64, f (64 + c) * high (64 + c) * g (64 + c) = f (64 + c) * g (64 + c) := fun c _ => by
    rw [high, if_neg (by omega), mul_one]
  rw [Finset.sum_congr rfl h2, Finset.sum_eq_zero h1, zero_add]

theorem swp_swap (v : ℕ → ℕ → ℝ) (r c : ℕ) (hc : c < 128) : swp v swap r c = v r ((c + 64) % 128) := by
  unfold swp swap
  rw [Finset.sum_eq_single ((c + 64) % 128)]
  · rw [if_pos (by omega), mul_one]
  · intro x hx hne
    rw [Finset.mem_range] at hx
    rw [if_neg (by omega), mul_zero]
  · intro h; exact absurd (Finset.mem_range.mpr (Nat.mod_lt _ (by norm_num))) h

theorem mulR_rowOf (a : ℕ → ℕ → ℝ) (w : ℕ → ℝ) : mulR a (rowOf (fun _ => w)) = masked a (fun _ => w) := rfl
theorem pmul_dsH (P : ℕ → ℕ → ℕ → ℝ) (d v : ℕ → ℕ → ℝ) (h : ℕ) : pmul (P h) (dpR d v h) (rowdot (P h) (dpR d v h)) = dsH P d v h := rfl
theorem pmul3_dsH (P : ℕ → ℕ → ℕ → ℝ) (d v : ℕ → ℕ → ℝ) (h : ℕ) : pmul3 (P h) (dpR d v h) (rowdot (P h) (dpR d v h)) = dsH P d v h := rfl
theorem dsR_dsH (P : ℕ → ℕ → ℕ → ℝ) (d v : ℕ → ℕ → ℝ) (h : ℕ) : dsR (P h) (dpR d v h) = dsH P d v h := rfl

theorem nt_head0 (d v : ℕ → ℕ → ℝ) : nt (masked (col d 0) (fun _ => low)) v = dpR d v 0 := by
  funext i k
  refine (sum_low (fun c => col d 0 i c) (fun c => v k c)).trans (Finset.sum_congr rfl fun e he => ?_)
  have he' : e < 64 := Finset.mem_range.mp he
  unfold col
  refine congrArg₂ (· * ·) (congrArg (d i) (by omega)) (congrArg (v k) (by omega))

theorem nt_head1 (d v : ℕ → ℕ → ℝ) : nt (masked (col d 0) (fun _ => high)) (swp v swap) = dpR d v 1 := by
  funext i k
  refine (sum_high (fun c => col d 0 i c) (fun c => (swp v swap) k c)).trans (Finset.sum_congr rfl fun e he => ?_)
  have he' : e < 64 := Finset.mem_range.mp he
  have hs : (swp v swap) k (64 + e) = v k ((64 + e + 64) % 128) := swp_swap v k _ (by omega)
  rw [hs]; unfold col
  refine congrArg₂ (· * ·) (congrArg (d i) (by omega)) (congrArg (v k) (by omega))

theorem nt_head2 (d v : ℕ → ℕ → ℝ) : nt (masked (col d 1) (fun _ => low)) v = dpR d v 2 := by
  funext i k
  refine (sum_low (fun c => col d 1 i c) (fun c => v k c)).trans (Finset.sum_congr rfl fun e he => ?_)
  have he' : e < 64 := Finset.mem_range.mp he
  unfold col
  refine congrArg₂ (· * ·) (congrArg (d i) (by omega)) (congrArg (v k) (by omega))

theorem nt_head3 (d v : ℕ → ℕ → ℝ) : nt (masked (col d 1) (fun _ => high)) (swp v swap) = dpR d v 3 := by
  funext i k
  refine (sum_high (fun c => col d 1 i c) (fun c => (swp v swap) k c)).trans (Finset.sum_congr rfl fun e he => ?_)
  have he' : e < 64 := Finset.mem_range.mp he
  have hs : (swp v swap) k (64 + e) = v k ((64 + e + 64) % 128) := swp_swap v k _ (by omega)
  rw [hs]; unfold col
  refine congrArg₂ (· * ·) (congrArg (d i) (by omega)) (congrArg (v k) (by omega))

theorem nt_head4 (d v : ℕ → ℕ → ℝ) : nt (masked (col d 2) (fun _ => low)) (swp v swap) = dpR d v 4 := by
  funext i k
  refine (sum_low (fun c => col d 2 i c) (fun c => (swp v swap) k c)).trans (Finset.sum_congr rfl fun e he => ?_)
  have he' : e < 64 := Finset.mem_range.mp he
  have hs : (swp v swap) k e = v k ((e + 64) % 128) := swp_swap v k _ (by omega)
  rw [hs]; unfold col
  refine congrArg₂ (· * ·) (congrArg (d i) (by omega)) (congrArg (v k) (by omega))

theorem nt_head5 (d v : ℕ → ℕ → ℝ) : nt (masked (col d 2) (fun _ => high)) v = dpR d v 5 := by
  funext i k
  refine (sum_high (fun c => col d 2 i c) (fun c => v k c)).trans (Finset.sum_congr rfl fun e he => ?_)
  have he' : e < 64 := Finset.mem_range.mp he
  unfold col
  refine congrArg₂ (· * ·) (congrArg (d i) (by omega)) (congrArg (v k) (by omega))

theorem nt_head6 (d v : ℕ → ℕ → ℝ) : nt (masked (col d 3) (fun _ => low)) (swp v swap) = dpR d v 6 := by
  funext i k
  refine (sum_low (fun c => col d 3 i c) (fun c => (swp v swap) k c)).trans (Finset.sum_congr rfl fun e he => ?_)
  have he' : e < 64 := Finset.mem_range.mp he
  have hs : (swp v swap) k e = v k ((e + 64) % 128) := swp_swap v k _ (by omega)
  rw [hs]; unfold col
  refine congrArg₂ (· * ·) (congrArg (d i) (by omega)) (congrArg (v k) (by omega))

theorem nt_head7 (d v : ℕ → ℕ → ℝ) : nt (masked (col d 3) (fun _ => high)) v = dpR d v 7 := by
  funext i k
  refine (sum_high (fun c => col d 3 i c) (fun c => v k c)).trans (Finset.sum_congr rfl fun e he => ?_)
  have he' : e < 64 := Finset.mem_range.mp he
  unfold col
  refine congrArg₂ (· * ·) (congrArg (d i) (by omega)) (congrArg (v k) (by omega))

theorem dq_pair0 (P : ℕ → ℕ → ℕ → ℝ) (d k v : ℕ → ℕ → ℝ) (i c : ℕ) (hc : c < 128) :
    nnq (dsH P d v 0) k (fun _ => low) i c + nnq (dsH P d v 1) (swp k swap) (fun _ => high) i c = gqR P d k v i (0 + c) := by
  unfold nnq nn gqR
  by_cases h : c < 64
  · have e1 : (0 + c) / 64 = 0 := by omega
    have e2 : 64 * ((0 + c) / 256) + (0 + c) % 64 = c := by omega
    rw [e2, e1]; simp only [low, high, if_pos h, swp_swap k _ c hc]
    ring
  · have e1 : (0 + c) / 64 = 1 := by omega
    have e2 : 64 * ((0 + c) / 256) + (0 + c) % 64 = (c + 64) % 128 := by omega
    rw [e2, e1]; simp only [low, high, if_neg h, swp_swap k _ c hc]
    ring

theorem dq_pair1 (P : ℕ → ℕ → ℕ → ℝ) (d k v : ℕ → ℕ → ℝ) (i c : ℕ) (hc : c < 128) :
    nnq (dsH P d v 2) k (fun _ => low) i c + nnq (dsH P d v 3) (swp k swap) (fun _ => high) i c = gqR P d k v i (128 + c) := by
  unfold nnq nn gqR
  by_cases h : c < 64
  · have e1 : (128 + c) / 64 = 2 := by omega
    have e2 : 64 * ((128 + c) / 256) + (128 + c) % 64 = c := by omega
    rw [e2, e1]; simp only [low, high, if_pos h, swp_swap k _ c hc]
    ring
  · have e1 : (128 + c) / 64 = 3 := by omega
    have e2 : 64 * ((128 + c) / 256) + (128 + c) % 64 = (c + 64) % 128 := by omega
    rw [e2, e1]; simp only [low, high, if_neg h, swp_swap k _ c hc]
    ring

theorem dq_pair2 (P : ℕ → ℕ → ℕ → ℝ) (d k v : ℕ → ℕ → ℝ) (i c : ℕ) (hc : c < 128) :
    nnq (dsH P d v 4) (swp k swap) (fun _ => low) i c + nnq (dsH P d v 5) k (fun _ => high) i c = gqR P d k v i (256 + c) := by
  unfold nnq nn gqR
  by_cases h : c < 64
  · have e1 : (256 + c) / 64 = 4 := by omega
    have e2 : 64 * ((256 + c) / 256) + (256 + c) % 64 = (c + 64) % 128 := by omega
    rw [e2, e1]; simp only [low, high, if_pos h, swp_swap k _ c hc]
    ring
  · have e1 : (256 + c) / 64 = 5 := by omega
    have e2 : 64 * ((256 + c) / 256) + (256 + c) % 64 = c := by omega
    rw [e2, e1]; simp only [low, high, if_neg h, swp_swap k _ c hc]
    ring

theorem dq_pair3 (P : ℕ → ℕ → ℕ → ℝ) (d k v : ℕ → ℕ → ℝ) (i c : ℕ) (hc : c < 128) :
    nnq (dsH P d v 6) (swp k swap) (fun _ => low) i c + nnq (dsH P d v 7) k (fun _ => high) i c = gqR P d k v i (384 + c) := by
  unfold nnq nn gqR
  by_cases h : c < 64
  · have e1 : (384 + c) / 64 = 6 := by omega
    have e2 : 64 * ((384 + c) / 256) + (384 + c) % 64 = (c + 64) % 128 := by omega
    rw [e2, e1]; simp only [low, high, if_pos h, swp_swap k _ c hc]
    ring
  · have e1 : (384 + c) / 64 = 7 := by omega
    have e2 : 64 * ((384 + c) / 256) + (384 + c) % 64 = c := by omega
    rw [e2, e1]; simp only [low, high, if_neg h, swp_swap k _ c hc]
    ring

theorem tn_low (g q : ℕ → ℕ → ℝ) (p r c : ℕ) :
    tn g (masked (col q p) (fun _ => low)) r c = if c < 64 then ∑ i ∈ Finset.range 128, g i r * q i (128 * p + c) else 0 := by
  unfold tn masked col low
  by_cases h : c < 64
  · simp only [if_pos h, mul_one]
  · simp only [if_neg h, mul_zero, Finset.sum_const_zero]
theorem tn_high (g q : ℕ → ℕ → ℝ) (p r c : ℕ) :
    tn g (masked (col q p) (fun _ => high)) r c = if c < 64 then 0 else ∑ i ∈ Finset.range 128, g i r * q i (128 * p + c) := by
  unfold tn masked col high
  by_cases h : c < 64
  · simp only [if_pos h, mul_zero, Finset.sum_const_zero]
  · simp only [if_neg h, mul_one]

theorem sum4 (f : ℕ → ℝ) : ∑ j ∈ Finset.range 4, f j = f 0 + f 1 + f 2 + f 3 := by
  rw [Finset.sum_range_succ, Finset.sum_range_succ, Finset.sum_range_succ, Finset.sum_range_one]

/-- The eight heads' products, those of the swapped halves put back, are the sum over each group's four heads. -/
theorem heads_sum (g : ℕ → ℕ → ℕ → ℝ) (q : ℕ → ℕ → ℝ) (r c : ℕ) (hc : c < 128) :
    (tn (g 0) (masked (col q 0) (fun _ => low)) r c + tn (g 2) (masked (col q 1) (fun _ => low)) r c
      + tn (g 5) (masked (col q 2) (fun _ => high)) r c + tn (g 7) (masked (col q 3) (fun _ => high)) r c)
      + (tn (g 1) (masked (col q 0) (fun _ => high)) r ((c + 64) % 128) + tn (g 3) (masked (col q 1) (fun _ => high)) r ((c + 64) % 128)
      + tn (g 4) (masked (col q 2) (fun _ => low)) r ((c + 64) % 128) + tn (g 6) (masked (col q 3) (fun _ => low)) r ((c + 64) % 128))
      = ∑ j ∈ Finset.range 4, ∑ i ∈ Finset.range 128, g (4 * (c / 64) + j) i r * q i (64 * (4 * (c / 64) + j) + c % 64) := by
  simp only [tn_low, tn_high]
  by_cases h : c < 64
  · have h' : ¬ (c + 64) % 128 < 64 := by omega
    have e1 : c / 64 = 0 := by omega
    have e2 : c % 64 = c := by omega
    have e3 : (c + 64) % 128 = c + 64 := by omega
    have a1 : ∀ i, q i (128 * 0 + (c + 64)) = q i (64 * (4 * 0 + 1) + c) := fun i => congrArg _ (by omega)
    have a2 : ∀ i, q i (128 * 1 + c) = q i (64 * (4 * 0 + 2) + c) := fun i => congrArg _ (by omega)
    have a3 : ∀ i, q i (128 * 1 + (c + 64)) = q i (64 * (4 * 0 + 3) + c) := fun i => congrArg _ (by omega)
    simp only [if_pos h, if_neg h', e1, e2, sum4]
    simp only [e3, a1, a2, a3, Nat.mul_zero, Nat.zero_add, Nat.add_zero]
    ring
  · have h' : (c + 64) % 128 < 64 := by omega
    have e1 : c / 64 = 1 := by omega
    have e2 : c % 64 = c - 64 := by omega
    have e3 : (c + 64) % 128 = c - 64 := by omega
    have a0 : ∀ i, q i (128 * 2 + (c - 64)) = q i (64 * (4 * 1 + 0) + (c - 64)) := fun i => congrArg _ (by omega)
    have a1 : ∀ i, q i (128 * 2 + c) = q i (64 * (4 * 1 + 1) + (c - 64)) := fun i => congrArg _ (by omega)
    have a2 : ∀ i, q i (128 * 3 + (c - 64)) = q i (64 * (4 * 1 + 2) + (c - 64)) := fun i => congrArg _ (by omega)
    have a3 : ∀ i, q i (128 * 3 + c) = q i (64 * (4 * 1 + 3) + (c - 64)) := fun i => congrArg _ (by omega)
    simp only [if_neg h, if_pos h', e1, e2, sum4]
    simp only [e3, a0, a1, a2, a3, Nat.mul_one, Nat.reduceAdd, Nat.add_zero]
    ring

theorem R3_congr {a n m : ℕ} {φ : FTy} {f g : ℕ → ℕ → ℕ → ℝ} (h : ∀ x i c, x < a → i < n → c < m → f x i c = g x i c) :
    (R3 f : FVec Ideal ⟨3, ![a, n, m]⟩ φ) = R3 g :=
  funext fun j => congrArg _ (h _ _ _ (j 0).isLt (j 1).isLt (j 2).isLt)
theorem R2_congr {n m : ℕ} {φ : FTy} {f g : ℕ → ℕ → ℝ} (h : ∀ i c, i < n → c < m → f i c = g i c) :
    (R2 f : FVec Ideal ⟨2, ![n, m]⟩ φ) = R2 g :=
  funext fun j => congrArg _ (h _ _ (j 0).isLt (j 1).isLt)

theorem ld_cols0 (q : ℕ → ℕ → ℝ) (inb : ∀ a, (![0, 0, 0] : Fin 3 → ℕ) a + (![1, 128, 128] : Fin 3 → ℕ) a ≤ S1x128x512.size a) :
    View.ld (Val := Elt Ideal) (e' := .bf16) (S := S1x128x512) (R3 (φ := .bf16) (fun _ => q)) (Rect.unit ![0, 0, 0] ![1, 128, 128] inb) = R3 (φ := .bf16) (a := 1) (n := 128) (m := 128) (fun _ => col q 0) := by
  funext x
  change ((q (0 + 1 * (x 1).val) (0 + 1 * (x 2).val) : ℝ) : EReal) = ((q (x 1).val (128 * 0 + (x 2).val) : ℝ) : EReal)
  simp only [Nat.one_mul, Nat.zero_add, Nat.mul_zero, Nat.reduceMul]
theorem ld_cols1 (q : ℕ → ℕ → ℝ) (inb : ∀ a, (![0, 0, 128] : Fin 3 → ℕ) a + (![1, 128, 128] : Fin 3 → ℕ) a ≤ S1x128x512.size a) :
    View.ld (Val := Elt Ideal) (e' := .bf16) (S := S1x128x512) (R3 (φ := .bf16) (fun _ => q)) (Rect.unit ![0, 0, 128] ![1, 128, 128] inb) = R3 (φ := .bf16) (a := 1) (n := 128) (m := 128) (fun _ => col q 1) := by
  funext x
  change ((q (0 + 1 * (x 1).val) (128 + 1 * (x 2).val) : ℝ) : EReal) = ((q (x 1).val (128 * 1 + (x 2).val) : ℝ) : EReal)
  simp only [Nat.one_mul, Nat.zero_add, Nat.mul_zero, Nat.reduceMul]
theorem ld_cols2 (q : ℕ → ℕ → ℝ) (inb : ∀ a, (![0, 0, 256] : Fin 3 → ℕ) a + (![1, 128, 128] : Fin 3 → ℕ) a ≤ S1x128x512.size a) :
    View.ld (Val := Elt Ideal) (e' := .bf16) (S := S1x128x512) (R3 (φ := .bf16) (fun _ => q)) (Rect.unit ![0, 0, 256] ![1, 128, 128] inb) = R3 (φ := .bf16) (a := 1) (n := 128) (m := 128) (fun _ => col q 2) := by
  funext x
  change ((q (0 + 1 * (x 1).val) (256 + 1 * (x 2).val) : ℝ) : EReal) = ((q (x 1).val (128 * 2 + (x 2).val) : ℝ) : EReal)
  simp only [Nat.one_mul, Nat.zero_add, Nat.mul_zero, Nat.reduceMul]
theorem ld_cols3 (q : ℕ → ℕ → ℝ) (inb : ∀ a, (![0, 0, 384] : Fin 3 → ℕ) a + (![1, 128, 128] : Fin 3 → ℕ) a ≤ S1x128x512.size a) :
    View.ld (Val := Elt Ideal) (e' := .bf16) (S := S1x128x512) (R3 (φ := .bf16) (fun _ => q)) (Rect.unit ![0, 0, 384] ![1, 128, 128] inb) = R3 (φ := .bf16) (a := 1) (n := 128) (m := 128) (fun _ => col q 3) := by
  funext x
  change ((q (0 + 1 * (x 1).val) (384 + 1 * (x 2).val) : ℝ) : EReal) = ((q (x 1).val (128 * 3 + (x 2).val) : ℝ) : EReal)
  simp only [Nat.one_mul, Nat.zero_add, Nat.mul_zero, Nat.reduceMul]
theorem ld_blk (q : ℕ → ℕ → ℝ) (inb : ∀ a, (![0, 0, 0] : Fin 3 → ℕ) a + (![1, 128, 128] : Fin 3 → ℕ) a ≤ S1x128x128.size a) :
    View.ld (Val := Elt Ideal) (e' := .bf16) (S := S1x128x128) (R3 (φ := .bf16) (fun _ => q)) (Rect.unit ![0, 0, 0] ![1, 128, 128] inb) = R3 (φ := .bf16) (a := 1) (n := 128) (m := 128) (fun _ => q) := by
  funext x
  change ((q (0 + 1 * (x 1).val) (0 + 1 * (x 2).val) : ℝ) : EReal) = ((q (x 1).val (x 2).val : ℝ) : EReal)
  simp only [Nat.one_mul, Nat.zero_add]
theorem ld_blk_f32 (q : ℕ → ℕ → ℝ) (inb : ∀ a, (![0, 0, 0] : Fin 3 → ℕ) a + (![1, 128, 128] : Fin 3 → ℕ) a ≤ S1x128x128.size a) :
    View.ld (Val := Elt Ideal) (e' := .f32) (S := S1x128x128) (R3 (φ := .f32) (fun _ => q)) (Rect.unit ![0, 0, 0] ![1, 128, 128] inb) = R3 (φ := .f32) (a := 1) (n := 128) (m := 128) (fun _ => q) := by
  funext x
  change ((q (0 + 1 * (x 1).val) (0 + 1 * (x 2).val) : ℝ) : EReal) = ((q (x 1).val (x 2).val : ℝ) : EReal)
  simp only [Nat.one_mul, Nat.zero_add]
theorem ld_carry0 (C : ℕ → ℕ → ℕ → ℝ) (inb : ∀ a, (![0, 0, 0] : Fin 3 → ℕ) a + (![1, 128, 128] : Fin 3 → ℕ) a ≤ S2x128x128.size a) :
    View.ld (Val := Elt Ideal) (e' := .f32) (S := S2x128x128) (R3 (φ := .f32) (C)) (Rect.unit ![0, 0, 0] ![1, 128, 128] inb) = R3 (φ := .f32) (a := 1) (n := 128) (m := 128) (fun _ => C 0) := by
  funext x
  have h0 : (x 0).val = 0 := Nat.lt_one_iff.mp (x 0).isLt
  change ((C (0 + 1 * (x 0).val) (0 + 1 * (x 1).val) (0 + 1 * (x 2).val) : ℝ) : EReal) = ((C 0 (x 1).val (x 2).val : ℝ) : EReal)
  simp only [h0, Nat.one_mul, Nat.zero_add, Nat.add_zero]
theorem ld_carry1 (C : ℕ → ℕ → ℕ → ℝ) (inb : ∀ a, (![1, 0, 0] : Fin 3 → ℕ) a + (![1, 128, 128] : Fin 3 → ℕ) a ≤ S2x128x128.size a) :
    View.ld (Val := Elt Ideal) (e' := .f32) (S := S2x128x128) (R3 (φ := .f32) (C)) (Rect.unit ![1, 0, 0] ![1, 128, 128] inb) = R3 (φ := .f32) (a := 1) (n := 128) (m := 128) (fun _ => C 1) := by
  funext x
  have h0 : (x 0).val = 0 := Nat.lt_one_iff.mp (x 0).isLt
  change ((C (1 + 1 * (x 0).val) (0 + 1 * (x 1).val) (0 + 1 * (x 2).val) : ℝ) : EReal) = ((C 1 (x 1).val (x 2).val : ℝ) : EReal)
  simp only [h0, Nat.one_mul, Nat.zero_add, Nat.add_zero]
theorem ld_head0 (P : ℕ → ℕ → ℕ → ℝ) (inb : ∀ a, (![0, 0, 0, 0, 0] : Fin 5 → ℕ) a + (![1, 1, 1, 128, 256] : Fin 5 → ℕ) a ≤ S1x1x8x128x256.size a) :
    View.ld (Val := Elt Ideal) (e' := .f32) (S := S1x1x8x128x256) (R5 (φ := .f32) P) (Rect.unit ![0, 0, 0, 0, 0] ![1, 1, 1, 128, 256] inb)
      = R5 (φ := .f32) (a := 1) (b := 1) (c := 1) (n := 128) (m := 256) (fun _ => P 0) := by
  funext x
  have h0 : (x 2).val = 0 := Nat.lt_one_iff.mp (x 2).isLt
  change ((P (0 + 1 * (x 2).val) (0 + 1 * (x 3).val) (0 + 1 * (x 4).val) : ℝ) : EReal) = ((P 0 (x 3).val (x 4).val : ℝ) : EReal)
  simp only [h0, Nat.one_mul, Nat.zero_add, Nat.add_zero]
theorem ld_head1 (P : ℕ → ℕ → ℕ → ℝ) (inb : ∀ a, (![0, 0, 1, 0, 0] : Fin 5 → ℕ) a + (![1, 1, 1, 128, 256] : Fin 5 → ℕ) a ≤ S1x1x8x128x256.size a) :
    View.ld (Val := Elt Ideal) (e' := .f32) (S := S1x1x8x128x256) (R5 (φ := .f32) P) (Rect.unit ![0, 0, 1, 0, 0] ![1, 1, 1, 128, 256] inb)
      = R5 (φ := .f32) (a := 1) (b := 1) (c := 1) (n := 128) (m := 256) (fun _ => P 1) := by
  funext x
  have h0 : (x 2).val = 0 := Nat.lt_one_iff.mp (x 2).isLt
  change ((P (1 + 1 * (x 2).val) (0 + 1 * (x 3).val) (0 + 1 * (x 4).val) : ℝ) : EReal) = ((P 1 (x 3).val (x 4).val : ℝ) : EReal)
  simp only [h0, Nat.one_mul, Nat.zero_add, Nat.add_zero]
theorem ld_head2 (P : ℕ → ℕ → ℕ → ℝ) (inb : ∀ a, (![0, 0, 2, 0, 0] : Fin 5 → ℕ) a + (![1, 1, 1, 128, 256] : Fin 5 → ℕ) a ≤ S1x1x8x128x256.size a) :
    View.ld (Val := Elt Ideal) (e' := .f32) (S := S1x1x8x128x256) (R5 (φ := .f32) P) (Rect.unit ![0, 0, 2, 0, 0] ![1, 1, 1, 128, 256] inb)
      = R5 (φ := .f32) (a := 1) (b := 1) (c := 1) (n := 128) (m := 256) (fun _ => P 2) := by
  funext x
  have h0 : (x 2).val = 0 := Nat.lt_one_iff.mp (x 2).isLt
  change ((P (2 + 1 * (x 2).val) (0 + 1 * (x 3).val) (0 + 1 * (x 4).val) : ℝ) : EReal) = ((P 2 (x 3).val (x 4).val : ℝ) : EReal)
  simp only [h0, Nat.one_mul, Nat.zero_add, Nat.add_zero]
theorem ld_head3 (P : ℕ → ℕ → ℕ → ℝ) (inb : ∀ a, (![0, 0, 3, 0, 0] : Fin 5 → ℕ) a + (![1, 1, 1, 128, 256] : Fin 5 → ℕ) a ≤ S1x1x8x128x256.size a) :
    View.ld (Val := Elt Ideal) (e' := .f32) (S := S1x1x8x128x256) (R5 (φ := .f32) P) (Rect.unit ![0, 0, 3, 0, 0] ![1, 1, 1, 128, 256] inb)
      = R5 (φ := .f32) (a := 1) (b := 1) (c := 1) (n := 128) (m := 256) (fun _ => P 3) := by
  funext x
  have h0 : (x 2).val = 0 := Nat.lt_one_iff.mp (x 2).isLt
  change ((P (3 + 1 * (x 2).val) (0 + 1 * (x 3).val) (0 + 1 * (x 4).val) : ℝ) : EReal) = ((P 3 (x 3).val (x 4).val : ℝ) : EReal)
  simp only [h0, Nat.one_mul, Nat.zero_add, Nat.add_zero]
theorem ld_head4 (P : ℕ → ℕ → ℕ → ℝ) (inb : ∀ a, (![0, 0, 4, 0, 0] : Fin 5 → ℕ) a + (![1, 1, 1, 128, 256] : Fin 5 → ℕ) a ≤ S1x1x8x128x256.size a) :
    View.ld (Val := Elt Ideal) (e' := .f32) (S := S1x1x8x128x256) (R5 (φ := .f32) P) (Rect.unit ![0, 0, 4, 0, 0] ![1, 1, 1, 128, 256] inb)
      = R5 (φ := .f32) (a := 1) (b := 1) (c := 1) (n := 128) (m := 256) (fun _ => P 4) := by
  funext x
  have h0 : (x 2).val = 0 := Nat.lt_one_iff.mp (x 2).isLt
  change ((P (4 + 1 * (x 2).val) (0 + 1 * (x 3).val) (0 + 1 * (x 4).val) : ℝ) : EReal) = ((P 4 (x 3).val (x 4).val : ℝ) : EReal)
  simp only [h0, Nat.one_mul, Nat.zero_add, Nat.add_zero]
theorem ld_head5 (P : ℕ → ℕ → ℕ → ℝ) (inb : ∀ a, (![0, 0, 5, 0, 0] : Fin 5 → ℕ) a + (![1, 1, 1, 128, 256] : Fin 5 → ℕ) a ≤ S1x1x8x128x256.size a) :
    View.ld (Val := Elt Ideal) (e' := .f32) (S := S1x1x8x128x256) (R5 (φ := .f32) P) (Rect.unit ![0, 0, 5, 0, 0] ![1, 1, 1, 128, 256] inb)
      = R5 (φ := .f32) (a := 1) (b := 1) (c := 1) (n := 128) (m := 256) (fun _ => P 5) := by
  funext x
  have h0 : (x 2).val = 0 := Nat.lt_one_iff.mp (x 2).isLt
  change ((P (5 + 1 * (x 2).val) (0 + 1 * (x 3).val) (0 + 1 * (x 4).val) : ℝ) : EReal) = ((P 5 (x 3).val (x 4).val : ℝ) : EReal)
  simp only [h0, Nat.one_mul, Nat.zero_add, Nat.add_zero]
theorem ld_head6 (P : ℕ → ℕ → ℕ → ℝ) (inb : ∀ a, (![0, 0, 6, 0, 0] : Fin 5 → ℕ) a + (![1, 1, 1, 128, 256] : Fin 5 → ℕ) a ≤ S1x1x8x128x256.size a) :
    View.ld (Val := Elt Ideal) (e' := .f32) (S := S1x1x8x128x256) (R5 (φ := .f32) P) (Rect.unit ![0, 0, 6, 0, 0] ![1, 1, 1, 128, 256] inb)
      = R5 (φ := .f32) (a := 1) (b := 1) (c := 1) (n := 128) (m := 256) (fun _ => P 6) := by
  funext x
  have h0 : (x 2).val = 0 := Nat.lt_one_iff.mp (x 2).isLt
  change ((P (6 + 1 * (x 2).val) (0 + 1 * (x 3).val) (0 + 1 * (x 4).val) : ℝ) : EReal) = ((P 6 (x 3).val (x 4).val : ℝ) : EReal)
  simp only [h0, Nat.one_mul, Nat.zero_add, Nat.add_zero]
theorem ld_head7 (P : ℕ → ℕ → ℕ → ℝ) (inb : ∀ a, (![0, 0, 7, 0, 0] : Fin 5 → ℕ) a + (![1, 1, 1, 128, 256] : Fin 5 → ℕ) a ≤ S1x1x8x128x256.size a) :
    View.ld (Val := Elt Ideal) (e' := .f32) (S := S1x1x8x128x256) (R5 (φ := .f32) P) (Rect.unit ![0, 0, 7, 0, 0] ![1, 1, 1, 128, 256] inb)
      = R5 (φ := .f32) (a := 1) (b := 1) (c := 1) (n := 128) (m := 256) (fun _ => P 7) := by
  funext x
  have h0 : (x 2).val = 0 := Nat.lt_one_iff.mp (x 2).isLt
  change ((P (7 + 1 * (x 2).val) (0 + 1 * (x 3).val) (0 + 1 * (x 4).val) : ℝ) : EReal) = ((P 7 (x 3).val (x 4).val : ℝ) : EReal)
  simp only [h0, Nat.one_mul, Nat.zero_add, Nat.add_zero]
theorem ld_row (D : ℕ → ℝ) (inb : ∀ a, (![0, 0] : Fin 2 → ℕ) a + (![1, 128] : Fin 2 → ℕ) a ≤ S1x128.size a) :
    View.ld (Val := Elt Ideal) (e' := .f32) (S := S1x128) (R2 (φ := .f32) (fun _ => D)) (Rect.unit ![0, 0] ![1, 128] inb)
      = R2 (φ := .f32) (n := 1) (m := 128) (fun _ => D) := by
  funext x
  change ((D (0 + 1 * (x 1).val) : ℝ) : EReal) = ((D (x 1).val : ℝ) : EReal)
  simp only [Nat.one_mul, Nat.zero_add]
/-- The lanes of the second half, as the body's text applies them. -/
theorem pay30_at : k0_pay30 (F := Ideal) (iota .tc S1x128 32 (@List.cons (Fin 2) (1 : Fin S1x128.rank) (@List.nil (Fin 2))) iota_S1x128_d1_w32) 64#32 k0_pay28 k0_pay29 = R2 (fun _ => high) := pay30_R2
theorem pay122_at (v214 v217 v220 v398 v400 v438 v443 v444 : ℕ → ℕ → ℝ) :
    k0_pay122 (F := Ideal) (R2 v214) (R2 v217) (R2 v220) (R2 v398) (R2 v400) (iota .tc S1x128 32 (@List.cons (Fin 2) (1 : Fin S1x128.rank) (@List.nil (Fin 2))) iota_S1x128_d1_w32) (R2 v438) (R2 v443) (R2 v444)
      = R2 (fun i c => v398 i c - ∑ r ∈ Finset.range 128, v400 r c * (v438 r c + v444 r c * v443 0 c + (if c = 5 then v214 r 0 else 0)
          + (if c = 6 then v217 r 0 else 0) + (if c = 7 then v220 r 0 else 0))) := pay122_R2 v214 v217 v220 v398 v400 v438 v443 v444

end Cert.Proof
end
end
-- ==== Proof.Point.lean ====
module

public import proofs.«01_k».proof.Proof.Heads

@[expose] public section
noncomputable section
namespace Cert.Proof
open Idealize.ShloMosaic Idealize.ShloMosaic.TcCoe Cert.KernelIdeal Cert.KernelIdeal.Gen Idealize.SL.Sem
set_option maxRecDepth 16384
/-- The gradient of the values, as the body adds it up from the heads' halves. -/
theorem gv_sum (P : ℕ → ℕ → ℕ → ℝ) (d : ℕ → ℕ → ℝ) (r c : ℕ) (hc : c < 128) :
    0 + tn (P 0) (masked (col d 0) fun _ => low) r c + tn (P 2) (masked (col d 1) fun _ => low) r c
      + tn (P 5) (masked (col d 2) fun _ => high) r c + tn (P 7) (masked (col d 3) fun _ => high) r c
      + swp (fun k c => tn (P 1) (masked (col d 0) fun _ => high) k c + tn (P 3) (masked (col d 1) fun _ => high) k c
          + tn (P 4) (masked (col d 2) fun _ => low) k c + tn (P 6) (masked (col d 3) fun _ => low) k c) swap r c
      = gvR P d r c := by
  rw [swp_swap _ _ _ hc, zero_add, heads_sum P d r c hc, gvR]

/-- The gradient of the keys, likewise. -/
theorem gk_sum (P : ℕ → ℕ → ℕ → ℝ) (d q v : ℕ → ℕ → ℝ) (r c : ℕ) (hc : c < 128) :
    tnq (dsH P d v 0) (masked (col q 0) fun _ => low) r c + tnq (dsH P d v 2) (masked (col q 1) fun _ => low) r c
      + tn (dsH P d v 5) (masked (col q 2) fun _ => high) r c * (1 / 8) + tn (dsH P d v 7) (masked (col q 3) fun _ => high) r c * (1 / 8)
      + swp (fun k c => tnq (dsH P d v 1) (masked (col q 0) fun _ => high) k c + tnq (dsH P d v 3) (masked (col q 1) fun _ => high) k c
          + tnq (dsH P d v 4) (masked (col q 2) fun _ => low) k c + tn (dsH P d v 6) (masked (col q 3) fun _ => low) k c * (1 / 8)) swap r c
      = gkR P d q v r c := by
  rw [swp_swap _ _ _ hc, gkR, ← heads_sum (fun h => dsH P d v h) q r c hc]
  unfold tnq
  ring

/-- The sinks' lanes, one head after another. -/
theorem lanes_sum (x : ℕ → ℝ) (c : ℕ) :
    ((((((((if c = 0 then x 0 else 0) + if c = 1 then x 1 else 0) + if c = 2 then x 2 else 0) + if c = 3 then x 3 else 0)
      + x 4 * if c = 4 then 1 else 0) + if c = 5 then x 5 else 0) + if c = 6 then x 6 else 0) + if c = 7 then x 7 else 0)
      = if c < 8 then x c else 0 := by
  by_cases h : c < 8
  · rw [if_pos h]
    interval_cases c <;> norm_num
  · rw [if_neg h]
    rw [if_neg (by omega), if_neg (by omega), if_neg (by omega), if_neg (by omega), if_neg (by omega), if_neg (by omega), if_neg (by omega), if_neg (by omega)]
    norm_num

theorem gs_sum (P : ℕ → ℕ → ℕ → ℝ) (d v S : ℕ → ℕ → ℝ) (c : ℕ) :
    ∑ r ∈ Finset.range 128, S r c *
      ((((((((if c = 0 then rowdot (P 0) (dpR d v 0) r 0 else 0) + if c = 1 then rowdot (P 1) (dpR d v 1) r 0 else 0)
        + if c = 2 then rowdot (P 2) (dpR d v 2) r 0 else 0) + if c = 3 then rowdot (P 3) (dpR d v 3) r 0 else 0)
        + rowdot (P 4) (dpR d v 4) r 0 * if c = 4 then 1 else 0) + if c = 5 then rowdot (P 5) (dpR d v 5) r 0 else 0)
        + if c = 6 then rowdot (P 6) (dpR d v 6) r 0 else 0) + if c = 7 then rowdot (P 7) (dpR d v 7) r 0 else 0)
      = gsR P d v S c :=
  Finset.sum_congr rfl fun r _ => congrArg (S r c * ·) (lanes_sum (fun h => rowdot (P h) (dpR d v h) r 0) c)

/-- Six column groups of 128, stored one by one, make the block. -/
theorem pieces8 (f0 f1 f2 f3 f4 f5 G : ℕ → ℕ → ℝ)
    (i0 : ∀ a, (![0, 0, 0] : Fin 3 → ℕ) a + (![1, 128, 128] : Fin 3 → ℕ) a ≤ S1x128x768.size a)
    (i1 : ∀ a, (![0, 0, 128] : Fin 3 → ℕ) a + (![1, 128, 128] : Fin 3 → ℕ) a ≤ S1x128x768.size a)
    (i2 : ∀ a, (![0, 0, 256] : Fin 3 → ℕ) a + (![1, 128, 128] : Fin 3 → ℕ) a ≤ S1x128x768.size a)
    (i3 : ∀ a, (![0, 0, 384] : Fin 3 → ℕ) a + (![1, 128, 128] : Fin 3 → ℕ) a ≤ S1x128x768.size a)
    (i4 : ∀ a, (![0, 0, 512] : Fin 3 → ℕ) a + (![1, 128, 128] : Fin 3 → ℕ) a ≤ S1x128x768.size a)
    (i5 : ∀ a, (![0, 0, 640] : Fin 3 → ℕ) a + (![1, 128, 128] : Fin 3 → ℕ) a ≤ S1x128x768.size a)
    (h0 : ∀ i c, c < 128 → f0 i c = G i c) (h1 : ∀ i c, c < 128 → f1 i c = G i (128 + c))
    (h2 : ∀ i c, c < 128 → f2 i c = G i (256 + c)) (h3 : ∀ i c, c < 128 → f3 i c = G i (384 + c))
    (h4 : ∀ i c, c < 128 → f4 i c = G i (512 + c)) (h5 : ∀ i c, c < 128 → f5 i c = G i (640 + c)) :
    View.canon (s := S1x128x768) (e := .bf16) (Val := Elt Ideal)
      [⟨Rect.unit (s := S1x128x768) ![0, 0, 640] ![1, 128, 128] i5, R3 (φ := .bf16) (a := 1) (n := 128) (m := 128) fun _ => f5⟩,
       ⟨Rect.unit (s := S1x128x768) ![0, 0, 512] ![1, 128, 128] i4, R3 (φ := .bf16) (a := 1) (n := 128) (m := 128) fun _ => f4⟩,
       ⟨Rect.unit (s := S1x128x768) ![0, 0, 384] ![1, 128, 128] i3, R3 (φ := .bf16) (a := 1) (n := 128) (m := 128) fun _ => f3⟩,
       ⟨Rect.unit (s := S1x128x768) ![0, 0, 256] ![1, 128, 128] i2, R3 (φ := .bf16) (a := 1) (n := 128) (m := 128) fun _ => f2⟩,
       ⟨Rect.unit (s := S1x128x768) ![0, 0, 128] ![1, 128, 128] i1, R3 (φ := .bf16) (a := 1) (n := 128) (m := 128) fun _ => f1⟩,
       ⟨Rect.unit (s := S1x128x768) ![0, 0, 0] ![1, 128, 128] i0, R3 (φ := .bf16) (a := 1) (n := 128) (m := 128) fun _ => f0⟩]
      = R3 (φ := .bf16) (a := 1) (n := 128) (m := 768) fun _ => G := by
  have key : ∀ (o : ℕ) (f : ℕ → ℕ → ℝ) (_ : ∀ i c, c < 128 → f i c = G i (o + c)) (i c : ℕ) (_ : c < 128),
      ((f i c : ℝ) : EReal) = ((G (0 + 1 * i) (o + 1 * c) : ℝ) : EReal) := fun o f h i c hc => by
    rw [h i c hc, Nat.zero_add, Nat.one_mul, Nat.one_mul]
  funext y
  refine View.canon_apply_of_pieces (S := S1x128x768) (e := .bf16) (Val := Elt Ideal) (R3 (φ := .bf16) (a := 1) (n := 128) (m := 768) fun _ => G) _ ?_ y ?_
  · intro p hp
    simp only [List.mem_cons, List.not_mem_nil, or_false] at hp
    rcases hp with rfl | rfl | rfl | rfl | rfl | rfl
    · exact fun x => key 640 f5 h5 (x 1).val (x 2).val (x 2).isLt
    · exact fun x => key 512 f4 h4 (x 1).val (x 2).val (x 2).isLt
    · exact fun x => key 384 f3 h3 (x 1).val (x 2).val (x 2).isLt
    · exact fun x => key 256 f2 h2 (x 1).val (x 2).val (x 2).isLt
    · exact fun x => key 128 f1 h1 (x 1).val (x 2).val (x 2).isLt
    · exact fun x => key 0 f0 (fun i c hc => (h0 i c hc).trans (by rw [Nat.zero_add])) (x 1).val (x 2).val (x 2).isLt
  · exact View.cover_of_tiledL _ (![1, 128, 128] : Fin 3 → ℕ) (by sl_kernel_rfl) y

/-- Two pieces that agree with one function and between them cover the block, whatever lies under them. -/
theorem canon_two {S : Shape} {e : EltTy} (r1 r0 : Rect S) (w1 : r1.shape.Idx → Elt Ideal e) (w0 : r0.shape.Idx → Elt Ideal e)
    (G : S.Idx → Elt Ideal e) (L : List (View.Piece (Elt Ideal) S e)) (h1 : ∀ x, w1 x = G (r1.emb x)) (h0 : ∀ x, w0 x = G (r0.emb x))
    (cov : ∀ y, y ∉ r1.set → y ∈ r0.set) :
    View.canon ((⟨r1, w1⟩ : View.Piece (Elt Ideal) S e) :: (⟨r0, w0⟩ : View.Piece (Elt Ideal) S e) :: L) = G := by
  funext y
  by_cases hy : y ∈ r1.set
  · obtain ⟨x, rfl⟩ := r1.exists_idx_of_mem hy
    exact (View.canon_cons_emb r1 w1 _ x).trans (h1 x)
  · obtain ⟨x, rfl⟩ := r0.exists_idx_of_mem (cov y hy)
    exact (View.canon_cons_of_not_mem (⟨r1, w1⟩ : View.Piece (Elt Ideal) S e) _ hy).trans ((View.canon_cons_emb r0 w0 L x).trans (h0 x))

/-- The two halves of the scratch. -/
theorem pieces2 (f0 f1 : ℕ → ℕ → ℝ) (G : ℕ → ℕ → ℕ → ℝ)
    (i0 : ∀ a, (![0, 0, 0] : Fin 3 → ℕ) a + (![1, 128, 128] : Fin 3 → ℕ) a ≤ S2x128x128.size a)
    (i1 : ∀ a, (![1, 0, 0] : Fin 3 → ℕ) a + (![1, 128, 128] : Fin 3 → ℕ) a ≤ S2x128x128.size a)
    (h0 : ∀ i c, c < 128 → f0 i c = G 0 i c) (h1 : ∀ i c, c < 128 → f1 i c = G 1 i c)
    (L : List (View.Piece (Elt Ideal) S2x128x128 .f32)) :
    View.canon (s := S2x128x128) (e := .f32) (Val := Elt Ideal)
      (⟨Rect.unit (s := S2x128x128) ![1, 0, 0] ![1, 128, 128] i1, R3 (φ := .f32) (a := 1) (n := 128) (m := 128) fun _ => f1⟩ ::
       ⟨Rect.unit (s := S2x128x128) ![0, 0, 0] ![1, 128, 128] i0, R3 (φ := .f32) (a := 1) (n := 128) (m := 128) fun _ => f0⟩ :: L)
      = R3 (φ := .f32) (a := 2) (n := 128) (m := 128) G := by
  have key : ∀ (g : ℕ) (f : ℕ → ℕ → ℝ) (_ : ∀ i c, c < 128 → f i c = G g i c) (z i c : ℕ) (_ : z < 1) (_ : c < 128),
      ((f i c : ℝ) : EReal) = ((G (g + 1 * z) (0 + 1 * i) (0 + 1 * c) : ℝ) : EReal) := fun g f h z i c hz hc => by
    obtain rfl : z = 0 := by omega
    rw [h i c hc]
    simp only [Nat.zero_add, Nat.one_mul, Nat.mul_zero, Nat.add_zero]
  refine canon_two (S := S2x128x128) (e := .f32) _ _ _ _ _ L ?_ ?_ ?_
  · exact fun x => key 1 f1 h1 (x 0).val (x 1).val (x 2).val (x 0).isLt (x 2).isLt
  · exact fun x => key 0 f0 h0 (x 0).val (x 1).val (x 2).val (x 0).isLt (x 2).isLt
  · intro y hy
    rw [Rect.mem_set_unit] at hy ⊢
    intro a
    have l0 : (y 0).val < 2 := (y 0).isLt
    have l1 : (y 1).val < 128 := (y 1).isLt
    have l2 : (y 2).val < 128 := (y 2).isLt
    have hne : ¬ 1 ≤ (y 0).val := fun hle => hy fun a => by
      fin_cases a
      · exact ⟨hle, l0⟩
      · exact ⟨Nat.zero_le _, l1⟩
      · exact ⟨Nat.zero_le _, l2⟩
    have l0' : (y 0).val < 1 := by omega
    fin_cases a
    · exact ⟨Nat.zero_le _, l0'⟩
    · exact ⟨Nat.zero_le _, l1⟩
    · exact ⟨Nat.zero_le _, l2⟩

theorem zeros2 : (![0, 0] : Fin 2 → ℕ) = fun _ => 0 := by funext a; fin_cases a <;> rfl
theorem zeros3 : (![0, 0, 0] : Fin 3 → ℕ) = fun _ => 0 := by funext a; fin_cases a <;> rfl

/-- One store of the whole row, whatever came before. -/
theorem pieces9 (f : ℕ → ℕ → ℝ) (inb : ∀ a, (![0, 0] : Fin 2 → ℕ) a + (![1, 128] : Fin 2 → ℕ) a ≤ S1x128.size a)
    (L : List (View.Piece (Elt Ideal) S1x128 .f32)) :
    View.canon (s := S1x128) (e := .f32) (Val := Elt Ideal)
      (⟨Rect.unit (s := S1x128) ![0, 0] ![1, 128] inb, R2 (φ := .f32) (n := 1) (m := 128) f⟩ :: L) = R2 (φ := .f32) (n := 1) (m := 128) f :=
  View.canon_cons_unit_zero (S := S1x128) (e := .f32) (Val := Elt Ideal) zeros2 inb _ L

/-- The row read back after it has been filled. -/
theorem readCov_row {sig : RefSig} {κ : Kind} {sp : Space} (v : View sig κ sp S1x128 .f32) (f : ℕ → ℕ → ℝ)
    (inb : ∀ a, (![0, 0] : Fin 2 → ℕ) a + (![1, 128] : Fin 2 → ℕ) a ≤ S1x128.size a) :
    v.readCov (Val := Elt Ideal) [⟨Rect.unit (s := S1x128) ![0, 0] ![1, 128] inb, R2 (φ := .f32) (n := 1) (m := 128) f⟩] (Rect.unit (s := S1x128) ![0, 0] ![1, 128] inb).toLoadRect
      = R2 (φ := .f32) (n := 1) (m := 128) f :=
  View.readCov_unit_zero (S := S1x128) (e := .f32) (Val := Elt Ideal) v zeros2 inb _

/-- A part read back from a buffer that one store has filled. -/
theorem readCov_fill {S : Shape} {e : EltTy} {sig : RefSig} {κ : Kind} {sp : Space} (v : View sig κ sp S e) {off : Fin S.rank → ℕ}
    (h : off = fun _ => 0) (inb : ∀ a, off a + S.size a ≤ S.size a) (w : S.Idx → Elt Ideal e) (r : Rect S) :
    v.readCov (Val := Elt Ideal) [(⟨Rect.unit off S.size inb, w⟩ : View.Piece (Elt Ideal) S e)] r.toLoadRect = View.ld (Val := Elt Ideal) w r := by
  rw [View.readCov_eq_canon_ld _ _ _ (fun y => ⟨_, List.mem_singleton_self _, by exact View.mem_set_unit_zero h inb y⟩), View.canon_unit_zero h inb w]

/-- The halves of the scratch read back after it has been filled with zeros. -/
theorem readCov_zero0 {sig : RefSig} {κ : Kind} {sp : Space} (v : View sig κ sp S2x128x128 .f32)
    (inb : ∀ a, (![0, 0, 0] : Fin 3 → ℕ) a + (![2, 128, 128] : Fin 3 → ℕ) a ≤ S2x128x128.size a)
    (i0 : ∀ a, (![0, 0, 0] : Fin 3 → ℕ) a + (![1, 128, 128] : Fin 3 → ℕ) a ≤ S2x128x128.size a) :
    v.readCov (Val := Elt Ideal) [⟨Rect.unit (s := S2x128x128) ![0, 0, 0] ![2, 128, 128] inb, R3 (φ := .f32) (a := 2) (n := 128) (m := 128) fun _ _ _ => 0⟩]
      (Rect.unit (s := S2x128x128) ![0, 0, 0] ![1, 128, 128] i0).toLoadRect = R3 (φ := .f32) (a := 1) (n := 128) (m := 128) fun _ _ _ => 0 :=
  (readCov_fill (S := S2x128x128) (e := .f32) v zeros3 inb _ _).trans (ld_carry0 (fun _ _ _ => 0) i0)
theorem readCov_zero1 {sig : RefSig} {κ : Kind} {sp : Space} (v : View sig κ sp S2x128x128 .f32)
    (inb : ∀ a, (![0, 0, 0] : Fin 3 → ℕ) a + (![2, 128, 128] : Fin 3 → ℕ) a ≤ S2x128x128.size a)
    (i0 : ∀ a, (![1, 0, 0] : Fin 3 → ℕ) a + (![1, 128, 128] : Fin 3 → ℕ) a ≤ S2x128x128.size a) :
    v.readCov (Val := Elt Ideal) [⟨Rect.unit (s := S2x128x128) ![0, 0, 0] ![2, 128, 128] inb, R3 (φ := .f32) (a := 2) (n := 128) (m := 128) fun _ _ _ => 0⟩]
      (Rect.unit (s := S2x128x128) ![1, 0, 0] ![1, 128, 128] i0).toLoadRect = R3 (φ := .f32) (a := 1) (n := 128) (m := 128) fun _ _ _ => 0 :=
  (readCov_fill (S := S2x128x128) (e := .f32) v zeros3 inb _ _).trans (ld_carry1 (fun _ _ _ => 0) i0)

theorem outB_q (P : ℕ → ℕ → ℕ → ℝ) (d q k v : ℕ → ℕ → ℝ) (C : ℕ → ℕ → ℕ → ℝ) (i c : ℕ) (hc : c < 512) :
    outB P d q k v C i c = gqR P d k v i c := if_pos hc
theorem outB_k (P : ℕ → ℕ → ℕ → ℝ) (d q k v : ℕ → ℕ → ℝ) (C : ℕ → ℕ → ℕ → ℝ) (i c : ℕ) (hc : c < 128) :
    outB P d q k v C i (512 + c) = gkR P d q v (128 + i) c + C 0 i c := by
  rw [outB, if_neg (by omega), if_pos (by omega), Nat.add_sub_cancel_left]
theorem outB_v (P : ℕ → ℕ → ℕ → ℝ) (d q k v : ℕ → ℕ → ℝ) (C : ℕ → ℕ → ℕ → ℝ) (i c : ℕ) :
    outB P d q k v C i (640 + c) = gvR P d (128 + i) c + C 1 i c := by
  rw [outB, if_neg (by omega), if_neg (by omega), Nat.add_sub_cancel_left]

variable (c : Dev nD) (i : grid0.Coords)
  (arg2 : Memref sig .tc .vmem S1x128x512 .bf16) (harg2 : arg2.IsWhole)
  (arg3 : Memref sig .tc .vmem S1x128x128 .bf16) (harg3 : arg3.IsWhole)
  (arg4 : Memref sig .tc .vmem S1x128x128 .bf16) (harg4 : arg4.IsWhole)
  (arg5 : Memref sig .tc .vmem S1x128x128 .bf16) (harg5 : arg5.IsWhole)
  (arg6 : Memref sig .tc .vmem S1x128x128 .bf16) (harg6 : arg6.IsWhole)
  (arg7 : Memref sig .tc .vmem S1x128x512 .bf16) (harg7 : arg7.IsWhole)
  (arg8 : Memref sig .tc .vmem S1x1x8x128x256 .f32) (harg8 : arg8.IsWhole)
  (arg9 : Memref sig .tc .vmem S1x128x128 .f32) (harg9 : arg9.IsWhole)
  (arg10 : Memref sig .tc .vmem S1x128x768 .bf16) (harg10 : arg10.IsWhole)
  (arg11 : Memref sig .tc .vmem S1x128 .f32) (harg11 : arg11.IsWhole)
  (arg12 : Memref sig .tc .vmem S2x128x128 .f32) (harg12 : arg12.IsWhole)
variable (P : ℕ → ℕ → ℕ → ℝ) (d q k0 k1 v0 v1 S : ℕ → ℕ → ℝ) (D : ℕ → ℝ) (C : ℕ → ℕ → ℕ → ℝ)

/-- The block of `dz` that a point writes the first of all. -/
theorem out0_A_8_eq (hc0 : cond0_0 i) (hc1 : cond0_1 i) :
    out0_A_8 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S)
      = R3 (φ := .bf16) fun _ => outB P d q (catR k0 k1) (catR v0 v1) (fun _ _ _ => 0) := by
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S))]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp only [readCov_row, readCov_zero0, readCov_zero1, ld_cols0, ld_cols1, ld_cols2, ld_cols3, ld_blk, ld_blk_f32, ld_carry0, ld_carry1, ld_head0, ld_head1, ld_head2, ld_head3, ld_head4, ld_head5, ld_head6, ld_head7, ld_row, pay100_R2, pay101_R2, pay102_R2, pay103_R2, pay104_R2, pay105_R2, pay106_R2, pay107_R2, pay108_R2, pay109_R2, pay10_R2, pay110_R2, pay111_R2, pay112_R2, pay113_R2, pay114_R2, pay115_R2, pay116_R2, pay117_R2, pay118_R2, pay119_R2, pay11_R2, pay120_R2, pay121_R2, pay123_R2, pay12_R2, pay13_R2, pay14_R2, pay15_R2, pay16_R2, pay17_R2, pay18_R2, pay19_R2, pay1_R2, pay20_R2, pay21_R2, pay22_R2, pay23_R2, pay24_R2, pay25_R2, pay26_R2, pay27_R2, pay2_R2, pay32_R2, pay33_R2, pay34_R2, pay35_R2, pay36_R2, pay37_R2, pay38_R2, pay39_R2, pay3_R2, pay40_R2, pay41_R2, pay42_R2, pay43_R2, pay44_R2, pay45_R2, pay46_R2, pay47_R2, pay48_R2, pay49_R2, pay4_R2, pay50_R2, pay51_R2, pay52_R2, pay53_R2, pay54_R2, pay55_R2, pay56_R2, pay57_R2, pay58_R2, pay59_R2, pay5_R3, pay60_R2, pay61_R2, pay62_R2, pay63_R2, pay64_R2, pay65_R2, pay66_R2, pay67_R2, pay68_R2, pay69_R2, pay6_R2, pay70_R2, pay71_R2, pay72_R2, pay73_R2, pay74_R2, pay75_R2, pay76_R2, pay77_R2, pay78_R2, pay79_R2, pay7_R2, pay80_R2, pay81_R2, pay82_R2, pay83_R2, pay84_R2, pay85_R2, pay86_R2, pay87_R2, pay88_R2, pay89_R2, pay8_R2, pay90_R2, pay91_R2, pay92_R2, pay93_R2, pay94_R2, pay95_R2, pay96_R2, pay97_R2, pay98_R2, pay99_R2, pay9_R2, pay30_at, pay122_at, mulR_rowOf, nt_head0, nt_head1, nt_head2, nt_head3, nt_head4, nt_head5, nt_head6, nt_head7, pmul_dsH, pmul3_dsH, dsR_dsH]
  refine pieces8 _ _ _ _ _ _ _ _ _ _ _ _ _ ?_ ?_ ?_ ?_ ?_ ?_ <;> intro i c hc
  · exact ((dq_pair0 P d (catR k0 k1) (catR v0 v1) i c hc).trans (congrArg (gqR P d _ _ i) (Nat.zero_add c))).trans (outB_q P d q _ _ _ i (c) (by omega)).symm
  · exact (dq_pair1 P d (catR k0 k1) (catR v0 v1) i c hc).trans (outB_q P d q _ _ _ i (128 + c) (by omega)).symm
  · exact (dq_pair2 P d (catR k0 k1) (catR v0 v1) i c hc).trans (outB_q P d q _ _ _ i (256 + c) (by omega)).symm
  · exact (dq_pair3 P d (catR k0 k1) (catR v0 v1) i c hc).trans (outB_q P d q _ _ _ i (384 + c) (by omega)).symm
  · rw [outB_k _ _ _ _ _ _ _ _ hc, ← gk_sum P d q (catR v0 v1) (128 + i) c hc]
  · rw [outB_v, ← gv_sum P d (128 + i) c hc]

/-- The gradient of the sinks after a point the first of all. -/
theorem out0_A_9_eq (hc0 : cond0_0 i) (hc1 : cond0_1 i) :
    out0_A_9 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S)
      = R2 (φ := .f32) fun _ l => 0 - gsR P d (catR v0 v1) S l := by
  unfold out0_A_9
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S))]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp only [readCov_row, readCov_zero0, readCov_zero1, ld_cols0, ld_cols1, ld_cols2, ld_cols3, ld_blk, ld_blk_f32, ld_carry0, ld_carry1, ld_head0, ld_head1, ld_head2, ld_head3, ld_head4, ld_head5, ld_head6, ld_head7, ld_row, pay100_R2, pay101_R2, pay102_R2, pay103_R2, pay104_R2, pay105_R2, pay106_R2, pay107_R2, pay108_R2, pay109_R2, pay10_R2, pay110_R2, pay111_R2, pay112_R2, pay113_R2, pay114_R2, pay115_R2, pay116_R2, pay117_R2, pay118_R2, pay119_R2, pay11_R2, pay120_R2, pay121_R2, pay123_R2, pay12_R2, pay13_R2, pay14_R2, pay15_R2, pay16_R2, pay17_R2, pay18_R2, pay19_R2, pay1_R2, pay20_R2, pay21_R2, pay22_R2, pay23_R2, pay24_R2, pay25_R2, pay26_R2, pay27_R2, pay2_R2, pay32_R2, pay33_R2, pay34_R2, pay35_R2, pay36_R2, pay37_R2, pay38_R2, pay39_R2, pay3_R2, pay40_R2, pay41_R2, pay42_R2, pay43_R2, pay44_R2, pay45_R2, pay46_R2, pay47_R2, pay48_R2, pay49_R2, pay4_R2, pay50_R2, pay51_R2, pay52_R2, pay53_R2, pay54_R2, pay55_R2, pay56_R2, pay57_R2, pay58_R2, pay59_R2, pay5_R3, pay60_R2, pay61_R2, pay62_R2, pay63_R2, pay64_R2, pay65_R2, pay66_R2, pay67_R2, pay68_R2, pay69_R2, pay6_R2, pay70_R2, pay71_R2, pay72_R2, pay73_R2, pay74_R2, pay75_R2, pay76_R2, pay77_R2, pay78_R2, pay79_R2, pay7_R2, pay80_R2, pay81_R2, pay82_R2, pay83_R2, pay84_R2, pay85_R2, pay86_R2, pay87_R2, pay88_R2, pay89_R2, pay8_R2, pay90_R2, pay91_R2, pay92_R2, pay93_R2, pay94_R2, pay95_R2, pay96_R2, pay97_R2, pay98_R2, pay99_R2, pay9_R2, pay30_at, pay122_at, mulR_rowOf, nt_head0, nt_head1, nt_head2, nt_head3, nt_head4, nt_head5, nt_head6, nt_head7, pmul_dsH, pmul3_dsH, dsR_dsH]
  refine (pieces9 _ _ _).trans (R2_congr fun i c _ _ => ?_)
  rw [← gs_sum]

/-- The scratch after a point the first of all. -/
theorem sout0_A_0_eq (hc0 : cond0_0 i) (hc1 : cond0_1 i) :
    sout0_A_0 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S)
      = R3 (φ := .f32) (carryB P d q (catR v0 v1)) := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S))]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp only [readCov_row, readCov_zero0, readCov_zero1, ld_cols0, ld_cols1, ld_cols2, ld_cols3, ld_blk, ld_blk_f32, ld_carry0, ld_carry1, ld_head0, ld_head1, ld_head2, ld_head3, ld_head4, ld_head5, ld_head6, ld_head7, ld_row, pay100_R2, pay101_R2, pay102_R2, pay103_R2, pay104_R2, pay105_R2, pay106_R2, pay107_R2, pay108_R2, pay109_R2, pay10_R2, pay110_R2, pay111_R2, pay112_R2, pay113_R2, pay114_R2, pay115_R2, pay116_R2, pay117_R2, pay118_R2, pay119_R2, pay11_R2, pay120_R2, pay121_R2, pay123_R2, pay12_R2, pay13_R2, pay14_R2, pay15_R2, pay16_R2, pay17_R2, pay18_R2, pay19_R2, pay1_R2, pay20_R2, pay21_R2, pay22_R2, pay23_R2, pay24_R2, pay25_R2, pay26_R2, pay27_R2, pay2_R2, pay32_R2, pay33_R2, pay34_R2, pay35_R2, pay36_R2, pay37_R2, pay38_R2, pay39_R2, pay3_R2, pay40_R2, pay41_R2, pay42_R2, pay43_R2, pay44_R2, pay45_R2, pay46_R2, pay47_R2, pay48_R2, pay49_R2, pay4_R2, pay50_R2, pay51_R2, pay52_R2, pay53_R2, pay54_R2, pay55_R2, pay56_R2, pay57_R2, pay58_R2, pay59_R2, pay5_R3, pay60_R2, pay61_R2, pay62_R2, pay63_R2, pay64_R2, pay65_R2, pay66_R2, pay67_R2, pay68_R2, pay69_R2, pay6_R2, pay70_R2, pay71_R2, pay72_R2, pay73_R2, pay74_R2, pay75_R2, pay76_R2, pay77_R2, pay78_R2, pay79_R2, pay7_R2, pay80_R2, pay81_R2, pay82_R2, pay83_R2, pay84_R2, pay85_R2, pay86_R2, pay87_R2, pay88_R2, pay89_R2, pay8_R2, pay90_R2, pay91_R2, pay92_R2, pay93_R2, pay94_R2, pay95_R2, pay96_R2, pay97_R2, pay98_R2, pay99_R2, pay9_R2, pay30_at, pay122_at, mulR_rowOf, nt_head0, nt_head1, nt_head2, nt_head3, nt_head4, nt_head5, nt_head6, nt_head7, pmul_dsH, pmul3_dsH, dsR_dsH]
  refine pieces2 _ _ _ _ _ ?_ ?_ _ <;> intro i c hc
  · exact (gk_sum P d q (catR v0 v1) i c hc).trans (if_pos rfl).symm
  · exact (gv_sum P d i c hc).trans (if_neg one_ne_zero).symm

/-- The block of `dz` that a point writes inside a batch element. -/
theorem out0_B_8_eq (hc0 : ¬cond0_0 i) (hc1 : ¬cond0_1 i) :
    out0_B_8 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D) (R3 (φ := .f32) C)
      = R3 (φ := .bf16) fun _ => outB P d q (catR k0 k1) (catR v0 v1) C := by
  unfold out0_B_8
  rw [View.read_writes_eq_canon _ _ _ (cover0_B_8 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D) (R3 (φ := .f32) C))]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp only [readCov_row, readCov_zero0, readCov_zero1, ld_cols0, ld_cols1, ld_cols2, ld_cols3, ld_blk, ld_blk_f32, ld_carry0, ld_carry1, ld_head0, ld_head1, ld_head2, ld_head3, ld_head4, ld_head5, ld_head6, ld_head7, ld_row, pay100_R2, pay101_R2, pay102_R2, pay103_R2, pay104_R2, pay105_R2, pay106_R2, pay107_R2, pay108_R2, pay109_R2, pay10_R2, pay110_R2, pay111_R2, pay112_R2, pay113_R2, pay114_R2, pay115_R2, pay116_R2, pay117_R2, pay118_R2, pay119_R2, pay11_R2, pay120_R2, pay121_R2, pay123_R2, pay12_R2, pay13_R2, pay14_R2, pay15_R2, pay16_R2, pay17_R2, pay18_R2, pay19_R2, pay1_R2, pay20_R2, pay21_R2, pay22_R2, pay23_R2, pay24_R2, pay25_R2, pay26_R2, pay27_R2, pay2_R2, pay32_R2, pay33_R2, pay34_R2, pay35_R2, pay36_R2, pay37_R2, pay38_R2, pay39_R2, pay3_R2, pay40_R2, pay41_R2, pay42_R2, pay43_R2, pay44_R2, pay45_R2, pay46_R2, pay47_R2, pay48_R2, pay49_R2, pay4_R2, pay50_R2, pay51_R2, pay52_R2, pay53_R2, pay54_R2, pay55_R2, pay56_R2, pay57_R2, pay58_R2, pay59_R2, pay5_R3, pay60_R2, pay61_R2, pay62_R2, pay63_R2, pay64_R2, pay65_R2, pay66_R2, pay67_R2, pay68_R2, pay69_R2, pay6_R2, pay70_R2, pay71_R2, pay72_R2, pay73_R2, pay74_R2, pay75_R2, pay76_R2, pay77_R2, pay78_R2, pay79_R2, pay7_R2, pay80_R2, pay81_R2, pay82_R2, pay83_R2, pay84_R2, pay85_R2, pay86_R2, pay87_R2, pay88_R2, pay89_R2, pay8_R2, pay90_R2, pay91_R2, pay92_R2, pay93_R2, pay94_R2, pay95_R2, pay96_R2, pay97_R2, pay98_R2, pay99_R2, pay9_R2, pay30_at, pay122_at, mulR_rowOf, nt_head0, nt_head1, nt_head2, nt_head3, nt_head4, nt_head5, nt_head6, nt_head7, pmul_dsH, pmul3_dsH, dsR_dsH]
  refine pieces8 _ _ _ _ _ _ _ _ _ _ _ _ _ ?_ ?_ ?_ ?_ ?_ ?_ <;> intro i c hc
  · exact ((dq_pair0 P d (catR k0 k1) (catR v0 v1) i c hc).trans (congrArg (gqR P d _ _ i) (Nat.zero_add c))).trans (outB_q P d q _ _ _ i (c) (by omega)).symm
  · exact (dq_pair1 P d (catR k0 k1) (catR v0 v1) i c hc).trans (outB_q P d q _ _ _ i (128 + c) (by omega)).symm
  · exact (dq_pair2 P d (catR k0 k1) (catR v0 v1) i c hc).trans (outB_q P d q _ _ _ i (256 + c) (by omega)).symm
  · exact (dq_pair3 P d (catR k0 k1) (catR v0 v1) i c hc).trans (outB_q P d q _ _ _ i (384 + c) (by omega)).symm
  · rw [outB_k _ _ _ _ _ _ _ _ hc, ← gk_sum P d q (catR v0 v1) (128 + i) c hc]
  · rw [outB_v, ← gv_sum P d (128 + i) c hc]

/-- The gradient of the sinks after a point inside a batch element. -/
theorem out0_B_9_eq (hc0 : ¬cond0_0 i) (hc1 : ¬cond0_1 i) :
    out0_B_9 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D) (R3 (φ := .f32) C)
      = R2 (φ := .f32) fun _ l => D l - gsR P d (catR v0 v1) S l := by
  unfold out0_B_9
  rw [View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D) (R3 (φ := .f32) C))]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp only [readCov_row, readCov_zero0, readCov_zero1, ld_cols0, ld_cols1, ld_cols2, ld_cols3, ld_blk, ld_blk_f32, ld_carry0, ld_carry1, ld_head0, ld_head1, ld_head2, ld_head3, ld_head4, ld_head5, ld_head6, ld_head7, ld_row, pay100_R2, pay101_R2, pay102_R2, pay103_R2, pay104_R2, pay105_R2, pay106_R2, pay107_R2, pay108_R2, pay109_R2, pay10_R2, pay110_R2, pay111_R2, pay112_R2, pay113_R2, pay114_R2, pay115_R2, pay116_R2, pay117_R2, pay118_R2, pay119_R2, pay11_R2, pay120_R2, pay121_R2, pay123_R2, pay12_R2, pay13_R2, pay14_R2, pay15_R2, pay16_R2, pay17_R2, pay18_R2, pay19_R2, pay1_R2, pay20_R2, pay21_R2, pay22_R2, pay23_R2, pay24_R2, pay25_R2, pay26_R2, pay27_R2, pay2_R2, pay32_R2, pay33_R2, pay34_R2, pay35_R2, pay36_R2, pay37_R2, pay38_R2, pay39_R2, pay3_R2, pay40_R2, pay41_R2, pay42_R2, pay43_R2, pay44_R2, pay45_R2, pay46_R2, pay47_R2, pay48_R2, pay49_R2, pay4_R2, pay50_R2, pay51_R2, pay52_R2, pay53_R2, pay54_R2, pay55_R2, pay56_R2, pay57_R2, pay58_R2, pay59_R2, pay5_R3, pay60_R2, pay61_R2, pay62_R2, pay63_R2, pay64_R2, pay65_R2, pay66_R2, pay67_R2, pay68_R2, pay69_R2, pay6_R2, pay70_R2, pay71_R2, pay72_R2, pay73_R2, pay74_R2, pay75_R2, pay76_R2, pay77_R2, pay78_R2, pay79_R2, pay7_R2, pay80_R2, pay81_R2, pay82_R2, pay83_R2, pay84_R2, pay85_R2, pay86_R2, pay87_R2, pay88_R2, pay89_R2, pay8_R2, pay90_R2, pay91_R2, pay92_R2, pay93_R2, pay94_R2, pay95_R2, pay96_R2, pay97_R2, pay98_R2, pay99_R2, pay9_R2, pay30_at, pay122_at, mulR_rowOf, nt_head0, nt_head1, nt_head2, nt_head3, nt_head4, nt_head5, nt_head6, nt_head7, pmul_dsH, pmul3_dsH, dsR_dsH]
  refine (pieces9 _ _ _).trans (R2_congr fun i c _ _ => ?_)
  rw [← gs_sum]

/-- The scratch after a point inside a batch element. -/
theorem sout0_B_0_eq (hc0 : ¬cond0_0 i) (hc1 : ¬cond0_1 i) :
    sout0_B_0 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D) (R3 (φ := .f32) C)
      = R3 (φ := .f32) (carryB P d q (catR v0 v1)) := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D) (R3 (φ := .f32) C))]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp only [readCov_row, readCov_zero0, readCov_zero1, ld_cols0, ld_cols1, ld_cols2, ld_cols3, ld_blk, ld_blk_f32, ld_carry0, ld_carry1, ld_head0, ld_head1, ld_head2, ld_head3, ld_head4, ld_head5, ld_head6, ld_head7, ld_row, pay100_R2, pay101_R2, pay102_R2, pay103_R2, pay104_R2, pay105_R2, pay106_R2, pay107_R2, pay108_R2, pay109_R2, pay10_R2, pay110_R2, pay111_R2, pay112_R2, pay113_R2, pay114_R2, pay115_R2, pay116_R2, pay117_R2, pay118_R2, pay119_R2, pay11_R2, pay120_R2, pay121_R2, pay123_R2, pay12_R2, pay13_R2, pay14_R2, pay15_R2, pay16_R2, pay17_R2, pay18_R2, pay19_R2, pay1_R2, pay20_R2, pay21_R2, pay22_R2, pay23_R2, pay24_R2, pay25_R2, pay26_R2, pay27_R2, pay2_R2, pay32_R2, pay33_R2, pay34_R2, pay35_R2, pay36_R2, pay37_R2, pay38_R2, pay39_R2, pay3_R2, pay40_R2, pay41_R2, pay42_R2, pay43_R2, pay44_R2, pay45_R2, pay46_R2, pay47_R2, pay48_R2, pay49_R2, pay4_R2, pay50_R2, pay51_R2, pay52_R2, pay53_R2, pay54_R2, pay55_R2, pay56_R2, pay57_R2, pay58_R2, pay59_R2, pay5_R3, pay60_R2, pay61_R2, pay62_R2, pay63_R2, pay64_R2, pay65_R2, pay66_R2, pay67_R2, pay68_R2, pay69_R2, pay6_R2, pay70_R2, pay71_R2, pay72_R2, pay73_R2, pay74_R2, pay75_R2, pay76_R2, pay77_R2, pay78_R2, pay79_R2, pay7_R2, pay80_R2, pay81_R2, pay82_R2, pay83_R2, pay84_R2, pay85_R2, pay86_R2, pay87_R2, pay88_R2, pay89_R2, pay8_R2, pay90_R2, pay91_R2, pay92_R2, pay93_R2, pay94_R2, pay95_R2, pay96_R2, pay97_R2, pay98_R2, pay99_R2, pay9_R2, pay30_at, pay122_at, mulR_rowOf, nt_head0, nt_head1, nt_head2, nt_head3, nt_head4, nt_head5, nt_head6, nt_head7, pmul_dsH, pmul3_dsH, dsR_dsH]
  refine pieces2 _ _ _ _ _ ?_ ?_ _ <;> intro i c hc
  · exact (gk_sum P d q (catR v0 v1) i c hc).trans (if_pos rfl).symm
  · exact (gv_sum P d i c hc).trans (if_neg one_ne_zero).symm

/-- The block of `dz` that a point writes that begins the second batch element. -/
theorem out0_C_8_eq (hc0 : cond0_0 i) (hc1 : ¬cond0_1 i) :
    out0_C_8 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D)
      = R3 (φ := .bf16) fun _ => outB P d q (catR k0 k1) (catR v0 v1) (fun _ _ _ => 0) := by
  unfold out0_C_8
  rw [View.read_writes_eq_canon _ _ _ (cover0_C_8 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D))]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp only [readCov_row, readCov_zero0, readCov_zero1, ld_cols0, ld_cols1, ld_cols2, ld_cols3, ld_blk, ld_blk_f32, ld_carry0, ld_carry1, ld_head0, ld_head1, ld_head2, ld_head3, ld_head4, ld_head5, ld_head6, ld_head7, ld_row, pay100_R2, pay101_R2, pay102_R2, pay103_R2, pay104_R2, pay105_R2, pay106_R2, pay107_R2, pay108_R2, pay109_R2, pay10_R2, pay110_R2, pay111_R2, pay112_R2, pay113_R2, pay114_R2, pay115_R2, pay116_R2, pay117_R2, pay118_R2, pay119_R2, pay11_R2, pay120_R2, pay121_R2, pay123_R2, pay12_R2, pay13_R2, pay14_R2, pay15_R2, pay16_R2, pay17_R2, pay18_R2, pay19_R2, pay1_R2, pay20_R2, pay21_R2, pay22_R2, pay23_R2, pay24_R2, pay25_R2, pay26_R2, pay27_R2, pay2_R2, pay32_R2, pay33_R2, pay34_R2, pay35_R2, pay36_R2, pay37_R2, pay38_R2, pay39_R2, pay3_R2, pay40_R2, pay41_R2, pay42_R2, pay43_R2, pay44_R2, pay45_R2, pay46_R2, pay47_R2, pay48_R2, pay49_R2, pay4_R2, pay50_R2, pay51_R2, pay52_R2, pay53_R2, pay54_R2, pay55_R2, pay56_R2, pay57_R2, pay58_R2, pay59_R2, pay5_R3, pay60_R2, pay61_R2, pay62_R2, pay63_R2, pay64_R2, pay65_R2, pay66_R2, pay67_R2, pay68_R2, pay69_R2, pay6_R2, pay70_R2, pay71_R2, pay72_R2, pay73_R2, pay74_R2, pay75_R2, pay76_R2, pay77_R2, pay78_R2, pay79_R2, pay7_R2, pay80_R2, pay81_R2, pay82_R2, pay83_R2, pay84_R2, pay85_R2, pay86_R2, pay87_R2, pay88_R2, pay89_R2, pay8_R2, pay90_R2, pay91_R2, pay92_R2, pay93_R2, pay94_R2, pay95_R2, pay96_R2, pay97_R2, pay98_R2, pay99_R2, pay9_R2, pay30_at, pay122_at, mulR_rowOf, nt_head0, nt_head1, nt_head2, nt_head3, nt_head4, nt_head5, nt_head6, nt_head7, pmul_dsH, pmul3_dsH, dsR_dsH]
  refine pieces8 _ _ _ _ _ _ _ _ _ _ _ _ _ ?_ ?_ ?_ ?_ ?_ ?_ <;> intro i c hc
  · exact ((dq_pair0 P d (catR k0 k1) (catR v0 v1) i c hc).trans (congrArg (gqR P d _ _ i) (Nat.zero_add c))).trans (outB_q P d q _ _ _ i (c) (by omega)).symm
  · exact (dq_pair1 P d (catR k0 k1) (catR v0 v1) i c hc).trans (outB_q P d q _ _ _ i (128 + c) (by omega)).symm
  · exact (dq_pair2 P d (catR k0 k1) (catR v0 v1) i c hc).trans (outB_q P d q _ _ _ i (256 + c) (by omega)).symm
  · exact (dq_pair3 P d (catR k0 k1) (catR v0 v1) i c hc).trans (outB_q P d q _ _ _ i (384 + c) (by omega)).symm
  · rw [outB_k _ _ _ _ _ _ _ _ hc, ← gk_sum P d q (catR v0 v1) (128 + i) c hc]
  · rw [outB_v, ← gv_sum P d (128 + i) c hc]

/-- The gradient of the sinks after a point that begins the second batch element. -/
theorem out0_C_9_eq (hc0 : cond0_0 i) (hc1 : ¬cond0_1 i) :
    out0_C_9 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D)
      = R2 (φ := .f32) fun _ l => D l - gsR P d (catR v0 v1) S l := by
  unfold out0_C_9
  rw [View.read_writes_eq_canon _ _ _ (cover0_C_9 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D))]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp only [readCov_row, readCov_zero0, readCov_zero1, ld_cols0, ld_cols1, ld_cols2, ld_cols3, ld_blk, ld_blk_f32, ld_carry0, ld_carry1, ld_head0, ld_head1, ld_head2, ld_head3, ld_head4, ld_head5, ld_head6, ld_head7, ld_row, pay100_R2, pay101_R2, pay102_R2, pay103_R2, pay104_R2, pay105_R2, pay106_R2, pay107_R2, pay108_R2, pay109_R2, pay10_R2, pay110_R2, pay111_R2, pay112_R2, pay113_R2, pay114_R2, pay115_R2, pay116_R2, pay117_R2, pay118_R2, pay119_R2, pay11_R2, pay120_R2, pay121_R2, pay123_R2, pay12_R2, pay13_R2, pay14_R2, pay15_R2, pay16_R2, pay17_R2, pay18_R2, pay19_R2, pay1_R2, pay20_R2, pay21_R2, pay22_R2, pay23_R2, pay24_R2, pay25_R2, pay26_R2, pay27_R2, pay2_R2, pay32_R2, pay33_R2, pay34_R2, pay35_R2, pay36_R2, pay37_R2, pay38_R2, pay39_R2, pay3_R2, pay40_R2, pay41_R2, pay42_R2, pay43_R2, pay44_R2, pay45_R2, pay46_R2, pay47_R2, pay48_R2, pay49_R2, pay4_R2, pay50_R2, pay51_R2, pay52_R2, pay53_R2, pay54_R2, pay55_R2, pay56_R2, pay57_R2, pay58_R2, pay59_R2, pay5_R3, pay60_R2, pay61_R2, pay62_R2, pay63_R2, pay64_R2, pay65_R2, pay66_R2, pay67_R2, pay68_R2, pay69_R2, pay6_R2, pay70_R2, pay71_R2, pay72_R2, pay73_R2, pay74_R2, pay75_R2, pay76_R2, pay77_R2, pay78_R2, pay79_R2, pay7_R2, pay80_R2, pay81_R2, pay82_R2, pay83_R2, pay84_R2, pay85_R2, pay86_R2, pay87_R2, pay88_R2, pay89_R2, pay8_R2, pay90_R2, pay91_R2, pay92_R2, pay93_R2, pay94_R2, pay95_R2, pay96_R2, pay97_R2, pay98_R2, pay99_R2, pay9_R2, pay30_at, pay122_at, mulR_rowOf, nt_head0, nt_head1, nt_head2, nt_head3, nt_head4, nt_head5, nt_head6, nt_head7, pmul_dsH, pmul3_dsH, dsR_dsH]
  refine (pieces9 _ _ _).trans (R2_congr fun i c _ _ => ?_)
  rw [← gs_sum]

/-- The scratch after a point that begins the second batch element. -/
theorem sout0_C_0_eq (hc0 : cond0_0 i) (hc1 : ¬cond0_1 i) :
    sout0_C_0 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D)
      = R3 (φ := .f32) (carryB P d q (catR v0 v1)) := by
  unfold sout0_C_0
  rw [View.read_writes_eq_canon _ _ _ (scover0_C_0 (F := Ideal) c i arg2 harg2 arg3 harg3 arg4 harg4 arg5 harg5 arg6 harg6 arg7 harg7 arg8 harg8 arg9 harg9 arg10 harg10 arg11 harg11 arg12 harg12 hc0 hc1 (R3 (φ := .bf16) fun _ => q) (R3 (φ := .bf16) fun _ => k0) (R3 (φ := .bf16) fun _ => k1) (R3 (φ := .bf16) fun _ => v0) (R3 (φ := .bf16) fun _ => v1) (R3 (φ := .bf16) fun _ => d) (R5 (φ := .f32) P) (R3 (φ := .f32) fun _ => S) (R2 (φ := .f32) fun _ => D))]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp only [readCov_row, readCov_zero0, readCov_zero1, ld_cols0, ld_cols1, ld_cols2, ld_cols3, ld_blk, ld_blk_f32, ld_carry0, ld_carry1, ld_head0, ld_head1, ld_head2, ld_head3, ld_head4, ld_head5, ld_head6, ld_head7, ld_row, pay100_R2, pay101_R2, pay102_R2, pay103_R2, pay104_R2, pay105_R2, pay106_R2, pay107_R2, pay108_R2, pay109_R2, pay10_R2, pay110_R2, pay111_R2, pay112_R2, pay113_R2, pay114_R2, pay115_R2, pay116_R2, pay117_R2, pay118_R2, pay119_R2, pay11_R2, pay120_R2, pay121_R2, pay123_R2, pay12_R2, pay13_R2, pay14_R2, pay15_R2, pay16_R2, pay17_R2, pay18_R2, pay19_R2, pay1_R2, pay20_R2, pay21_R2, pay22_R2, pay23_R2, pay24_R2, pay25_R2, pay26_R2, pay27_R2, pay2_R2, pay32_R2, pay33_R2, pay34_R2, pay35_R2, pay36_R2, pay37_R2, pay38_R2, pay39_R2, pay3_R2, pay40_R2, pay41_R2, pay42_R2, pay43_R2, pay44_R2, pay45_R2, pay46_R2, pay47_R2, pay48_R2, pay49_R2, pay4_R2, pay50_R2, pay51_R2, pay52_R2, pay53_R2, pay54_R2, pay55_R2, pay56_R2, pay57_R2, pay58_R2, pay59_R2, pay5_R3, pay60_R2, pay61_R2, pay62_R2, pay63_R2, pay64_R2, pay65_R2, pay66_R2, pay67_R2, pay68_R2, pay69_R2, pay6_R2, pay70_R2, pay71_R2, pay72_R2, pay73_R2, pay74_R2, pay75_R2, pay76_R2, pay77_R2, pay78_R2, pay79_R2, pay7_R2, pay80_R2, pay81_R2, pay82_R2, pay83_R2, pay84_R2, pay85_R2, pay86_R2, pay87_R2, pay88_R2, pay89_R2, pay8_R2, pay90_R2, pay91_R2, pay92_R2, pay93_R2, pay94_R2, pay95_R2, pay96_R2, pay97_R2, pay98_R2, pay99_R2, pay9_R2, pay30_at, pay122_at, mulR_rowOf, nt_head0, nt_head1, nt_head2, nt_head3, nt_head4, nt_head5, nt_head6, nt_head7, pmul_dsH, pmul3_dsH, dsR_dsH]
  refine pieces2 _ _ _ _ _ ?_ ?_ _ <;> intro i c hc
  · exact (gk_sum P d q (catR v0 v1) i c hc).trans (if_pos rfl).symm
  · exact (gv_sum P d i c hc).trans (if_neg one_ne_zero).symm

end Cert.Proof
end
end
-- ==== Proof.Blocks.lean ====
module

public import proofs.«01_k».proof.Proof.Point

@[expose] public section
noncomputable section
namespace Cert.Proof
open Idealize.ShloMosaic Idealize.ShloMosaic.Pipeline Cert.KernelIdeal Cert.KernelIdeal.Gen Cert.KernelIdeal.Value

/-- The rows of block `31 - t % 32` of batch `t / 32`, from column `o` on: the block a grid point works on. -/
def curB (o : ℕ) (Z : ℕ → ℕ → ℕ → ℝ) (t i c : ℕ) : ℝ := Z (t / 32) ((31 - t % 32) * 128 + i) (o + c)
/-- The rows of the block before it (of block 0 itself where there is none). -/
def prevB (o : ℕ) (Z : ℕ → ℕ → ℕ → ℝ) (t i c : ℕ) : ℝ := Z (t / 32) ((31 - t % 32 - 1) * 128 + i) (o + c)
/-- The saved probabilities of that block. -/
def probB (P : ℕ → ℕ → ℕ → ℕ → ℕ → ℝ) (t h i k : ℕ) : ℝ := P (t / 32) (31 - t % 32) h i k

variable (m : (ℓ : Loc nD τ sig) → Buf (Elt Ideal) ℓ) (c : Dev nD)

/-! ## The blocks of the windows, as real numbers -/

theorem ix0 : ∀ t : Fin cfg0.N, cc0_transform_0 (grid0.coords t) = ![t.val / 32, 31 - t.val % 32, 0] := by decide +kernel

theorem iblk0 (Z : ℕ → ℕ → ℕ → ℝ) (hz : ∀ i : S2x4096x768.Idx, V m c main_arg0 i = ((Z (i 0) (i 1) (i 2) : ℝ) : EReal)) (t : Fin cfg0.N) :
    (X0_0 m c t : Vec Ideal S1x128x512 .bf16) = R3 (φ := .bf16) fun _ => curB 0 Z t.val := by
  funext y
  unfold X0_0 Pipeline.Window.fill
  rw [dif_pos (moved0_0 t y)]
  have hy : (y 0).val = 0 := by have := (y 0).isLt; exact Nat.lt_one_iff.mp this
  refine (hz (((cfg0.win 0).rect t).emb _)).trans ?_
  have e := ix0 t
  rw [(cfg0.win 0).rect_emb_val_off t _ (0 : Fin 3), (cfg0.win 0).rect_emb_val_off t _ (1 : Fin 3), (cfg0.win 0).rect_emb_val_off t _ (2 : Fin 3)]
  have i0 : (cfg0.win 0).index t (0 : Fin 3) = t.val / 32 := congrFun e 0
  have i1 : (cfg0.win 0).index t (1 : Fin 3) = 31 - t.val % 32 := congrFun e 1
  have i2 : (cfg0.win 0).index t (2 : Fin 3) = 0 := congrFun e 2
  rw [i0, i1, i2]
  show ((Z (t.val / 32 * 1 + (y 0).val) ((31 - t.val % 32) * 128 + (y 1).val) (0 * 512 + (y 2).val) : ℝ) : EReal) = _
  rw [hy, Nat.mul_one]
  rfl

theorem ix1 : ∀ t : Fin cfg0.N, cc0_transform_1 (grid0.coords t) = ![t.val / 32, 31 - t.val % 32 - 1, 4] := by decide +kernel

theorem iblk1 (Z : ℕ → ℕ → ℕ → ℝ) (hz : ∀ i : S2x4096x768.Idx, V m c main_arg0 i = ((Z (i 0) (i 1) (i 2) : ℝ) : EReal)) (t : Fin cfg0.N) :
    (iblk m c 1 t : Vec Ideal S1x128x128 .bf16) = R3 (φ := .bf16) fun _ => prevB 512 Z t.val := by
  funext y
  have hy : (y 0).val = 0 := by have := (y 0).isLt; exact Nat.lt_one_iff.mp this
  refine (hz (((cfg0.win 1).rect t).emb y)).trans ?_
  have e := ix1 t
  rw [(cfg0.win 1).rect_emb_val t y (0 : Fin 3), (cfg0.win 1).rect_emb_val t y (1 : Fin 3), (cfg0.win 1).rect_emb_val t y (2 : Fin 3)]
  have i0 : (cfg0.win 1).index t (0 : Fin 3) = t.val / 32 := congrFun e 0
  have i1 : (cfg0.win 1).index t (1 : Fin 3) = 31 - t.val % 32 - 1 := congrFun e 1
  have i2 : (cfg0.win 1).index t (2 : Fin 3) = 4 := congrFun e 2
  rw [i0, i1, i2]
  show ((Z (t.val / 32 * 1 + (y 0).val) ((31 - t.val % 32 - 1) * 128 + (y 1).val) (4 * 128 + (y 2).val) : ℝ) : EReal) = _
  rw [hy, Nat.mul_one]
  rfl

theorem ix2 : ∀ t : Fin cfg0.N, cc0_transform_2 (grid0.coords t) = ![t.val / 32, 31 - t.val % 32, 4] := by decide +kernel

theorem iblk2 (Z : ℕ → ℕ → ℕ → ℝ) (hz : ∀ i : S2x4096x768.Idx, V m c main_arg0 i = ((Z (i 0) (i 1) (i 2) : ℝ) : EReal)) (t : Fin cfg0.N) :
    (iblk m c 2 t : Vec Ideal S1x128x128 .bf16) = R3 (φ := .bf16) fun _ => curB 512 Z t.val := by
  funext y
  have hy : (y 0).val = 0 := by have := (y 0).isLt; exact Nat.lt_one_iff.mp this
  refine (hz (((cfg0.win 2).rect t).emb y)).trans ?_
  have e := ix2 t
  rw [(cfg0.win 2).rect_emb_val t y (0 : Fin 3), (cfg0.win 2).rect_emb_val t y (1 : Fin 3), (cfg0.win 2).rect_emb_val t y (2 : Fin 3)]
  have i0 : (cfg0.win 2).index t (0 : Fin 3) = t.val / 32 := congrFun e 0
  have i1 : (cfg0.win 2).index t (1 : Fin 3) = 31 - t.val % 32 := congrFun e 1
  have i2 : (cfg0.win 2).index t (2 : Fin 3) = 4 := congrFun e 2
  rw [i0, i1, i2]
  show ((Z (t.val / 32 * 1 + (y 0).val) ((31 - t.val % 32) * 128 + (y 1).val) (4 * 128 + (y 2).val) : ℝ) : EReal) = _
  rw [hy, Nat.mul_one]
  rfl

theorem ix3 : ∀ t : Fin cfg0.N, cc0_transform_3 (grid0.coords t) = ![t.val / 32, 31 - t.val % 32 - 1, 5] := by decide +kernel

theorem iblk3 (Z : ℕ → ℕ → ℕ → ℝ) (hz : ∀ i : S2x4096x768.Idx, V m c main_arg0 i = ((Z (i 0) (i 1) (i 2) : ℝ) : EReal)) (t : Fin cfg0.N) :
    (iblk m c 3 t : Vec Ideal S1x128x128 .bf16) = R3 (φ := .bf16) fun _ => prevB 640 Z t.val := by
  funext y
  have hy : (y 0).val = 0 := by have := (y 0).isLt; exact Nat.lt_one_iff.mp this
  refine (hz (((cfg0.win 3).rect t).emb y)).trans ?_
  have e := ix3 t
  rw [(cfg0.win 3).rect_emb_val t y (0 : Fin 3), (cfg0.win 3).rect_emb_val t y (1 : Fin 3), (cfg0.win 3).rect_emb_val t y (2 : Fin 3)]
  have i0 : (cfg0.win 3).index t (0 : Fin 3) = t.val / 32 := congrFun e 0
  have i1 : (cfg0.win 3).index t (1 : Fin 3) = 31 - t.val % 32 - 1 := congrFun e 1
  have i2 : (cfg0.win 3).index t (2 : Fin 3) = 5 := congrFun e 2
  rw [i0, i1, i2]
  show ((Z (t.val / 32 * 1 + (y 0).val) ((31 - t.val % 32 - 1) * 128 + (y 1).val) (5 * 128 + (y 2).val) : ℝ) : EReal) = _
  rw [hy, Nat.mul_one]
  rfl

theorem ix4 : ∀ t : Fin cfg0.N, cc0_transform_4 (grid0.coords t) = ![t.val / 32, 31 - t.val % 32, 5] := by decide +kernel

theorem iblk4 (Z : ℕ → ℕ → ℕ → ℝ) (hz : ∀ i : S2x4096x768.Idx, V m c main_arg0 i = ((Z (i 0) (i 1) (i 2) : ℝ) : EReal)) (t : Fin cfg0.N) :
    (iblk m c 4 t : Vec Ideal S1x128x128 .bf16) = R3 (φ := .bf16) fun _ => curB 640 Z t.val := by
  funext y
  have hy : (y 0).val = 0 := by have := (y 0).isLt; exact Nat.lt_one_iff.mp this
  refine (hz (((cfg0.win 4).rect t).emb y)).trans ?_
  have e := ix4 t
  rw [(cfg0.win 4).rect_emb_val t y (0 : Fin 3), (cfg0.win 4).rect_emb_val t y (1 : Fin 3), (cfg0.win 4).rect_emb_val t y (2 : Fin 3)]
  have i0 : (cfg0.win 4).index t (0 : Fin 3) = t.val / 32 := congrFun e 0
  have i1 : (cfg0.win 4).index t (1 : Fin 3) = 31 - t.val % 32 := congrFun e 1
  have i2 : (cfg0.win 4).index t (2 : Fin 3) = 5 := congrFun e 2
  rw [i0, i1, i2]
  show ((Z (t.val / 32 * 1 + (y 0).val) ((31 - t.val % 32) * 128 + (y 1).val) (5 * 128 + (y 2).val) : ℝ) : EReal) = _
  rw [hy, Nat.mul_one]
  rfl

theorem ix5 : ∀ t : Fin cfg0.N, cc0_transform_5 (grid0.coords t) = ![t.val / 32, 31 - t.val % 32, 0] := by decide +kernel

theorem iblk5 (Z : ℕ → ℕ → ℕ → ℝ) (hz : ∀ i : S2x4096x512.Idx, V m c main_arg2 i = ((Z (i 0) (i 1) (i 2) : ℝ) : EReal)) (t : Fin cfg0.N) :
    (iblk m c 5 t : Vec Ideal S1x128x512 .bf16) = R3 (φ := .bf16) fun _ => curB 0 Z t.val := by
  funext y
  have hy : (y 0).val = 0 := by have := (y 0).isLt; exact Nat.lt_one_iff.mp this
  refine (hz (((cfg0.win 5).rect t).emb y)).trans ?_
  have e := ix5 t
  rw [(cfg0.win 5).rect_emb_val t y (0 : Fin 3), (cfg0.win 5).rect_emb_val t y (1 : Fin 3), (cfg0.win 5).rect_emb_val t y (2 : Fin 3)]
  have i0 : (cfg0.win 5).index t (0 : Fin 3) = t.val / 32 := congrFun e 0
  have i1 : (cfg0.win 5).index t (1 : Fin 3) = 31 - t.val % 32 := congrFun e 1
  have i2 : (cfg0.win 5).index t (2 : Fin 3) = 0 := congrFun e 2
  rw [i0, i1, i2]
  show ((Z (t.val / 32 * 1 + (y 0).val) ((31 - t.val % 32) * 128 + (y 1).val) (0 * 512 + (y 2).val) : ℝ) : EReal) = _
  rw [hy, Nat.mul_one]
  rfl

theorem ix7 : ∀ t : Fin cfg0.N, cc0_transform_7 (grid0.coords t) = ![t.val / 32, 31 - t.val % 32, 0] := by decide +kernel

theorem iblk7 (Z : ℕ → ℕ → ℕ → ℝ) (hz : ∀ i : S2x4096x128.Idx, V m c main_v91 i = ((Z (i 0) (i 1) (i 2) : ℝ) : EReal)) (t : Fin cfg0.N) :
    (iblk m c 7 t : Vec Ideal S1x128x128 .f32) = R3 (φ := .f32) fun _ => curB 0 Z t.val := by
  funext y
  have hy : (y 0).val = 0 := by have := (y 0).isLt; exact Nat.lt_one_iff.mp this
  refine (hz (((cfg0.win 7).rect t).emb y)).trans ?_
  have e := ix7 t
  rw [(cfg0.win 7).rect_emb_val t y (0 : Fin 3), (cfg0.win 7).rect_emb_val t y (1 : Fin 3), (cfg0.win 7).rect_emb_val t y (2 : Fin 3)]
  have i0 : (cfg0.win 7).index t (0 : Fin 3) = t.val / 32 := congrFun e 0
  have i1 : (cfg0.win 7).index t (1 : Fin 3) = 31 - t.val % 32 := congrFun e 1
  have i2 : (cfg0.win 7).index t (2 : Fin 3) = 0 := congrFun e 2
  rw [i0, i1, i2]
  show ((Z (t.val / 32 * 1 + (y 0).val) ((31 - t.val % 32) * 128 + (y 1).val) (0 * 128 + (y 2).val) : ℝ) : EReal) = _
  rw [hy, Nat.mul_one]
  rfl

theorem ix6 : ∀ t : Fin cfg0.N, cc0_transform_6 (grid0.coords t) = ![t.val / 32, 31 - t.val % 32, 0, 0, 0] := by decide +kernel

theorem read6 (P : ℕ → ℕ → ℕ → ℕ → ℕ → ℝ) (X : Buf (Elt Ideal) ((c.tc : Thread nD τ).loc main_v87))
    (hz : ∀ i : S2x32x8x128x256.Idx, X i = ((P (i 0) (i 1) (i 2) (i 3) (i 4) : ℝ) : EReal)) (t : Fin cfg0.N) :
    (((cfg0.win 6).blk t).view.read (Elt Ideal) X : Vec Ideal S1x1x8x128x256 .f32) = R5 (φ := .f32) (probB P t.val) := by
  funext y
  have hy : (y 0).val = 0 := by have := (y 0).isLt; exact Nat.lt_one_iff.mp this
  have hy' : (y 1).val = 0 := by have := (y 1).isLt; exact Nat.lt_one_iff.mp this
  refine (hz (((cfg0.win 6).rect t).emb y)).trans ?_
  have e := ix6 t
  rw [(cfg0.win 6).rect_emb_val t y (0 : Fin 5), (cfg0.win 6).rect_emb_val t y (1 : Fin 5), (cfg0.win 6).rect_emb_val t y (2 : Fin 5),
    (cfg0.win 6).rect_emb_val t y (3 : Fin 5), (cfg0.win 6).rect_emb_val t y (4 : Fin 5)]
  have i0 : (cfg0.win 6).index t (0 : Fin 5) = t.val / 32 := congrFun e 0
  have i1 : (cfg0.win 6).index t (1 : Fin 5) = 31 - t.val % 32 := congrFun e 1
  have i2 : (cfg0.win 6).index t (2 : Fin 5) = 0 := congrFun e 2
  have i3 : (cfg0.win 6).index t (3 : Fin 5) = 0 := congrFun e 3
  have i4 : (cfg0.win 6).index t (4 : Fin 5) = 0 := congrFun e 4
  rw [i0, i1, i2, i3, i4]
  show ((P (t.val / 32 * 1 + (y 0).val) ((31 - t.val % 32) * 1 + (y 1).val) (0 * 8 + (y 2).val) (0 * 128 + (y 3).val) (0 * 256 + (y 4).val) : ℝ) : EReal) = _
  rw [hy, hy', Nat.mul_one, Nat.mul_one]
  simp only [Nat.zero_mul, Nat.zero_add, Nat.add_zero]
  rfl

theorem iblk6 (P : ℕ → ℕ → ℕ → ℕ → ℕ → ℝ)
    (hz : ∀ i : S2x32x8x128x256.Idx, V m c main_v87 i = ((P (i 0) (i 1) (i 2) (i 3) (i 4) : ℝ) : EReal)) (t : Fin cfg0.N) :
    (iblk m c 6 t : Vec Ideal S1x1x8x128x256 .f32) = R5 (φ := .f32) (probB P t.val) :=
  read6 c P (V m c main_v87) hz t

end Cert.Proof
-- ==== Proof.Fold.lean ====
module

public import proofs.«01_k».proof.Proof.Blocks

@[expose] public section
noncomputable section
namespace Cert.Proof
open Idealize.ShloMosaic Idealize.ShloMosaic.Pipeline Cert.KernelIdeal Cert.KernelIdeal.Gen Cert.KernelIdeal.Value

variable (m : (ℓ : Loc nD τ sig) → Buf (Elt Ideal) ℓ) (c : Dev nD)

/-! ## The points one after another -/

/-- The keys a grid point works on: the block before its own, then its own. -/
def kT (Z : ℕ → ℕ → ℕ → ℝ) (t : ℕ) : ℕ → ℕ → ℝ := catR (prevB 512 Z t) (curB 512 Z t)
/-- The values, likewise. -/
def vT (Z : ℕ → ℕ → ℕ → ℝ) (t : ℕ) : ℕ → ℕ → ℝ := catR (prevB 640 Z t) (curB 640 Z t)
/-- What a point leaves to the next one: its gradients for the block before its own. -/
def carT (Z D : ℕ → ℕ → ℕ → ℝ) (P : ℕ → ℕ → ℕ → ℕ → ℕ → ℝ) (t : ℕ) : ℕ → ℕ → ℕ → ℝ :=
  carryB (probB P t) (curB 0 D t) (curB 0 Z t) (vT Z t)
/-- What a point finds from the one before it: nothing at the last block of a batch. -/
def cinT (Z D : ℕ → ℕ → ℕ → ℝ) (P : ℕ → ℕ → ℕ → ℕ → ℕ → ℝ) (t : ℕ) : ℕ → ℕ → ℕ → ℝ :=
  if t % 32 = 0 then fun _ _ _ => 0 else carT Z D P (t - 1)
/-- The block of `dz` that a point writes. -/
def blkT (Z D : ℕ → ℕ → ℕ → ℝ) (P : ℕ → ℕ → ℕ → ℕ → ℕ → ℝ) (t : ℕ) : ℕ → ℕ → ℝ :=
  outB (probB P t) (curB 0 D t) (curB 0 Z t) (kT Z t) (vT Z t) (cinT Z D P t)
/-- What a point takes off the gradient of the sinks. -/
def gsT (Z D S : ℕ → ℕ → ℕ → ℝ) (P : ℕ → ℕ → ℕ → ℕ → ℕ → ℝ) (t l : ℕ) : ℝ :=
  gsR (probB P t) (curB 0 D t) (vT Z t) (curB 0 S t) l

variable (Z D S : ℕ → ℕ → ℕ → ℝ) (P : ℕ → ℕ → ℕ → ℕ → ℕ → ℝ)
  (hz : ∀ i : S2x4096x768.Idx, V m c main_arg0 i = ((Z (i 0) (i 1) (i 2) : ℝ) : EReal))
  (hd : ∀ i : S2x4096x512.Idx, V m c main_arg2 i = ((D (i 0) (i 1) (i 2) : ℝ) : EReal))
  (hp : ∀ i : S2x32x8x128x256.Idx, V m c main_v87 i = ((P (i 0) (i 1) (i 2) (i 3) (i 4) : ℝ) : EReal))
  (hs : ∀ i : S2x4096x128.Idx, V m c main_v91 i = ((S (i 0) (i 1) (i 2) : ℝ) : EReal))
include hz hd hp hs

/-- What the run holds after each point. -/
theorem outs_eq : ∀ (n : ℕ) (hn : n < cfg0.N), outsAt0 m c n hn
    = ((R3 (φ := .bf16) fun _ => blkT Z D P n, R2 (φ := .f32) fun _ l => 0 - ∑ s ∈ Finset.range (n + 1), gsT Z D S P s l,
        R3 (φ := .f32) (carT Z D P n)) : Vec Ideal S1x128x768 .bf16 × Vec Ideal S1x128 .f32 × Vec Ideal S2x128x128 .f32) := by
  intro n
  induction n with
  | zero =>
    intro hn
    rw [outsAt0_A m c ⟨0, hn⟩ rfl rfl, iblk0 m c Z hz, iblk1 m c Z hz, iblk2 m c Z hz, iblk3 m c Z hz, iblk4 m c Z hz, iblk5 m c D hd,
      iblk6 m c P hp, iblk7 m c S hs]
    rw [out0_A_8_eq, out0_A_9_eq, sout0_A_0_eq]
    refine congrArg₂ Prod.mk ?_ (congrArg₂ Prod.mk ?_ ?_)
    · rfl
    · congr 1; funext _ l
      rw [Finset.sum_range_one]; rfl
    · rfl
  | succ n ih =>
    intro hn
    have ih := ih (Nat.lt_of_succ_lt hn)
    by_cases h0 : (n + 1) % 32 = 0
    · have h1 : ¬ (n + 1) % 64 = 0 := by
        have : n + 1 < 64 := lt_of_lt_of_eq hn N_0
        omega
      have hi := congrArg (fun x => x.2.1) ih
      rw [outsAt0_C m c ⟨n + 1, hn⟩ h0 h1, iblk0 m c Z hz, iblk1 m c Z hz, iblk2 m c Z hz, iblk3 m c Z hz, iblk4 m c Z hz, iblk5 m c D hd,
        iblk6 m c P hp, iblk7 m c S hs, show (outsAt0 m c (n + 1 - 1) _).2.1 = _ from hi]
      rw [out0_C_8_eq, out0_C_9_eq, sout0_C_0_eq]
      refine congrArg₂ Prod.mk ?_ (congrArg₂ Prod.mk ?_ ?_)
      · unfold blkT cinT; rw [if_pos h0]; rfl
      · congr 1; funext _ l
        rw [Finset.sum_range_succ _ (n + 1), ← sub_sub]; rfl
      · rfl
    · have h1 : ¬ (n + 1) % 64 = 0 := by omega
      have hi := congrArg (fun x => x.2.1) ih
      have hj := congrArg (fun x => x.2.2) ih
      rw [outsAt0_B m c ⟨n + 1, hn⟩ h0 h1, iblk0 m c Z hz, iblk1 m c Z hz, iblk2 m c Z hz, iblk3 m c Z hz, iblk4 m c Z hz, iblk5 m c D hd,
        iblk6 m c P hp, iblk7 m c S hs, show (outsAt0 m c (n + 1 - 1) _).2.1 = _ from hi, show (outsAt0 m c (n + 1 - 1) _).2.2 = _ from hj]
      rw [out0_B_8_eq, out0_B_9_eq, sout0_B_0_eq]
      refine congrArg₂ Prod.mk ?_ (congrArg₂ Prod.mk ?_ ?_)
      · unfold blkT cinT; rw [if_neg h0]; rfl
      · congr 1; funext _ l
        rw [Finset.sum_range_succ _ (n + 1), ← sub_sub]; rfl
      · rfl

/-! ## The whole arrays -/

omit hz hd hp hs m c in
theorem ix8 : ∀ t : Fin cfg0.N, cc0_transform_8 (grid0.coords t) = ![t.val / 32, 31 - t.val % 32, 0] := by decide +kernel

omit hz hd hp hs in
theorem emb8 (t : Fin cfg0.N) (y : ((cfg0.win 8).xblock (cfg0.grid.coords t)).Idx) :
    (((cfg0.win 8).rect t).emb y (0 : Fin 3)).val = t.val / 32 * 1 + (y (0 : Fin 3)).val
      ∧ (((cfg0.win 8).rect t).emb y (1 : Fin 3)).val = (31 - t.val % 32) * 128 + (y (1 : Fin 3)).val
      ∧ (((cfg0.win 8).rect t).emb y (2 : Fin 3)).val = 0 * 768 + (y (2 : Fin 3)).val := by
  have e := ix8 t
  have i0 : (cfg0.win 8).index t (0 : Fin 3) = t.val / 32 := congrFun e 0
  have i1 : (cfg0.win 8).index t (1 : Fin 3) = 31 - t.val % 32 := congrFun e 1
  have i2 : (cfg0.win 8).index t (2 : Fin 3) = 0 := congrFun e 2
  refine ⟨?_, ?_, ?_⟩
  · rw [(cfg0.win 8).rect_emb_val t y (0 : Fin 3), i0]; rfl
  · rw [(cfg0.win 8).rect_emb_val t y (1 : Fin 3), i1]; rfl
  · rw [(cfg0.win 8).rect_emb_val t y (2 : Fin 3), i2]; rfl

/-- The grid point that writes row `r` of batch `b`. -/
def ptOf (b r : ℕ) : ℕ := 32 * b + (31 - r / 128)

/-- The gradient of `z` after the run. -/
theorem arr8 : ((dats m 0 c).arrAt 8 cfg0.N : Vec Ideal S2x4096x768 .bf16)
    = R3 (φ := .bf16) fun b r l => blkT Z D P (ptOf b r) (r % 128) l := by
  refine (dats m 0 c).arrAt_eq_of_cover 8 (R3 (φ := .bf16) (a := 2) (n := 4096) (m := 768) fun b r l => blkT Z D P (ptOf b r) (r % 128) l) ?_ ?_
  · intro t _
    rw [flushed8, outs_eq m c Z D S P hz hd hp hs]
    funext y
    have hN : t.val < 64 := lt_of_lt_of_eq t.isLt N_0
    obtain ⟨e0, e1, e2⟩ := emb8 t y
    have hy : (y (0 : Fin 3)).val = 0 := by have := (y (0 : Fin 3)).isLt; exact Nat.lt_one_iff.mp this
    have hy1 : (y (1 : Fin 3)).val < 128 := (y (1 : Fin 3)).isLt
    show ((blkT Z D P t.val (y (1 : Fin 3)).val (y (2 : Fin 3)).val : ℝ) : EReal)
      = ((blkT Z D P (ptOf (((cfg0.win 8).rect t).emb y (0 : Fin 3)).val (((cfg0.win 8).rect t).emb y (1 : Fin 3)).val)
          ((((cfg0.win 8).rect t).emb y (1 : Fin 3)).val % 128) (((cfg0.win 8).rect t).emb y (2 : Fin 3)).val : ℝ) : EReal)
    rw [e0, e1, e2, hy]
    have a1 : ptOf (t.val / 32 * 1 + 0) ((31 - t.val % 32) * 128 + (y (1 : Fin 3)).val) = t.val := by unfold ptOf; omega
    have a2 : ((31 - t.val % 32) * 128 + (y (1 : Fin 3)).val) % 128 = (y (1 : Fin 3)).val := by omega
    rw [a1, a2, Nat.zero_mul, Nat.zero_add]
  · intro i
    have h0 : (i (0 : Fin 3)).val < 2 := (i (0 : Fin 3)).isLt
    have h1 : (i (1 : Fin 3)).val < 4096 := (i (1 : Fin 3)).isLt
    have h2 : (i (2 : Fin 3)).val < 768 := (i (2 : Fin 3)).isLt
    have ht : ptOf (i (0 : Fin 3)).val (i (1 : Fin 3)).val < cfg0.N := by refine lt_of_lt_of_eq ?_ N_0.symm; unfold ptOf; omega
    refine ⟨⟨_, ht⟩, flush0_8 _, ?_⟩
    let y : ((cfg0.win 8).xblock (cfg0.grid.coords ⟨_, ht⟩)).Idx :=
      (fun a => match a with | 0 => ⟨0, Nat.zero_lt_one⟩ | 1 => ⟨(i (1 : Fin 3)).val % 128, Nat.mod_lt _ (by norm_num)⟩ | 2 => ⟨(i (2 : Fin 3)).val, h2⟩ : Shape.Idx S1x128x768)
    have hm := ((cfg0.win 8).blk ⟨_, ht⟩).view.emb_mem_set y
    obtain ⟨e0, e1, e2⟩ := emb8 ⟨_, ht⟩ y
    have he : ((cfg0.win 8).blk ⟨_, ht⟩).view.emb y = i := by
      funext a
      refine Fin.ext ?_
      match a with
      | 0 => refine e0.trans ?_; show ptOf _ _ / 32 * 1 + 0 = _; unfold ptOf; omega
      | 1 => refine e1.trans ?_; show (31 - ptOf _ _ % 32) * 128 + (i (1 : Fin 3)).val % 128 = _; unfold ptOf; omega
      | 2 => refine e2.trans ?_; show 0 * 768 + (i (2 : Fin 3)).val = _; omega
    exact Eq.mp (congrArg (· ∈ ((cfg0.win 8).blk ⟨_, ht⟩).view.set) he) hm

/-- The gradient of the sinks after the run. -/
theorem arr9 : ((dats m 0 c).arrAt 9 cfg0.N : Vec Ideal S1x128 .f32)
    = R2 (φ := .f32) fun _ l => 0 - ∑ s ∈ Finset.range 64, gsT Z D S P s l := by
  have i0 (t : Fin cfg0.N) : (cfg0.win 9).index t (0 : Fin 2) = 0 := rfl
  have i1 (t : Fin cfg0.N) : (cfg0.win 9).index t (1 : Fin 2) = 0 := rfl
  have hemb (t : Fin cfg0.N) (y : ((cfg0.win 9).xblock (cfg0.grid.coords t)).Idx) : ((cfg0.win 9).blk t).view.emb y = (y : Shape.Idx S1x128) := by
    funext a
    refine Fin.ext ?_
    match a with
    | 0 => exact (cfg0.win 9).rect_emb_val_of_index_zero t (0 : Fin 2) (i0 t) y
    | 1 => exact (cfg0.win 9).rect_emb_val_of_index_zero t (1 : Fin 2) (i1 t) y
  refine (dats m 0 c).arrAt_eq_of_cover 9 (R2 (φ := .f32) (n := 1) (m := 128) fun _ l => 0 - ∑ s ∈ Finset.range 64, gsT Z D S P s l) ?_ ?_
  · intro t hf
    have h63 : t.val = 63 := by
      have := (flush0_9 t).mp hf
      have hN : t.val < 64 := lt_of_lt_of_eq t.isLt N_0
      omega
    rw [flushed9, outs_eq m c Z D S P hz hd hp hs]
    funext y
    refine Eq.trans ?_ (congrArg (R2 (φ := .f32) (n := 1) (m := 128) fun _ l => 0 - ∑ s ∈ Finset.range 64, gsT Z D S P s l) (hemb t y).symm)
    rw [h63]
  · intro i
    have ht : 63 < cfg0.N := lt_of_lt_of_eq (by norm_num) N_0.symm
    refine ⟨⟨63, ht⟩, (flush0_9 _).mpr rfl, ?_⟩
    have hm := ((cfg0.win 9).blk ⟨63, ht⟩).view.emb_mem_set (i : Shape.Idx S1x128)
    exact Eq.mp (congrArg (· ∈ ((cfg0.win 9).blk ⟨63, ht⟩).view.set) (hemb ⟨63, ht⟩ (i : Shape.Idx S1x128))) hm
end Cert.Proof
-- ==== Proof.RefBand.lean ====
module

public import proofs.«01_k».proof.Proof.Body
public import proofs.«01_k».proof.Proof.Gen.ReferenceIdeal.Read

/-!
The reference's layouts read at an index: the blocked queries, and the keys and values of the window of two blocks, which
are zero before the first block.
-/

@[expose] public section

namespace Cert.Proof
open Idealize.ShloMosaic Cert.ReferenceIdeal Cert.ReferenceIdeal.Gen Cert.ReferenceIdeal.Read

/-- Equal coordinates read the same entry of a real array of three axes. -/
theorem entry3 (Z : ℕ → ℕ → ℕ → ℝ) {a b c a' b' c' : ℕ} (ha : a = a') (hb : b = b') (hc : c = c') :
    ((Z a b c : ℝ) : EReal) = ((Z a' b' c' : ℝ) : EReal) := by subst ha hb hc; rfl
theorem entry4 (Z : ℕ → ℕ → ℕ → ℕ → ℝ) {a b c d a' b' c' d' : ℕ} (ha : a = a') (hb : b = b') (hc : c = c') (hd : d = d') :
    ((Z a b c d : ℝ) : EReal) = ((Z a' b' c' d' : ℝ) : EReal) := by subst ha hb hc hd; rfl
theorem entry5 (Z : ℕ → ℕ → ℕ → ℕ → ℕ → ℝ) {a b c d e a' b' c' d' e' : ℕ} (ha : a = a') (hb : b = b') (hc : c = c') (hd : d = d')
    (he : e = e') : ((Z a b c d e : ℝ) : EReal) = ((Z a' b' c' d' e' : ℝ) : EReal) := by subst ha hb hc hd he; rfl
theorem entry6 (Z : ℕ → ℕ → ℕ → ℕ → ℕ → ℕ → ℝ) {a b c d e f a' b' c' d' e' f' : ℕ} (ha : a = a') (hb : b = b') (hc : c = c')
    (hd : d = d') (he : e = e') (hf : f = f') : ((Z a b c d e f : ℝ) : EReal) = ((Z a' b' c' d' e' f' : ℝ) : EReal) := by
  subst ha hb hc hd he hf; rfl

/-- The word of zero is zero. -/
theorem zero_word : (FloatOps.ofBits (F := Ideal) .f32 0x00000000#32 : EReal) = ((0 : ℝ) : EReal) := by
  rw [EReal.coe_zero]; exact Ideal.ofBits_zero_f32

/-- Keys (`o = 512`) or values (`o = 640`) with a block of zeros put before the first row. -/
def padK (o : ℕ) (Z : ℕ → ℕ → ℕ → ℝ) (b t g e : ℕ) : ℝ := if t < 128 then 0 else Z b (t - 128) (o + (64 * g + e))
/-- Row `k` of block `n`'s window of two blocks. -/
def winK (o : ℕ) (Z : ℕ → ℕ → ℕ → ℝ) (b n k g e : ℕ) : ℝ := padK o Z b (128 * n + k) g e

section
variable (Z : ℕ → ℕ → ℕ → ℝ) (x0 : (⟨S2x4096x768, .bf16⟩ : BufTy).Contents (Elt Ideal))
  (hz : ∀ i : S2x4096x768.Idx, x0 i = ((Z (i 0).val (i 1).val (i 2).val : ℝ) : EReal))
include hz

theorem rv1 (i : S2x4096x768.Idx) : val_main_v1 (F := Ideal) x0 i = ((Z (i 0).val (i 1).val (i 2).val : ℝ) : EReal) := hz i

theorem rv3 (i : S2x4096x8x64.Idx) :
    val_main_v3 (F := Ideal) x0 i = ((Z (i 0).val (i 1).val (64 * (i 2).val + (i 3).val) : ℝ) : EReal) := by
  rw [val_main_v3_apply, val_main_v2_apply, rv1 Z x0 hz]
  have h0 : (i 0).val < 2 := (i 0).isLt; have h1 : (i 1).val < 4096 := (i 1).isLt
  have h2 : (i 2).val < 8 := (i 2).isLt; have h3 : (i 3).val < 64 := (i 3).isLt
  exact entry3 Z
    (show ((((i 0).val * 4096 + (i 1).val) * 8 + (i 2).val) * 64 + (i 3).val) / 2097152 = (i 0).val by omega)
    (show ((((i 0).val * 4096 + (i 1).val) * 8 + (i 2).val) * 64 + (i 3).val) / 512 % 4096 = (i 1).val by omega)
    (show ((((i 0).val * 4096 + (i 1).val) * 8 + (i 2).val) * 64 + (i 3).val) % 512 = 64 * (i 2).val + (i 3).val by omega)

/-- The queries by block. -/
theorem rv8 (i : S2x32x128x2x4x64.Idx) : val_main_v8 (F := Ideal) x0 i
    = ((Z (i 0).val (128 * (i 1).val + (i 2).val) (64 * (4 * (i 3).val + (i 4).val) + (i 5).val) : ℝ) : EReal) := by
  have h0 : (i 0).val < 2 := (i 0).isLt; have h1 : (i 1).val < 32 := (i 1).isLt
  have h2 : (i 2).val < 128 := (i 2).isLt; have h3 : (i 3).val < 2 := (i 3).isLt
  have h4 : (i 4).val < 4 := (i 4).isLt; have h5 : (i 5).val < 64 := (i 5).isLt
  have e : val_main_v8 (F := Ideal) x0 i = val_main_v3 (F := Ideal) x0 (fun a => match a with
      | ⟨0, _⟩ => ⟨(i 0).val, h0⟩
      | ⟨1, _⟩ => ⟨128 * (i 1).val + (i 2).val, by show _ < 4096; omega⟩
      | ⟨2, _⟩ => ⟨4 * (i 3).val + (i 4).val, by show _ < 8; omega⟩
      | ⟨3, _⟩ => ⟨(i 5).val, h5⟩) := by
    unfold val_main_v8
    refine shapeCast_apply _ _ i _ ?_
    rw [Shape.rowMajor_val_four, rowMajor_val6 i 2097152 65536 512 256 64 rfl rfl rfl rfl rfl]
    show (((i 0).val * 4096 + (128 * (i 1).val + (i 2).val)) * 8 + (4 * (i 3).val + (i 4).val)) * 64 + (i 5).val = _
    omega
  rw [e, rv3 Z x0 hz]

/-- The keys by row and head. -/
theorem rv5 (i : S2x4096x2x64.Idx) :
    val_main_v5 (F := Ideal) x0 i = ((Z (i 0).val (i 1).val (512 + (64 * (i 2).val + (i 3).val)) : ℝ) : EReal) := by
  rw [val_main_v5_apply, val_main_v4_apply, rv1 Z x0 hz]
  have h0 : (i 0).val < 2 := (i 0).isLt; have h1 : (i 1).val < 4096 := (i 1).isLt
  have h2 : (i 2).val < 2 := (i 2).isLt; have h3 : (i 3).val < 64 := (i 3).isLt
  exact entry3 Z
    (show ((((i 0).val * 4096 + (i 1).val) * 2 + (i 2).val) * 64 + (i 3).val) / 524288 = (i 0).val by omega)
    (show ((((i 0).val * 4096 + (i 1).val) * 2 + (i 2).val) * 64 + (i 3).val) / 128 % 4096 = (i 1).val by omega)
    (show 512 + ((((i 0).val * 4096 + (i 1).val) * 2 + (i 2).val) * 64 + (i 3).val) % 128 = 512 + (64 * (i 2).val + (i 3).val) by
      omega)

/-- The values by row and head. -/
theorem rv7 (i : S2x4096x2x64.Idx) :
    val_main_v7 (F := Ideal) x0 i = ((Z (i 0).val (i 1).val (640 + (64 * (i 2).val + (i 3).val)) : ℝ) : EReal) := by
  rw [val_main_v7_apply, val_main_v6_apply, rv1 Z x0 hz]
  have h0 : (i 0).val < 2 := (i 0).isLt; have h1 : (i 1).val < 4096 := (i 1).isLt
  have h2 : (i 2).val < 2 := (i 2).isLt; have h3 : (i 3).val < 64 := (i 3).isLt
  exact entry3 Z
    (show ((((i 0).val * 4096 + (i 1).val) * 2 + (i 2).val) * 64 + (i 3).val) / 524288 = (i 0).val by omega)
    (show ((((i 0).val * 4096 + (i 1).val) * 2 + (i 2).val) * 64 + (i 3).val) / 128 % 4096 = (i 1).val by omega)
    (show 640 + ((((i 0).val * 4096 + (i 1).val) * 2 + (i 2).val) * 64 + (i 3).val) % 128 = 640 + (64 * (i 2).val + (i 3).val) by
      omega)
omit hz in
/-- A block of zeros joined before an array of rows. -/
theorem rpad (o : ℕ) (y : (⟨S2x128x2x64, .f32⟩ : BufTy).Contents (Elt Ideal)) (x : (⟨S2x4096x2x64, .f32⟩ : BufTy).Contents (Elt Ideal))
    (hy : ∀ i, y i = ((0 : ℝ) : EReal))
    (hx : ∀ i : S2x4096x2x64.Idx, x i = ((Z (i 0).val (i 1).val (o + (64 * (i 2).val + (i 3).val)) : ℝ) : EReal))
    (h) (i : S2x4224x2x64.Idx) : concatenate S2x4224x2x64 1 [⟨S2x128x2x64, y⟩, ⟨S2x4096x2x64, x⟩] h i
      = ((padK o Z (i 0).val (i 1).val (i 2).val (i 3).val : ℝ) : EReal) := by
  have h1 : (i 1).val < 4224 := (i 1).isLt
  unfold padK
  by_cases hlt : (i 1).val < 128
  · rw [if_pos hlt]
    rw [concatenate_pair_apply_left (t := S2x4224x2x64) 1 y x h i rfl (fun a => match a with
      | ⟨0, _⟩ => ⟨(i 0).val, (i 0).isLt⟩
      | ⟨1, _⟩ => ⟨(i 1).val, hlt⟩
      | ⟨2, _⟩ => ⟨(i 2).val, (i 2).isLt⟩
      | ⟨3, _⟩ => ⟨(i 3).val, (i 3).isLt⟩) (fun a => match a with
      | ⟨0, _⟩ => rfl | ⟨1, _⟩ => rfl | ⟨2, _⟩ => rfl | ⟨3, _⟩ => rfl)]
    exact hy _
  · rw [if_neg hlt]
    rw [concatenate_pair_apply_right (t := S2x4224x2x64) 1 y x h i rfl rfl (fun a => match a with
      | ⟨0, _⟩ => ⟨(i 0).val, (i 0).isLt⟩
      | ⟨1, _⟩ => ⟨(i 1).val - 128, by show _ < 4096; omega⟩
      | ⟨2, _⟩ => ⟨(i 2).val, (i 2).isLt⟩
      | ⟨3, _⟩ => ⟨(i 3).val, (i 3).isLt⟩) (fun a => match a with
      | ⟨0, _⟩ => fun _ => rfl | ⟨1, _⟩ => fun hn => absurd rfl hn | ⟨2, _⟩ => fun _ => rfl | ⟨3, _⟩ => fun _ => rfl)
      (show (i 1).val - 128 + 128 = (i 1).val by omega)]
    exact hx _

omit hz in
/-- Two blocks joined along the row: the window. -/
theorem rwin (o : ℕ) (x y : (⟨S2x32x128x2x64, .f32⟩ : BufTy).Contents (Elt Ideal))
    (hx : ∀ i : S2x32x128x2x64.Idx, x i = ((padK o Z (i 0).val (128 * (i 1).val + (i 2).val) (i 3).val (i 4).val : ℝ) : EReal))
    (hy : ∀ i : S2x32x128x2x64.Idx, y i = ((padK o Z (i 0).val (128 * (1 + (i 1).val) + (i 2).val) (i 3).val (i 4).val : ℝ) : EReal))
    (h) (i : S2x32x256x2x64.Idx) : concatenate S2x32x256x2x64 2 [⟨S2x32x128x2x64, x⟩, ⟨S2x32x128x2x64, y⟩] h i
      = ((winK o Z (i 0).val (i 1).val (i 2).val (i 3).val (i 4).val : ℝ) : EReal) := by
  have h2 : (i 2).val < 256 := (i 2).isLt
  unfold winK
  by_cases hlt : (i 2).val < 128
  · rw [concatenate_pair_apply_left (t := S2x32x256x2x64) 2 x y h i rfl (fun a => match a with
      | ⟨0, _⟩ => ⟨(i 0).val, (i 0).isLt⟩
      | ⟨1, _⟩ => ⟨(i 1).val, (i 1).isLt⟩
      | ⟨2, _⟩ => ⟨(i 2).val, hlt⟩
      | ⟨3, _⟩ => ⟨(i 3).val, (i 3).isLt⟩
      | ⟨4, _⟩ => ⟨(i 4).val, (i 4).isLt⟩) (fun a => match a with
      | ⟨0, _⟩ => rfl | ⟨1, _⟩ => rfl | ⟨2, _⟩ => rfl | ⟨3, _⟩ => rfl | ⟨4, _⟩ => rfl)]
    exact hx _
  · rw [concatenate_pair_apply_right (t := S2x32x256x2x64) 2 x y h i rfl rfl (fun a => match a with
      | ⟨0, _⟩ => ⟨(i 0).val, (i 0).isLt⟩
      | ⟨1, _⟩ => ⟨(i 1).val, (i 1).isLt⟩
      | ⟨2, _⟩ => ⟨(i 2).val - 128, by show _ < 128; omega⟩
      | ⟨3, _⟩ => ⟨(i 3).val, (i 3).isLt⟩
      | ⟨4, _⟩ => ⟨(i 4).val, (i 4).isLt⟩) (fun a => match a with
      | ⟨0, _⟩ => fun _ => rfl | ⟨1, _⟩ => fun _ => rfl | ⟨2, _⟩ => fun hn => absurd rfl hn | ⟨3, _⟩ => fun _ => rfl
      | ⟨4, _⟩ => fun _ => rfl)
      (show (i 2).val - 128 + 128 = (i 2).val by omega)]
    exact (hy _).trans (entry4 (padK o Z) rfl
      (show 128 * (1 + (i 1).val) + ((i 2).val - 128) = 128 * (i 1).val + (i 2).val by omega) rfl rfl)

theorem rv12 (i : S2x33x128x2x64.Idx) :
    val_main_v12 (F := Ideal) x0 i = ((padK 512 Z (i 0).val (128 * (i 1).val + (i 2).val) (i 3).val (i 4).val : ℝ) : EReal) := by
  have h0 : (i 0).val < 2 := (i 0).isLt; have h1 : (i 1).val < 33 := (i 1).isLt
  have h2 : (i 2).val < 128 := (i 2).isLt; have h3 : (i 3).val < 2 := (i 3).isLt; have h4 : (i 4).val < 64 := (i 4).isLt
  rw [val_main_v12_apply]
  unfold val_main_v10
  rw [rpad Z 512 _ _ (fun i => by rw [val_main_v9_apply, val_main_cst_apply]; exact zero_word) (rv5 Z x0 hz)]
  exact entry4 (padK 512 Z)
    (show (((((i 0).val * 33 + (i 1).val) * 128 + (i 2).val) * 2 + (i 3).val) * 64 + (i 4).val) / 540672 = (i 0).val by omega)
    (show (((((i 0).val * 33 + (i 1).val) * 128 + (i 2).val) * 2 + (i 3).val) * 64 + (i 4).val) / 128 % 4224
      = 128 * (i 1).val + (i 2).val by omega)
    (show (((((i 0).val * 33 + (i 1).val) * 128 + (i 2).val) * 2 + (i 3).val) * 64 + (i 4).val) / 64 % 2 = (i 3).val by omega)
    (show (((((i 0).val * 33 + (i 1).val) * 128 + (i 2).val) * 2 + (i 3).val) * 64 + (i 4).val) % 64 = (i 4).val by omega)

theorem rv19 (i : S2x33x128x2x64.Idx) :
    val_main_v19 (F := Ideal) x0 i = ((padK 640 Z (i 0).val (128 * (i 1).val + (i 2).val) (i 3).val (i 4).val : ℝ) : EReal) := by
  have h0 : (i 0).val < 2 := (i 0).isLt; have h1 : (i 1).val < 33 := (i 1).isLt
  have h2 : (i 2).val < 128 := (i 2).isLt; have h3 : (i 3).val < 2 := (i 3).isLt; have h4 : (i 4).val < 64 := (i 4).isLt
  rw [val_main_v19_apply]
  unfold val_main_v17
  rw [rpad Z 640 _ _ (fun i => by rw [val_main_v16_apply, val_main_cst_1_apply]; exact zero_word) (rv7 Z x0 hz)]
  exact entry4 (padK 640 Z)
    (show (((((i 0).val * 33 + (i 1).val) * 128 + (i 2).val) * 2 + (i 3).val) * 64 + (i 4).val) / 540672 = (i 0).val by omega)
    (show (((((i 0).val * 33 + (i 1).val) * 128 + (i 2).val) * 2 + (i 3).val) * 64 + (i 4).val) / 128 % 4224
      = 128 * (i 1).val + (i 2).val by omega)
    (show (((((i 0).val * 33 + (i 1).val) * 128 + (i 2).val) * 2 + (i 3).val) * 64 + (i 4).val) / 64 % 2 = (i 3).val by omega)
    (show (((((i 0).val * 33 + (i 1).val) * 128 + (i 2).val) * 2 + (i 3).val) * 64 + (i 4).val) % 64 = (i 4).val by omega)

/-- The keys of a block's window. -/
theorem rv15 (i : S2x32x256x2x64.Idx) :
    val_main_v15 (F := Ideal) x0 i = ((winK 512 Z (i 0).val (i 1).val (i 2).val (i 3).val (i 4).val : ℝ) : EReal) := by
  unfold val_main_v15
  exact rwin Z 512 _ _ (fun i => by rw [val_main_v13_apply, rv12 Z x0 hz]) (fun i => by rw [val_main_v14_apply, rv12 Z x0 hz]) _ i

/-- The values of a block's window. -/
theorem rv22 (i : S2x32x256x2x64.Idx) :
    val_main_v22 (F := Ideal) x0 i = ((winK 640 Z (i 0).val (i 1).val (i 2).val (i 3).val (i 4).val : ℝ) : EReal) := by
  unfold val_main_v22
  exact rwin Z 640 _ _ (fun i => by rw [val_main_v20_apply, rv19 Z x0 hz]) (fun i => by rw [val_main_v21_apply, rv19 Z x0 hz]) _ i
end

end Cert.Proof
-- ==== Proof.RefMask.lean ====
module

public import proofs.«01_k».proof.Proof.Body
public import proofs.«01_k».proof.Proof.Gen.ReferenceIdeal.Read

/-!
The reference's mask read at an index: a query sees its own position, and the first block sees nothing before itself.
-/

@[expose] public section

namespace Cert.Proof
open Idealize.ShloMosaic Cert.ReferenceIdeal Cert.ReferenceIdeal.Gen Cert.ReferenceIdeal.Read

/-- How far row `k` of the window lies behind query `i`, as a word. -/
def behind (i k : ℕ) : BitVec 32 :=
  IntOp.addi (IntOp.subi (BitVec.ofNat 32 i) (BitVec.ofNat 32 k)) (BitVec.ofNat 32 128)
/-- The position of row `k` of block `n`'s window, as a word. -/
def position (n k : ℕ) : BitVec 32 :=
  IntOp.subi (IntOp.addi (IntOp.muli (BitVec.ofNat 32 n) (BitVec.ofNat 32 128)) (BitVec.ofNat 32 k)) (BitVec.ofNat 32 128)
/-- The mask's bit: the row lies 0 to 127 behind the query and not before the start. -/
def seen (n i k : ℕ) : BitVec 1 :=
  IntOp.andi (IntOp.andi (IntOp.cmpi .sge (behind i k) (BitVec.ofNat 32 0)) (IntOp.cmpi .slt (behind i k) (BitVec.ofNat 32 128)))
    (IntOp.cmpi .sge (position n k) (BitVec.ofNat 32 0))

/-- Every query sees its own position. -/
theorem seen_self (n i : ℕ) (hn : n < 32) (hi : i < 128) : seen n i (i + 128) = 1#1 := by
  have h : ∀ n : Fin 32, ∀ i : Fin 128, seen n.val i.val (i.val + 128) = 1#1 := by decide +kernel
  exact h ⟨n, hn⟩ ⟨i, hi⟩
/-- The first block sees nothing before itself. -/
theorem seen_before (i k : ℕ) (hi : i < 128) (hk : k < 128) : seen 0 i k = 0#1 := by
  have h : ∀ i : Fin 128, ∀ k : Fin 128, seen 0 i.val k.val = 0#1 := by decide +kernel
  exact h ⟨i, hi⟩ ⟨k, hk⟩

theorem rv35 (i : S128x256.Idx) : val_main_v35 (F := Ideal) i = behind (i 0).val (i 1).val := by
  rw [val_main_v35_apply, val_main_v33_apply, val_main_v31_apply, val_main_v28_apply, val_main_v27_apply, val_main_v32_apply,
    val_main_v30_apply, val_main_v29_apply, val_main_v34_apply, val_main_c_apply]
  rfl

theorem rv63 (i : S32x256.Idx) : val_main_v63 (F := Ideal) i = position (i 0).val (i 1).val := by
  rw [val_main_v63_apply, val_main_v61_apply, val_main_v59_apply, val_main_v56_apply, val_main_v54_apply, val_main_v53_apply,
    val_main_v55_apply, val_main_c_8_apply, val_main_v60_apply, val_main_v58_apply, val_main_v57_apply, val_main_v62_apply,
    val_main_c_9_apply]
  rfl

/-- The mask spread over the scores. -/
theorem rvmask (i : S2x32x2x4x128x256.Idx) :
    val_main_v80_1 (F := Ideal) i = seen (i 1).val (i 4).val (i 5).val := by
  rw [val_main_v80_1_apply, val_main_v76_apply, val_main_v75_apply, val_main_v73_apply, val_main_v69_apply, val_main_v68_apply,
    val_main_v65_apply, val_main_v67_apply, val_main_v74_apply, val_main_v72_apply, val_main_v71_apply, rv35, rv63,
    val_main_v64_apply, val_main_v66_apply, val_main_v70_apply, val_main_c_10_apply, val_main_c_11_apply, val_main_c_12_apply]
  rfl

end Cert.Proof
-- ==== Proof.RefForward.lean ====
module

public import proofs.«01_k».proof.Proof.RefBand
public import proofs.«01_k».proof.Proof.RefMask

/-!
The reference's softmax with a sink: every numerator is a real number that is not negative and is zero where the mask hides
the row, and the denominator is the positive sum of the numerators and the sink's exponential.
-/

@[expose] public section

namespace Cert.Proof
open Idealize.ShloMosaic Cert.ReferenceIdeal Cert.ReferenceIdeal.Gen Cert.ReferenceIdeal.Read

/-- An extended real that is a real number. -/
def Finite (x : EReal) : Prop := ∃ r : ℝ, x = (r : EReal)

theorem Finite.mul {x y : EReal} (hx : Finite x) (hy : Finite y) : Finite (x * y) := by
  obtain ⟨r, rfl⟩ := hx; obtain ⟨s, rfl⟩ := hy; exact ⟨r * s, (EReal.coe_mul r s).symm⟩
theorem Finite.add {x y : EReal} (hx : Finite x) (hy : Finite y) : Finite (x + y) := by
  obtain ⟨r, rfl⟩ := hx; obtain ⟨s, rfl⟩ := hy; exact ⟨r + s, (EReal.coe_add r s).symm⟩
theorem Finite.neg {x : EReal} (hx : Finite x) : Finite (-x) := by
  obtain ⟨r, rfl⟩ := hx; exact ⟨-r, (EReal.coe_neg r).symm⟩
theorem Finite.max {x y : EReal} (hx : Finite x) (hy : Finite y) : Finite (max x y) := by
  rcases max_choice x y with h | h <;> rw [h] <;> assumption
theorem Finite.exp {x : EReal} (hx : Finite x) : Finite (Ideal.exp x) := by
  obtain ⟨r, rfl⟩ := hx; exact ⟨Real.exp r, rfl⟩
theorem Finite.sum {n : ℕ} {f : Fin n → EReal} (h : ∀ k, Finite (f k)) : Finite (∑ k, f k) := by
  choose g hg using h
  exact ⟨∑ k, g k, by rw [coe_sum_real]; exact Finset.sum_congr rfl fun k _ => hg k⟩

/-- The quotient of two reals, the divisor not zero. -/
theorem div_real (a b : ℝ) (hb : b ≠ 0) : Ideal.div (a : EReal) (b : EReal) = ((a / b : ℝ) : EReal) := by
  unfold Ideal.div
  rw [if_neg (fun h => hb (EReal.coe_eq_zero.mp h)), div_eq_mul_inv, EReal.coe_mul, EReal.coe_inv]

theorem one_word : (FloatOps.ofBits (F := Ideal) .f32 0x3F800000#32 : EReal) = ((1 : ℝ) : EReal) := by
  rw [EReal.coe_one]; exact Ideal.ofBits_one_f32
theorem eighth_word : (FloatOps.ofBits (F := Ideal) .f32 0x3E000000#32 : EReal) = ((1 / 8 : ℝ) : EReal) := by
  show Ideal.ofBits .f32 0x3E000000#32 = _
  simp [Ideal.ofBits, Ideal.ieee, -EReal.coe_mul]; norm_num
theorem eight_word : (FloatOps.ofBits (F := Ideal) .f32 0x41000000#32 : EReal) = ((8 : ℝ) : EReal) := by
  show Ideal.ofBits .f32 0x41000000#32 = _
  simp [Ideal.ofBits, Ideal.ieee, -EReal.coe_mul]; norm_num
theorem minus_eight_word : Finite (FloatOps.ofBits (F := Ideal) .f32 0xC1000000#32 : EReal) := by
  refine ⟨-8, ?_⟩
  show Ideal.ofBits .f32 0xC1000000#32 = _
  simp [Ideal.ofBits, Ideal.ieee, -EReal.coe_mul]; norm_num
theorem ln2_word : Finite (FloatOps.ofBits (F := Ideal) .f32 0x3F317218#32 : EReal) := by
  refine ⟨11629080 / 16777216, ?_⟩
  show Ideal.ofBits .f32 0x3F317218#32 = _
  simp [Ideal.ofBits, Ideal.ieee, -EReal.coe_mul]; norm_num
theorem bottom_word : (FloatOps.ofBits (F := Ideal) .f32 0xFF800000#32 : EReal) = ⊥ := by
  show Ideal.ofBits .f32 0xFF800000#32 = ⊥
  simp [Ideal.ofBits, Ideal.ieee]

/-- The distance's slope, by head, is a real number. -/
theorem rv47 (i : S2x4x1x1.Idx) : Finite (val_main_v47 (F := Ideal) i) := by
  rw [val_main_v47_apply, val_main_v46_apply, val_main_v45_apply, val_main_v44_apply, val_main_v42_apply, val_main_v40_apply,
    val_main_v38_apply, val_main_v37_apply, val_main_v39_apply, val_main_v41_apply, val_main_v43_apply]
  refine Finite.neg (Finite.exp (Finite.mul ?_ ?_))
  · rw [val_main_cst_7_apply]; exact ln2_word
  · have hx : Finite (val_main_v40 (F := Ideal) (idx_main_v46 i)) := by
      rw [val_main_v40_apply, val_main_v38_apply, val_main_v37_apply, val_main_v39_apply, val_main_cst_5_apply, val_main_cst_4_apply]
      exact Finite.mul minus_eight_word (Finite.add ⟨1, one_word⟩ ⟨_, rfl⟩)
    rw [val_main_v40_apply, val_main_v38_apply, val_main_v37_apply, val_main_v39_apply] at hx
    obtain ⟨r, hr⟩ := hx
    rw [hr, val_main_cst_6_apply, eight_word]
    exact ⟨r / 8, div_real r 8 (by norm_num)⟩

/-- The distance's penalty is a real number. -/
theorem rv78 (i : S2x32x2x4x128x256.Idx) : Finite (val_main_v78 (F := Ideal) i) := by
  rw [val_main_v78_apply, val_main_v77_apply, val_main_v52_apply, val_main_v50_apply, val_main_v51_apply, val_main_v49_apply,
    val_main_v48_apply]
  exact Finite.mul (rv47 _) ⟨_, rfl⟩

section
variable (Z : ℕ → ℕ → ℕ → ℝ) (x0 : (⟨S2x4096x768, .bf16⟩ : BufTy).Contents (Elt Ideal))
  (hz : ∀ i : S2x4096x768.Idx, x0 i = ((Z (i 0).val (i 1).val (i 2).val : ℝ) : EReal))
  (x1 : (⟨S8, .f32⟩ : BufTy).Contents (Elt Ideal)) (hx1 : ∀ i, Finite (x1 i))
include hz

/-- A score before the mask is a real number. -/
theorem rv79 (i : S2x32x2x4x128x256.Idx) : Finite (val_main_v79 (F := Ideal) x0 i) := by
  rw [val_main_v79_apply, val_main_v26_apply, val_main_v24_apply, val_main_v23_apply, val_main_v25_apply, val_main_cst_3_apply]
  refine Finite.add (Finite.mul (Finite.sum fun k => Finite.mul ⟨_, rv15 Z x0 hz _⟩ ⟨_, rv8 Z x0 hz _⟩) ⟨_, eighth_word⟩) (rv78 i)

omit hz in
theorem rv80 (i : S2x32x2x4x128x256.Idx) : val_main_v80_0 (F := Ideal) x0 i
    = Scalar.select (seen (i 1).val (i 4).val (i 5).val) (val_main_v79 (F := Ideal) x0 i) ⊥ := by
  rw [val_main_v80_0_apply, rvmask, val_main_call0_v2_apply]
  exact congrArg _ bottom_word

/-- A masked score is a real number or minus infinity. -/
theorem rv80_cases (i : S2x32x2x4x128x256.Idx) :
    Finite (val_main_v80_0 (F := Ideal) x0 i) ∨ val_main_v80_0 (F := Ideal) x0 i = ⊥ := by
  rw [rv80]; unfold Scalar.select; split
  · exact Or.inl (rv79 Z x0 hz i)
  · exact Or.inr rfl

omit hz in
theorem rv80_hidden (i : S2x32x2x4x128x256.Idx) (h : seen (i 1).val (i 4).val (i 5).val = 0#1) :
    val_main_v80_0 (F := Ideal) x0 i = ⊥ := by
  rw [rv80, h]; rfl

/-- The row's index with `k` on its last axis. -/
def row6 (j : S2x32x2x4x128.Idx) (k : Fin 256) : S2x32x2x4x128x256.Idx := ix6 (j 0) (j 1) (j 2) (j 3) (j 4) k

omit hz in
/-- The indices of a row are those that drop to it. -/
theorem row6_fiber (j : S2x32x2x4x128.Idx) (i : S2x32x2x4x128x256.Idx) :
    reducesTo_S2x32x2x4x128x256_S2x32x2x4x128_d5.drop i = j ↔ ∃ k, row6 j k = i := by
  constructor
  · rintro rfl
    exact ⟨i 5, funext fun a => match a with
      | ⟨0, _⟩ => rfl | ⟨1, _⟩ => rfl | ⟨2, _⟩ => rfl | ⟨3, _⟩ => rfl | ⟨4, _⟩ => rfl | ⟨5, _⟩ => rfl⟩
  · rintro ⟨k, rfl⟩
    exact funext fun b => match b with
      | ⟨0, _⟩ => rfl | ⟨1, _⟩ => rfl | ⟨2, _⟩ => rfl | ⟨3, _⟩ => rfl | ⟨4, _⟩ => rfl

omit hz in
theorem rv82 (j : S2x32x2x4x128.Idx) : val_main_v82 (F := Ideal) x0 j
    = Finset.univ.fold max ⊥ fun k : Fin 256 => val_main_v80_0 (F := Ideal) x0 (row6 j k) := by
  unfold val_main_v82
  generalize val_main_v80_0 (F := Ideal) x0 = y
  rw [Host.reduce_eq_fold]
  show Finset.fold max (FloatOps.ofBits (F := Ideal) .f32 0xFF800000#32 : EReal) y _ = _
  rw [bottom_word]
  exact Finset.fold_filter_eq_fold_of_fiber max _ (row6 j) (fun _ _ e => congrFun e 5) (row6_fiber j) ⊥ y

/-- The greatest masked score of a row is a real number. -/
theorem rv82_real (j : S2x32x2x4x128.Idx) : Finite (val_main_v82 (F := Ideal) x0 j) := by
  rw [rv82]
  have hi : (j 4).val < 128 := (j 4).isLt
  have hn : (j 1).val < 32 := (j 1).isLt
  have hlo : ⊥ < Finset.univ.fold max ⊥ fun k : Fin 256 => val_main_v80_0 (F := Ideal) x0 (row6 j k) := by
    rw [Finset.lt_fold_max]
    refine Or.inr ⟨⟨(j 4).val + 128, by omega⟩, Finset.mem_univ _, ?_⟩
    rw [rv80]
    show ⊥ < Scalar.select (seen (j 1).val (j 4).val ((j 4).val + 128)) _ _
    rw [seen_self _ _ hn hi]
    obtain ⟨r, hr⟩ := rv79 Z x0 hz (row6 j ⟨(j 4).val + 128, by omega⟩)
    show ⊥ < val_main_v79 (F := Ideal) x0 _
    rw [hr]; exact EReal.bot_lt_coe r
  have hhi : (Finset.univ.fold max ⊥ fun k : Fin 256 => val_main_v80_0 (F := Ideal) x0 (row6 j k)) < ⊤ := by
    rw [Finset.fold_max_lt]
    refine ⟨bot_lt_top, fun k _ => ?_⟩
    rcases rv80_cases Z x0 hz (row6 j k) with ⟨r, hr⟩ | h
    · rw [hr]; exact EReal.coe_lt_top r
    · rw [h]; exact bot_lt_top
  exact ⟨_, (EReal.coe_toReal hhi.ne hlo.ne').symm⟩

/-- The greatest score is one of the row's. -/
theorem rv82_attained (j : S2x32x2x4x128.Idx) : ∃ k : Fin 256, val_main_v80_0 (F := Ideal) x0 (row6 j k) = val_main_v82 (F := Ideal) x0 j := by
  obtain ⟨r, hr⟩ := rv82_real Z x0 hz j
  have hle := (Finset.le_fold_max (s := Finset.univ) (b := (⊥ : EReal))
    (f := fun k : Fin 256 => val_main_v80_0 (F := Ideal) x0 (row6 j k)) (val_main_v82 (F := Ideal) x0 j)).mp (by rw [rv82])
  rcases hle with h | ⟨k, _, h⟩
  · rw [hr] at h; exact absurd h (not_le.mpr (EReal.bot_lt_coe r))
  · refine ⟨k, le_antisymm ?_ h⟩
    rw [rv82]
    exact (Finset.le_fold_max _).mpr (Or.inr ⟨k, Finset.mem_univ _, le_refl _⟩)

/-- A row has at least one greatest score. -/
theorem rv87_ne (j : S2x32x2x4x128.Idx) : val_main_v87 (F := Ideal) x0 j ≠ 0 := by
  rw [val_main_v87_apply, val_main_cst_15_apply, zero_word, EReal.coe_zero, zero_add]
  obtain ⟨k, hk⟩ := rv82_attained Z x0 hz j
  have hnn : ∀ k : Fin 256, (0 : EReal) ≤ val_main_v86 (F := Ideal) x0 (idx_main_v87 j k) := fun k => by
    rw [val_main_v86_apply]
    show (0 : EReal) ≤ (((val_main_v85 (F := Ideal) x0 (idx_main_v87 j k)).toNat : ℝ) : EReal)
    exact EReal.coe_nonneg.mpr (Nat.cast_nonneg _)
  have hone : (0 : EReal) < val_main_v86 (F := Ideal) x0 (idx_main_v87 j k) := by
    have e : val_main_v83 (F := Ideal) x0 (idx_main_v84 (idx_main_v87 j k)) = val_main_v82 (F := Ideal) x0 j := by
      unfold val_main_v83
      refine shapeCast_apply _ _ _ j ?_
      rw [Shape.rowMajor_val_five, rowMajor_val6 _ 32768 1024 512 128 1 rfl rfl rfl rfl rfl]
      show ((((j 0).val * 32 + (j 1).val) * 2 + (j 2).val) * 4 + (j 3).val) * 128 + (j 4).val
        = (j 0).val * 32768 + (j 1).val * 1024 + (j 2).val * 512 + (j 3).val * 128 + (j 4).val * 1 + 0
      omega
    have ek : idx_main_v87 j k = row6 j k := funext fun a => match a with
      | ⟨0, _⟩ => rfl | ⟨1, _⟩ => rfl | ⟨2, _⟩ => rfl | ⟨3, _⟩ => rfl | ⟨4, _⟩ => rfl | ⟨5, _⟩ => rfl
    rw [val_main_v86_apply, val_main_v85_apply, val_main_v84_apply, e, ek, hk]
    generalize val_main_v82 (F := Ideal) x0 j = y
    have ey : (FloatOps.cmpf (F := Ideal) (φ := .f32) .oeq y y) = 1#1 := by
      show BitVec.ofBool (decide (y = y)) = 1#1
      rw [decide_eq_true rfl]; rfl
    rw [ey]
    show (0 : EReal) < (((1#1 : BitVec 1).toNat : ℝ) : EReal)
    exact EReal.coe_pos.mpr (by norm_num)
  exact ne_of_gt (lt_of_lt_of_le hone (Finset.single_le_sum (fun k _ => hnn k) (Finset.mem_univ k)))

include hx1

omit hz in
theorem rv81 (i : S1x1x2x4x1x1.Idx) : Finite (val_main_v81 (F := Ideal) x1 i) := by
  unfold val_main_v81 shapeCast; exact hx1 _

/-- The row's shift is a real number. -/
theorem rv90 (i : S2x32x2x4x128x1.Idx) : Finite (val_main_v90 (F := Ideal) x0 x1 i) := by
  rw [val_main_v90_apply, val_main_v88_apply, val_main_v89_apply]
  exact Finite.max (rv82_real Z x0 hz _) (rv81 x1 hx1 _)

/-- A numerator is a real number, not negative. -/
theorem rv111 (i : S2x32x2x4x128x256.Idx) : ∃ r : ℝ, 0 ≤ r ∧ val_main_v111 (F := Ideal) x0 x1 i = (r : EReal) := by
  rw [val_main_v111_apply, val_main_v110_apply, val_main_v109_apply]
  obtain ⟨m, hm⟩ := rv90 Z x0 hz x1 hx1 (idx_main_v109 i)
  rw [hm]
  rcases rv80_cases Z x0 hz i with ⟨r, hr⟩ | h
  · rw [hr]; exact ⟨Real.exp (r - m), (Real.exp_pos _).le, rfl⟩
  · rw [h]; exact ⟨0, le_refl _, rfl⟩

/-- A hidden row's numerator is zero. -/
theorem rv111_hidden (i : S2x32x2x4x128x256.Idx) (h : seen (i 1).val (i 4).val (i 5).val = 0#1) :
    val_main_v111 (F := Ideal) x0 x1 i = 0 := by
  rw [val_main_v111_apply, val_main_v110_apply, val_main_v109_apply, rv80_hidden x0 i h]
  obtain ⟨m, hm⟩ := rv90 Z x0 hz x1 hx1 (idx_main_v109 i)
  rw [hm]; rfl

/-- The sink's exponential is a positive real number. -/
theorem rv114 (i : S2x32x2x4x128x1.Idx) : ∃ r : ℝ, 0 < r ∧ val_main_v114 (F := Ideal) x0 x1 i = (r : EReal) := by
  rw [val_main_v114_apply, val_main_v113_apply, val_main_v112_apply]
  obtain ⟨m, hm⟩ := rv90 Z x0 hz x1 hx1 i
  obtain ⟨s, hs⟩ := rv81 x1 hx1 (idx_main_v112 i)
  rw [hm, hs]; exact ⟨Real.exp (s - m), Real.exp_pos _, rfl⟩
end

end Cert.Proof
-- ==== Proof.RefProducts.lean ====
module

public import Idealize.ShloMosaic.Lib.TwoAxisContraction
public import proofs.«01_k».proof.Proof.RefForward

/-!
The reference's two products that contract two axes, read at an index as double sums.
-/

@[expose] public section

namespace Cert.Proof
open Idealize.ShloMosaic Cert.ReferenceIdeal Cert.ReferenceIdeal.Gen Cert.ReferenceIdeal.Read

abbrev dotV := dot_S2x32x2x64x4x128_S2x32x2x4x128x256_S2x32x2x64x256_45_34_3_5_012_012
abbrev dotK := dot_S2x32x2x256x128x4_S2x32x128x2x4x64_S2x32x2x256x64_45_24_3_5_012_013

theorem dotV_l0 (i : S2x32x2x64x256.Idx) (q : dotV.contr.Idx) : (dotV.lhsIdx i q 0).val = (i 0).val := by
  unfold DotDims.lhsIdx; rw [dif_pos (show (0 : Fin S2x32x2x64x4x128.rank) ∈ dotV.lhsBatch by decide)]; rfl
theorem dotV_l1 (i : S2x32x2x64x256.Idx) (q : dotV.contr.Idx) : (dotV.lhsIdx i q 1).val = (i 1).val := by
  unfold DotDims.lhsIdx; rw [dif_pos (show (1 : Fin S2x32x2x64x4x128.rank) ∈ dotV.lhsBatch by decide)]; rfl
theorem dotV_l2 (i : S2x32x2x64x256.Idx) (q : dotV.contr.Idx) : (dotV.lhsIdx i q 2).val = (i 2).val := by
  unfold DotDims.lhsIdx; rw [dif_pos (show (2 : Fin S2x32x2x64x4x128.rank) ∈ dotV.lhsBatch by decide)]; rfl
theorem dotV_l3 (i : S2x32x2x64x256.Idx) (q : dotV.contr.Idx) : (dotV.lhsIdx i q 3).val = (i 3).val := by
  unfold DotDims.lhsIdx
  rw [dif_neg (show ¬(3 : Fin S2x32x2x64x4x128.rank) ∈ dotV.lhsBatch by decide),
    dif_pos (show (3 : Fin S2x32x2x64x4x128.rank) ∈ dotV.lhsNonContracting by decide)]; rfl
theorem dotV_l4 (i : S2x32x2x64x256.Idx) (q : dotV.contr.Idx) : (dotV.lhsIdx i q 4).val = (q ⟨0, by decide⟩).val := by
  unfold DotDims.lhsIdx
  rw [dif_neg (show ¬(4 : Fin S2x32x2x64x4x128.rank) ∈ dotV.lhsBatch by decide),
    dif_neg (show ¬(4 : Fin S2x32x2x64x4x128.rank) ∈ dotV.lhsNonContracting by decide)]; rfl
theorem dotV_l5 (i : S2x32x2x64x256.Idx) (q : dotV.contr.Idx) : (dotV.lhsIdx i q 5).val = (q ⟨1, by decide⟩).val := by
  unfold DotDims.lhsIdx
  rw [dif_neg (show ¬(5 : Fin S2x32x2x64x4x128.rank) ∈ dotV.lhsBatch by decide),
    dif_neg (show ¬(5 : Fin S2x32x2x64x4x128.rank) ∈ dotV.lhsNonContracting by decide)]; rfl
theorem dotV_r0 (i : S2x32x2x64x256.Idx) (q : dotV.contr.Idx) : (dotV.rhsIdx i q 0).val = (i 0).val := by
  unfold DotDims.rhsIdx; rw [dif_pos (show (0 : Fin S2x32x2x4x128x256.rank) ∈ dotV.rhsBatch by decide)]; rfl
theorem dotV_r1 (i : S2x32x2x64x256.Idx) (q : dotV.contr.Idx) : (dotV.rhsIdx i q 1).val = (i 1).val := by
  unfold DotDims.rhsIdx; rw [dif_pos (show (1 : Fin S2x32x2x4x128x256.rank) ∈ dotV.rhsBatch by decide)]; rfl
theorem dotV_r2 (i : S2x32x2x64x256.Idx) (q : dotV.contr.Idx) : (dotV.rhsIdx i q 2).val = (i 2).val := by
  unfold DotDims.rhsIdx; rw [dif_pos (show (2 : Fin S2x32x2x4x128x256.rank) ∈ dotV.rhsBatch by decide)]; rfl
theorem dotV_r3 (i : S2x32x2x64x256.Idx) (q : dotV.contr.Idx) : (dotV.rhsIdx i q 3).val = (q ⟨0, by decide⟩).val := by
  unfold DotDims.rhsIdx
  rw [dif_neg (show ¬(3 : Fin S2x32x2x4x128x256.rank) ∈ dotV.rhsBatch by decide),
    dif_neg (show ¬(3 : Fin S2x32x2x4x128x256.rank) ∈ dotV.rhsNonContracting by decide)]; rfl
theorem dotV_r4 (i : S2x32x2x64x256.Idx) (q : dotV.contr.Idx) : (dotV.rhsIdx i q 4).val = (q ⟨1, by decide⟩).val := by
  unfold DotDims.rhsIdx
  rw [dif_neg (show ¬(4 : Fin S2x32x2x4x128x256.rank) ∈ dotV.rhsBatch by decide),
    dif_neg (show ¬(4 : Fin S2x32x2x4x128x256.rank) ∈ dotV.rhsNonContracting by decide)]; rfl
theorem dotV_r5 (i : S2x32x2x64x256.Idx) (q : dotV.contr.Idx) : (dotV.rhsIdx i q 5).val = (i 4).val := by
  unfold DotDims.rhsIdx
  rw [dif_neg (show ¬(5 : Fin S2x32x2x4x128x256.rank) ∈ dotV.rhsBatch by decide),
    dif_pos (show (5 : Fin S2x32x2x4x128x256.rank) ∈ dotV.rhsNonContracting by decide)]; rfl

theorem dotK_l0 (i : S2x32x2x256x64.Idx) (q : dotK.contr.Idx) : (dotK.lhsIdx i q 0).val = (i 0).val := by
  unfold DotDims.lhsIdx; rw [dif_pos (show (0 : Fin S2x32x2x256x128x4.rank) ∈ dotK.lhsBatch by decide)]; rfl
theorem dotK_l1 (i : S2x32x2x256x64.Idx) (q : dotK.contr.Idx) : (dotK.lhsIdx i q 1).val = (i 1).val := by
  unfold DotDims.lhsIdx; rw [dif_pos (show (1 : Fin S2x32x2x256x128x4.rank) ∈ dotK.lhsBatch by decide)]; rfl
theorem dotK_l2 (i : S2x32x2x256x64.Idx) (q : dotK.contr.Idx) : (dotK.lhsIdx i q 2).val = (i 2).val := by
  unfold DotDims.lhsIdx; rw [dif_pos (show (2 : Fin S2x32x2x256x128x4.rank) ∈ dotK.lhsBatch by decide)]; rfl
theorem dotK_l3 (i : S2x32x2x256x64.Idx) (q : dotK.contr.Idx) : (dotK.lhsIdx i q 3).val = (i 3).val := by
  unfold DotDims.lhsIdx
  rw [dif_neg (show ¬(3 : Fin S2x32x2x256x128x4.rank) ∈ dotK.lhsBatch by decide),
    dif_pos (show (3 : Fin S2x32x2x256x128x4.rank) ∈ dotK.lhsNonContracting by decide)]; rfl
theorem dotK_l4 (i : S2x32x2x256x64.Idx) (q : dotK.contr.Idx) : (dotK.lhsIdx i q 4).val = (q ⟨0, by decide⟩).val := by
  unfold DotDims.lhsIdx
  rw [dif_neg (show ¬(4 : Fin S2x32x2x256x128x4.rank) ∈ dotK.lhsBatch by decide),
    dif_neg (show ¬(4 : Fin S2x32x2x256x128x4.rank) ∈ dotK.lhsNonContracting by decide)]; rfl
theorem dotK_l5 (i : S2x32x2x256x64.Idx) (q : dotK.contr.Idx) : (dotK.lhsIdx i q 5).val = (q ⟨1, by decide⟩).val := by
  unfold DotDims.lhsIdx
  rw [dif_neg (show ¬(5 : Fin S2x32x2x256x128x4.rank) ∈ dotK.lhsBatch by decide),
    dif_neg (show ¬(5 : Fin S2x32x2x256x128x4.rank) ∈ dotK.lhsNonContracting by decide)]; rfl
theorem dotK_r0 (i : S2x32x2x256x64.Idx) (q : dotK.contr.Idx) : (dotK.rhsIdx i q 0).val = (i 0).val := by
  unfold DotDims.rhsIdx; rw [dif_pos (show (0 : Fin S2x32x128x2x4x64.rank) ∈ dotK.rhsBatch by decide)]; rfl
theorem dotK_r1 (i : S2x32x2x256x64.Idx) (q : dotK.contr.Idx) : (dotK.rhsIdx i q 1).val = (i 1).val := by
  unfold DotDims.rhsIdx; rw [dif_pos (show (1 : Fin S2x32x128x2x4x64.rank) ∈ dotK.rhsBatch by decide)]; rfl
theorem dotK_r2 (i : S2x32x2x256x64.Idx) (q : dotK.contr.Idx) : (dotK.rhsIdx i q 2).val = (q ⟨0, by decide⟩).val := by
  unfold DotDims.rhsIdx
  rw [dif_neg (show ¬(2 : Fin S2x32x128x2x4x64.rank) ∈ dotK.rhsBatch by decide),
    dif_neg (show ¬(2 : Fin S2x32x128x2x4x64.rank) ∈ dotK.rhsNonContracting by decide)]; rfl
theorem dotK_r3 (i : S2x32x2x256x64.Idx) (q : dotK.contr.Idx) : (dotK.rhsIdx i q 3).val = (i 2).val := by
  unfold DotDims.rhsIdx; rw [dif_pos (show (3 : Fin S2x32x128x2x4x64.rank) ∈ dotK.rhsBatch by decide)]; rfl
theorem dotK_r4 (i : S2x32x2x256x64.Idx) (q : dotK.contr.Idx) : (dotK.rhsIdx i q 4).val = (q ⟨1, by decide⟩).val := by
  unfold DotDims.rhsIdx
  rw [dif_neg (show ¬(4 : Fin S2x32x128x2x4x64.rank) ∈ dotK.rhsBatch by decide),
    dif_neg (show ¬(4 : Fin S2x32x128x2x4x64.rank) ∈ dotK.rhsNonContracting by decide)]; rfl
theorem dotK_r5 (i : S2x32x2x256x64.Idx) (q : dotK.contr.Idx) : (dotK.rhsIdx i q 5).val = (i 4).val := by
  unfold DotDims.rhsIdx
  rw [dif_neg (show ¬(5 : Fin S2x32x128x2x4x64.rank) ∈ dotK.rhsBatch by decide),
    dif_pos (show (5 : Fin S2x32x128x2x4x64.rank) ∈ dotK.rhsNonContracting by decide)]; rfl

/-- The values' gradient by window: the cotangent times the probabilities, summed over heads of the group and queries. -/
theorem dotV_real (y0 : FVec Ideal S2x32x2x64x4x128 .f32) (y1 : FVec Ideal S2x32x2x4x128x256 .f32)
    (A B : ℕ → ℕ → ℕ → ℕ → ℕ → ℕ → ℝ)
    (hA : ∀ i, y0 i = ((A (i 0).val (i 1).val (i 2).val (i 3).val (i 4).val (i 5).val : ℝ) : EReal))
    (hB : ∀ i, y1 i = ((B (i 0).val (i 1).val (i 2).val (i 3).val (i 4).val (i 5).val : ℝ) : EReal)) (i : S2x32x2x64x256.Idx) :
    Host.dotGeneral dotV none y0 y1 i
      = ((∑ j ∈ Finset.range 4, ∑ q ∈ Finset.range 128, A (i 0).val (i 1).val (i 2).val (i 3).val j q
          * B (i 0).val (i 1).val (i 2).val j q (i 4).val : ℝ) : EReal) := by
  simp only [Host.dotGeneral]
  rw [Ideal.dotGeneral_apply, ← Equiv.sum_comp (ValueIdx.contrEquiv2 dotV 4 128 rfl rfl rfl).symm, Fintype.sum_prod_type]
  refine coe_sum_of fun j => ?_
  refine coe_sum_of (f := fun q => A (i 0).val (i 1).val (i 2).val (i 3).val j.val q
          * B (i 0).val (i 1).val (i 2).val j.val q (i 4).val) fun q => ?_
  have h0 := ValueIdx.contrEquiv2_symm_val0 dotV 4 128 rfl rfl rfl (j, q)
  have h1 := ValueIdx.contrEquiv2_symm_val1 dotV 4 128 rfl rfl rfl (j, q)
  refine coe_mul_of ((hA _).trans ?_) ((hB _).trans ?_)
  · exact entry6 A (dotV_l0 _ _) (dotV_l1 _ _) (dotV_l2 _ _) (dotV_l3 _ _) ((dotV_l4 _ _).trans h0) ((dotV_l5 _ _).trans h1)
  · exact entry6 B (dotV_r0 _ _) (dotV_r1 _ _) (dotV_r2 _ _) ((dotV_r3 _ _).trans h0) ((dotV_r4 _ _).trans h1) (dotV_r5 _ _)

/-- The keys' gradient by window: the scores' gradient times the queries, summed over queries and heads of the group. -/
theorem dotK_real (y0 : FVec Ideal S2x32x2x256x128x4 .f32) (y1 : FVec Ideal S2x32x128x2x4x64 .f32)
    (A B : ℕ → ℕ → ℕ → ℕ → ℕ → ℕ → ℝ)
    (hA : ∀ i, y0 i = ((A (i 0).val (i 1).val (i 2).val (i 3).val (i 4).val (i 5).val : ℝ) : EReal))
    (hB : ∀ i, y1 i = ((B (i 0).val (i 1).val (i 2).val (i 3).val (i 4).val (i 5).val : ℝ) : EReal)) (i : S2x32x2x256x64.Idx) :
    Host.dotGeneral dotK none y0 y1 i
      = ((∑ q ∈ Finset.range 128, ∑ j ∈ Finset.range 4, A (i 0).val (i 1).val (i 2).val (i 3).val q j
          * B (i 0).val (i 1).val q (i 2).val j (i 4).val : ℝ) : EReal) := by
  simp only [Host.dotGeneral]
  rw [Ideal.dotGeneral_apply, ← Equiv.sum_comp (ValueIdx.contrEquiv2 dotK 128 4 rfl rfl rfl).symm, Fintype.sum_prod_type]
  refine coe_sum_of fun q => ?_
  refine coe_sum_of (f := fun j => A (i 0).val (i 1).val (i 2).val (i 3).val q.val j
          * B (i 0).val (i 1).val q.val (i 2).val j (i 4).val) fun j => ?_
  have h0 := ValueIdx.contrEquiv2_symm_val0 dotK 128 4 rfl rfl rfl (q, j)
  have h1 := ValueIdx.contrEquiv2_symm_val1 dotK 128 4 rfl rfl rfl (q, j)
  refine coe_mul_of ((hA _).trans ?_) ((hB _).trans ?_)
  · exact entry6 A (dotK_l0 _ _) (dotK_l1 _ _) (dotK_l2 _ _) (dotK_l3 _ _) ((dotK_l4 _ _).trans h0) ((dotK_l5 _ _).trans h1)
  · exact entry6 B (dotK_r0 _ _) (dotK_r1 _ _) ((dotK_r2 _ _).trans h0) (dotK_r3 _ _) ((dotK_r4 _ _).trans h1) (dotK_r5 _ _)

end Cert.Proof
-- ==== Proof.RefBackward.lean ====
module

public import proofs.«01_k».proof.Proof.RefProducts

/-!
The reference's backward pass through the softmax: the gradient of the scores and of the sinks as real numbers. The term
that the derivative of the row's shift brings in is zero.
-/

@[expose] public section

namespace Cert.Proof
open Idealize.ShloMosaic Cert.ReferenceIdeal Cert.ReferenceIdeal.Gen Cert.ReferenceIdeal.Read

/-- The entries of an array of scores as real numbers, by natural coordinates; zero outside. -/
noncomputable def atScore (f : S2x32x2x4x128x256.Idx → EReal) (b n g j i k : ℕ) : ℝ :=
  if h : b < 2 ∧ n < 32 ∧ g < 2 ∧ j < 4 ∧ i < 128 ∧ k < 256 then
    (f (ix6 ⟨b, h.1⟩ ⟨n, h.2.1⟩ ⟨g, h.2.2.1⟩ ⟨j, h.2.2.2.1⟩ ⟨i, h.2.2.2.2.1⟩ ⟨k, h.2.2.2.2.2⟩)).toReal else 0
/-- The entries of a column of rows as real numbers, by natural coordinates; zero outside. -/
noncomputable def atRow (f : S2x32x2x4x128x1.Idx → EReal) (b n g j i : ℕ) : ℝ :=
  if h : b < 2 ∧ n < 32 ∧ g < 2 ∧ j < 4 ∧ i < 128 then
    (f (ix6 ⟨b, h.1⟩ ⟨n, h.2.1⟩ ⟨g, h.2.2.1⟩ ⟨j, h.2.2.2.1⟩ ⟨i, h.2.2.2.2⟩ 0)).toReal else 0

theorem atScore_idx (f : S2x32x2x4x128x256.Idx → EReal) (i : S2x32x2x4x128x256.Idx) :
    atScore f (i 0).val (i 1).val (i 2).val (i 3).val (i 4).val (i 5).val = (f i).toReal := by
  unfold atScore
  rw [dif_pos ⟨(i 0).isLt, (i 1).isLt, (i 2).isLt, (i 3).isLt, (i 4).isLt, (i 5).isLt⟩]
  refine congrArg (fun i => (f i).toReal) ?_
  exact funext fun a => match a with
    | ⟨0, _⟩ => rfl | ⟨1, _⟩ => rfl | ⟨2, _⟩ => rfl | ⟨3, _⟩ => rfl | ⟨4, _⟩ => rfl | ⟨5, _⟩ => rfl
theorem atRow_idx (f : S2x32x2x4x128x1.Idx → EReal) (i : S2x32x2x4x128x1.Idx) :
    atRow f (i 0).val (i 1).val (i 2).val (i 3).val (i 4).val = (f i).toReal := by
  unfold atRow
  rw [dif_pos ⟨(i 0).isLt, (i 1).isLt, (i 2).isLt, (i 3).isLt, (i 4).isLt⟩]
  refine congrArg (fun i => (f i).toReal) ?_
  exact funext fun a => match a with
    | ⟨0, _⟩ => rfl | ⟨1, _⟩ => rfl | ⟨2, _⟩ => rfl | ⟨3, _⟩ => rfl | ⟨4, _⟩ => rfl
    | ⟨5, _⟩ => Fin.ext (by have h : (i 5).val < 1 := (i 5).isLt; show 0 = (i 5).val; omega)

variable (x0 : (⟨S2x4096x768, .bf16⟩ : BufTy).Contents (Elt Ideal)) (x1 : (⟨S8, .f32⟩ : BufTy).Contents (Elt Ideal))
  (x2 : (⟨S2x4096x512, .bf16⟩ : BufTy).Contents (Elt Ideal)) (Z D : ℕ → ℕ → ℕ → ℝ)

/-- The softmax's numerators. -/
noncomputable def numB := atScore (val_main_v111 (F := Ideal) x0 x1)
/-- The sink's exponentials. -/
noncomputable def sinkB := atRow (val_main_v114 (F := Ideal) x0 x1)
/-- The softmax's denominators. -/
noncomputable def denB (b n g j i : ℕ) : ℝ := (∑ k ∈ Finset.range 256, numB x0 x1 b n g j i k) + sinkB x0 x1 b n g j i
/-- The probabilities. -/
noncomputable def prB (b n g j i k : ℕ) : ℝ := numB x0 x1 b n g j i k / denB x0 x1 b n g j i
/-- The probabilities' gradients: the cotangent times the values. -/
def dpB (b n g j i k : ℕ) : ℝ :=
  ∑ e ∈ Finset.range 64, D b (128 * n + i) (64 * (4 * g + j) + e) * winK 640 Z b n k g e
/-- What the denominator's gradient takes. -/
noncomputable def cB (b n g j i : ℕ) : ℝ :=
  ∑ k ∈ Finset.range 256, dpB Z D b n g j i k * (1 / (denB x0 x1 b n g j i * denB x0 x1 b n g j i)) * numB x0 x1 b n g j i k
/-- The scores' gradients, before the scale. -/
noncomputable def dsB (b n g j i k : ℕ) : ℝ :=
  (dpB Z D b n g j i k / denB x0 x1 b n g j i + -cB x0 x1 Z D b n g j i) * numB x0 x1 b n g j i k

variable (hz : ∀ i : S2x4096x768.Idx, x0 i = ((Z (i 0).val (i 1).val (i 2).val : ℝ) : EReal))
  (hx1 : ∀ i, Finite (x1 i)) (hd : ∀ i : S2x4096x512.Idx, x2 i = ((D (i 0).val (i 1).val (i 2).val : ℝ) : EReal))

section forward
include hz hx1

theorem rb111 (i : S2x32x2x4x128x256.Idx) : val_main_v111 (F := Ideal) x0 x1 i
    = ((numB x0 x1 (i 0).val (i 1).val (i 2).val (i 3).val (i 4).val (i 5).val : ℝ) : EReal) := by
  obtain ⟨r, _, hr⟩ := rv111 Z x0 hz x1 hx1 i
  unfold numB; rw [atScore_idx, hr]; rfl

theorem rb114 (i : S2x32x2x4x128x1.Idx) : val_main_v114 (F := Ideal) x0 x1 i
    = ((sinkB x0 x1 (i 0).val (i 1).val (i 2).val (i 3).val (i 4).val : ℝ) : EReal) := by
  obtain ⟨r, _, hr⟩ := rv114 Z x0 hz x1 hx1 i
  unfold sinkB; rw [atRow_idx, hr]; rfl

theorem num_nonneg (b n g j i k : ℕ) : 0 ≤ numB x0 x1 b n g j i k := by
  unfold numB atScore
  split
  · next h =>
      obtain ⟨r, h0, hr⟩ := rv111 Z x0 hz x1 hx1
        (ix6 ⟨b, h.1⟩ ⟨n, h.2.1⟩ ⟨g, h.2.2.1⟩ ⟨j, h.2.2.2.1⟩ ⟨i, h.2.2.2.2.1⟩ ⟨k, h.2.2.2.2.2⟩)
      rw [hr]; exact h0
  · exact le_refl _

/-- A hidden row's numerator is zero. -/
theorem num_hidden (b n g j i k : ℕ) (hs : seen n i k = 0#1) : numB x0 x1 b n g j i k = 0 := by
  unfold numB atScore
  split
  · next h =>
      rw [rv111_hidden Z x0 hz x1 hx1 _ (by exact hs)]; rfl
  · rfl

/-- A denominator is positive. -/
theorem den_pos (i : S2x32x2x4x128x1.Idx) : 0 < denB x0 x1 (i 0).val (i 1).val (i 2).val (i 3).val (i 4).val := by
  obtain ⟨r, h0, hr⟩ := rv114 Z x0 hz x1 hx1 i
  unfold denB
  refine add_pos_of_nonneg_of_pos (Finset.sum_nonneg fun k _ => num_nonneg x0 x1 Z hz hx1 _ _ _ _ _ k) ?_
  unfold sinkB; rw [atRow_idx, hr]; exact h0

theorem rb117 (i : S2x32x2x4x128x1.Idx) : val_main_v117 (F := Ideal) x0 x1 i
    = ((denB x0 x1 (i 0).val (i 1).val (i 2).val (i 3).val (i 4).val : ℝ) : EReal) := by
  rw [val_main_v117_apply, val_main_v116_apply, val_main_v115_apply, val_main_cst_22_apply, zero_word, EReal.coe_zero, zero_add,
    rb114 x0 x1 Z hz hx1]
  exact coe_add_of (coe_sum_of fun k => rb111 x0 x1 Z hz hx1 _) rfl

theorem den_ne (i : S2x32x2x4x128x1.Idx) : denB x0 x1 (i 0).val (i 1).val (i 2).val (i 3).val (i 4).val ≠ 0 :=
  (den_pos x0 x1 Z hz hx1 i).ne'

theorem rb119 (i : S2x32x2x4x128x256.Idx) : val_main_v119 (F := Ideal) x0 x1 i
    = ((prB x0 x1 (i 0).val (i 1).val (i 2).val (i 3).val (i 4).val (i 5).val : ℝ) : EReal) := by
  rw [val_main_v119_apply, val_main_v118_apply, rb117 x0 x1 Z hz hx1, rb111 x0 x1 Z hz hx1]
  exact div_real _ _ (den_ne x0 x1 Z hz hx1 (idx_main_v118 i))

theorem rb122 (i : S2x32x2x4x128x1.Idx) : val_main_v122 (F := Ideal) x0 x1 i
    = ((1 / (denB x0 x1 (i 0).val (i 1).val (i 2).val (i 3).val (i 4).val * denB x0 x1 (i 0).val (i 1).val (i 2).val (i 3).val (i 4).val) : ℝ) : EReal) := by
  rw [val_main_v122_apply, val_main_v121_apply, val_main_cst_23_apply, one_word, val_main_v120_apply, rb117 x0 x1 Z hz hx1]
  have h := den_ne x0 x1 Z hz hx1 i
  rw [show (FloatOps.mulf (F := Ideal) (φ := .f32) ((denB x0 x1 (i 0).val (i 1).val (i 2).val (i 3).val (i 4).val : ℝ) : EReal)
    ((denB x0 x1 (i 0).val (i 1).val (i 2).val (i 3).val (i 4).val : ℝ) : EReal) : EReal) = _ from coe_mul_of rfl rfl]
  exact div_real 1 _ (mul_ne_zero h h)
end forward

section
include hd
/-- The cotangent by block and head. -/
theorem rb126 (i : S2x32x128x2x4x64.Idx) : val_main_v126 (F := Ideal) x2 i
    = ((D (i 0).val (128 * (i 1).val + (i 2).val) (64 * (4 * (i 3).val + (i 4).val) + (i 5).val) : ℝ) : EReal) := by
  have h0 : (i 0).val < 2 := (i 0).isLt; have h1 : (i 1).val < 32 := (i 1).isLt
  have h2 : (i 2).val < 128 := (i 2).isLt; have h3 : (i 3).val < 2 := (i 3).isLt
  have h4 : (i 4).val < 4 := (i 4).isLt; have h5 : (i 5).val < 64 := (i 5).isLt
  have e : val_main_v126 (F := Ideal) x2 i = val_main_v0 (F := Ideal) x2 (fun a => match a with
      | ⟨0, _⟩ => ⟨(i 0).val, h0⟩
      | ⟨1, _⟩ => ⟨128 * (i 1).val + (i 2).val, by show _ < 4096; omega⟩
      | ⟨2, _⟩ => ⟨64 * (4 * (i 3).val + (i 4).val) + (i 5).val, by show _ < 512; omega⟩) := by
    unfold val_main_v126
    refine shapeCast_apply _ _ i _ ?_
    rw [Shape.rowMajor_val_three, rowMajor_val6 i 2097152 65536 512 256 64 rfl rfl rfl rfl rfl]
    show ((i 0).val * 4096 + (128 * (i 1).val + (i 2).val)) * 512 + (64 * (4 * (i 3).val + (i 4).val) + (i 5).val) = _
    omega
  rw [e]; exact hd _

theorem rb127 (i : S2x32x2x64x4x128.Idx) : val_main_v127 (F := Ideal) x2 i
    = ((D (i 0).val (128 * (i 1).val + (i 5).val) (64 * (4 * (i 2).val + (i 4).val) + (i 3).val) : ℝ) : EReal) := by
  rw [val_main_v127_apply, rb126 x2 D hd]

include hz
theorem rb128 (i : S2x32x2x4x128x256.Idx) : val_main_v128 (F := Ideal) x0 x2 i
    = ((dpB Z D (i 0).val (i 1).val (i 2).val (i 3).val (i 4).val (i 5).val : ℝ) : EReal) := by
  rw [val_main_v128_apply]
  exact coe_sum_of fun e => coe_mul_of (rb127 x2 D hd _) (rv22 Z x0 hz _)

include hx1
theorem rb133 (i : S2x32x2x4x128x256.Idx) : val_main_v133 (F := Ideal) x0 x1 x2 i
    = ((dpB Z D (i 0).val (i 1).val (i 2).val (i 3).val (i 4).val (i 5).val
      * (1 / (denB x0 x1 (i 0).val (i 1).val (i 2).val (i 3).val (i 4).val * denB x0 x1 (i 0).val (i 1).val (i 2).val (i 3).val (i 4).val))
      * numB x0 x1 (i 0).val (i 1).val (i 2).val (i 3).val (i 4).val (i 5).val : ℝ) : EReal) := by
  rw [val_main_v133_apply, val_main_v132_apply, val_main_v131_apply]
  exact coe_mul_of (coe_mul_of (rb128 x0 x2 Z D hz hd i) (rb122 x0 x1 Z hz hx1 _)) (rb111 x0 x1 Z hz hx1 i)

omit hz hx1 hd in
/-- A column of rows is the rows. -/
theorem column (y : (⟨S2x32x2x4x128, .f32⟩ : BufTy).Contents (Elt Ideal)) (h) (i : S2x32x2x4x128x1.Idx) :
    shapeCast S2x32x2x4x128x1 y h i = y (ix5 (i 0) (i 1) (i 2) (i 3) (i 4)) := by
  refine shapeCast_apply _ _ _ _ ?_
  rw [Shape.rowMajor_val_five, rowMajor_val6 _ 32768 1024 512 128 1 rfl rfl rfl rfl rfl]
  have h5 : (i 5).val < 1 := (i 5).isLt
  show ((((i 0).val * 32 + (i 1).val) * 2 + (i 2).val) * 4 + (i 3).val) * 128 + (i 4).val = _
  omega

theorem rb136 (i : S2x32x2x4x128x1.Idx) : val_main_v136 (F := Ideal) x0 x1 x2 i
    = ((-cB x0 x1 Z D (i 0).val (i 1).val (i 2).val (i 3).val (i 4).val : ℝ) : EReal) := by
  rw [val_main_v136_apply]
  unfold val_main_v135
  rw [column, val_main_v134_apply, val_main_cst_24_apply, zero_word, EReal.coe_zero, zero_add, EReal.coe_neg]
  exact congrArg (fun x : EReal => -x) (coe_sum_of fun k => rb133 x0 x1 x2 Z D hz hx1 hd _)

theorem rb141 (i : S2x32x2x4x128x256.Idx) : val_main_v141 (F := Ideal) x0 x1 x2 i
    = ((dpB Z D (i 0).val (i 1).val (i 2).val (i 3).val (i 4).val (i 5).val / denB x0 x1 (i 0).val (i 1).val (i 2).val (i 3).val (i 4).val
      + -cB x0 x1 Z D (i 0).val (i 1).val (i 2).val (i 3).val (i 4).val : ℝ) : EReal) := by
  rw [val_main_v141_apply, val_main_v138_apply, val_main_v137_apply, val_main_v140_apply, val_main_v139_apply, val_main_cst_25_apply,
    zero_word, EReal.coe_zero, zero_add, rb117 x0 x1 Z hz hx1, rb128 x0 x2 Z D hz hd, Fin.sum_univ_one, rb136 x0 x1 x2 Z D hz hx1 hd]
  exact coe_add_of (div_real _ _ (den_ne x0 x1 Z hz hx1 (idx_main_v137 i))) rfl

/-- The scores' gradient as the reference's backward pass leaves it before the term of the row's shift. -/
theorem rb146 (i : S2x32x2x4x128x256.Idx) : val_main_v146 (F := Ideal) x0 x1 x2 i
    = ((dsB x0 x1 Z D (i 0).val (i 1).val (i 2).val (i 3).val (i 4).val (i 5).val : ℝ) : EReal) := by
  rw [val_main_v146_apply]
  exact coe_mul_of (rb141 x0 x1 x2 Z D hz hx1 hd i) (rb111 x0 x1 Z hz hx1 i)

theorem rb142 (i : S2x32x2x4x128x1.Idx) : val_main_v142 (F := Ideal) x0 x1 x2 i
    = ((-cB x0 x1 Z D (i 0).val (i 1).val (i 2).val (i 3).val (i 4).val * sinkB x0 x1 (i 0).val (i 1).val (i 2).val (i 3).val (i 4).val : ℝ) : EReal) := by
  rw [val_main_v142_apply]
  exact coe_mul_of (rb136 x0 x1 x2 Z D hz hx1 hd i) (rb114 x0 x1 Z hz hx1 i)

omit hz hx1 hd in
/-- The gradient of the row's shift is zero: the shift does not change the softmax. -/
theorem shift_zero (b n g j i : ℕ) (hne : denB x0 x1 b n g j i ≠ 0) :
    -(-cB x0 x1 Z D b n g j i * sinkB x0 x1 b n g j i) + ∑ k ∈ Finset.range 256, -dsB x0 x1 Z D b n g j i k = 0 := by
  have hs : sinkB x0 x1 b n g j i = denB x0 x1 b n g j i - ∑ k ∈ Finset.range 256, numB x0 x1 b n g j i k := by unfold denB; ring
  have hc : cB x0 x1 Z D b n g j i * denB x0 x1 b n g j i
      = ∑ k ∈ Finset.range 256, dpB Z D b n g j i k / denB x0 x1 b n g j i * numB x0 x1 b n g j i k := by
    unfold cB
    rw [Finset.sum_mul]
    refine Finset.sum_congr rfl fun k _ => ?_
    field_simp
  have hd' : ∑ k ∈ Finset.range 256, -dsB x0 x1 Z D b n g j i k
      = -(∑ k ∈ Finset.range 256, dpB Z D b n g j i k / denB x0 x1 b n g j i * numB x0 x1 b n g j i k)
        + cB x0 x1 Z D b n g j i * ∑ k ∈ Finset.range 256, numB x0 x1 b n g j i k := by
    rw [Finset.mul_sum, ← Finset.sum_neg_distrib, ← Finset.sum_add_distrib]
    refine Finset.sum_congr rfl fun k _ => ?_
    unfold dsB; ring
  rw [hd', ← hc, hs]; ring

theorem rb150 (i : S2x32x2x4x128x1.Idx) : val_main_v150 (F := Ideal) x0 x1 x2 i = 0 := by
  have e149 : val_main_v149 (F := Ideal) x0 x1 x2 i
      = ((∑ k ∈ Finset.range 256, -dsB x0 x1 Z D (i 0).val (i 1).val (i 2).val (i 3).val (i 4).val k : ℝ) : EReal) := by
    unfold val_main_v149
    rw [column, val_main_v148_apply, val_main_cst_27_apply, zero_word, EReal.coe_zero, zero_add]
    refine coe_sum_of (f := fun k => -dsB x0 x1 Z D (i 0).val (i 1).val (i 2).val (i 3).val (i 4).val k) fun k => ?_
    rw [val_main_v147_apply, rb146 x0 x1 x2 Z D hz hx1 hd, EReal.coe_neg]
    rfl
  rw [val_main_v150_apply, val_main_v145_apply, rb142 x0 x1 x2 Z D hz hx1 hd, e149]
  refine (coe_add_of (EReal.coe_neg _).symm rfl).trans ?_
  rw [shift_zero x0 x1 Z D _ _ _ _ _ (den_ne x0 x1 Z hz hx1 i), EReal.coe_zero]

theorem rb159 (i : S2x32x2x4x128x256.Idx) : val_main_v159 (F := Ideal) x0 x1 x2 i = 0 := by
  rw [val_main_v159_apply, val_main_v158_apply, val_main_v157_apply, val_main_v156_apply, val_main_cst_29_apply, zero_word,
    EReal.coe_zero, zero_add, Fin.sum_univ_one, val_main_v155_apply, rb150 x0 x1 x2 Z D hz hx1 hd]
  have h := rv87_ne Z x0 hz (idx_main_v158 i)
  have e1 : (FloatOps.mulf (F := Ideal) (φ := .f32) (0 : EReal) (val_main_v99 (F := Ideal) x0 x1 (idx_main_v156 (idx_main_v158 i) 0)) : EReal) = 0 :=
    zero_mul _
  rw [e1]
  have e2 : (FloatOps.hostDivf (F := Ideal) (φ := .f32) (0 : EReal) (val_main_v87 (F := Ideal) x0 (idx_main_v158 i)) : EReal) = 0 := by
    show Ideal.div 0 _ = 0
    unfold Ideal.div
    rw [if_neg h, zero_mul]
  rw [e2]
  exact zero_mul _

/-- The scores' gradient after mask and scale. -/
theorem rb164 (i : S2x32x2x4x128x256.Idx) : val_main_v164 (F := Ideal) x0 x1 x2 i
    = ((dsB x0 x1 Z D (i 0).val (i 1).val (i 2).val (i 3).val (i 4).val (i 5).val * (1 / 8) : ℝ) : EReal) := by
  have e : val_main_v162 (F := Ideal) x0 x1 x2 i
      = ((dsB x0 x1 Z D (i 0).val (i 1).val (i 2).val (i 3).val (i 4).val (i 5).val : ℝ) : EReal) := by
    rw [val_main_v162_apply, rvmask, val_main_v160_apply, rb159 x0 x1 x2 Z D hz hx1 hd, rb146 x0 x1 x2 Z D hz hx1 hd]
    rw [show (FloatOps.addf (F := Ideal) (φ := .f32)
      ((dsB x0 x1 Z D (i 0).val (i 1).val (i 2).val (i 3).val (i 4).val (i 5).val : ℝ) : EReal) (0 : EReal) : EReal) = _ from add_zero _]
    rcases (by decide : ∀ s : BitVec 1, s = 0#1 ∨ s = 1#1) (seen (i 1).val (i 4).val (i 5).val) with hs | hs
    · have hds : dsB x0 x1 Z D (i 0).val (i 1).val (i 2).val (i 3).val (i 4).val (i 5).val = 0 := by
        unfold dsB; rw [num_hidden x0 x1 Z hz hx1 _ _ _ _ _ _ hs, mul_zero]
      rw [hs, hds, val_main_call1_v0_apply, val_main_call1_cst_apply]
      exact zero_word
    · rw [hs]; rfl
  rw [val_main_v164_apply, val_main_v163_apply, val_main_cst_30_apply]
  exact coe_mul_of e eighth_word

/-- The queries' gradient by window. -/
theorem rb166 (i : S2x32x2x128x4x64.Idx) : val_main_v166 (F := Ideal) x0 x1 x2 i
    = ((∑ k ∈ Finset.range 256, dsB x0 x1 Z D (i 0).val (i 1).val (i 2).val (i 4).val (i 3).val k * (1 / 8)
      * winK 512 Z (i 0).val (i 1).val k (i 2).val (i 5).val : ℝ) : EReal) := by
  rw [val_main_v166_apply]
  refine coe_sum_of (f := fun k => dsB x0 x1 Z D (i 0).val (i 1).val (i 2).val (i 4).val (i 3).val k * (1 / 8)
      * winK 512 Z (i 0).val (i 1).val k (i 2).val (i 5).val) fun k => coe_mul_of ?_ (rv15 Z x0 hz _)
  rw [val_main_v165_apply, rb164 x0 x1 x2 Z D hz hx1 hd]

/-- The keys' gradient by window. -/
theorem rb169 (i : S2x32x256x2x64.Idx) : val_main_v169 (F := Ideal) x0 x1 x2 i
    = ((∑ q ∈ Finset.range 128, ∑ j ∈ Finset.range 4, dsB x0 x1 Z D (i 0).val (i 1).val (i 3).val j q (i 2).val * (1 / 8)
      * Z (i 0).val (128 * (i 1).val + q) (64 * (4 * (i 3).val + j) + (i 4).val) : ℝ) : EReal) := by
  rw [val_main_v169_apply]
  unfold val_main_v168
  exact dotK_real _ _ (fun b n g k q j => dsB x0 x1 Z D b n g j q k * (1 / 8))
    (fun b n q g j e => Z b (128 * n + q) (64 * (4 * g + j) + e))
    (fun i => by rw [val_main_v165_apply, rb164 x0 x1 x2 Z D hz hx1 hd]) (rv8 Z x0 hz) _

/-- The values' gradient by window. -/
theorem rb130 (i : S2x32x256x2x64.Idx) : val_main_v130 (F := Ideal) x0 x1 x2 i
    = ((∑ j ∈ Finset.range 4, ∑ q ∈ Finset.range 128, D (i 0).val (128 * (i 1).val + q) (64 * (4 * (i 3).val + j) + (i 4).val)
      * prB x0 x1 (i 0).val (i 1).val (i 3).val j q (i 2).val : ℝ) : EReal) := by
  rw [val_main_v130_apply]
  unfold val_main_v129
  exact dotV_real _ _ (fun b n g e j q => D b (128 * n + q) (64 * (4 * g + j) + e)) (prB x0 x1) (rb127 x2 D hd)
    (rb119 x0 x1 Z hz hx1) _
end

end Cert.Proof
-- ==== Proof.RefGather.lean ====
module

public import Idealize.ShloMosaic.Lib.KernelVsHost
public import proofs.«01_k».proof.Proof.RefBackward

/-!
The reference's two results read at an index: the gradients of queries, keys and values side by side, each key's from the
two windows that hold it, and the sinks' gradient padded to 128 lanes.
-/

@[expose] public section

namespace Cert.Proof
open Idealize.ShloMosaic Cert.ReferenceIdeal Cert.ReferenceIdeal.Gen Cert.ReferenceIdeal.Read

/-- A window's gradient put back on the rows: the current half of the row's own window, and the previous half of the next. -/
def unwin (W : ℕ → ℕ → ℕ → ℕ → ℕ → ℝ) (b r g e : ℕ) : ℝ :=
  W b (r / 128) (128 + r % 128) g e + (if r / 128 + 1 < 32 then W b (r / 128 + 1) (r % 128) g e else 0)

/-- The second halves moved one block on, a block of zeros first. -/
theorem shiftUp (x : (⟨S2x32x128x2x64, .f32⟩ : BufTy).Contents (Elt Ideal)) (v : (⟨S_, .f32⟩ : BufTy).Contents (Elt Ideal))
    (hv : ∀ i, v i = ((0 : ℝ) : EReal)) (A : ℕ → ℕ → ℕ → ℕ → ℕ → ℝ)
    (hA : ∀ i, x i = ((A (i 0).val (i 1).val (i 2).val (i 3).val (i 4).val : ℝ) : EReal)) (h) (hu) (i : S2x33x128x2x64.Idx) :
    pad S2x33x128x2x64 ![0, 1, 0, 0, 0] ![0, 0, 0, 0, 0] ![0, 0, 0, 0, 0] x v h hu i
      = ((if 1 ≤ (i 1).val then A (i 0).val ((i 1).val - 1) (i 2).val (i 3).val (i 4).val else 0 : ℝ) : EReal) := by
  have h1 : (i 1).val < 33 := (i 1).isLt
  by_cases hle : 1 ≤ (i 1).val
  · rw [if_pos hle]
    rw [pad_apply_of_inside (t := S2x33x128x2x64) _ _ _ x v h hu i (fun a => match a with
      | ⟨0, _⟩ => ⟨(i 0).val, (i 0).isLt⟩
      | ⟨1, _⟩ => ⟨(i 1).val - 1, by show _ < 32; omega⟩
      | ⟨2, _⟩ => ⟨(i 2).val, (i 2).isLt⟩
      | ⟨3, _⟩ => ⟨(i 3).val, (i 3).isLt⟩
      | ⟨4, _⟩ => ⟨(i 4).val, (i 4).isLt⟩) (fun a => match a with
      | ⟨0, _⟩ => by show (i 0).val = 0 + (i 0).val * (0 + 1); omega
      | ⟨1, _⟩ => by show (i 1).val = 1 + ((i 1).val - 1) * (0 + 1); omega
      | ⟨2, _⟩ => by show (i 2).val = 0 + (i 2).val * (0 + 1); omega
      | ⟨3, _⟩ => by show (i 3).val = 0 + (i 3).val * (0 + 1); omega
      | ⟨4, _⟩ => by show (i 4).val = 0 + (i 4).val * (0 + 1); omega)]
    exact hA _
  · rw [if_neg hle, pad_apply_of_not_inside (t := S2x33x128x2x64) _ _ _ x v h hu i 1 (fun hc => hle hc.1)]
    exact hv _

/-- The first halves where they are, a block of zeros last. -/
theorem stay (x : (⟨S2x32x128x2x64, .f32⟩ : BufTy).Contents (Elt Ideal)) (v : (⟨S_, .f32⟩ : BufTy).Contents (Elt Ideal))
    (hv : ∀ i, v i = ((0 : ℝ) : EReal)) (A : ℕ → ℕ → ℕ → ℕ → ℕ → ℝ)
    (hA : ∀ i, x i = ((A (i 0).val (i 1).val (i 2).val (i 3).val (i 4).val : ℝ) : EReal)) (h) (hu) (i : S2x33x128x2x64.Idx) :
    pad S2x33x128x2x64 ![0, 0, 0, 0, 0] ![0, 1, 0, 0, 0] ![0, 0, 0, 0, 0] x v h hu i
      = ((if (i 1).val < 32 then A (i 0).val (i 1).val (i 2).val (i 3).val (i 4).val else 0 : ℝ) : EReal) := by
  by_cases hlt : (i 1).val < 32
  · rw [if_pos hlt]
    rw [pad_apply_of_inside (t := S2x33x128x2x64) _ _ _ x v h hu i (fun a => match a with
      | ⟨0, _⟩ => ⟨(i 0).val, (i 0).isLt⟩
      | ⟨1, _⟩ => ⟨(i 1).val, hlt⟩
      | ⟨2, _⟩ => ⟨(i 2).val, (i 2).isLt⟩
      | ⟨3, _⟩ => ⟨(i 3).val, (i 3).isLt⟩
      | ⟨4, _⟩ => ⟨(i 4).val, (i 4).isLt⟩) (fun a => match a with
      | ⟨0, _⟩ => by show (i 0).val = 0 + (i 0).val * (0 + 1); omega
      | ⟨1, _⟩ => by show (i 1).val = 0 + (i 1).val * (0 + 1); omega
      | ⟨2, _⟩ => by show (i 2).val = 0 + (i 2).val * (0 + 1); omega
      | ⟨3, _⟩ => by show (i 3).val = 0 + (i 3).val * (0 + 1); omega
      | ⟨4, _⟩ => by show (i 4).val = 0 + (i 4).val * (0 + 1); omega)]
    exact hA _
  · rw [if_neg hlt, pad_apply_of_not_inside (t := S2x33x128x2x64) _ _ _ x v h hu i 1 (fun hc => by
      have h2 : ((i 1).val - 0) / (0 + 1) < 32 := hc.2.2
      omega)]
    exact hv _

/-- The two moved halves added and read by row, the block of zeros dropped. -/
theorem unwin_of (y : (⟨S2x33x128x2x64, .f32⟩ : BufTy).Contents (Elt Ideal)) (W : ℕ → ℕ → ℕ → ℕ → ℕ → ℝ)
    (hy : ∀ i, y i = ((((if 1 ≤ (i 1).val then W (i 0).val ((i 1).val - 1) (128 + (i 2).val) (i 3).val (i 4).val else 0)
      + (if (i 1).val < 32 then W (i 0).val (i 1).val (i 2).val (i 3).val (i 4).val else 0) : ℝ)) : EReal))
    (k : S2x33x128x2x64.Idx) (b r g e : ℕ) (h0 : (k 0).val = b) (h1 : (k 1).val = r / 128 + 1) (h2 : (k 2).val = r % 128)
    (h3 : (k 3).val = g) (h4 : (k 4).val = e) : y k = ((unwin W b r g e : ℝ) : EReal) := by
  rw [hy, h0, h1, h2, h3, h4]
  unfold unwin
  rw [if_pos (Nat.le_add_left 1 _), Nat.add_sub_cancel]

/-- A quantity put in columns `o` to `o + w` of the 768, zeros elsewhere. -/
theorem columns (o w hi : ℕ) (x : (⟨⟨3, ![2, 4096, w]⟩, .f32⟩ : BufTy).Contents (Elt Ideal))
    (v : (⟨S_, .f32⟩ : BufTy).Contents (Elt Ideal)) (hv : ∀ i, v i = ((0 : ℝ) : EReal)) (A : ℕ → ℕ → ℕ → ℝ)
    (hA : ∀ i, x i = ((A (i 0).val (i 1).val (i 2).val : ℝ) : EReal)) (h) (hu) (i : S2x4096x768.Idx) :
    pad S2x4096x768 ![0, 0, o] ![0, 0, hi] ![0, 0, 0] x v h hu i
      = ((if o ≤ (i 2).val ∧ (i 2).val - o < w then A (i 0).val (i 1).val ((i 2).val - o) else 0 : ℝ) : EReal) := by
  by_cases hin : o ≤ (i 2).val ∧ (i 2).val - o < w
  · rw [if_pos hin]
    have ho := hin.1
    rw [pad_apply_of_inside (t := S2x4096x768) _ _ _ x v h hu i (fun a => match a with
      | ⟨0, _⟩ => ⟨(i 0).val, (i 0).isLt⟩
      | ⟨1, _⟩ => ⟨(i 1).val, (i 1).isLt⟩
      | ⟨2, _⟩ => ⟨(i 2).val - o, hin.2⟩) (fun a => match a with
      | ⟨0, _⟩ => by show (i 0).val = 0 + (i 0).val * (0 + 1); omega
      | ⟨1, _⟩ => by show (i 1).val = 0 + (i 1).val * (0 + 1); omega
      | ⟨2, _⟩ => by show (i 2).val = o + ((i 2).val - o) * (0 + 1); omega)]
    exact hA _
  · rw [if_neg hin, pad_apply_of_not_inside (t := S2x4096x768) _ _ _ x v h hu i 2 (fun hc => hin ⟨hc.1, by
      have h2 : ((i 2).val - o) / (0 + 1) < w := hc.2.2
      omega⟩)]
    exact hv _

variable (x0 : (⟨S2x4096x768, .bf16⟩ : BufTy).Contents (Elt Ideal)) (x1 : (⟨S8, .f32⟩ : BufTy).Contents (Elt Ideal))
  (x2 : (⟨S2x4096x512, .bf16⟩ : BufTy).Contents (Elt Ideal)) (Z D : ℕ → ℕ → ℕ → ℝ)

/-- The values' gradient of window `n`. -/
noncomputable def dvB (b n k g e : ℕ) : ℝ :=
  ∑ j ∈ Finset.range 4, ∑ q ∈ Finset.range 128, D b (128 * n + q) (64 * (4 * g + j) + e) * prB x0 x1 b n g j q k
/-- The keys' gradient of window `n`. -/
noncomputable def dkB (b n k g e : ℕ) : ℝ :=
  ∑ q ∈ Finset.range 128, ∑ j ∈ Finset.range 4, dsB x0 x1 Z D b n g j q k * (1 / 8) * Z b (128 * n + q) (64 * (4 * g + j) + e)
/-- The queries' gradient. -/
noncomputable def dqB (b n i g j e : ℕ) : ℝ :=
  ∑ k ∈ Finset.range 256, dsB x0 x1 Z D b n g j i k * (1 / 8) * winK 512 Z b n k g e

variable (hz : ∀ i : S2x4096x768.Idx, x0 i = ((Z (i 0).val (i 1).val (i 2).val : ℝ) : EReal))
  (hx1 : ∀ i, Finite (x1 i)) (hd : ∀ i : S2x4096x512.Idx, x2 i = ((D (i 0).val (i 1).val (i 2).val : ℝ) : EReal))
include hz hx1 hd

theorem rg174 (i : S2x33x128x2x64.Idx) : val_main_v174 (F := Ideal) x0 x1 x2 i
    = ((((if 1 ≤ (i 1).val then dvB x0 x1 D (i 0).val ((i 1).val - 1) (128 + (i 2).val) (i 3).val (i 4).val else 0)
      + (if (i 1).val < 32 then dvB x0 x1 D (i 0).val (i 1).val (i 2).val (i 3).val (i 4).val else 0) : ℝ)) : EReal) := by
  rw [val_main_v174_apply]
  unfold val_main_v172 val_main_v173
  refine coe_add_of ?_ ?_
  · exact shiftUp _ _ (fun _ => zero_word) (fun b n k g e => dvB x0 x1 D b n (128 + k) g e)
      (fun i => by rw [val_main_v171_apply, rb130 x0 x1 x2 Z D hz hx1 hd]; rfl) _ _ i
  · exact stay _ _ (fun _ => zero_word) (dvB x0 x1 D)
      (fun i => by rw [val_main_v170_apply, rb130 x0 x1 x2 Z D hz hx1 hd]; rfl) _ _ i

theorem rg182 (i : S2x33x128x2x64.Idx) : val_main_v182 (F := Ideal) x0 x1 x2 i
    = ((((if 1 ≤ (i 1).val then dkB x0 x1 Z D (i 0).val ((i 1).val - 1) (128 + (i 2).val) (i 3).val (i 4).val else 0)
      + (if (i 1).val < 32 then dkB x0 x1 Z D (i 0).val (i 1).val (i 2).val (i 3).val (i 4).val else 0) : ℝ)) : EReal) := by
  rw [val_main_v182_apply]
  unfold val_main_v180 val_main_v181
  refine coe_add_of ?_ ?_
  · exact shiftUp _ _ (fun _ => zero_word) (fun b n k g e => dkB x0 x1 Z D b n (128 + k) g e)
      (fun i => by rw [val_main_v179_apply, rb169 x0 x1 x2 Z D hz hx1 hd]; rfl) _ _ i
  · exact stay _ _ (fun _ => zero_word) (dkB x0 x1 Z D)
      (fun i => by rw [val_main_v178_apply, rb169 x0 x1 x2 Z D hz hx1 hd]; rfl) _ _ i

/-- The values' gradient by row and column. -/
theorem rg187 (i : S2x4096x128.Idx) : val_main_v187 (F := Ideal) x0 x1 x2 i
    = ((unwin (dvB x0 x1 D) (i 0).val (i 1).val ((i 2).val / 64) ((i 2).val % 64) : ℝ) : EReal) := by
  have h0 : (i 0).val < 2 := (i 0).isLt; have h1 : (i 1).val < 4096 := (i 1).isLt; have h2 : (i 2).val < 128 := (i 2).isLt
  have e : val_main_v187 (F := Ideal) x0 x1 x2 i = val_main_v177 (F := Ideal) x0 x1 x2 (fun a => match a with
      | ⟨0, _⟩ => ⟨(i 0).val, h0⟩
      | ⟨1, _⟩ => ⟨(i 1).val, h1⟩
      | ⟨2, _⟩ => ⟨(i 2).val / 64, by show _ < 2; omega⟩
      | ⟨3, _⟩ => ⟨(i 2).val % 64, by show _ < 64; omega⟩) := by
    unfold val_main_v187
    refine shapeCast_apply _ _ i _ ?_
    rw [Shape.rowMajor_val_three, Shape.rowMajor_val_four]
    show (((i 0).val * 4096 + (i 1).val) * 2 + (i 2).val / 64) * 64 + (i 2).val % 64 = ((i 0).val * 4096 + (i 1).val) * 128 + (i 2).val
    omega
  rw [e, val_main_v177_apply]
  unfold val_main_v175
  rw [shapeCast_apply _ _ _ (fun a => match a with
      | ⟨0, _⟩ => ⟨(i 0).val, h0⟩
      | ⟨1, _⟩ => ⟨(i 1).val / 128 + 1, by show _ < 33; omega⟩
      | ⟨2, _⟩ => ⟨(i 1).val % 128, by show _ < 128; omega⟩
      | ⟨3, _⟩ => ⟨(i 2).val / 64, by show _ < 2; omega⟩
      | ⟨4, _⟩ => ⟨(i 2).val % 64, by show _ < 64; omega⟩ : S2x33x128x2x64.Idx) (by
    rw [Shape.rowMajor_val_five, Shape.rowMajor_val_four]
    show ((((i 0).val * 33 + ((i 1).val / 128 + 1)) * 128 + (i 1).val % 128) * 2 + (i 2).val / 64) * 64 + (i 2).val % 64
      = (((i 0).val * 4224 + (128 + (i 1).val)) * 2 + (i 2).val / 64) * 64 + (i 2).val % 64
    omega)]
  exact unwin_of _ _ (rg174 x0 x1 x2 Z D hz hx1 hd) _ _ _ _ _ rfl rfl rfl rfl rfl

/-- The keys' gradient by row and column. -/
theorem rg189 (i : S2x4096x128.Idx) : val_main_v189 (F := Ideal) x0 x1 x2 i
    = ((unwin (dkB x0 x1 Z D) (i 0).val (i 1).val ((i 2).val / 64) ((i 2).val % 64) : ℝ) : EReal) := by
  have h0 : (i 0).val < 2 := (i 0).isLt; have h1 : (i 1).val < 4096 := (i 1).isLt; have h2 : (i 2).val < 128 := (i 2).isLt
  have e : val_main_v189 (F := Ideal) x0 x1 x2 i = val_main_v185 (F := Ideal) x0 x1 x2 (fun a => match a with
      | ⟨0, _⟩ => ⟨(i 0).val, h0⟩
      | ⟨1, _⟩ => ⟨(i 1).val, h1⟩
      | ⟨2, _⟩ => ⟨(i 2).val / 64, by show _ < 2; omega⟩
      | ⟨3, _⟩ => ⟨(i 2).val % 64, by show _ < 64; omega⟩) := by
    unfold val_main_v189
    refine shapeCast_apply _ _ i _ ?_
    rw [Shape.rowMajor_val_three, Shape.rowMajor_val_four]
    show (((i 0).val * 4096 + (i 1).val) * 2 + (i 2).val / 64) * 64 + (i 2).val % 64 = ((i 0).val * 4096 + (i 1).val) * 128 + (i 2).val
    omega
  rw [e, val_main_v185_apply]
  unfold val_main_v183
  rw [shapeCast_apply _ _ _ (fun a => match a with
      | ⟨0, _⟩ => ⟨(i 0).val, h0⟩
      | ⟨1, _⟩ => ⟨(i 1).val / 128 + 1, by show _ < 33; omega⟩
      | ⟨2, _⟩ => ⟨(i 1).val % 128, by show _ < 128; omega⟩
      | ⟨3, _⟩ => ⟨(i 2).val / 64, by show _ < 2; omega⟩
      | ⟨4, _⟩ => ⟨(i 2).val % 64, by show _ < 64; omega⟩ : S2x33x128x2x64.Idx) (by
    rw [Shape.rowMajor_val_five, Shape.rowMajor_val_four]
    show ((((i 0).val * 33 + ((i 1).val / 128 + 1)) * 128 + (i 1).val % 128) * 2 + (i 2).val / 64) * 64 + (i 2).val % 64
      = (((i 0).val * 4224 + (128 + (i 1).val)) * 2 + (i 2).val / 64) * 64 + (i 2).val % 64
    omega)]
  exact unwin_of _ _ (rg182 x0 x1 x2 Z D hz hx1 hd) _ _ _ _ _ rfl rfl rfl rfl rfl

/-- The queries' gradient by row and column. -/
theorem rg192 (i : S2x4096x512.Idx) : val_main_v192 (F := Ideal) x0 x1 x2 i
    = ((dqB x0 x1 Z D (i 0).val ((i 1).val / 128) ((i 1).val % 128) ((i 2).val / 256) ((i 2).val / 64 % 4) ((i 2).val % 64) : ℝ) : EReal) := by
  have h0 : (i 0).val < 2 := (i 0).isLt; have h1 : (i 1).val < 4096 := (i 1).isLt; have h2 : (i 2).val < 512 := (i 2).isLt
  have e : val_main_v192 (F := Ideal) x0 x1 x2 i = val_main_v186 (F := Ideal) x0 x1 x2 (fun a => match a with
      | ⟨0, _⟩ => ⟨(i 0).val, h0⟩
      | ⟨1, _⟩ => ⟨(i 1).val, h1⟩
      | ⟨2, _⟩ => ⟨(i 2).val / 64, by show _ < 8; omega⟩
      | ⟨3, _⟩ => ⟨(i 2).val % 64, by show _ < 64; omega⟩) := by
    unfold val_main_v192
    refine shapeCast_apply _ _ i _ ?_
    rw [Shape.rowMajor_val_three, Shape.rowMajor_val_four]
    show (((i 0).val * 4096 + (i 1).val) * 8 + (i 2).val / 64) * 64 + (i 2).val % 64 = ((i 0).val * 4096 + (i 1).val) * 512 + (i 2).val
    omega
  rw [e]
  unfold val_main_v186
  rw [shapeCast_apply _ _ _ (ix6 ⟨(i 0).val, h0⟩ ⟨(i 1).val / 128, by omega⟩ ⟨(i 1).val % 128, by omega⟩ ⟨(i 2).val / 256, by omega⟩
      ⟨(i 2).val / 64 % 4, by omega⟩ ⟨(i 2).val % 64, by omega⟩ : S2x32x128x2x4x64.Idx) (by
    rw [rowMajor_val6 _ 2097152 65536 512 256 64 rfl rfl rfl rfl rfl, Shape.rowMajor_val_four]
    show (i 0).val * 2097152 + (i 1).val / 128 * 65536 + (i 1).val % 128 * 512 + (i 2).val / 256 * 256 + (i 2).val / 64 % 4 * 64
      + (i 2).val % 64 = (((i 0).val * 4096 + (i 1).val) * 8 + (i 2).val / 64) * 64 + (i 2).val % 64
    omega), val_main_v167_apply, rb166 x0 x1 x2 Z D hz hx1 hd]
  rfl

/-- The gradients side by side. -/
theorem rg195 (i : S2x4096x768.Idx) : val_main_v195 (F := Ideal) x0 x1 x2 i
    = (((if 640 ≤ (i 2).val ∧ (i 2).val - 640 < 128 then
          unwin (dvB x0 x1 D) (i 0).val (i 1).val (((i 2).val - 640) / 64) (((i 2).val - 640) % 64) else 0)
      + (if 512 ≤ (i 2).val ∧ (i 2).val - 512 < 128 then
          unwin (dkB x0 x1 Z D) (i 0).val (i 1).val (((i 2).val - 512) / 64) (((i 2).val - 512) % 64) else 0)
      + (if 0 ≤ (i 2).val ∧ (i 2).val - 0 < 512 then
          dqB x0 x1 Z D (i 0).val ((i 1).val / 128) ((i 1).val % 128) (((i 2).val - 0) / 256) (((i 2).val - 0) / 64 % 4)
            (((i 2).val - 0) % 64) else 0) : ℝ) : EReal) := by
  rw [val_main_v195_apply]
  refine Eq.trans (b := val_main_v194 (F := Ideal) x0 x1 x2 i) rfl ?_
  rw [val_main_v194_apply, val_main_v191_apply]
  unfold val_main_v188 val_main_v190 val_main_v193
  refine coe_add_of (coe_add_of ?_ ?_) ?_
  · exact columns 640 128 0 _ _ (fun _ => zero_word) (fun b r c => unwin (dvB x0 x1 D) b r (c / 64) (c % 64))
      (rg187 x0 x1 x2 Z D hz hx1 hd) _ _ i
  · exact columns 512 128 128 _ _ (fun _ => zero_word) (fun b r c => unwin (dkB x0 x1 Z D) b r (c / 64) (c % 64))
      (rg189 x0 x1 x2 Z D hz hx1 hd) _ _ i
  · exact columns 0 512 256 _ _ (fun _ => zero_word)
      (fun b r c => dqB x0 x1 Z D b (r / 128) (r % 128) (c / 256) (c / 64 % 4) (c % 64)) (rg192 x0 x1 x2 Z D hz hx1 hd) _ _ i

end Cert.Proof
-- ==== Proof.RefSinks.lean ====
module

public import proofs.«01_k».proof.Proof.RefGather

/-!
The reference's gradient of the sinks: the sum over batch, blocks and queries, padded with zeros to 128 lanes.
-/

@[expose] public section

namespace Cert.Proof
open Idealize.ShloMosaic Cert.ReferenceIdeal Cert.ReferenceIdeal.Gen Cert.ReferenceIdeal.Read

/-- The index of a column of rows with group and head fixed. -/
def lane6 (j : S2x4x1.Idx) (p : Fin 2 × Fin 32 × Fin 128) : S2x32x2x4x128x1.Idx := ix6 p.1 p.2.1 (j 0) (j 1) p.2.2 (j 2)

theorem lane6_inj (j : S2x4x1.Idx) : Function.Injective (lane6 j) := fun _ _ e =>
  Prod.ext (congrFun e 0) (Prod.ext (congrFun e 1) (congrFun e 4))

/-- The indices of a lane are those that drop to it. -/
theorem lane6_fiber (j : S2x4x1.Idx) (i : S2x32x2x4x128x1.Idx) :
    reducesTo_S2x32x2x4x128x1_S2x4x1_d0_1_4.drop i = j ↔ ∃ p, lane6 j p = i := by
  constructor
  · rintro rfl
    exact ⟨(i 0, i 1, i 4), funext fun a => match a with
      | ⟨0, _⟩ => rfl | ⟨1, _⟩ => rfl | ⟨2, _⟩ => rfl | ⟨3, _⟩ => rfl | ⟨4, _⟩ => rfl | ⟨5, _⟩ => rfl⟩
  · rintro ⟨p, rfl⟩
    exact funext fun b => match b with | ⟨0, _⟩ => rfl | ⟨1, _⟩ => rfl | ⟨2, _⟩ => rfl

/-- A sum over batch, block and query. -/
theorem laneSum (y : FVec Ideal S2x32x2x4x128x1 .f32) (v : FVec Ideal S_ .f32) (hv : ∀ i, v i = ((0 : ℝ) : EReal))
    (A : ℕ → ℕ → ℕ → ℕ → ℕ → ℝ) (hA : ∀ i, y i = ((A (i 0).val (i 1).val (i 2).val (i 3).val (i 4).val : ℝ) : EReal)) (hu)
    (j : S2x4x1.Idx) : Host.reduceAdd y v reducesTo_S2x32x2x4x128x1_S2x4x1_d0_1_4 hu j
      = ((∑ b ∈ Finset.range 2, ∑ n ∈ Finset.range 32, ∑ i ∈ Finset.range 128, A b n (j 0).val (j 1).val i : ℝ) : EReal) := by
  show Ideal.hostReduceAdd reducesTo_S2x32x2x4x128x1_S2x4x1_d0_1_4 y (v (Shape.Idx.first hu)) j = _
  rw [hv]
  show ((0 : ℝ) : EReal) + ∑ i ∈ Finset.univ.filter (fun i => reducesTo_S2x32x2x4x128x1_S2x4x1_d0_1_4.drop i = j), y i = _
  rw [Finset.sum_filter_eq_sum_of_fiber _ (lane6 j) (lane6_inj j) (lane6_fiber j) y, Fintype.sum_prod_type, EReal.coe_zero, zero_add]
  refine coe_sum_of (f := fun b => ∑ n ∈ Finset.range 32, ∑ i ∈ Finset.range 128, A b n (j 0).val (j 1).val i) fun b => ?_
  rw [Fintype.sum_prod_type]
  refine coe_sum_of (f := fun n => ∑ i ∈ Finset.range 128, A b.val n (j 0).val (j 1).val i) fun n => ?_
  exact coe_sum_of (f := fun i => A b.val n.val (j 0).val (j 1).val i) fun i => hA _

variable (x0 : (⟨S2x4096x768, .bf16⟩ : BufTy).Contents (Elt Ideal)) (x1 : (⟨S8, .f32⟩ : BufTy).Contents (Elt Ideal))
  (x2 : (⟨S2x4096x512, .bf16⟩ : BufTy).Contents (Elt Ideal)) (Z D : ℕ → ℕ → ℕ → ℝ)

/-- The gradient of the sink of head `4 g + j`. -/
noncomputable def sinksB (g j : ℕ) : ℝ :=
  ∑ b ∈ Finset.range 2, ∑ n ∈ Finset.range 32, ∑ i ∈ Finset.range 128, -cB x0 x1 Z D b n g j i * sinkB x0 x1 b n g j i

variable (hz : ∀ i : S2x4096x768.Idx, x0 i = ((Z (i 0).val (i 1).val (i 2).val : ℝ) : EReal))
  (hx1 : ∀ i, Finite (x1 i)) (hd : ∀ i : S2x4096x512.Idx, x2 i = ((D (i 0).val (i 1).val (i 2).val : ℝ) : EReal))
include hz hx1 hd

theorem rs144 (i : S1x1x2x4x1x1.Idx) : val_main_v144 (F := Ideal) x0 x1 x2 i
    = ((sinksB x0 x1 Z D (i 2).val (i 3).val : ℝ) : EReal) := by
  have h0 : (i 0).val < 1 := (i 0).isLt; have h1 : (i 1).val < 1 := (i 1).isLt
  have h4 : (i 4).val < 1 := (i 4).isLt; have h5 : (i 5).val < 1 := (i 5).isLt
  unfold val_main_v144
  rw [shapeCast_apply _ _ _ (fun a => match a with
      | ⟨0, _⟩ => ⟨(i 2).val, (i 2).isLt⟩ | ⟨1, _⟩ => ⟨(i 3).val, (i 3).isLt⟩ | ⟨2, _⟩ => ⟨0, Nat.one_pos⟩ : S2x4x1.Idx) (by
    rw [Shape.rowMajor_val_three, rowMajor_val6 i 8 8 4 1 1 rfl rfl rfl rfl rfl]
    show ((i 2).val * 4 + (i 3).val) * 1 + 0 = _
    omega)]
  unfold val_main_v143
  exact laneSum _ _ (fun _ => zero_word) (fun b n g j i => -cB x0 x1 Z D b n g j i * sinkB x0 x1 b n g j i)
    (rb142 x0 x1 x2 Z D hz hx1 hd) _ _

theorem rs153 (i : S1x1x2x4x1x1.Idx) : val_main_v153 (F := Ideal) x0 x1 x2 i = ((0 : ℝ) : EReal) := by
  unfold val_main_v153 shapeCast val_main_v152
  rw [laneSum (val_main_v151 (F := Ideal) x0 x1 x2) (val_main_cst_28 (F := Ideal)) (fun _ => zero_word) (fun _ _ _ _ _ => 0) (fun i => by
    rw [val_main_v151_apply, rb150 x0 x1 x2 Z D hz hx1 hd, EReal.coe_zero]; exact zero_mul _)]
  simp

/-- The sinks' gradient by lane. -/
theorem rg197 (i : S1x128.Idx) : val_main_v197 (F := Ideal) x0 x1 x2 i
    = ((if (i 1).val < 8 then sinksB x0 x1 Z D ((i 1).val / 4) ((i 1).val % 4) else 0 : ℝ) : EReal) := by
  have h0 : (i 0).val < 1 := (i 0).isLt; have h1 : (i 1).val < 128 := (i 1).isLt
  rw [val_main_v197_apply]
  unfold val_main_v196
  have ei : (idx_main_v197 i 0).val = (i 1).val := by show (i 0).val * 128 + (i 1).val = _; omega
  by_cases hl : (i 1).val < 8
  · rw [if_pos hl]
    rw [pad_apply_of_inside (t := S128) _ _ _ (val_main_v161 (F := Ideal) x0 x1 x2) _ pads_S8_S128_01200 h_S_ (idx_main_v197 i)
      (fun a => match a with | ⟨0, _⟩ => ⟨(i 1).val, hl⟩) (fun a => match a with
      | ⟨0, _⟩ => by show (i 0).val * 128 + (i 1).val = 0 + (i 1).val * (0 + 1); omega)]
    unfold val_main_v161
    rw [shapeCast_apply _ _ _ (ix6 0 0 ⟨(i 1).val / 4, by omega⟩ ⟨(i 1).val % 4, by omega⟩ 0 0 : S1x1x2x4x1x1.Idx) (by
      rw [Shape.rowMajor_val_one, rowMajor_val6 _ 8 8 4 1 1 rfl rfl rfl rfl rfl]
      show 0 * 8 + 0 * 8 + (i 1).val / 4 * 4 + (i 1).val % 4 * 1 + 0 * 1 + 0 = (i 1).val
      omega), val_main_v154_apply, rs153 x0 x1 x2 Z D hz hx1 hd, rs144 x0 x1 x2 Z D hz hx1 hd]
    exact (coe_add_of rfl rfl).trans (by rw [add_zero]; rfl)
  · rw [if_neg hl, pad_apply_of_not_inside (t := S128) _ _ _ _ _ pads_S8_S128_01200 h_S_ (idx_main_v197 i) 0 (fun hc => by
      have h2 : ((idx_main_v197 i 0).val - 0) / (0 + 1) < 8 := hc.2.2
      rw [ei] at h2; omega)]
    rw [val_main_call2_v0_apply, val_main_c_38_apply]
    show (((0#32 : BitVec 32).toInt : ℝ) : EReal) = _
    simp

end Cert.Proof
-- ==== Proof.Match.lean ====
module

public import proofs.«01_k».proof.Proof.RefSinks
public import proofs.«01_k».proof.Proof.Fold

/-!
The kernel's blocks are the reference's gradients, as real numbers: where the window reaches before the first block the
kernel multiplies rows of that block by probabilities that are zero, and the reference rows of zeros.
-/

@[expose] public section

namespace Cert.Proof
open Idealize.ShloMosaic Cert.ReferenceIdeal Cert.ReferenceIdeal.Gen Cert.ReferenceIdeal.Read

variable (x0 : (⟨S2x4096x768, .bf16⟩ : BufTy).Contents (Elt Ideal)) (x1 : (⟨S8, .f32⟩ : BufTy).Contents (Elt Ideal))
  (Z D : ℕ → ℕ → ℕ → ℝ)

/-- The probabilities by head. -/
noncomputable def probK (b n h i k : ℕ) : ℝ := prB x0 x1 b n (h / 4) (h % 4) i k
/-- The sinks' probabilities by row and lane. -/
noncomputable def sinkK (b t l : ℕ) : ℝ :=
  if l < 8 then sinkB x0 x1 b (t / 128) (l / 4) (l % 4) (t % 128) / denB x0 x1 b (t / 128) (l / 4) (l % 4) (t % 128) else 0

variable (hz : ∀ i : S2x4096x768.Idx, x0 i = ((Z (i 0).val (i 1).val (i 2).val : ℝ) : EReal)) (hx1 : ∀ i, Finite (x1 i))
include hz hx1

theorem den_ne_nat (b n g j i : ℕ) (hb : b < 2) (hn : n < 32) (hg : g < 2) (hj : j < 4) (hi : i < 128) : denB x0 x1 b n g j i ≠ 0 :=
  den_ne x0 x1 Z hz hx1 (Idealize.ShloMosaic.ix6 ⟨b, hb⟩ ⟨n, hn⟩ ⟨g, hg⟩ ⟨j, hj⟩ ⟨i, hi⟩ 0)

/-- The probabilities before the first block are zero. -/
theorem pr_before (b g j i k : ℕ) (hi : i < 128) (hk : k < 128) : prB x0 x1 b 0 g j i k = 0 := by
  unfold prB; rw [num_hidden x0 x1 Z hz hx1 b 0 g j i k (seen_before i k hi hk), zero_div]
theorem ds_before (b g j i k : ℕ) (hi : i < 128) (hk : k < 128) : dsB x0 x1 Z D b 0 g j i k = 0 := by
  unfold dsB; rw [num_hidden x0 x1 Z hz hx1 b 0 g j i k (seen_before i k hi hk), mul_zero]

omit hz hx1 in
/-- Off the start, the kernel's window of keys or values is the reference's. -/
theorem win_eq (o b n k g e : ℕ) (hn : n < 32) (hk : k < 256) (h : n ≠ 0 ∨ 128 ≤ k) (t : ℕ) (ht : t / 32 = b) (htn : 31 - t % 32 = n) :
    catR (prevB o Z t) (curB o Z t) k (64 * g + e) = winK o Z b n k g e := by
  unfold catR winK padK prevB curB
  rw [ht, htn]
  by_cases hk1 : k < 128
  · have hn0 : n ≠ 0 := h.resolve_right (by omega)
    rw [if_pos hk1, if_neg (by omega)]
    congr 1; omega
  · rw [if_neg hk1, if_neg (by omega)]
    congr 1; omega

/-- A probability times its gradient, as the kernel and as the reference have it. -/
theorem pr_dp (b n g j i k : ℕ) (hb : b < 2) (hn : n < 32) (hj : j < 4) (hi : i < 128) (hk : k < 256) (t : ℕ) (ht : t / 32 = b)
    (htn : 31 - t % 32 = n) :
    probB (probK x0 x1) t (4 * g + j) i k * dpR (curB 0 D t) (vT Z t) (4 * g + j) i k
      = prB x0 x1 b n g j i k * dpB Z D b n g j i k := by
  have eg : (4 * g + j) / 4 = g := by omega
  have ej : (4 * g + j) % 4 = j := by omega
  unfold probB probK
  rw [ht, htn, eg, ej]
  by_cases h : n ≠ 0 ∨ 128 ≤ k
  · congr 1
    unfold dpR dpB
    refine Finset.sum_congr rfl fun e _ => ?_
    rw [eg]
    congr 1
    · unfold curB; rw [ht, htn, Nat.mul_comm n 128, Nat.zero_add]
    · exact win_eq Z 640 b n k g e hn hk h t ht htn
  · push Not at h
    obtain ⟨rfl, hk1⟩ := h
    rw [pr_before x0 x1 Z hz hx1 b g j i k hi hk1, zero_mul, zero_mul]

/-- The row's sum of probability times gradient, times the denominator, is what the reference's denominator takes. -/
theorem rowdot_eq (b n g j i : ℕ) (hb : b < 2) (hn : n < 32) (hj : j < 4) (hi : i < 128) (t : ℕ) (ht : t / 32 = b)
    (htn : 31 - t % 32 = n) :
    rowdot (probB (probK x0 x1) t (4 * g + j)) (dpR (curB 0 D t) (vT Z t) (4 * g + j)) i 0
      = cB x0 x1 Z D b n g j i * denB x0 x1 b n g j i := by
  unfold rowdot cB
  rw [Finset.sum_mul]
  refine Finset.sum_congr rfl fun k hk => ?_
  rw [pr_dp x0 x1 Z D hz hx1 b n g j i k hb hn hj hi (Finset.mem_range.mp hk) t ht htn]
  unfold prB
  by_cases h : denB x0 x1 b n g j i = 0
  · rw [h]; simp
  · field_simp

/-- The scores' gradient as the kernel and as the reference have it. -/
theorem ds_eq (b n g j i k : ℕ) (hb : b < 2) (hn : n < 32) (hg : g < 2) (hj : j < 4) (hi : i < 128) (hk : k < 256) (t : ℕ)
    (ht : t / 32 = b) (htn : 31 - t % 32 = n) :
    dsH (probB (probK x0 x1) t) (curB 0 D t) (vT Z t) (4 * g + j) i k = dsB x0 x1 Z D b n g j i k := by
  have hne := den_ne_nat x0 x1 Z hz hx1 b n g j i hb hn hg hj hi
  unfold dsH dsR
  rw [mul_sub, pr_dp x0 x1 Z D hz hx1 b n g j i k hb hn hj hi hk t ht htn, rowdot_eq x0 x1 Z D hz hx1 b n g j i hb hn hj hi t ht htn]
  have ep : probB (probK x0 x1) t (4 * g + j) i k = prB x0 x1 b n g j i k := by
    unfold probB probK
    rw [ht, htn, show (4 * g + j) / 4 = g by omega, show (4 * g + j) % 4 = j by omega]
  rw [ep]
  unfold dsB prB
  field_simp
  ring

/-- The queries' gradient. -/
theorem gq_eq (b n i c : ℕ) (hb : b < 2) (hn : n < 32) (hi : i < 128) (hc : c < 512) (t : ℕ) (ht : t / 32 = b) (htn : 31 - t % 32 = n) :
    gqR (probB (probK x0 x1) t) (curB 0 D t) (kT Z t) (vT Z t) i c = dqB x0 x1 Z D b n i (c / 256) (c / 64 % 4) (c % 64) := by
  unfold gqR dqB
  rw [Finset.sum_mul]
  refine Finset.sum_congr rfl fun k hk => ?_
  have hk := Finset.mem_range.mp hk
  have eh : c / 64 = 4 * (c / 256) + c / 64 % 4 := by omega
  rw [show dsH (probB (probK x0 x1) t) (curB 0 D t) (vT Z t) (c / 64) i k = dsB x0 x1 Z D b n (c / 256) (c / 64 % 4) i k by
    rw [eh, ds_eq x0 x1 Z D hz hx1 b n (c / 256) (c / 64 % 4) i k hb hn (by omega) (by omega) hi hk t ht htn]
    congr 1 <;> omega]
  by_cases h : n ≠ 0 ∨ 128 ≤ k
  · unfold kT
    rw [win_eq Z 512 b n k (c / 256) (c % 64) hn hk h t ht htn]
    ring
  · push Not at h
    obtain ⟨rfl, hk1⟩ := h
    rw [ds_before x0 x1 Z D hz hx1 b _ _ i k hi hk1]
    ring

/-- The keys' gradient of a window. -/
theorem gk_eq (b n r c : ℕ) (hb : b < 2) (hn : n < 32) (hr : r < 256) (hc : c < 128) (t : ℕ) (ht : t / 32 = b) (htn : 31 - t % 32 = n) :
    gkR (probB (probK x0 x1) t) (curB 0 D t) (curB 0 Z t) (vT Z t) r c = dkB x0 x1 Z D b n r (c / 64) (c % 64) := by
  unfold gkR dkB
  rw [Finset.sum_mul, Finset.sum_comm]
  refine Finset.sum_congr rfl fun j hj => ?_
  rw [Finset.sum_mul]
  refine Finset.sum_congr rfl fun i hi => ?_
  rw [ds_eq x0 x1 Z D hz hx1 b n (c / 64) j i r hb hn (by omega) (Finset.mem_range.mp hj) (Finset.mem_range.mp hi) hr t ht htn]
  unfold curB
  rw [ht, htn, Nat.mul_comm n 128, Nat.zero_add]
  ring

omit hz hx1 in
/-- The values' gradient of a window. -/
theorem gv_eq (b n r c : ℕ) (t : ℕ) (ht : t / 32 = b) (htn : 31 - t % 32 = n) :
    gvR (probB (probK x0 x1) t) (curB 0 D t) r c = dvB x0 x1 D b n r (c / 64) (c % 64) := by
  unfold gvR dvB
  refine Finset.sum_congr rfl fun j hj => Finset.sum_congr rfl fun i _ => ?_
  have hj := Finset.mem_range.mp hj
  unfold probB probK curB
  rw [ht, htn, Nat.mul_comm n 128, Nat.zero_add, show (4 * (c / 64) + j) / 4 = c / 64 by omega, show (4 * (c / 64) + j) % 4 = j by omega]
  ring

/-- The block a point writes holds the reference's gradients. -/
theorem blk_eq (b r c : ℕ) (hb : b < 2) (hr : r < 4096) (hc : c < 768) :
    blkT Z D (probK x0 x1) (ptOf b r) (r % 128) c
      = (if 640 ≤ c ∧ c - 640 < 128 then unwin (dvB x0 x1 D) b r ((c - 640) / 64) ((c - 640) % 64) else 0)
        + (if 512 ≤ c ∧ c - 512 < 128 then unwin (dkB x0 x1 Z D) b r ((c - 512) / 64) ((c - 512) % 64) else 0)
        + (if 0 ≤ c ∧ c - 0 < 512 then dqB x0 x1 Z D b (r / 128) (r % 128) ((c - 0) / 256) ((c - 0) / 64 % 4) ((c - 0) % 64) else 0) := by
  have ht : ptOf b r / 32 = b := by unfold ptOf; omega
  have htn : 31 - ptOf b r % 32 = r / 128 := by unfold ptOf; omega
  have hn : r / 128 < 32 := by omega
  have hi : r % 128 < 128 := by omega
  have hm : (ptOf b r % 32 = 0) ↔ ¬(r / 128 + 1 < 32) := by unfold ptOf; omega
  unfold blkT outB
  by_cases h1 : c < 512
  · rw [if_pos h1, if_neg (by omega), if_neg (by omega), if_pos (by omega),
      gq_eq x0 x1 Z D hz hx1 b (r / 128) (r % 128) c hb hn hi h1 _ ht htn, Nat.sub_zero, zero_add, zero_add]
  · by_cases h2 : c < 640
    · rw [if_neg h1, if_pos h2, if_neg (by omega), if_pos (by omega), if_neg (by omega),
        gk_eq x0 x1 Z D hz hx1 b (r / 128) (128 + r % 128) (c - 512) hb hn (by omega) (by omega) _ ht htn, zero_add, add_zero]
      unfold unwin cinT
      congr 1
      by_cases hl : r / 128 + 1 < 32
      · rw [if_neg (fun h => hm.mp h hl), if_pos hl]
        unfold carT carryB
        rw [if_pos rfl]
        exact gk_eq x0 x1 Z D hz hx1 b (r / 128 + 1) (r % 128) (c - 512) hb hl (by omega) (by omega) (ptOf b r - 1)
          (by unfold ptOf; omega) (by unfold ptOf; omega)
      · rw [if_pos (hm.mpr hl), if_neg hl]
    · rw [if_neg h1, if_neg h2, if_pos (by omega), if_neg (by omega), if_neg (by omega),
        gv_eq x0 x1 D b (r / 128) (128 + r % 128) (c - 640) _ ht htn, add_zero, add_zero]
      unfold unwin cinT
      congr 1
      by_cases hl : r / 128 + 1 < 32
      · rw [if_neg (fun h => hm.mp h hl), if_pos hl]
        unfold carT carryB
        rw [if_neg (by decide)]
        exact gv_eq x0 x1 D b (r / 128 + 1) (r % 128) (c - 640) (ptOf b r - 1)
          (by unfold ptOf; omega) (by unfold ptOf; omega)
      · rw [if_pos (hm.mpr hl), if_neg hl]

/-- What a point takes off the sinks' gradient. -/
theorem gs_eq (b n l : ℕ) (hb : b < 2) (hn : n < 32) (hl : l < 8) (t : ℕ) (ht : t / 32 = b) (htn : 31 - t % 32 = n) :
    gsT Z D (sinkK x0 x1) (probK x0 x1) t l
      = ∑ i ∈ Finset.range 128, cB x0 x1 Z D b n (l / 4) (l % 4) i * sinkB x0 x1 b n (l / 4) (l % 4) i := by
  unfold gsT gsR
  refine Finset.sum_congr rfl fun i hi => ?_
  have hi := Finset.mem_range.mp hi
  have hne := den_ne_nat x0 x1 Z hz hx1 b n (l / 4) (l % 4) i hb hn (by omega) (by omega) hi
  have er := rowdot_eq x0 x1 Z D hz hx1 b n (l / 4) (l % 4) i hb hn (by omega) hi t ht htn
  rw [show 4 * (l / 4) + l % 4 = l by omega] at er
  rw [if_pos hl, er]
  unfold curB sinkK
  rw [ht, htn, Nat.zero_add, if_pos hl, show (n * 128 + i) / 128 = n by omega, show (n * 128 + i) % 128 = i by omega]
  field_simp

omit hz hx1 in
/-- A sum over the points is the sum over batches and blocks. -/
theorem sum_points (f : ℕ → ℕ → ℝ) : ∑ s ∈ Finset.range 64, f (s / 32) (31 - s % 32)
    = ∑ b ∈ Finset.range 2, ∑ n ∈ Finset.range 32, f b n := by
  rw [Finset.sum_range_add (fun s => f (s / 32) (31 - s % 32)) 32 32,
    Finset.sum_range_succ (fun b => ∑ n ∈ Finset.range 32, f b n) 1, Finset.sum_range_one]
  congr 1
  · rw [← Finset.sum_range_reflect (fun n => f 0 n) 32]
    refine Finset.sum_congr rfl fun s hs => ?_
    have hs := Finset.mem_range.mp hs
    congr 1 <;> omega
  · rw [← Finset.sum_range_reflect (fun n => f 1 n) 32]
    refine Finset.sum_congr rfl fun s hs => ?_
    have hs := Finset.mem_range.mp hs
    congr 1 <;> omega

/-- The sinks' gradients by lane. -/
theorem sinks_eq (l : ℕ) :
    0 - ∑ s ∈ Finset.range 64, gsT Z D (sinkK x0 x1) (probK x0 x1) s l
      = if l < 8 then sinksB x0 x1 Z D (l / 4) (l % 4) else 0 := by
  by_cases hl : l < 8
  · rw [if_pos hl]
    have e : ∀ s ∈ Finset.range 64, gsT Z D (sinkK x0 x1) (probK x0 x1) s l
        = (fun b n => ∑ i ∈ Finset.range 128, cB x0 x1 Z D b n (l / 4) (l % 4) i * sinkB x0 x1 b n (l / 4) (l % 4) i)
            (s / 32) (31 - s % 32) := fun s hs =>
      gs_eq x0 x1 Z D hz hx1 (s / 32) (31 - s % 32) l (by have := Finset.mem_range.mp hs; omega) (by omega) hl s rfl rfl
    rw [Finset.sum_congr rfl e]
    unfold sinksB
    rw [sum_points (fun b n => ∑ i ∈ Finset.range 128, cB x0 x1 Z D b n (l / 4) (l % 4) i * sinkB x0 x1 b n (l / 4) (l % 4) i)]
    simp only [neg_mul, Finset.sum_neg_distrib]
    exact zero_sub _
  · rw [if_neg hl]
    have e : ∀ s ∈ Finset.range 64, gsT Z D (sinkK x0 x1) (probK x0 x1) s l = 0 := fun s _ => by
      unfold gsT gsR
      refine Finset.sum_eq_zero fun i _ => ?_
      rw [if_neg hl, mul_zero]
    rw [Finset.sum_eq_zero e, sub_zero]

end Cert.Proof
-- ==== Proof.Inputs.lean ====
module

public import proofs.«01_k».proof.Proof.Match

/-!
The kernel's arguments as real numbers: finite arrays by natural indices, the probabilities by head, and the sinks' share of
them by row and lane.
-/

@[expose] public section

namespace Cert.Proof
open Idealize.ShloMosaic Cert.KernelIdeal Cert.KernelIdeal.Gen Cert.ReferenceIdeal.Read

/-- A finite array of three axes, by natural indices. -/
theorem reals3 {d : Fin 3 → ℕ} (x : (⟨3, d⟩ : Shape).Idx → EReal) (h : ∀ i, Finite (x i)) :
    ∃ Z : ℕ → ℕ → ℕ → ℝ, ∀ i : (⟨3, d⟩ : Shape).Idx, x i = ((Z (i 0).val (i 1).val (i 2).val : ℝ) : EReal) := by
  classical
  refine ⟨fun a b c => if e : ∃ i : (⟨3, d⟩ : Shape).Idx, (i 0).val = a ∧ (i 1).val = b ∧ (i 2).val = c then (x e.choose).toReal else 0,
    fun i => ?_⟩
  have e : ∃ k : (⟨3, d⟩ : Shape).Idx, (k 0).val = (i 0).val ∧ (k 1).val = (i 1).val ∧ (k 2).val = (i 2).val := ⟨i, rfl, rfl, rfl⟩
  have he : e.choose = i := funext fun a => match a with
    | ⟨0, _⟩ => Fin.ext e.choose_spec.1
    | ⟨1, _⟩ => Fin.ext e.choose_spec.2.1
    | ⟨2, _⟩ => Fin.ext e.choose_spec.2.2
  simp only [dif_pos e, he]
  obtain ⟨r, hr⟩ := h i
  rw [hr, EReal.toReal_coe]

/-- An element whose magnitude is below infinity is a real number. -/
theorem finite_of_lt {x : EReal} (h : Ideal.cmp .olt (max x (-x)) (Ideal.ofBits .f32 0x7F800000#32) = 1#1) : Finite x := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

variable (x0 : (⟨S2x4096x768, .bf16⟩ : BufTy).Contents (Elt Ideal)) (x1 : (⟨S8, .f32⟩ : BufTy).Contents (Elt Ideal))
  (Z : ℕ → ℕ → ℕ → ℝ)
  (hz : ∀ i : S2x4096x768.Idx, x0 i = ((Z (i 0).val (i 1).val (i 2).val : ℝ) : EReal)) (hx1 : ∀ i, Finite (x1 i))
include hz hx1

theorem probs_real (i : S2x32x8x128x256.Idx) :
    (shapeCast S2x32x8x128x256 (val_main_v119 (F := Ideal) x0 x1) shapeCasts_S2x32x2x4x128x256_S2x32x8x128x256
      : S2x32x8x128x256.Idx → EReal) i = ((probK x0 x1 (i 0).val (i 1).val (i 2).val (i 3).val (i 4).val : ℝ) : EReal) := by
  have h0 : (i 0).val < 2 := (i 0).isLt; have h1 : (i 1).val < 32 := (i 1).isLt; have h2 : (i 2).val < 8 := (i 2).isLt
  have h3 : (i 3).val < 128 := (i 3).isLt; have h4 : (i 4).val < 256 := (i 4).isLt
  rw [shapeCast_apply _ _ i (Idealize.ShloMosaic.ix6 ⟨(i 0).val, h0⟩ ⟨(i 1).val, h1⟩ ⟨(i 2).val / 4, by omega⟩ ⟨(i 2).val % 4, by omega⟩
      ⟨(i 3).val, h3⟩ ⟨(i 4).val, h4⟩ : S2x32x2x4x128x256.Idx) (by
    rw [Shape.rowMajor_val_five, rowMajor_val6 _ 8388608 262144 131072 32768 256 rfl rfl rfl rfl rfl]
    show (i 0).val * 8388608 + (i 1).val * 262144 + (i 2).val / 4 * 131072 + (i 2).val % 4 * 32768 + (i 3).val * 256 + (i 4).val
      = ((((i 0).val * 32 + (i 1).val) * 8 + (i 2).val) * 128 + (i 3).val) * 256 + (i 4).val
    omega), rb119 x0 x1 Z hz hx1]
  rfl

theorem sinks_real (i : S2x4096x128.Idx) :
    (pad S2x4096x128 ![0, 0, 0] ![0, 0, 120] ![0, 0, 0] (shapeCast S2x4096x8 (transpose S2x32x128x8 [0, 1, 3, 2]
          (shapeCast S2x32x8x128 (Host.divf (val_main_v114 (F := Ideal) x0 x1) (val_main_v117 (F := Ideal) x0 x1)
            : FVec Ideal S2x32x2x4x128x1 .f32)
            shapeCasts_S2x32x2x4x128x1_S2x32x8x128) transposes_S2x32x8x128_S2x32x128x8_0_1_3_2)
          shapeCasts_S2x32x128x8_S2x4096x8) (sitofp (F := Ideal) .f32 (constantI S_ 32 0#32) : FVec Ideal S_ .f32)
        pads_S2x4096x8_S2x4096x128_000_000_01200 h_S_ : S2x4096x128.Idx → EReal) i
      = ((sinkK x0 x1 (i 0).val (i 1).val (i 2).val : ℝ) : EReal) := by
  have h0 : (i 0).val < 2 := (i 0).isLt; have h1 : (i 1).val < 4096 := (i 1).isLt; have h2 : (i 2).val < 128 := (i 2).isLt
  unfold sinkK
  by_cases hl : (i 2).val < 8
  · rw [if_pos hl, pad_apply_of_inside (t := S2x4096x128) _ _ _ _ _ _ _ i
      (Idealize.ShloMosaic.ix3 ⟨(i 0).val, h0⟩ ⟨(i 1).val, h1⟩ ⟨(i 2).val, hl⟩ : S2x4096x8.Idx)
      (fun a => match a with
      | ⟨0, _⟩ => by show (i 0).val = 0 + (i 0).val * (0 + 1); omega
      | ⟨1, _⟩ => by show (i 1).val = 0 + (i 1).val * (0 + 1); omega
      | ⟨2, _⟩ => by show (i 2).val = 0 + (i 2).val * (0 + 1); omega)]
    rw [shapeCast_apply _ _ _ (Idealize.ShloMosaic.ix4 ⟨(i 0).val, h0⟩ ⟨(i 1).val / 128, by omega⟩ ⟨(i 1).val % 128, by omega⟩ ⟨(i 2).val, hl⟩
        : S2x32x128x8.Idx) (by
      rw [Shape.rowMajor_val_four, Shape.rowMajor_val_three]
      show (((i 0).val * 32 + (i 1).val / 128) * 128 + (i 1).val % 128) * 8 + (i 2).val = ((i 0).val * 4096 + (i 1).val) * 8 + (i 2).val
      omega)]
    rw [transpose_apply _ _ _ _ (Idealize.ShloMosaic.ix4 ⟨(i 0).val, h0⟩ ⟨(i 1).val / 128, by omega⟩ ⟨(i 2).val, hl⟩ ⟨(i 1).val % 128, by omega⟩
        : S2x32x8x128.Idx) (fun b => match b with
      | ⟨0, _⟩ => rfl | ⟨1, _⟩ => rfl | ⟨2, _⟩ => rfl | ⟨3, _⟩ => rfl)]
    rw [shapeCast_apply _ _ _ (Idealize.ShloMosaic.ix6 ⟨(i 0).val, h0⟩ ⟨(i 1).val / 128, by omega⟩ ⟨(i 2).val / 4, by omega⟩
        ⟨(i 2).val % 4, by omega⟩ ⟨(i 1).val % 128, by omega⟩ 0 : S2x32x2x4x128x1.Idx) (by
      rw [Shape.rowMajor_val_four, rowMajor_val6 _ 32768 1024 512 128 1 rfl rfl rfl rfl rfl]
      show (i 0).val * 32768 + (i 1).val / 128 * 1024 + (i 2).val / 4 * 512 + (i 2).val % 4 * 128 + (i 1).val % 128 * 1 + 0
        = (((i 0).val * 32 + (i 1).val / 128) * 8 + (i 2).val) * 128 + (i 1).val % 128
      omega)]
    show FloatOps.hostDivf (F := Ideal) (val_main_v114 (F := Ideal) x0 x1 _) (val_main_v117 (F := Ideal) x0 x1 _) = _
    rw [rb114 x0 x1 Z hz hx1, rb117 x0 x1 Z hz hx1]
    exact div_real _ _ (den_ne x0 x1 Z hz hx1 _)
  · rw [if_neg hl, pad_apply_of_not_inside (t := S2x4096x128) _ _ _ _ _ _ _ i 2 (fun hc => by
      have h3 : ((i 2).val - 0) / (0 + 1) < 8 := hc.2.2
      omega)]
    show (((0#32 : BitVec 32).toInt : ℝ) : EReal) = _
    simp

end Cert.Proof
-- ==== Proof.Host.lean ====
module

public import proofs.«01_k».proof.Proof.Match
public import Idealize.ShloMosaic.Lib.StableHlo.RunRead

/-!
What the kernel's host lines hand to the call: the probabilities and the sinks' share of them are the reference's own, laid
out by head and, for the sinks, padded with zeros to 128 lanes.
-/

@[expose] public section

namespace Cert.Proof
open Idealize.ShloMosaic Cert.KernelIdeal Cert.KernelIdeal.Gen Cert.ReferenceIdeal.Read

/-- The kernel's probabilities are the reference's, by head. -/
theorem host87 (w : Valuation τ sig (Elt Ideal)) :
    (StableHlo.after (List.flatten [hostOps0, hostOps0_1, hostOps0_2, hostOps0_3]) w (Proc.devRef .tc main_v87)
      : (⟨S2x32x8x128x256, .f32⟩ : BufTy).Contents (Elt Ideal))
    = shapeCast S2x32x8x128x256 (val_main_v119 (F := Ideal) (w (Proc.devRef .tc main_arg0)) (w (Proc.devRef .tc main_arg1)))
        shapeCasts_S2x32x2x4x128x256_S2x32x8x128x256 := by
  simp only [hostOps0, hostOps0_1, hostOps0_2, hostOps0_3, List.flatten_cons, List.flatten_nil, List.append_nil, List.cons_append,
    List.nil_append]
  after_reads_simp
  rfl

/-- The sinks' share of the probabilities as the kernel takes it. -/
theorem host91 (w : Valuation τ sig (Elt Ideal)) :
    (StableHlo.after (List.flatten [hostOps0, hostOps0_1, hostOps0_2, hostOps0_3]) w (Proc.devRef .tc main_v91)
      : (⟨S2x4096x128, .f32⟩ : BufTy).Contents (Elt Ideal))
    = pad S2x4096x128 ![0, 0, 0] ![0, 0, 120] ![0, 0, 0] (shapeCast S2x4096x8 (transpose S2x32x128x8 [0, 1, 3, 2]
          (shapeCast S2x32x8x128 (Host.divf (val_main_v114 (F := Ideal) (w (Proc.devRef .tc main_arg0)) (w (Proc.devRef .tc main_arg1)))
            (val_main_v117 (F := Ideal) (w (Proc.devRef .tc main_arg0)) (w (Proc.devRef .tc main_arg1))) : FVec Ideal S2x32x2x4x128x1 .f32)
            shapeCasts_S2x32x2x4x128x1_S2x32x8x128) transposes_S2x32x8x128_S2x32x128x8_0_1_3_2)
          shapeCasts_S2x32x128x8_S2x4096x8) (sitofp (F := Ideal) .f32 (constantI S_ 32 0#32) : FVec Ideal S_ .f32)
        pads_S2x4096x8_S2x4096x128_000_000_01200 h_S_ := by
  simp only [hostOps0, hostOps0_1, hostOps0_2, hostOps0_3, List.flatten_cons, List.flatten_nil, List.append_nil, List.cons_append,
    List.nil_append]
  after_reads_simp
  rfl

end Cert.Proof
-- ==== Proof.Products.lean ====
module

public import Idealize.ShloMosaic.Lib.Pointwise.Tactic
public import Idealize.ShloMosaic.Lib.Pointwise.Reduce
public import Idealize.ShloMosaic.Lib.Pointwise.Contract
public import Idealize.ShloMosaic.Lib.Pointwise.Select
public import Idealize.ShloMosaic.Lib.Pointwise.ShapeOps
public import Idealize.ShloMosaic.Lib.Pointwise.Reshape

/-!
Products of matrices of extended reals. Nothing here asks that an entry be finite: a sum of extended reals may be taken in any
order and cut into blocks.
-/

@[expose] public section
noncomputable section
namespace Cert.Proof
open Idealize.ShloMosaic

/-- The matrix of extended reals `f i j`, as an array. -/
def E2 {n m : ℕ} {φ : FTy} (f : ℕ → ℕ → EReal) : FVec Ideal ⟨2, ![n, m]⟩ φ := fun i => f (i 0).val (i 1).val

theorem E2_apply {n m : ℕ} {φ : FTy} (f : ℕ → ℕ → EReal) (i : Shape.Idx ⟨2, ![n, m]⟩) :
    (E2 f : FVec Ideal ⟨2, ![n, m]⟩ φ) i = f (i 0).val (i 1).val := rfl

/-- The entries of an array of two axes, by natural indices. -/
theorem entries {d : Fin 2 → ℕ} (x : (⟨2, d⟩ : Shape).Idx → EReal) :
    ∃ A : ℕ → ℕ → EReal, ∀ i : (⟨2, d⟩ : Shape).Idx, x i = A (i 0).val (i 1).val := by
  classical
  refine ⟨fun a b => if e : ∃ i : (⟨2, d⟩ : Shape).Idx, (i 0).val = a ∧ (i 1).val = b then x e.choose else 0, fun i => ?_⟩
  have e : ∃ k : (⟨2, d⟩ : Shape).Idx, (k 0).val = (i 0).val ∧ (k 1).val = (i 1).val := ⟨i, rfl, rfl⟩
  have he : e.choose = i := funext fun a => match a with
    | ⟨0, _⟩ => Fin.ext e.choose_spec.1
    | ⟨1, _⟩ => Fin.ext e.choose_spec.2
  simp only [dif_pos e, he]

theorem off2 : (![0, 0] : Fin 2 → ℕ) = fun _ => 0 := by funext a; fin_cases a <;> rfl

/-- The product of the transpose of `A` with `B`, over the first `n` rows. -/
def tnE (A B : ℕ → ℕ → EReal) (n a b : ℕ) : EReal := ∑ r ∈ Finset.range n, A r a * B r b

theorem tnE_zero (A B : ℕ → ℕ → EReal) (a b : ℕ) : tnE A B 0 a b = 0 := Finset.sum_range_zero _

/-- The next `k` rows. -/
theorem tnE_step (A B : ℕ → ℕ → EReal) (n k a b : ℕ) :
    tnE A B n a b + ∑ r : Fin k, A (n + r.val) a * B (n + r.val) b = tnE A B (n + k) a b := by
  unfold tnE
  rw [Finset.sum_range_add, Finset.sum_range fun r => A (n + r) a * B (n + r) b]

end Cert.Proof
-- ==== Proof.GradUp.lean ====
module

public import proofs.«01_k».proof.Defs
public import proofs.«01_k».proof.Proof.Products
public import proofs.«01_k».proof.Proof.Gen.Kernel2Ideal.Value
public import proofs.«01_k».proof.Proof.Gen.Reference2Ideal.Read
public import proofs.«01_k».proof.Proof.Gen.Reference2Ideal.Run

/-!
The gradient of `w_up`: the product of the transpose of `h` with `du`, which the kernel sums in eight blocks of rows, is the
transpose of the product `jax.vjp` takes.
-/

@[expose] public section
noncomputable section
namespace Cert.Proof.GradUp
open Idealize.ShloMosaic Idealize.ShloMosaic.TcCoe Idealize.SL.Sem Idealize.ShloMosaic.Pipeline Cert.Kernel2Ideal Cert.Kernel2Ideal.Gen Cert.Kernel2Ideal.Value

/-! ## What a grid point computes -/

theorem pay1_E : k0_pay1 (F := Ideal) = E2 (n := 1024) (m := 1024) (φ := .f32) fun _ _ => 0 := by
  funext j; unfold k0_pay1; pointwise; rfl

theorem pay2_E (C A B : ℕ → ℕ → EReal) : k0_pay2 (F := Ideal) (E2 (φ := .f32) C) (E2 (φ := .bf16) A) (E2 (φ := .bf16) B)
    = E2 (φ := .f32) fun a b => C a b + ∑ r : Fin 1024, A r.val a * B r.val b := by
  funext j; unfold k0_pay2; pointwise [dot_S1024x1024_S1024x1024_S1024x1024_0_0_1_1_n_n]
  simp only [E2_apply, zero_add]
  try rfl

theorem pay3_E (C : ℕ → ℕ → EReal) : k0_pay3 (F := Ideal) (E2 (φ := .f32) C) = E2 (φ := .bf16) C := by
  funext j; unfold k0_pay3; pointwise; rfl

section point
variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .bf16) (harg5 : arg5.IsWhole)
  (arg6 : Memref sig .tc .vmem S1024x1024 .f32) (harg6 : arg6.IsWhole)
  (x : Vec Ideal S1024x1024 .bf16) (y : Vec Ideal S1024x1024 .bf16) (s : Vec Ideal S1024x1024 .f32)

/-- The sum after the first block of rows. -/
theorem sumA (hc0 : cond0_0 i) (hc1 : ¬cond0_1 i) :
    sout0_A_0 (F := Ideal) c i arg3 harg3 arg4 harg4 arg5 harg5 arg6 harg6 hc0 hc1 x y = k0_pay2 k0_pay1 x y := by
  unfold sout0_A_0
  rw [View.read_writes_eq_canon _ _ _ (scover0_A_0 (F := Ideal) c i arg3 harg3 arg4 harg4 arg5 harg5 arg6 harg6 hc0 hc1 x y)]
  unfold kernelRun0_A
  dsimp only
  sl_unfold_words
  rw [View.canon_cons_unit_zero (S := S1024x1024) off2, View.readCov_unit_zero (S := S1024x1024) _ off2]
  simp only [View.readAt_eq_ld, harg3.read_unread, harg4.read_unread, View.ld_unit_zero (S := S1024x1024) off2]

/-- The sum after a further block. -/
theorem sumB (hc0 : ¬cond0_0 i) (hc1 : ¬cond0_1 i) :
    sout0_B_0 (F := Ideal) c i arg3 harg3 arg4 harg4 arg5 harg5 arg6 harg6 hc0 hc1 x y s = k0_pay2 s x y := by
  unfold sout0_B_0
  rw [View.read_writes_eq_canon _ _ _ (scover0_B_0 (F := Ideal) c i arg3 harg3 arg4 harg4 arg5 harg5 arg6 harg6 hc0 hc1 x y s)]
  unfold kernelRun0_B
  dsimp only
  sl_unfold_words
  rw [View.canon_cons_unit_zero (S := S1024x1024) off2]
  simp only [View.readAt_eq_ld, harg3.read_unread, harg4.read_unread, harg6.read_unread, View.ld_unit_zero (S := S1024x1024) off2]

/-- What the last point of a block of columns writes. -/
theorem outC (hc0 : ¬cond0_0 i) (hc1 : cond0_1 i) :
    out0_C_2 (F := Ideal) c i arg3 harg3 arg4 harg4 arg5 harg5 arg6 harg6 hc0 hc1 x y s = k0_pay3 (k0_pay2 s x y) := by
  unfold out0_C_2
  rw [View.read_writes_eq_canon _ _ _ (cover0_C_2 (F := Ideal) c i arg3 harg3 arg4 harg4 arg5 harg5 arg6 harg6 hc0 hc1 x y s)]
  unfold kernelRun0_C
  dsimp only
  sl_unfold_words
  rw [View.canon_cons_unit_zero (S := S1024x1024) off2, View.readCov_unit_zero (S := S1024x1024) _ off2]
  simp only [View.readAt_eq_ld, harg3.read_unread, harg4.read_unread, harg6.read_unread, View.ld_unit_zero (S := S1024x1024) off2]

end point

/-! ## The run -/

section run
variable (m : (ℓ : Loc nD τ sig) → Buf (Elt Ideal) ℓ) (c : Dev nD) (A B : ℕ → ℕ → EReal)
  (hA : ∀ i : S8192x1024.Idx, V m c main_arg0 i = A (i 0).val (i 1).val)
  (hB : ∀ i : S8192x4096.Idx, V m c main_arg1 i = B (i 0).val (i 1).val)

theorem ix0 : ∀ t : Fin cfg0.N, cc0_transform_0 (grid0.coords t) = ![t.val % 8, 0] := by decide +kernel
theorem ix1 : ∀ t : Fin cfg0.N, cc0_transform_1 (grid0.coords t) = ![t.val % 8, t.val / 8] := by decide +kernel

include hA in
theorem blk0 (t : Fin cfg0.N) : (iblk m c 0 t : Vec Ideal S1024x1024 .bf16) = E2 (φ := .bf16) fun r a => A (1024 * (t.val % 8) + r) a := by
  funext y
  refine (hA (((cfg0.win 0).rect t).emb y)).trans ?_
  rw [(cfg0.win 0).rect_emb_val t y (0 : Fin 2), (cfg0.win 0).rect_emb_val t y (1 : Fin 2)]
  have i0 : (cfg0.win 0).index t (0 : Fin 2) = t.val % 8 := congrFun (ix0 t) 0
  have i1 : (cfg0.win 0).index t (1 : Fin 2) = 0 := congrFun (ix0 t) 1
  rw [i0, i1]
  show A (t.val % 8 * 1024 + (y 0).val) (0 * 1024 + (y 1).val) = A (1024 * (t.val % 8) + (y 0).val) (y 1).val
  rw [Nat.mul_comm, Nat.zero_mul, Nat.zero_add]

include hB in
theorem blk1 (t : Fin cfg0.N) : (iblk m c 1 t : Vec Ideal S1024x1024 .bf16)
    = E2 (φ := .bf16) fun r b => B (1024 * (t.val % 8) + r) (1024 * (t.val / 8) + b) := by
  funext y
  refine (hB (((cfg0.win 1).rect t).emb y)).trans ?_
  rw [(cfg0.win 1).rect_emb_val t y (0 : Fin 2), (cfg0.win 1).rect_emb_val t y (1 : Fin 2)]
  have i0 : (cfg0.win 1).index t (0 : Fin 2) = t.val % 8 := congrFun (ix1 t) 0
  have i1 : (cfg0.win 1).index t (1 : Fin 2) = t.val / 8 := congrFun (ix1 t) 1
  rw [i0, i1]
  show B (t.val % 8 * 1024 + (y 0).val) (t.val / 8 * 1024 + (y 1).val) = B (1024 * (t.val % 8) + (y 0).val) (1024 * (t.val / 8) + (y 1).val)
  rw [Nat.mul_comm, Nat.mul_comm (t.val / 8)]

include hA hB

/-- The running sum, as the scratch holds it after each point that writes nothing. -/
theorem sums : ∀ (n : ℕ) (hn : n < cfg0.N), n % 8 ≠ 7 → (outsAt0 m c n hn).2
    = E2 (n := 1024) (m := 1024) (φ := .f32) fun a b => tnE A B (1024 * (n % 8) + 1024) a (1024 * (n / 8) + b) := by
  intro n
  induction n with
  | zero =>
    intro hn _
    rw [outsAt0_A m c ⟨0, hn⟩ rfl (show ¬ 0 % 8 = 7 by decide)]
    dsimp only
    rw [sumA, blk0 m c A hA, blk1 m c B hB, pay1_E, pay2_E]
    congr 1; funext a b
    rw [← tnE_step]
    dsimp only
    rw [Nat.zero_mod, Nat.mul_zero, tnE_zero]
  | succ n ih =>
    intro hn h7
    by_cases h0 : (n + 1) % 8 = 0
    · rw [outsAt0_A m c ⟨n + 1, hn⟩ h0 h7]
      dsimp only
      rw [sumA, blk0 m c A hA, blk1 m c B hB, pay1_E, pay2_E]
      congr 1; funext a b
      rw [← tnE_step]
      dsimp only
      rw [h0, Nat.mul_zero, tnE_zero]
    · have ih := ih (Nat.lt_of_succ_lt hn) (by omega)
      rw [outsAt0_B m c ⟨n + 1, hn⟩ h0 h7]
      dsimp only
      rw [sumB, blk0 m c A hA, blk1 m c B hB, show (outsAt0 m c (n + 1 - 1) _).2 = _ from ih, pay2_E]
      congr 1; funext a b
      rw [← tnE_step A B (1024 * ((n + 1) % 8)), show 1024 * (n % 8) + 1024 = 1024 * ((n + 1) % 8) by omega, show n / 8 = (n + 1) / 8 by omega]

/-- What the last point of a block of columns writes: the sum over all the rows. -/
theorem written (p : ℕ) (hp : p < cfg0.N) (e7 : p % 8 = 7) : (outsAt0 m c p hp).1
    = E2 (n := 1024) (m := 1024) (φ := .bf16) fun a b => tnE A B 8192 a (1024 * (p / 8) + b) := by
  have e0 : ¬ p % 8 = 0 := by omega
  have hs := sums m c A B hA hB (p - 1) (by omega) (by omega)
  rw [outsAt0_C m c ⟨p, hp⟩ e0 e7]
  dsimp only
  rw [outC, blk0 m c A hA, blk1 m c B hB, hs, pay2_E, pay3_E]
  refine congrArg (E2 (n := 1024) (m := 1024) (φ := .bf16)) (funext fun a => funext fun b => ?_)
  dsimp only
  rw [show 1024 * ((p - 1) % 8) + 1024 = 1024 * (p % 8) by omega, show (p - 1) / 8 = p / 8 by omega, tnE_step, e7]

/-- The array after the run. -/
theorem result : ((dats m 0 c).arrAt 2 cfg0.N : S1024x4096.Idx → EReal)
    = E2 (n := 1024) (m := 4096) (φ := .bf16) fun a b => tnE A B 8192 a b := by
  rw [final2]
  funext i
  have l0 : (i 0).val < 1024 := (i 0).isLt
  have l1 : (i 1).val < 4096 := (i 1).isLt
  have hp : pt2Of i < cfg0.N := by rw [show cfg0.N = 32 from N_0]; show 8 * (4 * ((i 0).val / 1024 - 0) + 1 * ((i 1).val / 1024 - 0)) + 7 < 32; omega
  have e7 : pt2Of i % 8 = 7 := by show (8 * (4 * ((i 0).val / 1024 - 0) + 1 * ((i 1).val / 1024 - 0)) + 7) % 8 = 7; omega
  have ed : pt2Of i / 8 = (i 1).val / 1024 := by
    show (8 * (4 * ((i 0).val / 1024 - 0) + 1 * ((i 1).val / 1024 - 0)) + 7) / 8 = _; omega
  unfold G2
  rw [dif_pos hp, ← outsAt0_sweep m c _ hp, written m c A B hA hB _ hp e7, ed]
  show tnE A B 8192 ((i 0).val % 1024) (1024 * ((i 1).val / 1024) + (i 1).val % 1024) = tnE A B 8192 (i 0).val (i 1).val
  rw [Nat.mod_eq_of_lt l0, Nat.div_add_mod]

end run

/-! ## The reference -/

/-- The reference's result at an index. -/
theorem reference (x : (⟨S8192x1024, .bf16⟩ : BufTy).Contents (Elt Ideal)) (y : (⟨S8192x4096, .bf16⟩ : BufTy).Contents (Elt Ideal))
    (A B : ℕ → ℕ → EReal) (hA : ∀ i : S8192x1024.Idx, x i = A (i 0).val (i 1).val) (hB : ∀ i : S8192x4096.Idx, y i = B (i 0).val (i 1).val) :
    (Cert.Reference2Ideal.Read.val_main_v6 (F := Ideal) x y : S1024x4096.Idx → EReal)
      = E2 (n := 1024) (m := 4096) (φ := .bf16) fun a b => tnE A B 8192 a b := by
  funext i
  refine (Cert.Reference2Ideal.Read.val_main_v5_apply (F := Ideal) x y i).trans ((Cert.Reference2Ideal.Read.val_main_v4_apply x y _).trans ?_)
  rw [E2_apply, tnE, Finset.sum_range]
  refine Finset.sum_congr rfl fun r _ => ?_
  exact (congrArg₂ (· * ·) (hB (Cert.Reference2Ideal.Read.lidx_main_v4 (Cert.Reference2Ideal.Read.idx_main_v5 i) r))
    (hA (Cert.Reference2Ideal.Read.ridx_main_v4 (Cert.Reference2Ideal.Read.idx_main_v5 i) r))).trans (mul_comm _ _)

/-! ## The claim -/

/-- The kernel's result is the reference's. -/
theorem algebraic : Cert.algebraic_Kernel2Ideal_Reference2Ideal := by
  intro m ρ m' ρ' _ hargs
  refine ⟨fun c => (dats m 0 c).arrAt 2 cfg0.N, run_blocks m ρ,
    (θ_run _ _ _).mono (fun r h c => ?_) (Cert.Reference2Ideal.Value.run m' ρ')⟩
  obtain ⟨h0, kept⟩ := h c
  obtain ⟨e0, e1⟩ := hargs c
  obtain ⟨A, hA⟩ := entries (d := ![8192, 1024]) (m ((c.tc : Thread nD τ).loc main_arg0))
  obtain ⟨B, hB⟩ := entries (d := ![8192, 4096]) (m ((c.tc : Thread nD τ).loc main_arg1))
  refine ⟨h0.trans ((Cert.Reference2Ideal.Read.val_main_v6_eq _ _).trans (Eq.trans ?_ (result m c A B (fun i => (congrFun (V_main_arg0 m c) i).trans (hA i)) (fun i => (congrFun (V_main_arg1 m c) i).trans (hB i))).symm)), kept⟩
  refine Eq.trans ?_ (reference (m ((c.tc : Thread nD τ).loc main_arg0)) (m ((c.tc : Thread nD τ).loc main_arg1)) A B hA hB)
  rw [← e0, ← e1]

/-- The reference's frame: its run read at the arguments; it declares no semaphore. -/
theorem reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof.GradUp
-- ==== Proof.GradDown.lean ====
module

public import proofs.«01_k».proof.Defs
public import proofs.«01_k».proof.Proof.Products
public import proofs.«01_k».proof.Proof.Gen.Kernel3Ideal.Value
public import proofs.«01_k».proof.Proof.Gen.Reference3Ideal.Read
public import proofs.«01_k».proof.Proof.Gen.Reference3Ideal.Run

/-!
The gradient of `w_down`: the product of the transpose of the activations with `dx`, which the kernel sums in eight blocks of rows, is the
transpose of the product `jax.vjp` takes.
-/

@[expose] public section
noncomputable section
namespace Cert.Proof.GradDown
open Idealize.ShloMosaic Idealize.ShloMosaic.TcCoe Idealize.SL.Sem Idealize.ShloMosaic.Pipeline Cert.Kernel3Ideal Cert.Kernel3Ideal.Gen Cert.Kernel3Ideal.Value

/-! ## What a grid point computes -/

theorem pay1_E : k0_pay1 (F := Ideal) = E2 (n := 1024) (m := 1024) (φ := .f32) fun _ _ => 0 := by
  funext j; unfold k0_pay1; pointwise; rfl

theorem pay2_E (C A B : ℕ → ℕ → EReal) : k0_pay2 (F := Ideal) (E2 (φ := .f32) C) (E2 (φ := .bf16) A) (E2 (φ := .f32) B)
    = E2 (φ := .f32) fun a b => C a b + ∑ r : Fin 1024, A r.val a * B r.val b := by
  funext j; unfold k0_pay2; pointwise [dot_S1024x1024_S1024x1024_S1024x1024_0_0_1_1_n_n]
  simp only [E2_apply, zero_add]
  try rfl

theorem pay3_E (C : ℕ → ℕ → EReal) : k0_pay3 (F := Ideal) (E2 (φ := .f32) C) = E2 (φ := .bf16) C := by
  funext j; unfold k0_pay3; pointwise; rfl

section point
variable (c : Dev nD) (i : grid0.Coords)
  (arg3 : Memref sig .tc .vmem S1024x1024 .bf16) (harg3 : arg3.IsWhole)
  (arg4 : Memref sig .tc .vmem S1024x1024 .f32) (harg4 : arg4.IsWhole)
  (arg5 : Memref sig .tc .vmem S1024x1024 .bf16) (harg5 : arg5.IsWhole)
  (arg6 : Memref sig .tc .vmem S1024x1024 .f32) (harg6 : arg6.IsWhole)
  (x : Vec Ideal S1024x1024 .bf16) (y : Vec Ideal S1024x1024 .f32) (s : Vec Ideal S1024x1024 .f32)

/-- The sum after the first block of rows. -/
theorem sumA (hc0 : cond0_0 i) (hc1 : ¬cond0_1 i) :
    sout0_A_0 (F := Ideal) c i arg3 harg3 arg4 harg4 arg5 harg5 arg6 harg6 hc0 hc1 x y = k0_pay2 k0_pay1 x y := by
  unfold sout0_A_0
  rw [View.read_writes_eq_canon _ _ _ (scover0_A_0 (F := Ideal) c i arg3 harg3 arg4 harg4 arg5 harg5 arg6 harg6 hc0 hc1 x y)]
  unfold kernelRun0_A
  dsimp only
  sl_unfold_words
  rw [View.canon_cons_unit_zero (S := S1024x1024) off2, View.readCov_unit_zero (S := S1024x1024) _ off2]
  simp only [View.readAt_eq_ld, harg3.read_unread, harg4.read_unread, View.ld_unit_zero (S := S1024x1024) off2]

/-- The sum after a further block. -/
theorem sumB (hc0 : ¬cond0_0 i) (hc1 : ¬cond0_1 i) :
    sout0_B_0 (F := Ideal) c i arg3 harg3 arg4 harg4 arg5 harg5 arg6 harg6 hc0 hc1 x y s = k0_pay2 s x y := by
  unfold sout0_B_0
  rw [View.read_writes_eq_canon _ _ _ (scover0_B_0 (F := Ideal) c i arg3 harg3 arg4 harg4 arg5 harg5 arg6 harg6 hc0 hc1 x y s)]
  unfold kernelRun0_B
  dsimp only
  sl_unfold_words
  rw [View.canon_cons_unit_zero (S := S1024x1024) off2]
  simp only [View.readAt_eq_ld, harg3.read_unread, harg4.read_unread, harg6.read_unread, View.ld_unit_zero (S := S1024x1024) off2]

/-- What the last point of a block of rows of the result writes. -/
theorem outC (hc0 : ¬cond0_0 i) (hc1 : cond0_1 i) :
    out0_C_2 (F := Ideal) c i arg3 harg3 arg4 harg4 arg5 harg5 arg6 harg6 hc0 hc1 x y s = k0_pay3 (k0_pay2 s x y) := by
  unfold out0_C_2
  rw [View.read_writes_eq_canon _ _ _ (cover0_C_2 (F := Ideal) c i arg3 harg3 arg4 harg4 arg5 harg5 arg6 harg6 hc0 hc1 x y s)]
  unfold kernelRun0_C
  dsimp only
  sl_unfold_words
  rw [View.canon_cons_unit_zero (S := S1024x1024) off2, View.readCov_unit_zero (S := S1024x1024) _ off2]
  simp only [View.readAt_eq_ld, harg3.read_unread, harg4.read_unread, harg6.read_unread, View.ld_unit_zero (S := S1024x1024) off2]

end point

/-! ## The run -/

section run
variable (m : (ℓ : Loc nD τ sig) → Buf (Elt Ideal) ℓ) (c : Dev nD) (A B : ℕ → ℕ → EReal)
  (hA : ∀ i : S8192x4096.Idx, V m c main_arg0 i = A (i 0).val (i 1).val)
  (hB : ∀ i : S8192x1024.Idx, V m c main_arg1 i = B (i 0).val (i 1).val)

theorem ix0 : ∀ t : Fin cfg0.N, cc0_transform_0 (grid0.coords t) = ![t.val % 8, t.val / 8] := by decide +kernel
theorem ix1 : ∀ t : Fin cfg0.N, cc0_transform_1 (grid0.coords t) = ![t.val % 8, 0] := by decide +kernel

include hA in
theorem blk0 (t : Fin cfg0.N) : (iblk m c 0 t : Vec Ideal S1024x1024 .bf16)
    = E2 (φ := .bf16) fun r a => A (1024 * (t.val % 8) + r) (1024 * (t.val / 8) + a) := by
  funext y
  refine (hA (((cfg0.win 0).rect t).emb y)).trans ?_
  rw [(cfg0.win 0).rect_emb_val t y (0 : Fin 2), (cfg0.win 0).rect_emb_val t y (1 : Fin 2)]
  have i0 : (cfg0.win 0).index t (0 : Fin 2) = t.val % 8 := congrFun (ix0 t) 0
  have i1 : (cfg0.win 0).index t (1 : Fin 2) = t.val / 8 := congrFun (ix0 t) 1
  rw [i0, i1]
  show A (t.val % 8 * 1024 + (y 0).val) (t.val / 8 * 1024 + (y 1).val) = A (1024 * (t.val % 8) + (y 0).val) (1024 * (t.val / 8) + (y 1).val)
  rw [Nat.mul_comm, Nat.mul_comm (t.val / 8)]

include hB in
theorem blk1 (t : Fin cfg0.N) : (iblk m c 1 t : Vec Ideal S1024x1024 .f32) = E2 (φ := .f32) fun r b => B (1024 * (t.val % 8) + r) b := by
  funext y
  refine (hB (((cfg0.win 1).rect t).emb y)).trans ?_
  rw [(cfg0.win 1).rect_emb_val t y (0 : Fin 2), (cfg0.win 1).rect_emb_val t y (1 : Fin 2)]
  have i0 : (cfg0.win 1).index t (0 : Fin 2) = t.val % 8 := congrFun (ix1 t) 0
  have i1 : (cfg0.win 1).index t (1 : Fin 2) = 0 := congrFun (ix1 t) 1
  rw [i0, i1]
  show B (t.val % 8 * 1024 + (y 0).val) (0 * 1024 + (y 1).val) = B (1024 * (t.val % 8) + (y 0).val) (y 1).val
  rw [Nat.mul_comm, Nat.zero_mul, Nat.zero_add]

include hA hB

/-- The running sum, as the scratch holds it after each point that writes nothing. -/
theorem sums : ∀ (n : ℕ) (hn : n < cfg0.N), n % 8 ≠ 7 → (outsAt0 m c n hn).2
    = E2 (n := 1024) (m := 1024) (φ := .f32) fun a b => tnE A B (1024 * (n % 8) + 1024) (1024 * (n / 8) + a) b := by
  intro n
  induction n with
  | zero =>
    intro hn _
    rw [outsAt0_A m c ⟨0, hn⟩ rfl (show ¬ 0 % 8 = 7 by decide)]
    dsimp only
    rw [sumA, blk0 m c A hA, blk1 m c B hB, pay1_E, pay2_E]
    congr 1; funext a b
    rw [← tnE_step]
    dsimp only
    rw [Nat.zero_mod, Nat.mul_zero, tnE_zero]
  | succ n ih =>
    intro hn h7
    by_cases h0 : (n + 1) % 8 = 0
    · rw [outsAt0_A m c ⟨n + 1, hn⟩ h0 h7]
      dsimp only
      rw [sumA, blk0 m c A hA, blk1 m c B hB, pay1_E, pay2_E]
      congr 1; funext a b
      rw [← tnE_step]
      dsimp only
      rw [h0, Nat.mul_zero, tnE_zero]
    · have ih := ih (Nat.lt_of_succ_lt hn) (by omega)
      rw [outsAt0_B m c ⟨n + 1, hn⟩ h0 h7]
      dsimp only
      rw [sumB, blk0 m c A hA, blk1 m c B hB, show (outsAt0 m c (n + 1 - 1) _).2 = _ from ih, pay2_E]
      congr 1; funext a b
      rw [← tnE_step A B (1024 * ((n + 1) % 8)), show 1024 * (n % 8) + 1024 = 1024 * ((n + 1) % 8) by omega, show n / 8 = (n + 1) / 8 by omega]

/-- What the last point of a block of rows of the result writes: the sum over all the rows. -/
theorem written (p : ℕ) (hp : p < cfg0.N) (e7 : p % 8 = 7) : (outsAt0 m c p hp).1
    = E2 (n := 1024) (m := 1024) (φ := .bf16) fun a b => tnE A B 8192 (1024 * (p / 8) + a) b := by
  have e0 : ¬ p % 8 = 0 := by omega
  have hs := sums m c A B hA hB (p - 1) (by omega) (by omega)
  rw [outsAt0_C m c ⟨p, hp⟩ e0 e7]
  dsimp only
  rw [outC, blk0 m c A hA, blk1 m c B hB, hs, pay2_E, pay3_E]
  refine congrArg (E2 (n := 1024) (m := 1024) (φ := .bf16)) (funext fun a => funext fun b => ?_)
  dsimp only
  rw [show 1024 * ((p - 1) % 8) + 1024 = 1024 * (p % 8) by omega, show (p - 1) / 8 = p / 8 by omega, tnE_step, e7]

/-- The array after the run. -/
theorem result : ((dats m 0 c).arrAt 2 cfg0.N : S4096x1024.Idx → EReal)
    = E2 (n := 4096) (m := 1024) (φ := .bf16) fun a b => tnE A B 8192 a b := by
  rw [final2]
  funext i
  have l0 : (i 0).val < 4096 := (i 0).isLt
  have l1 : (i 1).val < 1024 := (i 1).isLt
  have hp : pt2Of i < cfg0.N := by rw [show cfg0.N = 32 from N_0]; show 8 * (1 * ((i 0).val / 1024 - 0) + 1 * ((i 1).val / 1024 - 0)) + 7 < 32; omega
  have e7 : pt2Of i % 8 = 7 := by show (8 * (1 * ((i 0).val / 1024 - 0) + 1 * ((i 1).val / 1024 - 0)) + 7) % 8 = 7; omega
  have ed : pt2Of i / 8 = (i 0).val / 1024 := by
    show (8 * (1 * ((i 0).val / 1024 - 0) + 1 * ((i 1).val / 1024 - 0)) + 7) / 8 = _; omega
  unfold G2
  rw [dif_pos hp, ← outsAt0_sweep m c _ hp, written m c A B hA hB _ hp e7, ed]
  show tnE A B 8192 (1024 * ((i 0).val / 1024) + (i 0).val % 1024) ((i 1).val % 1024) = tnE A B 8192 (i 0).val (i 1).val
  rw [Nat.mod_eq_of_lt l1, Nat.div_add_mod]

end run

/-! ## The reference -/

/-- The reference's result at an index. -/
theorem reference (x : (⟨S8192x4096, .bf16⟩ : BufTy).Contents (Elt Ideal)) (y : (⟨S8192x1024, .f32⟩ : BufTy).Contents (Elt Ideal))
    (A B : ℕ → ℕ → EReal) (hA : ∀ i : S8192x4096.Idx, x i = A (i 0).val (i 1).val) (hB : ∀ i : S8192x1024.Idx, y i = B (i 0).val (i 1).val) :
    (Cert.Reference3Ideal.Read.val_main_v5 (F := Ideal) x y : S4096x1024.Idx → EReal)
      = E2 (n := 4096) (m := 1024) (φ := .bf16) fun a b => tnE A B 8192 a b := by
  funext i
  refine (Cert.Reference3Ideal.Read.val_main_v4_apply (F := Ideal) x y i).trans ((Cert.Reference3Ideal.Read.val_main_v3_apply x y _).trans ?_)
  rw [E2_apply, tnE, Finset.sum_range]
  refine Finset.sum_congr rfl fun r _ => ?_
  exact (congrArg₂ (· * ·) (hB (Cert.Reference3Ideal.Read.lidx_main_v3 (Cert.Reference3Ideal.Read.idx_main_v4 i) r))
    (hA (Cert.Reference3Ideal.Read.ridx_main_v3 (Cert.Reference3Ideal.Read.idx_main_v4 i) r))).trans (mul_comm _ _)

/-! ## The claim -/

/-- The kernel's result is the reference's. -/
theorem algebraic : Cert.algebraic_Kernel3Ideal_Reference3Ideal := by
  intro m ρ m' ρ' _ hargs
  refine ⟨fun c => (dats m 0 c).arrAt 2 cfg0.N, run_blocks m ρ,
    (θ_run _ _ _).mono (fun r h c => ?_) (Cert.Reference3Ideal.Value.run m' ρ')⟩
  obtain ⟨h0, kept⟩ := h c
  obtain ⟨e0, e1⟩ := hargs c
  obtain ⟨A, hA⟩ := entries (d := ![8192, 4096]) (m ((c.tc : Thread nD τ).loc main_arg0))
  obtain ⟨B, hB⟩ := entries (d := ![8192, 1024]) (m ((c.tc : Thread nD τ).loc main_arg1))
  refine ⟨h0.trans ((Cert.Reference3Ideal.Read.val_main_v5_eq _ _).trans (Eq.trans ?_ (result m c A B (fun i => (congrFun (V_main_arg0 m c) i).trans (hA i)) (fun i => (congrFun (V_main_arg1 m c) i).trans (hB i))).symm)), kept⟩
  refine Eq.trans ?_ (reference (m ((c.tc : Thread nD τ).loc main_arg0)) (m ((c.tc : Thread nD τ).loc main_arg1)) A B hA hB)
  rw [← e0, ← e1]

/-- The reference's frame: its run read at the arguments; it declares no semaphore. -/
theorem reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proof.GradDown
-- ==== Proof.DownBwd.lean ====
module

public import proofs.«01_k».proof.Defs
public import proofs.«01_k».proof.Proof.Products
public import proofs.«01_k».proof.Proof.Gen.Kernel4Ideal.Value
public import proofs.«01_k».proof.Proof.Gen.Reference4Ideal.Read
public import proofs.«01_k».proof.Proof.Gen.Reference4Ideal.Run

/-!
The gradient before the squared rectifier: the product of `dx` with the transpose of `w_down`, times twice the positive part of
`u`. The reference chooses zero where `u` is not positive; there twice the positive part is zero, and so is the product, whatever
its other factor.
-/

@[expose] public section
noncomputable section
namespace Cert.Proof.DownBwd
open Idealize.ShloMosaic Idealize.ShloMosaic.TcCoe Idealize.SL.Sem Idealize.ShloMosaic.Pipeline Cert.Kernel4Ideal Cert.Kernel4Ideal.Gen Cert.Kernel4Ideal.Value

/-- The constant two, as both programs write it. -/
abbrev two : EReal := Scalar.ofBits (F := Ideal) .f32 0x40000000#32

/-- The gradient before the squared rectifier, entry by entry. -/
def duE (X W U : ℕ → ℕ → EReal) (a b : ℕ) : EReal := (∑ k : Fin 1024, X a k.val * W b k.val) * (two * max (U a b) 0)

/-- An index's place in its block. -/
def at2 (a b : ℕ) : S1024x1024.Idx := fun d => match d with
  | ⟨0, _⟩ => ⟨a % 1024, Nat.mod_lt _ (by norm_num)⟩
  | ⟨1, _⟩ => ⟨b % 1024, Nat.mod_lt _ (by norm_num)⟩

/-- What a grid point computes. -/
theorem pay1_E (X W U : ℕ → ℕ → EReal) : k0_pay1 (F := Ideal) (E2 (φ := .f32) X) (E2 (φ := .bf16) W) (E2 (φ := .bf16) U)
    = E2 (φ := .bf16) fun a b => duE X W U a b := by
  funext j; unfold k0_pay1; pointwise [dot_S1024x1024_S1024x1024_S1024x1024_1_1_0_0_n_n]
  simp only [E2_apply, zero_add, duE]
  try rfl

/-! ## The run -/

section run
variable (m : (ℓ : Loc nD τ sig) → Buf (Elt Ideal) ℓ) (c : Dev nD) (X W U : ℕ → ℕ → EReal)
  (hX : ∀ i : S8192x1024.Idx, V m c main_arg0 i = X (i 0).val (i 1).val)
  (hW : ∀ i : S4096x1024.Idx, V m c main_arg1 i = W (i 0).val (i 1).val)
  (hU : ∀ i : S8192x4096.Idx, V m c main_arg2 i = U (i 0).val (i 1).val)

theorem ix0 : ∀ t : Fin cfg0.N, cc0_transform_0 (grid0.coords t) = ![t.val / 4, 0] := by decide +kernel
theorem ix1 : ∀ t : Fin cfg0.N, cc0_transform_1 (grid0.coords t) = ![t.val % 4, 0] := by decide +kernel
theorem ix2 : ∀ t : Fin cfg0.N, cc0_transform_2 (grid0.coords t) = ![t.val / 4, t.val % 4] := by decide +kernel
theorem ix3 : ∀ t : Fin cfg0.N, cc0_transform_3 (grid0.coords t) = ![t.val / 4, t.val % 4] := by decide +kernel

include hX in
theorem blk0 (t : Fin cfg0.N) : (iblk m c 0 t : Vec Ideal S1024x1024 .f32) = E2 (φ := .f32) fun a k => X (1024 * (t.val / 4) + a) k := by
  funext y
  refine (hX (((cfg0.win 0).rect t).emb y)).trans ?_
  rw [(cfg0.win 0).rect_emb_val t y (0 : Fin 2), (cfg0.win 0).rect_emb_val t y (1 : Fin 2)]
  have i0 : (cfg0.win 0).index t (0 : Fin 2) = t.val / 4 := congrFun (ix0 t) 0
  have i1 : (cfg0.win 0).index t (1 : Fin 2) = 0 := congrFun (ix0 t) 1
  rw [i0, i1]
  show X (t.val / 4 * 1024 + (y 0).val) (0 * 1024 + (y 1).val) = X (1024 * (t.val / 4) + (y 0).val) (y 1).val
  rw [Nat.mul_comm, Nat.zero_mul, Nat.zero_add]

include hW in
theorem blk1 (t : Fin cfg0.N) : (iblk m c 1 t : Vec Ideal S1024x1024 .bf16) = E2 (φ := .bf16) fun b k => W (1024 * (t.val % 4) + b) k := by
  funext y
  refine (hW (((cfg0.win 1).rect t).emb y)).trans ?_
  rw [(cfg0.win 1).rect_emb_val t y (0 : Fin 2), (cfg0.win 1).rect_emb_val t y (1 : Fin 2)]
  have i0 : (cfg0.win 1).index t (0 : Fin 2) = t.val % 4 := congrFun (ix1 t) 0
  have i1 : (cfg0.win 1).index t (1 : Fin 2) = 0 := congrFun (ix1 t) 1
  rw [i0, i1]
  show W (t.val % 4 * 1024 + (y 0).val) (0 * 1024 + (y 1).val) = W (1024 * (t.val % 4) + (y 0).val) (y 1).val
  rw [Nat.mul_comm, Nat.zero_mul, Nat.zero_add]

include hU in
theorem blk2 (t : Fin cfg0.N) : (iblk m c 2 t : Vec Ideal S1024x1024 .bf16)
    = E2 (φ := .bf16) fun a b => U (1024 * (t.val / 4) + a) (1024 * (t.val % 4) + b) := by
  funext y
  refine (hU (((cfg0.win 2).rect t).emb y)).trans ?_
  rw [(cfg0.win 2).rect_emb_val t y (0 : Fin 2), (cfg0.win 2).rect_emb_val t y (1 : Fin 2)]
  have i0 : (cfg0.win 2).index t (0 : Fin 2) = t.val / 4 := congrFun (ix2 t) 0
  have i1 : (cfg0.win 2).index t (1 : Fin 2) = t.val % 4 := congrFun (ix2 t) 1
  rw [i0, i1]
  show U (t.val / 4 * 1024 + (y 0).val) (t.val % 4 * 1024 + (y 1).val) = U (1024 * (t.val / 4) + (y 0).val) (1024 * (t.val % 4) + (y 1).val)
  rw [Nat.mul_comm, Nat.mul_comm (t.val % 4)]

/-- Where a point's block lies in the result. -/
theorem emb3 (t : Fin cfg0.N) (y : S1024x1024.Idx) :
    (((cfg0.win 3).rect t).emb y (0 : Fin 2)).val = 1024 * (t.val / 4) + (y 0).val
    ∧ (((cfg0.win 3).rect t).emb y (1 : Fin 2)).val = 1024 * (t.val % 4) + (y 1).val := by
  rw [(cfg0.win 3).rect_emb_val t y (0 : Fin 2), (cfg0.win 3).rect_emb_val t y (1 : Fin 2)]
  have i0 : (cfg0.win 3).index t (0 : Fin 2) = t.val / 4 := congrFun (ix3 t) 0
  have i1 : (cfg0.win 3).index t (1 : Fin 2) = t.val % 4 := congrFun (ix3 t) 1
  rw [i0, i1]
  show t.val / 4 * 1024 + (y 0).val = _ ∧ t.val % 4 * 1024 + (y 1).val = _
  rw [Nat.mul_comm, Nat.mul_comm (t.val % 4)]
  exact ⟨rfl, rfl⟩

include hX hW hU

/-- What a grid point writes. -/
theorem written (t : Fin cfg0.N) : out0_3 (F := Ideal) (iblk m c 0 t) (iblk m c 1 t) (iblk m c 2 t)
    = E2 (n := 1024) (m := 1024) (φ := .bf16) fun a b => duE X W U (1024 * (t.val / 4) + a) (1024 * (t.val % 4) + b) := by
  rw [blk0 m c X hX, blk1 m c W hW, blk2 m c U hU]
  unfold out0_3
  rw [View.canon_unit_zero off2, View.ld_unit_zero (S := S1024x1024) off2, View.ld_unit_zero (S := S1024x1024) off2,
    View.ld_unit_zero (S := S1024x1024) off2, pay1_E]
  rfl

/-- The array after the run. -/
theorem result : ((dats m 0 c).arrAt 3 cfg0.N : S8192x4096.Idx → EReal)
    = E2 (n := 8192) (m := 4096) (φ := .bf16) fun a b => duE X W U a b := by
  refine (dats m 0 c).arrAt_eq_of_cover 3 (E2 (n := 8192) (m := 4096) (φ := .bf16) fun a b => duE X W U a b) ?_ ?_
  · intro t _
    rw [flushed3, written m c X W U hX hW hU]
    funext y
    obtain ⟨e0, e1⟩ := emb3 t y
    show duE X W U (1024 * (t.val / 4) + (y 0).val) (1024 * (t.val % 4) + (y 1).val)
      = duE X W U (((cfg0.win 3).rect t).emb y (0 : Fin 2)).val (((cfg0.win 3).rect t).emb y (1 : Fin 2)).val
    rw [e0, e1]
  · intro i
    have l0 : (i (0 : Fin 2)).val < 8192 := (i (0 : Fin 2)).isLt
    have l1 : (i (1 : Fin 2)).val < 4096 := (i (1 : Fin 2)).isLt
    have ht : 4 * ((i (0 : Fin 2)).val / 1024) + (i (1 : Fin 2)).val / 1024 < cfg0.N := by rw [show cfg0.N = 32 from N_0]; omega
    refine ⟨⟨_, ht⟩, flush0_3 _, ?_⟩
    have hi : ((cfg0.win 3).blk ⟨_, ht⟩).view.emb (at2 (i (0 : Fin 2)).val (i (1 : Fin 2)).val) = i := by
      obtain ⟨e0, e1⟩ := emb3 ⟨_, ht⟩ (at2 (i (0 : Fin 2)).val (i (1 : Fin 2)).val)
      funext a
      match a with
      | ⟨0, _⟩ => exact Fin.ext (e0.trans (show 1024 * ((4 * ((i (0 : Fin 2)).val / 1024) + (i (1 : Fin 2)).val / 1024) / 4) + (i (0 : Fin 2)).val % 1024 = (i (0 : Fin 2)).val by omega))
      | ⟨1, _⟩ => exact Fin.ext (e1.trans (show 1024 * ((4 * ((i (0 : Fin 2)).val / 1024) + (i (1 : Fin 2)).val / 1024) % 4) + (i (1 : Fin 2)).val % 1024 = (i (1 : Fin 2)).val by omega))
    have hm := ((cfg0.win 3).blk ⟨_, ht⟩).view.emb_mem_set (at2 (i (0 : Fin 2)).val (i (1 : Fin 2)).val : Shape.Idx S1024x1024)
    exact Eq.mp (congrArg (· ∈ ((cfg0.win 3).blk ⟨_, ht⟩).view.set) hi) hm

end run

/-! ## The reference -/

/-- The reference's result at an index. -/
theorem reference (x : (⟨S8192x1024, .f32⟩ : BufTy).Contents (Elt Ideal)) (w : (⟨S4096x1024, .bf16⟩ : BufTy).Contents (Elt Ideal))
    (u : (⟨S8192x4096, .bf16⟩ : BufTy).Contents (Elt Ideal)) (X W U : ℕ → ℕ → EReal)
    (hX : ∀ i : S8192x1024.Idx, x i = X (i 0).val (i 1).val) (hW : ∀ i : S4096x1024.Idx, w i = W (i 0).val (i 1).val)
    (hU : ∀ i : S8192x4096.Idx, u i = U (i 0).val (i 1).val) :
    (Cert.Reference4Ideal.Read.val_main_v14 (F := Ideal) x w u : S8192x4096.Idx → EReal)
      = E2 (n := 8192) (m := 4096) (φ := .bf16) fun a b => duE X W U a b := by
  funext i
  rw [E2_apply, duE, ← hU i]
  have h10 : Cert.Reference4Ideal.Read.val_main_v10 (F := Ideal) x w i = ∑ k : Fin 1024, X (i 0).val k.val * W (i 1).val k.val :=
    (Cert.Reference4Ideal.Read.val_main_v10_apply x w i).trans (Finset.sum_congr rfl fun k _ =>
      congrArg₂ (· * ·) (hX (Cert.Reference4Ideal.Read.lidx_main_v10 i k)) (hW (Cert.Reference4Ideal.Read.ridx_main_v10 i k)))
  have z : ∀ j, Cert.Reference4Ideal.Read.val_main_v2 (F := Ideal) j = 0 := fun j => by
    rw [Cert.Reference4Ideal.Read.val_main_v2_apply, Cert.Reference4Ideal.Read.val_main_cst_apply]; exact Ideal.ofBits_zero_f32
  have z' : ∀ j, Cert.Reference4Ideal.Read.val_main_call0_v0 (F := Ideal) j = 0 := fun j => by
    rw [Cert.Reference4Ideal.Read.val_main_call0_v0_apply, Cert.Reference4Ideal.Read.val_main_call0_cst_apply]; exact Ideal.ofBits_zero_f32
  have z'' : ∀ j, Cert.Reference4Ideal.Read.val_main_v12 (F := Ideal) j = 0 := fun j => by
    rw [Cert.Reference4Ideal.Read.val_main_v12_apply, Cert.Reference4Ideal.Read.val_main_cst_2_apply]; exact Ideal.ofBits_zero_f32
  have h1 : Cert.Reference4Ideal.Read.val_main_v1 (F := Ideal) u i = max (u i) 0 := by
    rw [Cert.Reference4Ideal.Read.val_main_v1_apply, z']; rfl
  have h7 : Cert.Reference4Ideal.Read.val_main_v7 (F := Ideal) u i = two * max (u i) 0 := by
    rw [Cert.Reference4Ideal.Read.val_main_v7_apply, h1, Cert.Reference4Ideal.Read.val_main_v6_apply]; rfl
  rw [Cert.Reference4Ideal.Read.val_main_v14_apply, Cert.Reference4Ideal.Read.val_main_v13_apply, Cert.Reference4Ideal.Read.val_main_v11_apply,
    Cert.Reference4Ideal.Read.val_main_v3_apply, z, z'', h10, h7]
  by_cases h : (0 : EReal) < u i
  · have e : (FloatOps.cmpf (F := Ideal) (φ := .f32) .ogt (Cert.Reference4Ideal.Read.val_main_v0 (F := Ideal) u i) 0) = 1#1 := by
      show BitVec.ofBool (decide ((0 : EReal) < u i)) = 1#1
      rw [decide_eq_true h]; rfl
    rw [e]; rfl
  · have e : (FloatOps.cmpf (F := Ideal) (φ := .f32) .ogt (Cert.Reference4Ideal.Read.val_main_v0 (F := Ideal) u i) 0) = 0#1 := by
      show BitVec.ofBool (decide ((0 : EReal) < u i)) = 0#1
      rw [decide_eq_false h]; rfl
    rw [e, max_eq_right (not_lt.mp h), mul_zero, mul_zero]; rfl

/-! ## The claim -/

/-- The kernel's result is the reference's. -/
theorem algebraic : Cert.algebraic_Kernel4Ideal_Reference4Ideal := by
  intro m ρ m' ρ' _ hargs
  refine ⟨fun c => (dats m 0 c).arrAt 3 cfg0.N, run_blocks m ρ,
    (θ_run _ _ _).mono (fun r h c => ?_) (Cert.Reference4Ideal.Value.run m' ρ')⟩
  obtain ⟨h0, kept⟩ := h c
  obtain ⟨e0, e1, e2⟩ := hargs c
  obtain ⟨X, hX⟩ := entries (d := ![8192, 1024]) (m ((c.tc : Thread nD τ).loc main_arg0))
  obtain ⟨W, hW⟩ := entries (d := ![4096, 1024]) (m ((c.tc : Thread nD τ).loc main_arg1))
  obtain ⟨U, hU⟩ := entries (d := ![8192, 4096]) (m ((c.tc : Thread nD τ).loc main_arg2))
  refine ⟨h0.trans ((Cert.Reference4Ideal.Read.val_main_v14_eq _ _ _).trans (Eq.trans ?_ (result m c X W U (fun i => (congrFun (V_main_arg0 m c) i).trans (hX i)) (fun i => (congrFun (V_main_arg1 m c) i).trans (hW i)) (fun i => (congrFun (V_main_arg2 m c) i).trans (hU i))).symm)), kept⟩
  refine Eq.trans ?_ (reference (m ((c.tc : Thread nD τ).loc main_arg0)) (m ((c.tc : Thread nD τ).loc main_arg1)) (m ((c.tc : Thread nD τ).loc main_arg2)) X W U hX hW hU)
  rw [← e0, ← e1, ← e2]

/-- The reference's frame: its run read at the arguments; it declares no semaphore. -/
theorem reference_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Proof.DownBwd
-- ==== Proof.MlpUp.lean ====
module

public import proofs.«01_k».proof.Defs
public import proofs.«01_k».proof.Proof.Products
public import proofs.«01_k».proof.Proof.Gen.Kernel5Ideal.Value
public import proofs.«01_k».proof.Proof.Gen.Reference5Ideal.Read
public import proofs.«01_k».proof.Proof.Gen.Reference5Ideal.Run

/-!
The first product of the block's second half, `h` with `w_up`, and the squared rectifier of it.
-/

@[expose] public section
noncomputable section
namespace Cert.Proof.MlpUp
open Idealize.ShloMosaic Idealize.ShloMosaic.TcCoe Idealize.SL.Sem Idealize.ShloMosaic.Pipeline Cert.Kernel5Ideal Cert.Kernel5Ideal.Gen Cert.Kernel5Ideal.Value

/-- The product, entry by entry. -/
def uE (H W : ℕ → ℕ → EReal) (a b : ℕ) : EReal := ∑ k : Fin 1024, H a k.val * W k.val b

/-- The squared rectifier of the product, entry by entry. -/
def actE (H W : ℕ → ℕ → EReal) (a b : ℕ) : EReal := max (uE H W a b) 0 * max (uE H W a b) 0

/-- An index's place in its block. -/
def at2 (a b : ℕ) : S1024x1024.Idx := fun d => match d with
  | ⟨0, _⟩ => ⟨a % 1024, Nat.mod_lt _ (by norm_num)⟩
  | ⟨1, _⟩ => ⟨b % 1024, Nat.mod_lt _ (by norm_num)⟩

theorem pay1_E (H W : ℕ → ℕ → EReal) : k0_pay1 (F := Ideal) (E2 (φ := .bf16) H) (E2 (φ := .bf16) W)
    = E2 (φ := .f32) fun a b => uE H W a b := by
  funext j; unfold k0_pay1; pointwise [dot_S1024x1024_S1024x1024_S1024x1024_1_0_0_1_n_n]
  simp only [E2_apply, zero_add, uE]
  try rfl

theorem pay2_E (H W : ℕ → ℕ → EReal) : k0_pay2 (F := Ideal) (E2 (φ := .bf16) H) (E2 (φ := .bf16) W)
    = E2 (φ := .bf16) fun a b => uE H W a b := by
  funext j; unfold k0_pay2; rw [pay1_E]; pointwise; rfl

theorem pay3_E (H W : ℕ → ℕ → EReal) : k0_pay3 (F := Ideal) (E2 (φ := .bf16) H) (E2 (φ := .bf16) W)
    = E2 (φ := .bf16) fun a b => actE H W a b := by
  funext j; unfold k0_pay3; rw [pay1_E]; pointwise
  simp only [E2_apply, actE]
  try rfl

/-! ## The run -/

section run
variable (m : (ℓ : Loc nD τ sig) → Buf (Elt Ideal) ℓ) (c : Dev nD) (H W : ℕ → ℕ → EReal)
  (hH : ∀ i : S8192x1024.Idx, V m c main_arg0 i = H (i 0).val (i 1).val)
  (hW : ∀ i : S1024x4096.Idx, V m c main_arg1 i = W (i 0).val (i 1).val)

theorem ix0 : ∀ t : Fin cfg0.N, cc0_transform_0 (grid0.coords t) = ![t.val / 4, 0] := by decide +kernel
theorem ix1 : ∀ t : Fin cfg0.N, cc0_transform_1 (grid0.coords t) = ![0, t.val % 4] := by decide +kernel
theorem ix2 : ∀ t : Fin cfg0.N, cc0_transform_2 (grid0.coords t) = ![t.val / 4, t.val % 4] := by decide +kernel
theorem ix3 : ∀ t : Fin cfg0.N, cc0_transform_3 (grid0.coords t) = ![t.val / 4, t.val % 4] := by decide +kernel

include hH in
theorem blk0 (t : Fin cfg0.N) : (iblk m c 0 t : Vec Ideal S1024x1024 .bf16) = E2 (φ := .bf16) fun a k => H (1024 * (t.val / 4) + a) k := by
  funext y
  refine (hH (((cfg0.win 0).rect t).emb y)).trans ?_
  rw [(cfg0.win 0).rect_emb_val t y (0 : Fin 2), (cfg0.win 0).rect_emb_val t y (1 : Fin 2)]
  have i0 : (cfg0.win 0).index t (0 : Fin 2) = t.val / 4 := congrFun (ix0 t) 0
  have i1 : (cfg0.win 0).index t (1 : Fin 2) = 0 := congrFun (ix0 t) 1
  rw [i0, i1]
  show H (t.val / 4 * 1024 + (y 0).val) (0 * 1024 + (y 1).val) = H (1024 * (t.val / 4) + (y 0).val) (y 1).val
  rw [Nat.mul_comm, Nat.zero_mul, Nat.zero_add]

include hW in
theorem blk1 (t : Fin cfg0.N) : (iblk m c 1 t : Vec Ideal S1024x1024 .bf16) = E2 (φ := .bf16) fun k b => W k (1024 * (t.val % 4) + b) := by
  funext y
  refine (hW (((cfg0.win 1).rect t).emb y)).trans ?_
  rw [(cfg0.win 1).rect_emb_val t y (0 : Fin 2), (cfg0.win 1).rect_emb_val t y (1 : Fin 2)]
  have i0 : (cfg0.win 1).index t (0 : Fin 2) = 0 := congrFun (ix1 t) 0
  have i1 : (cfg0.win 1).index t (1 : Fin 2) = t.val % 4 := congrFun (ix1 t) 1
  rw [i0, i1]
  show W (0 * 1024 + (y 0).val) (t.val % 4 * 1024 + (y 1).val) = W (y 0).val (1024 * (t.val % 4) + (y 1).val)
  rw [Nat.mul_comm (t.val % 4), Nat.zero_mul, Nat.zero_add]

/-- Where a point's block lies in the result. -/
theorem emb2 (t : Fin cfg0.N) (y : S1024x1024.Idx) :
    (((cfg0.win 2).rect t).emb y (0 : Fin 2)).val = 1024 * (t.val / 4) + (y 0).val
    ∧ (((cfg0.win 2).rect t).emb y (1 : Fin 2)).val = 1024 * (t.val % 4) + (y 1).val := by
  rw [(cfg0.win 2).rect_emb_val t y (0 : Fin 2), (cfg0.win 2).rect_emb_val t y (1 : Fin 2)]
  have i0 : (cfg0.win 2).index t (0 : Fin 2) = t.val / 4 := congrFun (ix2 t) 0
  have i1 : (cfg0.win 2).index t (1 : Fin 2) = t.val % 4 := congrFun (ix2 t) 1
  rw [i0, i1]
  show t.val / 4 * 1024 + (y 0).val = _ ∧ t.val % 4 * 1024 + (y 1).val = _
  rw [Nat.mul_comm, Nat.mul_comm (t.val % 4)]
  exact ⟨rfl, rfl⟩

/-- Where a point's block lies in the result. -/
theorem emb3 (t : Fin cfg0.N) (y : S1024x1024.Idx) :
    (((cfg0.win 3).rect t).emb y (0 : Fin 2)).val = 1024 * (t.val / 4) + (y 0).val
    ∧ (((cfg0.win 3).rect t).emb y (1 : Fin 2)).val = 1024 * (t.val % 4) + (y 1).val := by
  rw [(cfg0.win 3).rect_emb_val t y (0 : Fin 2), (cfg0.win 3).rect_emb_val t y (1 : Fin 2)]
  have i0 : (cfg0.win 3).index t (0 : Fin 2) = t.val / 4 := congrFun (ix3 t) 0
  have i1 : (cfg0.win 3).index t (1 : Fin 2) = t.val % 4 := congrFun (ix3 t) 1
  rw [i0, i1]
  show t.val / 4 * 1024 + (y 0).val = _ ∧ t.val % 4 * 1024 + (y 1).val = _
  rw [Nat.mul_comm, Nat.mul_comm (t.val % 4)]
  exact ⟨rfl, rfl⟩

include hH hW

/-- What a grid point writes of the product. -/
theorem written2 (t : Fin cfg0.N) : out0_2 (F := Ideal) (iblk m c 0 t) (iblk m c 1 t)
    = E2 (n := 1024) (m := 1024) (φ := .bf16) fun a b => uE H W (1024 * (t.val / 4) + a) (1024 * (t.val % 4) + b) := by
  rw [blk0 m c H hH, blk1 m c W hW]
  unfold out0_2
  rw [View.canon_unit_zero off2, View.ld_unit_zero (S := S1024x1024) off2, View.ld_unit_zero (S := S1024x1024) off2, pay2_E]
  rfl

/-- What a grid point writes of the squared rectifier. -/
theorem written3 (t : Fin cfg0.N) : out0_3 (F := Ideal) (iblk m c 0 t) (iblk m c 1 t)
    = E2 (n := 1024) (m := 1024) (φ := .bf16) fun a b => actE H W (1024 * (t.val / 4) + a) (1024 * (t.val % 4) + b) := by
  rw [blk0 m c H hH, blk1 m c W hW]
  unfold out0_3
  rw [View.canon_unit_zero off2, View.ld_unit_zero (S := S1024x1024) off2, View.ld_unit_zero (S := S1024x1024) off2, pay3_E]
  rfl

/-- The array after the run. -/
theorem result2 : ((dats m 0 c).arrAt 2 cfg0.N : S8192x4096.Idx → EReal)
    = E2 (n := 8192) (m := 4096) (φ := .bf16) fun a b => uE H W a b := by
  refine (dats m 0 c).arrAt_eq_of_cover 2 (E2 (n := 8192) (m := 4096) (φ := .bf16) fun a b => uE H W a b) ?_ ?_
  · intro t _
    rw [flushed2, written2 m c H W hH hW]
    funext y
    obtain ⟨e0, e1⟩ := emb2 t y
    show uE H W (1024 * (t.val / 4) + (y 0).val) (1024 * (t.val % 4) + (y 1).val)
      = uE H W (((cfg0.win 2).rect t).emb y (0 : Fin 2)).val (((cfg0.win 2).rect t).emb y (1 : Fin 2)).val
    rw [e0, e1]
  · intro i
    have l0 : (i (0 : Fin 2)).val < 8192 := (i (0 : Fin 2)).isLt
    have l1 : (i (1 : Fin 2)).val < 4096 := (i (1 : Fin 2)).isLt
    have ht : 4 * ((i (0 : Fin 2)).val / 1024) + (i (1 : Fin 2)).val / 1024 < cfg0.N := by rw [show cfg0.N = 32 from N_0]; omega
    refine ⟨⟨_, ht⟩, flush0_2 _, ?_⟩
    have hi : ((cfg0.win 2).blk ⟨_, ht⟩).view.emb (at2 (i (0 : Fin 2)).val (i (1 : Fin 2)).val) = i := by
      obtain ⟨e0, e1⟩ := emb2 ⟨_, ht⟩ (at2 (i (0 : Fin 2)).val (i (1 : Fin 2)).val)
      funext a
      match a with
      | ⟨0, _⟩ => exact Fin.ext (e0.trans (show 1024 * ((4 * ((i (0 : Fin 2)).val / 1024) + (i (1 : Fin 2)).val / 1024) / 4) + (i (0 : Fin 2)).val % 1024 = (i (0 : Fin 2)).val by omega))
      | ⟨1, _⟩ => exact Fin.ext (e1.trans (show 1024 * ((4 * ((i (0 : Fin 2)).val / 1024) + (i (1 : Fin 2)).val / 1024) % 4) + (i (1 : Fin 2)).val % 1024 = (i (1 : Fin 2)).val by omega))
    have hm := ((cfg0.win 2).blk ⟨_, ht⟩).view.emb_mem_set (at2 (i (0 : Fin 2)).val (i (1 : Fin 2)).val : Shape.Idx S1024x1024)
    exact Eq.mp (congrArg (· ∈ ((cfg0.win 2).blk ⟨_, ht⟩).view.set) hi) hm

/-- The array after the run. -/
theorem result3 : ((dats m 0 c).arrAt 3 cfg0.N : S8192x4096.Idx → EReal)
    = E2 (n := 8192) (m := 4096) (φ := .bf16) fun a b => actE H W a b := by
  refine (dats m 0 c).arrAt_eq_of_cover 3 (E2 (n := 8192) (m := 4096) (φ := .bf16) fun a b => actE H W a b) ?_ ?_
  · intro t _
    rw [flushed3, written3 m c H W hH hW]
    funext y
    obtain ⟨e0, e1⟩ := emb3 t y
    show actE H W (1024 * (t.val / 4) + (y 0).val) (1024 * (t.val % 4) + (y 1).val)
      = actE H W (((cfg0.win 3).rect t).emb y (0 : Fin 2)).val (((cfg0.win 3).rect t).emb y (1 : Fin 2)).val
    rw [e0, e1]
  · intro i
    have l0 : (i (0 : Fin 2)).val < 8192 := (i (0 : Fin 2)).isLt
    have l1 : (i (1 : Fin 2)).val < 4096 := (i (1 : Fin 2)).isLt
    have ht : 4 * ((i (0 : Fin 2)).val / 1024) + (i (1 : Fin 2)).val / 1024 < cfg0.N := by rw [show cfg0.N = 32 from N_0]; omega
    refine ⟨⟨_, ht⟩, flush0_3 _, ?_⟩
    have hi : ((cfg0.win 3).blk ⟨_, ht⟩).view.emb (at2 (i (0 : Fin 2)).val (i (1 : Fin 2)).val) = i := by
      obtain ⟨e0, e1⟩ := emb3 ⟨_, ht⟩ (at2 (i (0 : Fin 2)).val (i (1 : Fin 2)).val)
      funext a
      match a with
      | ⟨0, _⟩ => exact Fin.ext (e0.trans (show 1024 * ((4 * ((i (0 : Fin 2)).val / 1024) + (i (1 : Fin 2)).val / 1024) / 4) + (i (0 : Fin 2)).val % 1024 = (i (0 : Fin 2)).val by omega))
      | ⟨1, _⟩ => exact Fin.ext (e1.trans (show 1024 * ((4 * ((i (0 : Fin 2)).val / 1024) + (i (1 : Fin 2)).val / 1024) % 4) + (i (1 : Fin 2)).val % 1024 = (i (1 : Fin 2)).val by omega))
    have hm := ((cfg0.win 3).blk ⟨_, ht⟩).view.emb_mem_set (at2 (i (0 : Fin 2)).val (i (1 : Fin 2)).val : Shape.Idx S1024x1024)
    exact Eq.mp (congrArg (· ∈ ((cfg0.win 3).blk ⟨_, ht⟩).view.set) hi) hm

end run

/-! ## The reference -/

section ref
variable (x : (⟨S8192x1024, .bf16⟩ : BufTy).Contents (Elt Ideal)) (w : (⟨S1024x4096, .bf16⟩ : BufTy).Contents (Elt Ideal))
  (H W : ℕ → ℕ → EReal)
  (hH : ∀ i : S8192x1024.Idx, x i = H (i 0).val (i 1).val) (hW : ∀ i : S1024x4096.Idx, w i = W (i 0).val (i 1).val)
include hH hW

theorem product (i : S8192x4096.Idx) : Cert.Reference5Ideal.Read.val_main_v2 (F := Ideal) x w i = uE H W (i 0).val (i 1).val :=
  (Cert.Reference5Ideal.Read.val_main_v2_apply x w i).trans (Finset.sum_congr rfl fun k _ =>
    congrArg₂ (· * ·) (hH (Cert.Reference5Ideal.Read.lidx_main_v2 i k)) (hW (Cert.Reference5Ideal.Read.ridx_main_v2 i k)))

/-- The reference's first result at an index. -/
theorem reference_u : (Cert.Reference5Ideal.Read.val_main_v3 (F := Ideal) x w : S8192x4096.Idx → EReal)
    = E2 (n := 8192) (m := 4096) (φ := .bf16) fun a b => uE H W a b := by
  funext i
  exact (Cert.Reference5Ideal.Read.val_main_v3_apply x w i).trans (product x w H W hH hW i)

/-- The reference's second result at an index. -/
theorem reference_act : (Cert.Reference5Ideal.Read.val_main_v6 (F := Ideal) x w : S8192x4096.Idx → EReal)
    = E2 (n := 8192) (m := 4096) (φ := .bf16) fun a b => actE H W a b := by
  funext i
  have z : ∀ j, Cert.Reference5Ideal.Read.val_main_call0_v0 (F := Ideal) j = 0 := fun j => by
    rw [Cert.Reference5Ideal.Read.val_main_call0_v0_apply, Cert.Reference5Ideal.Read.val_main_call0_cst_apply]; exact Ideal.ofBits_zero_f32
  have h4 : Cert.Reference5Ideal.Read.val_main_v4 (F := Ideal) x w i = max (uE H W (i 0).val (i 1).val) 0 := by
    rw [Cert.Reference5Ideal.Read.val_main_v4_apply, z, product x w H W hH hW i]; rfl
  rw [Cert.Reference5Ideal.Read.val_main_v6_apply, Cert.Reference5Ideal.Read.val_main_v5_apply, h4, E2_apply, actE]
  rfl

end ref

/-! ## The claim -/

/-- The kernel's results are the reference's. -/
theorem algebraic : Cert.algebraic_Kernel5Ideal_Reference5Ideal := by
  intro m ρ m' ρ' _ hargs
  refine ⟨fun c => (dats m 0 c).arrAt 2 cfg0.N, fun c => (dats m 0 c).arrAt 3 cfg0.N, run_blocks m ρ,
    (θ_run _ _ _).mono (fun r h c => ?_) (Cert.Reference5Ideal.Value.run m' ρ')⟩
  obtain ⟨h0, h1, kept⟩ := h c
  obtain ⟨e0, e1⟩ := hargs c
  obtain ⟨H, hH⟩ := entries (d := ![8192, 1024]) (m ((c.tc : Thread nD τ).loc main_arg0))
  obtain ⟨W, hW⟩ := entries (d := ![1024, 4096]) (m ((c.tc : Thread nD τ).loc main_arg1))
  have kH := fun i => (congrFun (V_main_arg0 m c) i).trans (hH i)
  have kW := fun i => (congrFun (V_main_arg1 m c) i).trans (hW i)
  refine ⟨h0.trans ((Cert.Reference5Ideal.Read.val_main_v3_eq _ _).trans (Eq.trans ?_ (result2 m c H W kH kW).symm)),
    h1.trans ((Cert.Reference5Ideal.Read.val_main_v6_eq _ _).trans (Eq.trans ?_ (result3 m c H W kH kW).symm)), kept⟩
  · refine Eq.trans ?_ (reference_u (m ((c.tc : Thread nD τ).loc main_arg0)) (m ((c.tc : Thread nD τ).loc main_arg1)) H W hH hW)
    rw [← e0, ← e1]
  · refine Eq.trans ?_ (reference_act (m ((c.tc : Thread nD τ).loc main_arg0)) (m ((c.tc : Thread nD τ).loc main_arg1)) H W hH hW)
    rw [← e0, ← e1]

/-- The reference's frame: its run read at the arguments; it declares no semaphore. -/
theorem reference_frame : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

end Cert.Proof.MlpUp
-- ==== Proof.UpBwd.lean ====
module

public import proofs.«01_k».proof.Defs
public import proofs.«01_k».proof.Proof.Products
public import proofs.«01_k».proof.Proof.Gen.Kernel6Ideal.Value
public import proofs.«01_k».proof.Proof.Gen.Reference6Ideal.Read
public import proofs.«01_k».proof.Proof.Gen.Reference6Ideal.Run

/-!
The gradient through the second norm: the product of `du` with the transpose of `w_up`, then the norm's gradient, row by row, and
the sum over the rows of the gradient of its weights.
-/

@[expose] public section
noncomputable section
namespace Cert.Proof.UpBwd
open Idealize.ShloMosaic Idealize.ShloMosaic.TcCoe Idealize.SL.Sem Idealize.ShloMosaic.Pipeline Cert.Kernel6Ideal Cert.Kernel6Ideal.Gen Cert.Kernel6Ideal.Value

/-- The width of a row, the small constant under the root, and minus a half, as both programs write them. -/
abbrev wide : EReal := Scalar.ofBits (F := Ideal) .f32 0x44800000#32
abbrev small : EReal := Scalar.ofBits (F := Ideal) .f32 0x358637BD#32
abbrev mhalf : EReal := Scalar.ofBits (F := Ideal) .f32 0xBF000000#32

/-- The gradient before the product with `w_up`. -/
def dhE (D W : ℕ → ℕ → EReal) (a j : ℕ) : EReal := ∑ k : Fin 4096, D a k.val * W j k.val

/-- The mean of a row's squares with the small constant, and the inverse of its root. -/
def varE (X : ℕ → ℕ → EReal) (a : ℕ) : EReal := Ideal.div (∑ k : Fin 1024, X a k.val * X a k.val) wide + small
def rsE (X : ℕ → ℕ → EReal) (a : ℕ) : EReal := Ideal.rsqrt (varE X a)

/-- The gradient of a normed row. -/
def qE (D W G : ℕ → ℕ → EReal) (a j : ℕ) : EReal := dhE D W a j * G 0 j

/-- The gradient of the mean of a row's squares. -/
def tE (D W X G : ℕ → ℕ → EReal) (a : ℕ) : EReal :=
  Ideal.div ((∑ k : Fin 1024, X a k.val * qE D W G a k.val) * (mhalf * Ideal.div (rsE X a) (varE X a))) wide

/-- The gradient of the block's input, entry by entry. -/
def dxE (D W X G R : ℕ → ℕ → EReal) (a j : ℕ) : EReal :=
  qE D W G a j * rsE X a + X a j * tE D W X G a + tE D W X G a * X a j + R a j

/-- One row's share of the gradient of the norm's weights. -/
def wE (D W X : ℕ → ℕ → EReal) (a j : ℕ) : EReal := X a j * rsE X a * dhE D W a j

/-! ## What a grid point computes -/

theorem pay3_E (W D : ℕ → ℕ → EReal) : k0_pay3 (F := Ideal) (E2 (φ := .bf16) W) (E2 (φ := .bf16) D)
    = E2 (φ := .f32) fun a j => dhE D W a j := by
  funext j; unfold k0_pay3; pointwise [dot_S256x4096_S1024x4096_S256x1024_1_1_0_0_n_n]
  simp only [E2_apply, zero_add, dhE]
  try rfl

theorem pay4_E (X : ℕ → ℕ → EReal) : k0_pay4 (F := Ideal) (E2 (φ := .f32) X)
    = E2 (φ := .f32) fun a _ => varE X a := by
  funext j; unfold k0_pay4; pointwise
  simp only [E2_apply, varE]
  try rfl

theorem pay5_E (X : ℕ → ℕ → EReal) : k0_pay5 (F := Ideal) (E2 (φ := .f32) X)
    = E2 (φ := .f32) fun a _ => rsE X a := by
  funext j; unfold k0_pay5; rw [pay4_E]; pointwise
  try rfl

theorem pay6_E (W D X : ℕ → ℕ → EReal) : k0_pay6 (F := Ideal) (E2 (φ := .bf16) W) (E2 (φ := .bf16) D) (E2 (φ := .f32) X)
    = E2 (φ := .f32) fun _ j => ∑ r : Fin 256, wE D W X r.val j := by
  funext j; unfold k0_pay6; rw [pay3_E, pay5_E]; pointwise
  simp only [E2_apply, wE]
  try rfl

theorem pay7_E (W D X G R : ℕ → ℕ → EReal) : k0_pay7 (F := Ideal) (E2 (φ := .bf16) W) (E2 (φ := .f32) G) (E2 (φ := .bf16) D) (E2 (φ := .f32) X) (E2 (φ := .f32) R)
    = E2 (φ := .f32) fun a j => dxE D W X G R a j := by
  funext j; unfold k0_pay7; rw [pay3_E, pay5_E, pay4_E]; pointwise
  simp only [E2_apply, Finset.univ_unique, Finset.sum_singleton, dxE, qE, tE]
  try rfl

theorem pay1_E (A B : ℕ → ℕ → EReal) : k0_pay1 (F := Ideal) (E2 (φ := .f32) A) (E2 (φ := .f32) B) = E2 (φ := .f32) fun a j => A a j + B a j := by
  funext j; unfold k0_pay1; pointwise; try rfl

theorem pay2_E (A B C : ℕ → ℕ → EReal) : k0_pay2 (F := Ideal) (E2 (φ := .f32) A) (E2 (φ := .f32) B) (E2 (φ := .f32) C)
    = E2 (φ := .f32) fun a j => C a j + (A a j + B a j) := by
  funext j; unfold k0_pay2; rw [pay1_E]; pointwise; try rfl

/-- The second half of a block is computed as the first. -/
theorem pay11_eq : @k0_pay11 Ideal _ = k0_pay6 := rfl
theorem pay12_eq : @k0_pay12 Ideal _ = k0_pay7 := rfl

theorem ldD0 (f : ℕ → ℕ → EReal) (inb : ∀ a, (![0, 0] : Fin 2 → ℕ) a + (![256, 4096] : Fin 2 → ℕ) a ≤ S512x4096.size a) :
    View.ld (Val := Elt Ideal) (e' := .bf16) (S := S512x4096) (E2 (n := 512) (m := 4096) (φ := .bf16) f) (Rect.unit (s := S512x4096) ![0, 0] ![256, 4096] inb)
      = E2 (n := 256) (m := 4096) (φ := .bf16) fun a b => f (0 + a) b := by
  funext y
  show f (0 + 1 * (y 0).val) (0 + 1 * (y 1).val) = f (0 + (y 0).val) (y 1).val
  simp only [Nat.one_mul, Nat.zero_add]

theorem ldD1 (f : ℕ → ℕ → EReal) (inb : ∀ a, (![256, 0] : Fin 2 → ℕ) a + (![256, 4096] : Fin 2 → ℕ) a ≤ S512x4096.size a) :
    View.ld (Val := Elt Ideal) (e' := .bf16) (S := S512x4096) (E2 (n := 512) (m := 4096) (φ := .bf16) f) (Rect.unit (s := S512x4096) ![256, 0] ![256, 4096] inb)
      = E2 (n := 256) (m := 4096) (φ := .bf16) fun a b => f (256 + a) b := by
  funext y
  show f (256 + 1 * (y 0).val) (0 + 1 * (y 1).val) = f (256 + (y 0).val) (y 1).val
  rw [Nat.one_mul, Nat.one_mul, Nat.zero_add]

theorem ldX0 (f : ℕ → ℕ → EReal) (inb : ∀ a, (![0, 0] : Fin 2 → ℕ) a + (![256, 1024] : Fin 2 → ℕ) a ≤ S512x1024.size a) :
    View.ld (Val := Elt Ideal) (e' := .f32) (S := S512x1024) (E2 (n := 512) (m := 1024) (φ := .f32) f) (Rect.unit (s := S512x1024) ![0, 0] ![256, 1024] inb)
      = E2 (n := 256) (m := 1024) (φ := .f32) fun a b => f (0 + a) b := by
  funext y
  show f (0 + 1 * (y 0).val) (0 + 1 * (y 1).val) = f (0 + (y 0).val) (y 1).val
  simp only [Nat.one_mul, Nat.zero_add]

theorem ldX1 (f : ℕ → ℕ → EReal) (inb : ∀ a, (![256, 0] : Fin 2 → ℕ) a + (![256, 1024] : Fin 2 → ℕ) a ≤ S512x1024.size a) :
    View.ld (Val := Elt Ideal) (e' := .f32) (S := S512x1024) (E2 (n := 512) (m := 1024) (φ := .f32) f) (Rect.unit (s := S512x1024) ![256, 0] ![256, 1024] inb)
      = E2 (n := 256) (m := 1024) (φ := .f32) fun a b => f (256 + a) b := by
  funext y
  show f (256 + 1 * (y 0).val) (0 + 1 * (y 1).val) = f (256 + (y 0).val) (y 1).val
  rw [Nat.one_mul, Nat.one_mul, Nat.zero_add]

/-- The two halves of a block, stored one after the other. -/
theorem halves (g : ℕ → ℕ → EReal) (i0 : ∀ a, (![0, 0] : Fin 2 → ℕ) a + S256x1024.size a ≤ S512x1024.size a)
    (i1 : ∀ a, (![256, 0] : Fin 2 → ℕ) a + S256x1024.size a ≤ S512x1024.size a) :
    View.canon (s := S512x1024) (e := .f32) (Val := Elt Ideal)
      [⟨Rect.unit (s := S512x1024) ![256, 0] S256x1024.size i1, E2 (n := 256) (m := 1024) (φ := .f32) fun a j => g (256 + a) j⟩,
       ⟨Rect.unit (s := S512x1024) ![0, 0] S256x1024.size i0, E2 (n := 256) (m := 1024) (φ := .f32) fun a j => g (0 + a) j⟩]
      = E2 (n := 512) (m := 1024) (φ := .f32) g := by
  have key : ∀ o a b : ℕ, g (o + a) b = g (o + 1 * a) (0 + 1 * b) := fun o a b => by rw [Nat.one_mul, Nat.one_mul, Nat.zero_add]
  funext y
  refine View.canon_apply_of_pieces (S := S512x1024) (e := .f32) (Val := Elt Ideal) (E2 (n := 512) (m := 1024) (φ := .f32) g) _ ?_ y ?_
  · intro p hp
    simp only [List.mem_cons, List.not_mem_nil, or_false] at hp
    rcases hp with rfl | rfl
    · exact fun x => key 256 (x 0).val (x 1).val
    · exact fun x => key 0 (x 0).val (x 1).val
  · exact View.cover_of_tiledL (s := S512x1024) _ S256x1024.size (by sl_kernel_rfl) y

section point
variable (c : Dev nD) (i : grid0.Coords)
  (arg1 : Memref sig .tc .vmem S512x4096 .bf16) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S1024x4096 .bf16) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S1x1024 .f32) (harg7 : arg7.IsWhole)
  (D X R W G C : ℕ → ℕ → EReal) (xo : Vec Ideal S1x1024 .f32)

/-- The rows of the first result a grid point leaves. -/
theorem rowsA (hc0 : cond0_0 i) (hc1 : ¬cond0_1 i) :
    out0_A_5 (F := Ideal) c i arg1 harg1 arg2 harg2 arg3 harg3 arg4 harg4 arg5 harg5 arg6 harg6 arg7 harg7 hc0 hc1 (E2 (φ := .bf16) D) (E2 (φ := .f32) X) (E2 (φ := .f32) R) (E2 (φ := .bf16) W) (E2 (φ := .f32) G)
      = E2 (n := 512) (m := 1024) (φ := .f32) fun a j => dxE D W X G R a j := by
  unfold out0_A_5
  rw [View.read_writes_eq_canon _ _ _ (cover0_A_5 (F := Ideal) c i arg1 harg1 arg2 harg2 arg3 harg3 arg4 harg4 arg5 harg5 arg6 harg6 arg7 harg7 hc0 hc1 _ _ _ _ _)]
  unfold kernelRun0_A
  dsimp only
  sl_unfold_words
  simp only [View.readAt_eq_ld, harg1.read_unread, harg2.read_unread, harg3.read_unread, harg4.read_unread, harg5.read_unread, ldD0, ldD1, ldX0, ldX1,
    View.ld_unit_zero (S := S1024x4096) off2, View.ld_unit_zero (S := S1x1024) off2, pay12_eq, pay7_E]
  exact halves (dxE D W X G R) _ _

/-- The sum over the rows so far of the gradient of the weights. -/
theorem sumA (hc0 : cond0_0 i) (hc1 : ¬cond0_1 i) :
    out0_A_6 (F := Ideal) c i arg1 harg1 arg2 harg2 arg3 harg3 arg4 harg4 arg5 harg5 arg6 harg6 arg7 harg7 hc0 hc1 (E2 (φ := .bf16) D) (E2 (φ := .f32) X) (E2 (φ := .f32) R) (E2 (φ := .bf16) W) (E2 (φ := .f32) G)
      = E2 (n := 1) (m := 1024) (φ := .f32) fun a j => (∑ r : Fin 256, wE D W X (0 + r.val) j) + ∑ r : Fin 256, wE D W X (256 + r.val) j := by
  unfold out0_A_6
  rw [View.read_writes_eq_canon _ _ _ (cover0_A_6 (F := Ideal) c i arg1 harg1 arg2 harg2 arg3 harg3 arg4 harg4 arg5 harg5 arg6 harg6 arg7 harg7 hc0 hc1 _ _ _ _ _)]
  unfold kernelRun0_A
  dsimp only
  sl_unfold_words
  rw [View.canon_cons_unit_zero (S := S1x1024) off2]
  simp only [View.readAt_eq_ld, harg1.read_unread, harg2.read_unread, harg3.read_unread, harg4.read_unread, harg5.read_unread, ldD0, ldD1, ldX0, ldX1,
    View.ld_unit_zero (S := S1024x4096) off2, View.ld_unit_zero (S := S1x1024) off2, pay11_eq, pay6_E, pay1_E]
  rfl

/-- The rows of the first result a grid point leaves. -/
theorem rowsB (hc0 : ¬cond0_0 i) (hc1 : cond0_1 i) :
    out0_B_5 (F := Ideal) c i arg1 harg1 arg2 harg2 arg3 harg3 arg4 harg4 arg5 harg5 arg6 harg6 arg7 harg7 hc0 hc1 (E2 (φ := .bf16) D) (E2 (φ := .f32) X) (E2 (φ := .f32) R) (E2 (φ := .bf16) W) (E2 (φ := .f32) G) xo
      = E2 (n := 512) (m := 1024) (φ := .f32) fun a j => dxE D W X G R a j := by
  unfold out0_B_5
  rw [View.read_writes_eq_canon _ _ _ (cover0_B_5 (F := Ideal) c i arg1 harg1 arg2 harg2 arg3 harg3 arg4 harg4 arg5 harg5 arg6 harg6 arg7 harg7 hc0 hc1 _ _ _ _ _ _)]
  unfold kernelRun0_B
  dsimp only
  sl_unfold_words
  simp only [View.readAt_eq_ld, harg1.read_unread, harg2.read_unread, harg3.read_unread, harg4.read_unread, harg5.read_unread, ldD0, ldD1, ldX0, ldX1,
    View.ld_unit_zero (S := S1024x4096) off2, View.ld_unit_zero (S := S1x1024) off2, pay12_eq, pay7_E]
  exact halves (dxE D W X G R) _ _

/-- The sum over the rows so far of the gradient of the weights. -/
theorem sumB (hc0 : ¬cond0_0 i) (hc1 : cond0_1 i) :
    out0_B_6 (F := Ideal) c i arg1 harg1 arg2 harg2 arg3 harg3 arg4 harg4 arg5 harg5 arg6 harg6 arg7 harg7 hc0 hc1 (E2 (φ := .bf16) D) (E2 (φ := .f32) X) (E2 (φ := .f32) R) (E2 (φ := .bf16) W) (E2 (φ := .f32) G) (E2 (φ := .f32) C)
      = E2 (n := 1) (m := 1024) (φ := .f32) fun a j => C a j + ((∑ r : Fin 256, wE D W X (0 + r.val) j) + ∑ r : Fin 256, wE D W X (256 + r.val) j) := by
  unfold out0_B_6
  rw [View.read_writes_eq_canon _ _ _ (cover0_B_6 (F := Ideal) c i arg1 harg1 arg2 harg2 arg3 harg3 arg4 harg4 arg5 harg5 arg6 harg6 arg7 harg7 hc0 hc1 _ _ _ _ _ _)]
  unfold kernelRun0_B
  dsimp only
  sl_unfold_words
  rw [View.canon_cons_unit_zero (S := S1x1024) off2]
  simp only [View.readAt_eq_ld, harg1.read_unread, harg2.read_unread, harg3.read_unread, harg4.read_unread, harg5.read_unread, harg7.read_unread, ldD0, ldD1, ldX0, ldX1,
    View.ld_unit_zero (S := S1024x4096) off2, View.ld_unit_zero (S := S1x1024) off2, pay11_eq, pay6_E, pay2_E]
  rfl

end point

/-- The gradient of the norm's weights, over the first `n` rows. -/
def dgE (D W X : ℕ → ℕ → EReal) (n j : ℕ) : EReal := ∑ a ∈ Finset.range n, wE D W X a j

theorem dgE_zero (D W X : ℕ → ℕ → EReal) (j : ℕ) : dgE D W X 0 j = 0 := Finset.sum_range_zero _

/-- The next block of rows. -/
theorem dgE_step (D W X : ℕ → ℕ → EReal) (n j : ℕ) :
    dgE D W X n j + ((∑ r : Fin 256, wE D W X (n + (0 + r.val)) j) + ∑ r : Fin 256, wE D W X (n + (256 + r.val)) j) = dgE D W X (n + 512) j := by
  unfold dgE
  rw [show n + 512 = n + (256 + 256) from rfl, Finset.sum_range_add _ n, Finset.sum_range_add _ 256, Finset.sum_range fun r => wE D W X (n + r) j,
    Finset.sum_range fun r => wE D W X (n + (256 + r)) j]
  refine congrArg (_ + ·) (congrArg (· + _) (Finset.sum_congr rfl fun r _ => ?_))
  rw [Nat.zero_add]

/-! ## The run -/

/-- An index's place in its block. -/
def at2 (a b : ℕ) : S512x1024.Idx := fun d => match d with
  | ⟨0, _⟩ => ⟨a % 512, Nat.mod_lt _ (by norm_num)⟩
  | ⟨1, _⟩ => ⟨b % 1024, Nat.mod_lt _ (by norm_num)⟩

section run
variable (m : (ℓ : Loc nD τ sig) → Buf (Elt Ideal) ℓ) (c : Dev nD) (D W X R G : ℕ → ℕ → EReal)
  (hD : ∀ i : S8192x4096.Idx, V m c main_arg0 i = D (i 0).val (i 1).val)
  (hW : ∀ i : S1024x4096.Idx, V m c main_arg1 i = W (i 0).val (i 1).val)
  (hX : ∀ i : S8192x1024.Idx, V m c main_arg2 i = X (i 0).val (i 1).val)
  (hR : ∀ i : S8192x1024.Idx, V m c main_arg3 i = R (i 0).val (i 1).val)
  (hG : ∀ i : S1x1024.Idx, V m c main_arg4 i = G (i 0).val (i 1).val)

theorem ix0 : ∀ t : Fin cfg0.N, cc0_transform_0 (grid0.coords t) = ![t.val, 0] := by decide +kernel
theorem ix1 : ∀ t : Fin cfg0.N, cc0_transform_1 (grid0.coords t) = ![t.val, 0] := by decide +kernel
theorem ix2 : ∀ t : Fin cfg0.N, cc0_transform_2 (grid0.coords t) = ![t.val, 0] := by decide +kernel
theorem ix3 : ∀ t : Fin cfg0.N, cc0_transform_3 (grid0.coords t) = ![0, 0] := by decide +kernel
theorem ix4 : ∀ t : Fin cfg0.N, cc0_transform_4 (grid0.coords t) = ![0, 0] := by decide +kernel
theorem ix5 : ∀ t : Fin cfg0.N, cc0_transform_5 (grid0.coords t) = ![t.val, 0] := by decide +kernel
theorem ix6 : ∀ t : Fin cfg0.N, cc0_transform_6 (grid0.coords t) = ![0, 0] := by decide +kernel

include hD in
theorem blk0 (t : Fin cfg0.N) : (iblk m c 0 t : Vec Ideal S512x4096 .bf16) = E2 (φ := .bf16) fun a k => D (512 * t.val + a) k := by
  funext y
  refine (hD (((cfg0.win 0).rect t).emb y)).trans ?_
  rw [(cfg0.win 0).rect_emb_val t y (0 : Fin 2), (cfg0.win 0).rect_emb_val t y (1 : Fin 2)]
  have i0 : (cfg0.win 0).index t (0 : Fin 2) = t.val := congrFun (ix0 t) 0
  have i1 : (cfg0.win 0).index t (1 : Fin 2) = 0 := congrFun (ix0 t) 1
  rw [i0, i1]
  show D (t.val * 512 + (y 0).val) (0 * 4096 + (y 1).val) = D (512 * t.val + (y 0).val) (y 1).val
  rw [Nat.mul_comm, Nat.zero_mul, Nat.zero_add]

include hX in
theorem blk1 (t : Fin cfg0.N) : (iblk m c 1 t : Vec Ideal S512x1024 .f32) = E2 (φ := .f32) fun a k => X (512 * t.val + a) k := by
  funext y
  refine (hX (((cfg0.win 1).rect t).emb y)).trans ?_
  rw [(cfg0.win 1).rect_emb_val t y (0 : Fin 2), (cfg0.win 1).rect_emb_val t y (1 : Fin 2)]
  have i0 : (cfg0.win 1).index t (0 : Fin 2) = t.val := congrFun (ix1 t) 0
  have i1 : (cfg0.win 1).index t (1 : Fin 2) = 0 := congrFun (ix1 t) 1
  rw [i0, i1]
  show X (t.val * 512 + (y 0).val) (0 * 1024 + (y 1).val) = X (512 * t.val + (y 0).val) (y 1).val
  rw [Nat.mul_comm, Nat.zero_mul, Nat.zero_add]

include hR in
theorem blk2 (t : Fin cfg0.N) : (iblk m c 2 t : Vec Ideal S512x1024 .f32) = E2 (φ := .f32) fun a k => R (512 * t.val + a) k := by
  funext y
  refine (hR (((cfg0.win 2).rect t).emb y)).trans ?_
  rw [(cfg0.win 2).rect_emb_val t y (0 : Fin 2), (cfg0.win 2).rect_emb_val t y (1 : Fin 2)]
  have i0 : (cfg0.win 2).index t (0 : Fin 2) = t.val := congrFun (ix2 t) 0
  have i1 : (cfg0.win 2).index t (1 : Fin 2) = 0 := congrFun (ix2 t) 1
  rw [i0, i1]
  show R (t.val * 512 + (y 0).val) (0 * 1024 + (y 1).val) = R (512 * t.val + (y 0).val) (y 1).val
  rw [Nat.mul_comm, Nat.zero_mul, Nat.zero_add]

include hW in
theorem blk3 (t : Fin cfg0.N) : (iblk m c 3 t : Vec Ideal S1024x4096 .bf16) = E2 (φ := .bf16) W := by
  funext y
  refine (hW (((cfg0.win 3).rect t).emb y)).trans ?_
  rw [(cfg0.win 3).rect_emb_val t y (0 : Fin 2), (cfg0.win 3).rect_emb_val t y (1 : Fin 2)]
  have i0 : (cfg0.win 3).index t (0 : Fin 2) = 0 := congrFun (ix3 t) 0
  have i1 : (cfg0.win 3).index t (1 : Fin 2) = 0 := congrFun (ix3 t) 1
  rw [i0, i1]
  show W (0 * 1024 + (y 0).val) (0 * 4096 + (y 1).val) = W (y 0).val (y 1).val
  simp only [Nat.zero_mul, Nat.zero_add]

include hG in
theorem blk4 (t : Fin cfg0.N) : (iblk m c 4 t : Vec Ideal S1x1024 .f32) = E2 (φ := .f32) G := by
  funext y
  refine (hG (((cfg0.win 4).rect t).emb y)).trans ?_
  rw [(cfg0.win 4).rect_emb_val t y (0 : Fin 2), (cfg0.win 4).rect_emb_val t y (1 : Fin 2)]
  have i0 : (cfg0.win 4).index t (0 : Fin 2) = 0 := congrFun (ix4 t) 0
  have i1 : (cfg0.win 4).index t (1 : Fin 2) = 0 := congrFun (ix4 t) 1
  rw [i0, i1]
  show G (0 * 1 + (y 0).val) (0 * 1024 + (y 1).val) = G (y 0).val (y 1).val
  simp only [Nat.zero_mul, Nat.zero_add]

/-- Where a point's block lies in the results. -/
theorem emb5 (t : Fin cfg0.N) (y : S512x1024.Idx) :
    (((cfg0.win 5).rect t).emb y (0 : Fin 2)).val = 512 * t.val + (y 0).val
    ∧ (((cfg0.win 5).rect t).emb y (1 : Fin 2)).val = (y 1).val := by
  rw [(cfg0.win 5).rect_emb_val t y (0 : Fin 2), (cfg0.win 5).rect_emb_val t y (1 : Fin 2)]
  have i0 : (cfg0.win 5).index t (0 : Fin 2) = t.val := congrFun (ix5 t) 0
  have i1 : (cfg0.win 5).index t (1 : Fin 2) = 0 := congrFun (ix5 t) 1
  rw [i0, i1]
  show t.val * 512 + (y 0).val = _ ∧ 0 * 1024 + (y 1).val = _
  rw [Nat.mul_comm, Nat.zero_mul, Nat.zero_add]
  exact ⟨rfl, rfl⟩

theorem emb6 (t : Fin cfg0.N) (y : S1x1024.Idx) :
    (((cfg0.win 6).rect t).emb y (0 : Fin 2)).val = (y 0).val ∧ (((cfg0.win 6).rect t).emb y (1 : Fin 2)).val = (y 1).val := by
  rw [(cfg0.win 6).rect_emb_val t y (0 : Fin 2), (cfg0.win 6).rect_emb_val t y (1 : Fin 2)]
  have i0 : (cfg0.win 6).index t (0 : Fin 2) = 0 := congrFun (ix6 t) 0
  have i1 : (cfg0.win 6).index t (1 : Fin 2) = 0 := congrFun (ix6 t) 1
  rw [i0, i1]
  exact ⟨(show 0 * 1 + (y 0).val = (y 0).val by omega), (show 0 * 1024 + (y 1).val = (y 1).val by omega)⟩

include hD hW hX hR hG

/-- What a grid point writes of the first result. -/
theorem written5 (t : Fin cfg0.N) : (outsAt0 m c t.val t.isLt).1
    = E2 (n := 512) (m := 1024) (φ := .f32) fun a j => dxE D W X G R (512 * t.val + a) j := by
  have l : t.val < 16 := t.isLt.trans_eq N_0
  by_cases h0 : t.val % 16 = 0
  · rw [outsAt0_A m c t h0 (by omega)]
    dsimp only
    rw [blk0 m c D hD, blk1 m c X hX, blk2 m c R hR, blk3 m c W hW, blk4 m c G hG, rowsA]
    rfl
  · rw [outsAt0_B m c t h0 (by omega)]
    dsimp only
    rw [blk0 m c D hD, blk1 m c X hX, blk2 m c R hR, blk3 m c W hW, blk4 m c G hG, rowsB]
    rfl

/-- The running sum. -/
theorem sums : ∀ (n : ℕ) (hn : n < cfg0.N), (outsAt0 m c n hn).2
    = E2 (n := 1) (m := 1024) (φ := .f32) fun _ j => dgE D W X (512 * n + 512) j := by
  intro n
  induction n with
  | zero =>
    intro hn
    rw [outsAt0_A m c ⟨0, hn⟩ rfl (show ¬ 1 ≤ 0 by decide)]
    dsimp only
    rw [blk0 m c D hD, blk1 m c X hX, blk2 m c R hR, blk3 m c W hW, blk4 m c G hG, sumA]
    refine congrArg (E2 (n := 1) (m := 1024) (φ := .f32)) (funext fun a => funext fun j => ?_)
    rw [← dgE_step, Nat.mul_zero, dgE_zero, zero_add]
    rfl
  | succ n ih =>
    intro hn
    have l : n + 1 < 16 := hn.trans_eq N_0
    have ih := ih (Nat.lt_of_succ_lt hn)
    rw [outsAt0_B m c ⟨n + 1, hn⟩ (show ¬ (n + 1) % 16 = 0 by omega) (show 1 ≤ n + 1 by omega)]
    dsimp only
    rw [blk0 m c D hD, blk1 m c X hX, blk2 m c R hR, blk3 m c W hW, blk4 m c G hG, show (outsAt0 m c (n + 1 - 1) _).2 = _ from ih, sumB]
    refine congrArg (E2 (n := 1) (m := 1024) (φ := .f32)) (funext fun a => funext fun j => ?_)
    rw [← dgE_step D W X (512 * (n + 1)), show 512 * n + 512 = 512 * (n + 1) by omega]
    rfl

/-- The first array after the run. -/
theorem result5 : ((dats m 0 c).arrAt 5 cfg0.N : S8192x1024.Idx → EReal)
    = E2 (n := 8192) (m := 1024) (φ := .f32) fun a j => dxE D W X G R a j := by
  refine (dats m 0 c).arrAt_eq_of_cover 5 (E2 (n := 8192) (m := 1024) (φ := .f32) fun a j => dxE D W X G R a j) ?_ ?_
  · intro t _
    rw [flushed5, written5 m c D W X R G hD hW hX hR hG]
    funext y
    obtain ⟨e0, e1⟩ := emb5 t y
    show dxE D W X G R (512 * t.val + (y 0).val) (y 1).val
      = dxE D W X G R (((cfg0.win 5).rect t).emb y (0 : Fin 2)).val (((cfg0.win 5).rect t).emb y (1 : Fin 2)).val
    rw [e0, e1]
  · intro i
    have l0 : (i (0 : Fin 2)).val < 8192 := (i (0 : Fin 2)).isLt
    have l1 : (i (1 : Fin 2)).val < 1024 := (i (1 : Fin 2)).isLt
    have ht : (i (0 : Fin 2)).val / 512 < cfg0.N := by rw [show cfg0.N = 16 from N_0]; omega
    refine ⟨⟨_, ht⟩, flush0_5 _, ?_⟩
    have hi : ((cfg0.win 5).blk ⟨_, ht⟩).view.emb (at2 (i (0 : Fin 2)).val (i (1 : Fin 2)).val) = i := by
      obtain ⟨e0, e1⟩ := emb5 ⟨_, ht⟩ (at2 (i (0 : Fin 2)).val (i (1 : Fin 2)).val)
      funext a
      match a with
      | ⟨0, _⟩ => exact Fin.ext (e0.trans (show 512 * ((i (0 : Fin 2)).val / 512) + (i (0 : Fin 2)).val % 512 = (i (0 : Fin 2)).val by omega))
      | ⟨1, _⟩ => exact Fin.ext (e1.trans (show (i (1 : Fin 2)).val % 1024 = (i (1 : Fin 2)).val by omega))
    have hm := ((cfg0.win 5).blk ⟨_, ht⟩).view.emb_mem_set (at2 (i (0 : Fin 2)).val (i (1 : Fin 2)).val : Shape.Idx S512x1024)
    exact Eq.mp (congrArg (· ∈ ((cfg0.win 5).blk ⟨_, ht⟩).view.set) hi) hm

/-- The second array after the run. -/
theorem result6 : ((dats m 0 c).arrAt 6 cfg0.N : S1x1024.Idx → EReal)
    = E2 (n := 1) (m := 1024) (φ := .f32) fun _ j => dgE D W X 8192 j := by
  refine (dats m 0 c).arrAt_eq_of_cover 6 (E2 (n := 1) (m := 1024) (φ := .f32) fun _ j => dgE D W X 8192 j) ?_ ?_
  · intro t ht
    have l : t.val < 16 := t.isLt.trans_eq N_0
    have e15 : t.val % 16 = 15 := (flush0_6 t).mp ht
    rw [flushed6, sums m c D W X R G hD hW hX hR hG, show 512 * t.val + 512 = 8192 by omega]
    generalize dgE D W X 8192 = f
    funext y
    exact congrArg f (emb6 t y).2.symm
  · intro i
    have ht : 15 < cfg0.N := by rw [show cfg0.N = 16 from N_0]; omega
    refine ⟨⟨15, ht⟩, (flush0_6 _).mpr rfl, ?_⟩
    have hi : ((cfg0.win 6).blk ⟨15, ht⟩).view.emb i = i := by
      obtain ⟨e0, e1⟩ := emb6 ⟨15, ht⟩ i
      funext a
      match a with
      | ⟨0, _⟩ => exact Fin.ext e0
      | ⟨1, _⟩ => exact Fin.ext e1
    have hm := ((cfg0.win 6).blk ⟨15, ht⟩).view.emb_mem_set (i : Shape.Idx S1x1024)
    exact Eq.mp (congrArg (· ∈ ((cfg0.win 6).blk ⟨15, ht⟩).view.set) hi) hm

end run

/-! ## The reference -/

section ref
open Cert.Reference6Ideal.Read
variable (d : (⟨S8192x4096, .bf16⟩ : BufTy).Contents (Elt Ideal)) (w : (⟨S1024x4096, .bf16⟩ : BufTy).Contents (Elt Ideal))
  (x r : (⟨S8192x1024, .f32⟩ : BufTy).Contents (Elt Ideal)) (g : (⟨S1x1024, .f32⟩ : BufTy).Contents (Elt Ideal))
  (D W X R G : ℕ → ℕ → EReal)
  (hD : ∀ i : S8192x4096.Idx, d i = D (i 0).val (i 1).val) (hW : ∀ i : S1024x4096.Idx, w i = W (i 0).val (i 1).val)
  (hX : ∀ i : S8192x1024.Idx, x i = X (i 0).val (i 1).val) (hR : ∀ i : S8192x1024.Idx, r i = R (i 0).val (i 1).val)
  (hG : ∀ i : S1x1024.Idx, g i = G (i 0).val (i 1).val)

include hD hW in
theorem ref_dh (i : S8192x1024.Idx) : val_main_v20 (F := Ideal) d w i = dhE D W (i 0).val (i 1).val :=
  (val_main_v20_apply d w i).trans (Finset.sum_congr rfl fun k _ => congrArg₂ (· * ·) (hD (lidx_main_v20 i k)) (hW (ridx_main_v20 i k)))

include hX in
theorem ref_var (i : Cert.Reference6Ideal.S8192x1.Idx) : val_main_v7 (F := Ideal) x i = varE X (i 0).val := by
  rw [val_main_v7_apply, val_main_v5_apply, val_main_v3_apply, val_main_v2_apply, val_main_cst_apply, val_main_v4_apply, val_main_cst_0_apply,
    val_main_v6_apply, val_main_cst_1_apply]
  have e : ∑ k : Fin 1024, val_main_v1 (F := Ideal) x (idx_main_v2 (idx_main_v3 i) k) = ∑ k : Fin 1024, X (i 0).val k.val * X (i 0).val k.val :=
    Finset.sum_congr rfl fun k _ => congrArg₂ (· * ·) (hX (idx_main_v2 (idx_main_v3 i) k)) (hX (idx_main_v2 (idx_main_v3 i) k))
  rw [e]
  show Ideal.div (Ideal.ofBits .f32 0x00000000#32 + _) wide + small = varE X (i 0).val
  rw [Ideal.ofBits_zero_f32, zero_add]
  rfl

include hX in
theorem ref_rs (i : Cert.Reference6Ideal.S8192x1.Idx) : val_main_v8 (F := Ideal) x i = rsE X (i 0).val := by
  rw [val_main_v8_apply, ref_var x X hX]
  rfl

include hD hW hG in
theorem ref_q (i : S8192x1024.Idx) : val_main_v25 (F := Ideal) d w g i = qE D W G (i 0).val (i 1).val := by
  rw [val_main_v25_apply, ref_dh d w D W hD hW, val_main_v24_apply, val_main_v14_apply, val_main_v0_apply, hG]
  show dhE D W (i 0).val (i 1).val * G _ _ = dhE D W (i 0).val (i 1).val * G 0 (i 1).val
  exact congrArg (fun b => dhE D W (i 0).val (i 1).val * G 0 b) (Nat.mod_eq_of_lt (i 1).isLt)

include hD hW hX hG in
theorem ref_t (i : S8192x1024.Idx) : val_main_v37 (F := Ideal) d w x g i = tE D W X G (i 0).val := by
  rw [val_main_v37_apply, val_main_v36_apply, val_main_cst_7_apply, Finset.univ_unique, Finset.sum_singleton, val_main_v35_apply,
    val_main_v34_apply, val_main_cst_6_apply, val_main_v33_apply, val_main_v29_apply, val_main_v28_apply, val_main_cst_5_apply,
    val_main_v11_apply, val_main_v10_apply, val_main_cst_2_apply, val_main_v9_apply, ref_rs x X hX, ref_var x X hX]
  have e : ∀ n : Cert.Reference6Ideal.S8192.Idx, ∑ k : Fin 1024, val_main_v27 (F := Ideal) d w x g (idx_main_v28 n k)
      = ∑ k : Fin 1024, X (n 0).val k.val * qE D W G (n 0).val k.val := fun n =>
    Finset.sum_congr rfl fun k _ => congrArg₂ (· * ·) (hX (idx_main_v28 n k)) (ref_q d w g D W G hD hW hG (idx_main_v28 n k))
  rw [e]
  have en : ((idx_main_v29 (idx_main_v36 (idx_main_v37 i) default)) 0).val = (i 0).val := Nat.mul_one (i 0).val
  rw [en]
  show Ideal.ofBits .f32 0x00000000#32 + Ideal.div ((Ideal.ofBits .f32 0x00000000#32 + _) * (mhalf * Ideal.div (rsE X (i 0).val) (varE X (i 0).val))) wide = _
  rw [Ideal.ofBits_zero_f32, zero_add, zero_add]
  rfl

include hD hW hX hR hG in
/-- The reference's first result at an index. -/
theorem reference_dx : (val_main_v41 (F := Ideal) d w x r g : S8192x1024.Idx → EReal)
    = E2 (n := 8192) (m := 1024) (φ := .f32) fun a j => dxE D W X G R a j := by
  funext i
  rw [val_main_v41_apply, val_main_v40_apply, val_main_v39_apply, val_main_v38_apply, val_main_v32_apply, val_main_v31_apply, val_main_v30_apply,
    ref_t d w x g D W X G hD hW hX hG, ref_q d w g D W G hD hW hG, ref_rs x X hX, hX, hR]
  show R (i 0).val (i 1).val + qE D W G (i 0).val (i 1).val * rsE X (i 0).val + X (i 0).val (i 1).val * tE D W X G (i 0).val
      + tE D W X G (i 0).val * X (i 0).val (i 1).val
    = qE D W G (i 0).val (i 1).val * rsE X (i 0).val + X (i 0).val (i 1).val * tE D W X G (i 0).val
      + tE D W X G (i 0).val * X (i 0).val (i 1).val + R (i 0).val (i 1).val
  rw [add_comm _ (R (i 0).val (i 1).val), ← add_assoc, ← add_assoc]

include hD hW hX in
theorem ref_rows (i : Cert.Reference6Ideal.S1024.Idx) : val_main_v22 (F := Ideal) d w x i = dgE D W X 8192 (i 0).val := by
  rw [val_main_v22_apply, val_main_cst_3_apply, dgE, Finset.sum_range]
  have e : ∀ k : Fin 8192, val_main_v21 (F := Ideal) d w x (idx_main_v22 i k) = wE D W X k.val (i 0).val := fun k => by
    rw [val_main_v21_apply, val_main_v13_apply, val_main_v12_apply, ref_rs x X hX, ref_dh d w D W hD hW, hX]
    rfl
  simp only [e]
  show Ideal.ofBits .f32 0x00000000#32 + _ = _
  rw [Ideal.ofBits_zero_f32, zero_add]

include hD hW hX in
/-- The reference's second result at an index. -/
theorem reference_dg : (val_main_v42 (F := Ideal) d w x : S1x1024.Idx → EReal)
    = E2 (n := 1) (m := 1024) (φ := .f32) fun _ j => dgE D W X 8192 j := by
  funext i
  rw [val_main_v42_apply, val_main_v26_apply, val_main_cst_4_apply, Finset.univ_unique, Finset.sum_singleton, val_main_v23_apply,
    ref_rows d w x D W X hD hW hX]
  have en : ((idx_main_v23 (idx_main_v26 (idx_main_v42 i) default)) 0).val = (i 1).val := by
    show 0 * 1024 + (i 1).val = (i 1).val
    rw [Nat.zero_mul, Nat.zero_add]
  rw [en]
  show Ideal.ofBits .f32 0x00000000#32 + _ = _
  rw [Ideal.ofBits_zero_f32, zero_add]
  rfl

end ref

/-! ## The claim -/

/-- The kernel's results are the reference's. -/
theorem algebraic : Cert.algebraic_Kernel6Ideal_Reference6Ideal := by
  intro m ρ m' ρ' _ hargs
  refine ⟨fun c => (dats m 0 c).arrAt 5 cfg0.N, fun c => (dats m 0 c).arrAt 6 cfg0.N, run_blocks m ρ,
    (θ_run _ _ _).mono (fun r h c => ?_) (Cert.Reference6Ideal.Value.run m' ρ')⟩
  obtain ⟨h0, h1, kept⟩ := h c
  obtain ⟨e0, e1, e2, e3, e4⟩ := hargs c
  obtain ⟨D, hD⟩ := entries (d := ![8192, 4096]) (m ((c.tc : Thread nD τ).loc main_arg0))
  obtain ⟨W, hW⟩ := entries (d := ![1024, 4096]) (m ((c.tc : Thread nD τ).loc main_arg1))
  obtain ⟨X, hX⟩ := entries (d := ![8192, 1024]) (m ((c.tc : Thread nD τ).loc main_arg2))
  obtain ⟨R, hR⟩ := entries (d := ![8192, 1024]) (m ((c.tc : Thread nD τ).loc main_arg3))
  obtain ⟨G, hG⟩ := entries (d := ![1, 1024]) (m ((c.tc : Thread nD τ).loc main_arg4))
  have kD := fun i => (congrFun (V_main_arg0 m c) i).trans (hD i)
  have kW := fun i => (congrFun (V_main_arg1 m c) i).trans (hW i)
  have kX := fun i => (congrFun (V_main_arg2 m c) i).trans (hX i)
  have kR := fun i => (congrFun (V_main_arg3 m c) i).trans (hR i)
  have kG := fun i => (congrFun (V_main_arg4 m c) i).trans (hG i)
  refine ⟨h0.trans ((Cert.Reference6Ideal.Read.val_main_v41_eq m' c).trans (Eq.trans ?_ (result5 m c D W X R G kD kW kX kR kG).symm)),
    h1.trans ((Cert.Reference6Ideal.Read.val_main_v42_eq _ _ _).trans (Eq.trans ?_ (result6 m c D W X R G kD kW kX kR kG).symm)), kept⟩
  · refine Eq.trans ?_ (reference_dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) D W X R G hD hW hX hR hG)
    rw [← e0, ← e1, ← e2, ← e3, ← e4]
  · refine Eq.trans ?_ (reference_dg (m ((c.tc : Thread nD τ).loc main_arg0)) (m ((c.tc : Thread nD τ).loc main_arg1)) (m ((c.tc : Thread nD τ).loc main_arg2)) D W X hD hW hX)
    rw [← e0, ← e1, ← e2]

/-- The reference's frame: its run read at the arguments; it declares no semaphore. -/
theorem reference_frame : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

end Cert.Proof.UpBwd
-- ==== Proof.GradOut.lean ====
module

public import proofs.«01_k».proof.Defs
public import proofs.«01_k».proof.Proof.Products
public import proofs.«01_k».proof.Proof.Gen.Kernel7Ideal.Value
public import proofs.«01_k».proof.Proof.Gen.Reference7Ideal.Read
public import proofs.«01_k».proof.Proof.Gen.Reference7Ideal.Run

/-!
The gradient of the rows of `w_out` that belong to one mixer: the product of the transpose of what the mixer gave with `dx`,
which the kernel sums in eight blocks of rows, is the transpose of the product `jax.vjp` takes.
-/

@[expose] public section
noncomputable section
namespace Cert.Proof.GradOut
open Idealize.ShloMosaic Idealize.ShloMosaic.TcCoe Idealize.SL.Sem Idealize.ShloMosaic.Pipeline Cert.Kernel7Ideal Cert.Kernel7Ideal.Gen Cert.Kernel7Ideal.Value

/-! ## What a grid point computes -/

theorem pay1_E : k0_pay1 (F := Ideal) = E2 (n := 512) (m := 1024) (φ := .f32) fun _ _ => 0 := by
  funext j; unfold k0_pay1; pointwise; rfl

theorem pay2_E (C A B : ℕ → ℕ → EReal) : k0_pay2 (F := Ideal) (E2 (φ := .f32) C) (E2 (φ := .bf16) A) (E2 (φ := .f32) B)
    = E2 (φ := .f32) fun a b => C a b + ∑ r : Fin 1024, A r.val a * B r.val b := by
  funext j; unfold k0_pay2; pointwise [dot_S1024x512_S1024x1024_S512x1024_0_0_1_1_n_n]
  simp only [E2_apply, zero_add]
  try rfl

theorem pay3_E (C : ℕ → ℕ → EReal) : k0_pay3 (F := Ideal) (E2 (φ := .f32) C) = E2 (φ := .bf16) C := by
  funext j; unfold k0_pay3; pointwise; rfl

section point
variable (c : Dev nD) (i : grid0.Coords)
  (arg3 : Memref sig .tc .vmem S1024x512 .bf16) (harg3 : arg3.IsWhole)
  (arg4 : Memref sig .tc .vmem S1024x1024 .f32) (harg4 : arg4.IsWhole)
  (arg5 : Memref sig .tc .vmem S512x1024 .bf16) (harg5 : arg5.IsWhole)
  (arg6 : Memref sig .tc .vmem S512x1024 .f32) (harg6 : arg6.IsWhole)
  (x : Vec Ideal S1024x512 .bf16) (y : Vec Ideal S1024x1024 .f32) (s : Vec Ideal S512x1024 .f32)

/-- The sum after the first block of rows. -/
theorem sumA (hc0 : cond0_0 i) (hc1 : ¬cond0_1 i) :
    sout0_A_0 (F := Ideal) c i arg3 harg3 arg4 harg4 arg5 harg5 arg6 harg6 hc0 hc1 x y = k0_pay2 k0_pay1 x y := by
  unfold sout0_A_0
  rw [View.read_writes_eq_canon _ _ _ (scover0_A_0 (F := Ideal) c i arg3 harg3 arg4 harg4 arg5 harg5 arg6 harg6 hc0 hc1 x y)]
  unfold kernelRun0_A
  dsimp only
  sl_unfold_words
  rw [View.canon_cons_unit_zero (S := S512x1024) off2, View.readCov_unit_zero (S := S512x1024) _ off2]
  simp only [View.readAt_eq_ld, harg3.read_unread, harg4.read_unread, View.ld_unit_zero (S := S1024x512) off2, View.ld_unit_zero (S := S1024x1024) off2, View.ld_unit_zero (S := S512x1024) off2]

/-- The sum after a further block. -/
theorem sumB (hc0 : ¬cond0_0 i) (hc1 : ¬cond0_1 i) :
    sout0_B_0 (F := Ideal) c i arg3 harg3 arg4 harg4 arg5 harg5 arg6 harg6 hc0 hc1 x y s = k0_pay2 s x y := by
  unfold sout0_B_0
  rw [View.read_writes_eq_canon _ _ _ (scover0_B_0 (F := Ideal) c i arg3 harg3 arg4 harg4 arg5 harg5 arg6 harg6 hc0 hc1 x y s)]
  unfold kernelRun0_B
  dsimp only
  sl_unfold_words
  rw [View.canon_cons_unit_zero (S := S512x1024) off2]
  simp only [View.readAt_eq_ld, harg3.read_unread, harg4.read_unread, harg6.read_unread, View.ld_unit_zero (S := S1024x512) off2, View.ld_unit_zero (S := S1024x1024) off2, View.ld_unit_zero (S := S512x1024) off2]

/-- What the last point of a block of columns writes. -/
theorem outC (hc0 : ¬cond0_0 i) (hc1 : cond0_1 i) :
    out0_C_2 (F := Ideal) c i arg3 harg3 arg4 harg4 arg5 harg5 arg6 harg6 hc0 hc1 x y s = k0_pay3 (k0_pay2 s x y) := by
  unfold out0_C_2
  rw [View.read_writes_eq_canon _ _ _ (cover0_C_2 (F := Ideal) c i arg3 harg3 arg4 harg4 arg5 harg5 arg6 harg6 hc0 hc1 x y s)]
  unfold kernelRun0_C
  dsimp only
  sl_unfold_words
  rw [View.canon_cons_unit_zero (S := S512x1024) off2, View.readCov_unit_zero (S := S512x1024) _ off2]
  simp only [View.readAt_eq_ld, harg3.read_unread, harg4.read_unread, harg6.read_unread, View.ld_unit_zero (S := S1024x512) off2, View.ld_unit_zero (S := S1024x1024) off2, View.ld_unit_zero (S := S512x1024) off2]

end point

/-! ## The run -/

section run
variable (m : (ℓ : Loc nD τ sig) → Buf (Elt Ideal) ℓ) (c : Dev nD) (A B : ℕ → ℕ → EReal)
  (hA : ∀ i : S8192x512.Idx, V m c main_arg0 i = A (i 0).val (i 1).val)
  (hB : ∀ i : S8192x1024.Idx, V m c main_arg1 i = B (i 0).val (i 1).val)

theorem ix0 : ∀ t : Fin cfg0.N, cc0_transform_0 (grid0.coords t) = ![t.val % 8, 0] := by decide +kernel
theorem ix1 : ∀ t : Fin cfg0.N, cc0_transform_1 (grid0.coords t) = ![t.val % 8, t.val / 8] := by decide +kernel

include hA in
theorem blk0 (t : Fin cfg0.N) : (iblk m c 0 t : Vec Ideal S1024x512 .bf16) = E2 (φ := .bf16) fun r a => A (1024 * (t.val % 8) + r) a := by
  funext y
  refine (hA (((cfg0.win 0).rect t).emb y)).trans ?_
  rw [(cfg0.win 0).rect_emb_val t y (0 : Fin 2), (cfg0.win 0).rect_emb_val t y (1 : Fin 2)]
  have i0 : (cfg0.win 0).index t (0 : Fin 2) = t.val % 8 := congrFun (ix0 t) 0
  have i1 : (cfg0.win 0).index t (1 : Fin 2) = 0 := congrFun (ix0 t) 1
  rw [i0, i1]
  show A (t.val % 8 * 1024 + (y 0).val) (0 * 512 + (y 1).val) = A (1024 * (t.val % 8) + (y 0).val) (y 1).val
  rw [Nat.mul_comm, Nat.zero_mul, Nat.zero_add]

include hB in
theorem blk1 (t : Fin cfg0.N) : (iblk m c 1 t : Vec Ideal S1024x1024 .f32)
    = E2 (φ := .f32) fun r b => B (1024 * (t.val % 8) + r) (1024 * (t.val / 8) + b) := by
  funext y
  refine (hB (((cfg0.win 1).rect t).emb y)).trans ?_
  rw [(cfg0.win 1).rect_emb_val t y (0 : Fin 2), (cfg0.win 1).rect_emb_val t y (1 : Fin 2)]
  have i0 : (cfg0.win 1).index t (0 : Fin 2) = t.val % 8 := congrFun (ix1 t) 0
  have i1 : (cfg0.win 1).index t (1 : Fin 2) = t.val / 8 := congrFun (ix1 t) 1
  rw [i0, i1]
  show B (t.val % 8 * 1024 + (y 0).val) (t.val / 8 * 1024 + (y 1).val) = B (1024 * (t.val % 8) + (y 0).val) (1024 * (t.val / 8) + (y 1).val)
  rw [Nat.mul_comm, Nat.mul_comm (t.val / 8)]

include hA hB

/-- The running sum, as the scratch holds it after each point that writes nothing. -/
theorem sums : ∀ (n : ℕ) (hn : n < cfg0.N), n % 8 ≠ 7 → (outsAt0 m c n hn).2
    = E2 (n := 512) (m := 1024) (φ := .f32) fun a b => tnE A B (1024 * (n % 8) + 1024) a (1024 * (n / 8) + b) := by
  intro n
  induction n with
  | zero =>
    intro hn _
    rw [outsAt0_A m c ⟨0, hn⟩ rfl (show ¬ 0 % 8 = 7 by decide)]
    dsimp only
    rw [sumA, blk0 m c A hA, blk1 m c B hB, pay1_E, pay2_E]
    congr 1; funext a b
    rw [← tnE_step]
    dsimp only
    rw [Nat.zero_mod, Nat.mul_zero, tnE_zero]
  | succ n ih =>
    intro hn h7
    by_cases h0 : (n + 1) % 8 = 0
    · rw [outsAt0_A m c ⟨n + 1, hn⟩ h0 h7]
      dsimp only
      rw [sumA, blk0 m c A hA, blk1 m c B hB, pay1_E, pay2_E]
      congr 1; funext a b
      rw [← tnE_step]
      dsimp only
      rw [h0, Nat.mul_zero, tnE_zero]
    · have ih := ih (Nat.lt_of_succ_lt hn) (by omega)
      rw [outsAt0_B m c ⟨n + 1, hn⟩ h0 h7]
      dsimp only
      rw [sumB, blk0 m c A hA, blk1 m c B hB, show (outsAt0 m c (n + 1 - 1) _).2 = _ from ih, pay2_E]
      congr 1; funext a b
      rw [← tnE_step A B (1024 * ((n + 1) % 8)), show 1024 * (n % 8) + 1024 = 1024 * ((n + 1) % 8) by omega, show n / 8 = (n + 1) / 8 by omega]

/-- What the last point of a block of columns writes: the sum over all the rows. -/
theorem written (p : ℕ) (hp : p < cfg0.N) (e7 : p % 8 = 7) : (outsAt0 m c p hp).1
    = E2 (n := 512) (m := 1024) (φ := .bf16) fun a b => tnE A B 8192 a (1024 * (p / 8) + b) := by
  have e0 : ¬ p % 8 = 0 := by omega
  have hs := sums m c A B hA hB (p - 1) (by omega) (by omega)
  rw [outsAt0_C m c ⟨p, hp⟩ e0 e7]
  dsimp only
  rw [outC, blk0 m c A hA, blk1 m c B hB, hs, pay2_E, pay3_E]
  refine congrArg (E2 (n := 512) (m := 1024) (φ := .bf16)) (funext fun a => funext fun b => ?_)
  dsimp only
  rw [show 1024 * ((p - 1) % 8) + 1024 = 1024 * (p % 8) by omega, show (p - 1) / 8 = p / 8 by omega, tnE_step, e7]

/-- The array after the run. -/
theorem result : ((dats m 0 c).arrAt 2 cfg0.N : S512x1024.Idx → EReal)
    = E2 (n := 512) (m := 1024) (φ := .bf16) fun a b => tnE A B 8192 a b := by
  rw [final2]
  funext i
  have l0 : (i 0).val < 512 := (i 0).isLt
  have l1 : (i 1).val < 1024 := (i 1).isLt
  have hp : pt2Of i < cfg0.N := by rw [show cfg0.N = 8 from N_0]; show 8 * (1 * ((i 0).val / 512 - 0) + 1 * ((i 1).val / 1024 - 0)) + 7 < 8; omega
  have e7 : pt2Of i % 8 = 7 := by show (8 * (1 * ((i 0).val / 512 - 0) + 1 * ((i 1).val / 1024 - 0)) + 7) % 8 = 7; omega
  have ed : pt2Of i / 8 = (i 1).val / 1024 := by
    show (8 * (1 * ((i 0).val / 512 - 0) + 1 * ((i 1).val / 1024 - 0)) + 7) / 8 = _; omega
  unfold G2
  rw [dif_pos hp, ← outsAt0_sweep m c _ hp, written m c A B hA hB _ hp e7, ed]
  show tnE A B 8192 ((i 0).val % 512) (1024 * ((i 1).val / 1024) + (i 1).val % 1024) = tnE A B 8192 (i 0).val (i 1).val
  rw [Nat.mod_eq_of_lt l0, Nat.div_add_mod]

end run

/-! ## The reference -/

/-- The reference's result at an index. -/
theorem reference (x : (⟨S8192x512, .bf16⟩ : BufTy).Contents (Elt Ideal)) (y : (⟨S8192x1024, .f32⟩ : BufTy).Contents (Elt Ideal))
    (A B : ℕ → ℕ → EReal) (hA : ∀ i : S8192x512.Idx, x i = A (i 0).val (i 1).val) (hB : ∀ i : S8192x1024.Idx, y i = B (i 0).val (i 1).val) :
    (Cert.Reference7Ideal.Read.val_main_v5 (F := Ideal) x y : S512x1024.Idx → EReal)
      = E2 (n := 512) (m := 1024) (φ := .bf16) fun a b => tnE A B 8192 a b := by
  funext i
  refine (Cert.Reference7Ideal.Read.val_main_v4_apply (F := Ideal) x y i).trans ((Cert.Reference7Ideal.Read.val_main_v3_apply x y _).trans ?_)
  rw [E2_apply, tnE, Finset.sum_range]
  refine Finset.sum_congr rfl fun r _ => ?_
  exact (congrArg₂ (· * ·) (hB (Cert.Reference7Ideal.Read.lidx_main_v3 (Cert.Reference7Ideal.Read.idx_main_v4 i) r))
    (hA (Cert.Reference7Ideal.Read.ridx_main_v3 (Cert.Reference7Ideal.Read.idx_main_v4 i) r))).trans (mul_comm _ _)

/-! ## The claim -/

/-- The kernel's result is the reference's. -/
theorem algebraic : Cert.algebraic_Kernel7Ideal_Reference7Ideal := by
  intro m ρ m' ρ' _ hargs
  refine ⟨fun c => (dats m 0 c).arrAt 2 cfg0.N, run_blocks m ρ,
    (θ_run _ _ _).mono (fun r h c => ?_) (Cert.Reference7Ideal.Value.run m' ρ')⟩
  obtain ⟨h0, kept⟩ := h c
  obtain ⟨e0, e1⟩ := hargs c
  obtain ⟨A, hA⟩ := entries (d := ![8192, 512]) (m ((c.tc : Thread nD τ).loc main_arg0))
  obtain ⟨B, hB⟩ := entries (d := ![8192, 1024]) (m ((c.tc : Thread nD τ).loc main_arg1))
  refine ⟨h0.trans ((Cert.Reference7Ideal.Read.val_main_v5_eq _ _).trans (Eq.trans ?_ (result m c A B (fun i => (congrFun (V_main_arg0 m c) i).trans (hA i)) (fun i => (congrFun (V_main_arg1 m c) i).trans (hB i))).symm)), kept⟩
  refine Eq.trans ?_ (reference (m ((c.tc : Thread nD τ).loc main_arg0)) (m ((c.tc : Thread nD τ).loc main_arg1)) A B hA hB)
  rw [← e0, ← e1]

/-- The reference's frame: its run read at the arguments; it declares no semaphore. -/
theorem reference_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Proof.GradOut
-- ==== Proof.GradInAttn.lean ====
module

public import proofs.«01_k».proof.Defs
public import proofs.«01_k».proof.Proof.Products
public import proofs.«01_k».proof.Proof.Gen.Kernel8Ideal.Value
public import proofs.«01_k».proof.Proof.Gen.Reference8Ideal.Read
public import proofs.«01_k».proof.Proof.Gen.Reference8Ideal.Run

/-!
The gradient of the attention's columns of `w_in`: the product of the transpose of `h` with `dz`, which the kernel sums in eight
blocks of rows, is the transpose of the product `jax.vjp` takes.
-/

@[expose] public section
noncomputable section
namespace Cert.Proof.GradInAttn
open Idealize.ShloMosaic Idealize.ShloMosaic.TcCoe Idealize.SL.Sem Idealize.ShloMosaic.Pipeline Cert.Kernel8Ideal Cert.Kernel8Ideal.Gen Cert.Kernel8Ideal.Value

/-! ## What a grid point computes -/

theorem pay1_E : k0_pay1 (F := Ideal) = E2 (n := 1024) (m := 768) (φ := .f32) fun _ _ => 0 := by
  funext j; unfold k0_pay1; pointwise; rfl

theorem pay2_E (C A B : ℕ → ℕ → EReal) : k0_pay2 (F := Ideal) (E2 (φ := .f32) C) (E2 (φ := .bf16) A) (E2 (φ := .bf16) B)
    = E2 (φ := .f32) fun a b => C a b + ∑ r : Fin 1024, A r.val a * B r.val b := by
  funext j; unfold k0_pay2; pointwise [dot_S1024x1024_S1024x768_S1024x768_0_0_1_1_n_n]
  simp only [E2_apply, zero_add]
  try rfl

theorem pay3_E (C : ℕ → ℕ → EReal) : k0_pay3 (F := Ideal) (E2 (φ := .f32) C) = E2 (φ := .bf16) C := by
  funext j; unfold k0_pay3; pointwise; rfl

section point
variable (c : Dev nD) (i : grid0.Coords)
  (arg3 : Memref sig .tc .vmem S1024x1024 .bf16) (harg3 : arg3.IsWhole)
  (arg4 : Memref sig .tc .vmem S1024x768 .bf16) (harg4 : arg4.IsWhole)
  (arg5 : Memref sig .tc .vmem S1024x768 .bf16) (harg5 : arg5.IsWhole)
  (arg6 : Memref sig .tc .vmem S1024x768 .f32) (harg6 : arg6.IsWhole)
  (x : Vec Ideal S1024x1024 .bf16) (y : Vec Ideal S1024x768 .bf16) (s : Vec Ideal S1024x768 .f32)

/-- The sum after the first block of rows. -/
theorem sumA (hc0 : cond0_0 i) (hc1 : ¬cond0_1 i) :
    sout0_A_0 (F := Ideal) c i arg3 harg3 arg4 harg4 arg5 harg5 arg6 harg6 hc0 hc1 x y = k0_pay2 k0_pay1 x y := by
  unfold sout0_A_0
  rw [View.read_writes_eq_canon _ _ _ (scover0_A_0 (F := Ideal) c i arg3 harg3 arg4 harg4 arg5 harg5 arg6 harg6 hc0 hc1 x y)]
  unfold kernelRun0_A
  dsimp only
  sl_unfold_words
  rw [View.canon_cons_unit_zero (S := S1024x768) off2, View.readCov_unit_zero (S := S1024x768) _ off2]
  simp only [View.readAt_eq_ld, harg3.read_unread, harg4.read_unread, View.ld_unit_zero (S := S1024x1024) off2, View.ld_unit_zero (S := S1024x768) off2]

/-- The sum after a further block. -/
theorem sumB (hc0 : ¬cond0_0 i) (hc1 : ¬cond0_1 i) :
    sout0_B_0 (F := Ideal) c i arg3 harg3 arg4 harg4 arg5 harg5 arg6 harg6 hc0 hc1 x y s = k0_pay2 s x y := by
  unfold sout0_B_0
  rw [View.read_writes_eq_canon _ _ _ (scover0_B_0 (F := Ideal) c i arg3 harg3 arg4 harg4 arg5 harg5 arg6 harg6 hc0 hc1 x y s)]
  unfold kernelRun0_B
  dsimp only
  sl_unfold_words
  rw [View.canon_cons_unit_zero (S := S1024x768) off2]
  simp only [View.readAt_eq_ld, harg3.read_unread, harg4.read_unread, harg6.read_unread, View.ld_unit_zero (S := S1024x1024) off2, View.ld_unit_zero (S := S1024x768) off2]

/-- What the last point of a block of columns writes. -/
theorem outC (hc0 : ¬cond0_0 i) (hc1 : cond0_1 i) :
    out0_C_2 (F := Ideal) c i arg3 harg3 arg4 harg4 arg5 harg5 arg6 harg6 hc0 hc1 x y s = k0_pay3 (k0_pay2 s x y) := by
  unfold out0_C_2
  rw [View.read_writes_eq_canon _ _ _ (cover0_C_2 (F := Ideal) c i arg3 harg3 arg4 harg4 arg5 harg5 arg6 harg6 hc0 hc1 x y s)]
  unfold kernelRun0_C
  dsimp only
  sl_unfold_words
  rw [View.canon_cons_unit_zero (S := S1024x768) off2, View.readCov_unit_zero (S := S1024x768) _ off2]
  simp only [View.readAt_eq_ld, harg3.read_unread, harg4.read_unread, harg6.read_unread, View.ld_unit_zero (S := S1024x1024) off2, View.ld_unit_zero (S := S1024x768) off2]

end point

/-! ## The run -/

section run
variable (m : (ℓ : Loc nD τ sig) → Buf (Elt Ideal) ℓ) (c : Dev nD) (A B : ℕ → ℕ → EReal)
  (hA : ∀ i : S8192x1024.Idx, V m c main_arg0 i = A (i 0).val (i 1).val)
  (hB : ∀ i : S8192x768.Idx, V m c main_arg1 i = B (i 0).val (i 1).val)

theorem ix0 : ∀ t : Fin cfg0.N, cc0_transform_0 (grid0.coords t) = ![t.val % 8, 0] := by decide +kernel
theorem ix1 : ∀ t : Fin cfg0.N, cc0_transform_1 (grid0.coords t) = ![t.val % 8, t.val / 8] := by decide +kernel

include hA in
theorem blk0 (t : Fin cfg0.N) : (iblk m c 0 t : Vec Ideal S1024x1024 .bf16) = E2 (φ := .bf16) fun r a => A (1024 * (t.val % 8) + r) a := by
  funext y
  refine (hA (((cfg0.win 0).rect t).emb y)).trans ?_
  rw [(cfg0.win 0).rect_emb_val t y (0 : Fin 2), (cfg0.win 0).rect_emb_val t y (1 : Fin 2)]
  have i0 : (cfg0.win 0).index t (0 : Fin 2) = t.val % 8 := congrFun (ix0 t) 0
  have i1 : (cfg0.win 0).index t (1 : Fin 2) = 0 := congrFun (ix0 t) 1
  rw [i0, i1]
  show A (t.val % 8 * 1024 + (y 0).val) (0 * 1024 + (y 1).val) = A (1024 * (t.val % 8) + (y 0).val) (y 1).val
  rw [Nat.mul_comm, Nat.zero_mul, Nat.zero_add]

include hB in
theorem blk1 (t : Fin cfg0.N) : (iblk m c 1 t : Vec Ideal S1024x768 .bf16)
    = E2 (φ := .bf16) fun r b => B (1024 * (t.val % 8) + r) (768 * (t.val / 8) + b) := by
  funext y
  refine (hB (((cfg0.win 1).rect t).emb y)).trans ?_
  rw [(cfg0.win 1).rect_emb_val t y (0 : Fin 2), (cfg0.win 1).rect_emb_val t y (1 : Fin 2)]
  have i0 : (cfg0.win 1).index t (0 : Fin 2) = t.val % 8 := congrFun (ix1 t) 0
  have i1 : (cfg0.win 1).index t (1 : Fin 2) = t.val / 8 := congrFun (ix1 t) 1
  rw [i0, i1]
  show B (t.val % 8 * 1024 + (y 0).val) (t.val / 8 * 768 + (y 1).val) = B (1024 * (t.val % 8) + (y 0).val) (768 * (t.val / 8) + (y 1).val)
  rw [Nat.mul_comm, Nat.mul_comm (t.val / 8)]

include hA hB

/-- The running sum, as the scratch holds it after each point that writes nothing. -/
theorem sums : ∀ (n : ℕ) (hn : n < cfg0.N), n % 8 ≠ 7 → (outsAt0 m c n hn).2
    = E2 (n := 1024) (m := 768) (φ := .f32) fun a b => tnE A B (1024 * (n % 8) + 1024) a (768 * (n / 8) + b) := by
  intro n
  induction n with
  | zero =>
    intro hn _
    rw [outsAt0_A m c ⟨0, hn⟩ rfl (show ¬ 0 % 8 = 7 by decide)]
    dsimp only
    rw [sumA, blk0 m c A hA, blk1 m c B hB, pay1_E, pay2_E]
    congr 1; funext a b
    rw [← tnE_step]
    dsimp only
    rw [Nat.zero_mod, Nat.mul_zero, tnE_zero]
  | succ n ih =>
    intro hn h7
    by_cases h0 : (n + 1) % 8 = 0
    · rw [outsAt0_A m c ⟨n + 1, hn⟩ h0 h7]
      dsimp only
      rw [sumA, blk0 m c A hA, blk1 m c B hB, pay1_E, pay2_E]
      congr 1; funext a b
      rw [← tnE_step]
      dsimp only
      rw [h0, Nat.mul_zero, tnE_zero]
    · have ih := ih (Nat.lt_of_succ_lt hn) (by omega)
      rw [outsAt0_B m c ⟨n + 1, hn⟩ h0 h7]
      dsimp only
      rw [sumB, blk0 m c A hA, blk1 m c B hB, show (outsAt0 m c (n + 1 - 1) _).2 = _ from ih, pay2_E]
      congr 1; funext a b
      rw [← tnE_step A B (1024 * ((n + 1) % 8)), show 1024 * (n % 8) + 1024 = 1024 * ((n + 1) % 8) by omega, show n / 8 = (n + 1) / 8 by omega]

/-- What the last point of a block of columns writes: the sum over all the rows. -/
theorem written (p : ℕ) (hp : p < cfg0.N) (e7 : p % 8 = 7) : (outsAt0 m c p hp).1
    = E2 (n := 1024) (m := 768) (φ := .bf16) fun a b => tnE A B 8192 a (768 * (p / 8) + b) := by
  have e0 : ¬ p % 8 = 0 := by omega
  have hs := sums m c A B hA hB (p - 1) (by omega) (by omega)
  rw [outsAt0_C m c ⟨p, hp⟩ e0 e7]
  dsimp only
  rw [outC, blk0 m c A hA, blk1 m c B hB, hs, pay2_E, pay3_E]
  refine congrArg (E2 (n := 1024) (m := 768) (φ := .bf16)) (funext fun a => funext fun b => ?_)
  dsimp only
  rw [show 1024 * ((p - 1) % 8) + 1024 = 1024 * (p % 8) by omega, show (p - 1) / 8 = p / 8 by omega, tnE_step, e7]

/-- The array after the run. -/
theorem result : ((dats m 0 c).arrAt 2 cfg0.N : S1024x768.Idx → EReal)
    = E2 (n := 1024) (m := 768) (φ := .bf16) fun a b => tnE A B 8192 a b := by
  rw [final2]
  funext i
  have l0 : (i 0).val < 1024 := (i 0).isLt
  have l1 : (i 1).val < 768 := (i 1).isLt
  have hp : pt2Of i < cfg0.N := by rw [show cfg0.N = 8 from N_0]; show 8 * (1 * ((i 0).val / 1024 - 0) + 1 * ((i 1).val / 768 - 0)) + 7 < 8; omega
  have e7 : pt2Of i % 8 = 7 := by show (8 * (1 * ((i 0).val / 1024 - 0) + 1 * ((i 1).val / 768 - 0)) + 7) % 8 = 7; omega
  have ed : pt2Of i / 8 = (i 1).val / 768 := by
    show (8 * (1 * ((i 0).val / 1024 - 0) + 1 * ((i 1).val / 768 - 0)) + 7) / 8 = _; omega
  unfold G2
  rw [dif_pos hp, ← outsAt0_sweep m c _ hp, written m c A B hA hB _ hp e7, ed]
  show tnE A B 8192 ((i 0).val % 1024) (768 * ((i 1).val / 768) + (i 1).val % 768) = tnE A B 8192 (i 0).val (i 1).val
  rw [Nat.mod_eq_of_lt l0, Nat.div_add_mod]

end run

/-! ## The reference -/

/-- The reference's result at an index. -/
theorem reference (x : (⟨S8192x1024, .bf16⟩ : BufTy).Contents (Elt Ideal)) (y : (⟨S8192x768, .bf16⟩ : BufTy).Contents (Elt Ideal))
    (A B : ℕ → ℕ → EReal) (hA : ∀ i : S8192x1024.Idx, x i = A (i 0).val (i 1).val) (hB : ∀ i : S8192x768.Idx, y i = B (i 0).val (i 1).val) :
    (Cert.Reference8Ideal.Read.val_main_v6 (F := Ideal) x y : S1024x768.Idx → EReal)
      = E2 (n := 1024) (m := 768) (φ := .bf16) fun a b => tnE A B 8192 a b := by
  funext i
  refine (Cert.Reference8Ideal.Read.val_main_v5_apply (F := Ideal) x y i).trans ((Cert.Reference8Ideal.Read.val_main_v4_apply x y _).trans ?_)
  rw [E2_apply, tnE, Finset.sum_range]
  refine Finset.sum_congr rfl fun r _ => ?_
  exact (congrArg₂ (· * ·) (hB (Cert.Reference8Ideal.Read.lidx_main_v4 (Cert.Reference8Ideal.Read.idx_main_v5 i) r))
    (hA (Cert.Reference8Ideal.Read.ridx_main_v4 (Cert.Reference8Ideal.Read.idx_main_v5 i) r))).trans (mul_comm _ _)

/-! ## The claim -/

/-- The kernel's result is the reference's. -/
theorem algebraic : Cert.algebraic_Kernel8Ideal_Reference8Ideal := by
  intro m ρ m' ρ' _ hargs
  refine ⟨fun c => (dats m 0 c).arrAt 2 cfg0.N, run_blocks m ρ,
    (θ_run _ _ _).mono (fun r h c => ?_) (Cert.Reference8Ideal.Value.run m' ρ')⟩
  obtain ⟨h0, kept⟩ := h c
  obtain ⟨e0, e1⟩ := hargs c
  obtain ⟨A, hA⟩ := entries (d := ![8192, 1024]) (m ((c.tc : Thread nD τ).loc main_arg0))
  obtain ⟨B, hB⟩ := entries (d := ![8192, 768]) (m ((c.tc : Thread nD τ).loc main_arg1))
  refine ⟨h0.trans ((Cert.Reference8Ideal.Read.val_main_v6_eq _ _).trans (Eq.trans ?_ (result m c A B (fun i => (congrFun (V_main_arg0 m c) i).trans (hA i)) (fun i => (congrFun (V_main_arg1 m c) i).trans (hB i))).symm)), kept⟩
  refine Eq.trans ?_ (reference (m ((c.tc : Thread nD τ).loc main_arg0)) (m ((c.tc : Thread nD τ).loc main_arg1)) A B hA hB)
  rw [← e0, ← e1]

/-- The reference's frame: its run read at the arguments; it declares no semaphore. -/
theorem reference_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Proof.GradInAttn
-- ==== Proof.GradInRwkv.lean ====
module

public import proofs.«01_k».proof.Defs
public import proofs.«01_k».proof.Proof.Products
public import proofs.«01_k».proof.Proof.Gen.Kernel9Ideal.Value
public import proofs.«01_k».proof.Proof.Gen.Reference9Ideal.Read
public import proofs.«01_k».proof.Proof.Gen.Reference9Ideal.Run

/-!
The gradient of the rwkv mixer's columns of `w_in`: the product of the transpose of `h` with `dz`, which the kernel sums in eight
blocks of rows and two of columns, is the transpose of the product `jax.vjp` takes.
-/

@[expose] public section
noncomputable section
namespace Cert.Proof.GradInRwkv
open Idealize.ShloMosaic Idealize.ShloMosaic.TcCoe Idealize.SL.Sem Idealize.ShloMosaic.Pipeline Cert.Kernel9Ideal Cert.Kernel9Ideal.Gen Cert.Kernel9Ideal.Value

/-! ## What a grid point computes -/

theorem pay1_E : k0_pay1 (F := Ideal) = E2 (n := 1024) (m := 896) (φ := .f32) fun _ _ => 0 := by
  funext j; unfold k0_pay1; pointwise; rfl

theorem pay2_E (C A B : ℕ → ℕ → EReal) : k0_pay2 (F := Ideal) (E2 (φ := .f32) C) (E2 (φ := .bf16) A) (E2 (φ := .bf16) B)
    = E2 (φ := .f32) fun a b => C a b + ∑ r : Fin 1024, A r.val a * B r.val b := by
  funext j; unfold k0_pay2; pointwise [dot_S1024x1024_S1024x896_S1024x896_0_0_1_1_n_n]
  simp only [E2_apply, zero_add]
  try rfl

theorem pay3_E (C : ℕ → ℕ → EReal) : k0_pay3 (F := Ideal) (E2 (φ := .f32) C) = E2 (φ := .bf16) C := by
  funext j; unfold k0_pay3; pointwise; rfl

section point
variable (c : Dev nD) (i : grid0.Coords)
  (arg3 : Memref sig .tc .vmem S1024x1024 .bf16) (harg3 : arg3.IsWhole)
  (arg4 : Memref sig .tc .vmem S1024x896 .bf16) (harg4 : arg4.IsWhole)
  (arg5 : Memref sig .tc .vmem S1024x896 .bf16) (harg5 : arg5.IsWhole)
  (arg6 : Memref sig .tc .vmem S1024x896 .f32) (harg6 : arg6.IsWhole)
  (x : Vec Ideal S1024x1024 .bf16) (y : Vec Ideal S1024x896 .bf16) (s : Vec Ideal S1024x896 .f32)

/-- The sum after the first block of rows. -/
theorem sumA (hc0 : cond0_0 i) (hc1 : ¬cond0_1 i) :
    sout0_A_0 (F := Ideal) c i arg3 harg3 arg4 harg4 arg5 harg5 arg6 harg6 hc0 hc1 x y = k0_pay2 k0_pay1 x y := by
  unfold sout0_A_0
  rw [View.read_writes_eq_canon _ _ _ (scover0_A_0 (F := Ideal) c i arg3 harg3 arg4 harg4 arg5 harg5 arg6 harg6 hc0 hc1 x y)]
  unfold kernelRun0_A
  dsimp only
  sl_unfold_words
  rw [View.canon_cons_unit_zero (S := S1024x896) off2, View.readCov_unit_zero (S := S1024x896) _ off2]
  simp only [View.readAt_eq_ld, harg3.read_unread, harg4.read_unread, View.ld_unit_zero (S := S1024x1024) off2, View.ld_unit_zero (S := S1024x896) off2]

/-- The sum after a further block. -/
theorem sumB (hc0 : ¬cond0_0 i) (hc1 : ¬cond0_1 i) :
    sout0_B_0 (F := Ideal) c i arg3 harg3 arg4 harg4 arg5 harg5 arg6 harg6 hc0 hc1 x y s = k0_pay2 s x y := by
  unfold sout0_B_0
  rw [View.read_writes_eq_canon _ _ _ (scover0_B_0 (F := Ideal) c i arg3 harg3 arg4 harg4 arg5 harg5 arg6 harg6 hc0 hc1 x y s)]
  unfold kernelRun0_B
  dsimp only
  sl_unfold_words
  rw [View.canon_cons_unit_zero (S := S1024x896) off2]
  simp only [View.readAt_eq_ld, harg3.read_unread, harg4.read_unread, harg6.read_unread, View.ld_unit_zero (S := S1024x1024) off2, View.ld_unit_zero (S := S1024x896) off2]

/-- What the last point of a block of columns writes. -/
theorem outC (hc0 : ¬cond0_0 i) (hc1 : cond0_1 i) :
    out0_C_2 (F := Ideal) c i arg3 harg3 arg4 harg4 arg5 harg5 arg6 harg6 hc0 hc1 x y s = k0_pay3 (k0_pay2 s x y) := by
  unfold out0_C_2
  rw [View.read_writes_eq_canon _ _ _ (cover0_C_2 (F := Ideal) c i arg3 harg3 arg4 harg4 arg5 harg5 arg6 harg6 hc0 hc1 x y s)]
  unfold kernelRun0_C
  dsimp only
  sl_unfold_words
  rw [View.canon_cons_unit_zero (S := S1024x896) off2, View.readCov_unit_zero (S := S1024x896) _ off2]
  simp only [View.readAt_eq_ld, harg3.read_unread, harg4.read_unread, harg6.read_unread, View.ld_unit_zero (S := S1024x1024) off2, View.ld_unit_zero (S := S1024x896) off2]

end point

/-! ## The run -/

section run
variable (m : (ℓ : Loc nD τ sig) → Buf (Elt Ideal) ℓ) (c : Dev nD) (A B : ℕ → ℕ → EReal)
  (hA : ∀ i : S8192x1024.Idx, V m c main_arg0 i = A (i 0).val (i 1).val)
  (hB : ∀ i : S8192x1792.Idx, V m c main_arg1 i = B (i 0).val (i 1).val)

theorem ix0 : ∀ t : Fin cfg0.N, cc0_transform_0 (grid0.coords t) = ![t.val % 8, 0] := by decide +kernel
theorem ix1 : ∀ t : Fin cfg0.N, cc0_transform_1 (grid0.coords t) = ![t.val % 8, t.val / 8] := by decide +kernel

include hA in
theorem blk0 (t : Fin cfg0.N) : (iblk m c 0 t : Vec Ideal S1024x1024 .bf16) = E2 (φ := .bf16) fun r a => A (1024 * (t.val % 8) + r) a := by
  funext y
  refine (hA (((cfg0.win 0).rect t).emb y)).trans ?_
  rw [(cfg0.win 0).rect_emb_val t y (0 : Fin 2), (cfg0.win 0).rect_emb_val t y (1 : Fin 2)]
  have i0 : (cfg0.win 0).index t (0 : Fin 2) = t.val % 8 := congrFun (ix0 t) 0
  have i1 : (cfg0.win 0).index t (1 : Fin 2) = 0 := congrFun (ix0 t) 1
  rw [i0, i1]
  show A (t.val % 8 * 1024 + (y 0).val) (0 * 1024 + (y 1).val) = A (1024 * (t.val % 8) + (y 0).val) (y 1).val
  rw [Nat.mul_comm, Nat.zero_mul, Nat.zero_add]

include hB in
theorem blk1 (t : Fin cfg0.N) : (iblk m c 1 t : Vec Ideal S1024x896 .bf16)
    = E2 (φ := .bf16) fun r b => B (1024 * (t.val % 8) + r) (896 * (t.val / 8) + b) := by
  funext y
  refine (hB (((cfg0.win 1).rect t).emb y)).trans ?_
  rw [(cfg0.win 1).rect_emb_val t y (0 : Fin 2), (cfg0.win 1).rect_emb_val t y (1 : Fin 2)]
  have i0 : (cfg0.win 1).index t (0 : Fin 2) = t.val % 8 := congrFun (ix1 t) 0
  have i1 : (cfg0.win 1).index t (1 : Fin 2) = t.val / 8 := congrFun (ix1 t) 1
  rw [i0, i1]
  show B (t.val % 8 * 1024 + (y 0).val) (t.val / 8 * 896 + (y 1).val) = B (1024 * (t.val % 8) + (y 0).val) (896 * (t.val / 8) + (y 1).val)
  rw [Nat.mul_comm, Nat.mul_comm (t.val / 8)]

include hA hB

/-- The running sum, as the scratch holds it after each point that writes nothing. -/
theorem sums : ∀ (n : ℕ) (hn : n < cfg0.N), n % 8 ≠ 7 → (outsAt0 m c n hn).2
    = E2 (n := 1024) (m := 896) (φ := .f32) fun a b => tnE A B (1024 * (n % 8) + 1024) a (896 * (n / 8) + b) := by
  intro n
  induction n with
  | zero =>
    intro hn _
    rw [outsAt0_A m c ⟨0, hn⟩ rfl (show ¬ 0 % 8 = 7 by decide)]
    dsimp only
    rw [sumA, blk0 m c A hA, blk1 m c B hB, pay1_E, pay2_E]
    congr 1; funext a b
    rw [← tnE_step]
    dsimp only
    rw [Nat.zero_mod, Nat.mul_zero, tnE_zero]
  | succ n ih =>
    intro hn h7
    by_cases h0 : (n + 1) % 8 = 0
    · rw [outsAt0_A m c ⟨n + 1, hn⟩ h0 h7]
      dsimp only
      rw [sumA, blk0 m c A hA, blk1 m c B hB, pay1_E, pay2_E]
      congr 1; funext a b
      rw [← tnE_step]
      dsimp only
      rw [h0, Nat.mul_zero, tnE_zero]
    · have ih := ih (Nat.lt_of_succ_lt hn) (by omega)
      rw [outsAt0_B m c ⟨n + 1, hn⟩ h0 h7]
      dsimp only
      rw [sumB, blk0 m c A hA, blk1 m c B hB, show (outsAt0 m c (n + 1 - 1) _).2 = _ from ih, pay2_E]
      congr 1; funext a b
      rw [← tnE_step A B (1024 * ((n + 1) % 8)), show 1024 * (n % 8) + 1024 = 1024 * ((n + 1) % 8) by omega, show n / 8 = (n + 1) / 8 by omega]

/-- What the last point of a block of columns writes: the sum over all the rows. -/
theorem written (p : ℕ) (hp : p < cfg0.N) (e7 : p % 8 = 7) : (outsAt0 m c p hp).1
    = E2 (n := 1024) (m := 896) (φ := .bf16) fun a b => tnE A B 8192 a (896 * (p / 8) + b) := by
  have e0 : ¬ p % 8 = 0 := by omega
  have hs := sums m c A B hA hB (p - 1) (by omega) (by omega)
  rw [outsAt0_C m c ⟨p, hp⟩ e0 e7]
  dsimp only
  rw [outC, blk0 m c A hA, blk1 m c B hB, hs, pay2_E, pay3_E]
  refine congrArg (E2 (n := 1024) (m := 896) (φ := .bf16)) (funext fun a => funext fun b => ?_)
  dsimp only
  rw [show 1024 * ((p - 1) % 8) + 1024 = 1024 * (p % 8) by omega, show (p - 1) / 8 = p / 8 by omega, tnE_step, e7]

/-- The array after the run. -/
theorem result : ((dats m 0 c).arrAt 2 cfg0.N : S1024x1792.Idx → EReal)
    = E2 (n := 1024) (m := 1792) (φ := .bf16) fun a b => tnE A B 8192 a b := by
  rw [final2]
  funext i
  have l0 : (i 0).val < 1024 := (i 0).isLt
  have l1 : (i 1).val < 1792 := (i 1).isLt
  have hp : pt2Of i < cfg0.N := by rw [show cfg0.N = 16 from N_0]; show 8 * (2 * ((i 0).val / 1024 - 0) + 1 * ((i 1).val / 896 - 0)) + 7 < 16; omega
  have e7 : pt2Of i % 8 = 7 := by show (8 * (2 * ((i 0).val / 1024 - 0) + 1 * ((i 1).val / 896 - 0)) + 7) % 8 = 7; omega
  have ed : pt2Of i / 8 = (i 1).val / 896 := by
    show (8 * (2 * ((i 0).val / 1024 - 0) + 1 * ((i 1).val / 896 - 0)) + 7) / 8 = _; omega
  unfold G2
  rw [dif_pos hp, ← outsAt0_sweep m c _ hp, written m c A B hA hB _ hp e7, ed]
  show tnE A B 8192 ((i 0).val % 1024) (896 * ((i 1).val / 896) + (i 1).val % 896) = tnE A B 8192 (i 0).val (i 1).val
  rw [Nat.mod_eq_of_lt l0, Nat.div_add_mod]

end run

/-! ## The reference -/

/-- The reference's result at an index. -/
theorem reference (x : (⟨S8192x1024, .bf16⟩ : BufTy).Contents (Elt Ideal)) (y : (⟨S8192x1792, .bf16⟩ : BufTy).Contents (Elt Ideal))
    (A B : ℕ → ℕ → EReal) (hA : ∀ i : S8192x1024.Idx, x i = A (i 0).val (i 1).val) (hB : ∀ i : S8192x1792.Idx, y i = B (i 0).val (i 1).val) :
    (Cert.Reference9Ideal.Read.val_main_v6 (F := Ideal) x y : S1024x1792.Idx → EReal)
      = E2 (n := 1024) (m := 1792) (φ := .bf16) fun a b => tnE A B 8192 a b := by
  funext i
  refine (Cert.Reference9Ideal.Read.val_main_v5_apply (F := Ideal) x y i).trans ((Cert.Reference9Ideal.Read.val_main_v4_apply x y _).trans ?_)
  rw [E2_apply, tnE, Finset.sum_range]
  refine Finset.sum_congr rfl fun r _ => ?_
  exact (congrArg₂ (· * ·) (hB (Cert.Reference9Ideal.Read.lidx_main_v4 (Cert.Reference9Ideal.Read.idx_main_v5 i) r))
    (hA (Cert.Reference9Ideal.Read.ridx_main_v4 (Cert.Reference9Ideal.Read.idx_main_v5 i) r))).trans (mul_comm _ _)

/-! ## The claim -/

/-- The kernel's result is the reference's. -/
theorem algebraic : Cert.algebraic_Kernel9Ideal_Reference9Ideal := by
  intro m ρ m' ρ' _ hargs
  refine ⟨fun c => (dats m 0 c).arrAt 2 cfg0.N, run_blocks m ρ,
    (θ_run _ _ _).mono (fun r h c => ?_) (Cert.Reference9Ideal.Value.run m' ρ')⟩
  obtain ⟨h0, kept⟩ := h c
  obtain ⟨e0, e1⟩ := hargs c
  obtain ⟨A, hA⟩ := entries (d := ![8192, 1024]) (m ((c.tc : Thread nD τ).loc main_arg0))
  obtain ⟨B, hB⟩ := entries (d := ![8192, 1792]) (m ((c.tc : Thread nD τ).loc main_arg1))
  refine ⟨h0.trans ((Cert.Reference9Ideal.Read.val_main_v6_eq _ _).trans (Eq.trans ?_ (result m c A B (fun i => (congrFun (V_main_arg0 m c) i).trans (hA i)) (fun i => (congrFun (V_main_arg1 m c) i).trans (hB i))).symm)), kept⟩
  refine Eq.trans ?_ (reference (m ((c.tc : Thread nD τ).loc main_arg0)) (m ((c.tc : Thread nD τ).loc main_arg1)) A B hA hB)
  rw [← e0, ← e1]

/-- The reference's frame: its run read at the arguments; it declares no semaphore. -/
theorem reference_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Proof.GradInRwkv
-- ==== Proof.DownLoss.lean ====
module

public import proofs.«01_k».proof.Defs
public import proofs.«01_k».proof.Proof.Products
public import proofs.«01_k».proof.Proof.UpBwd
public import proofs.«01_k».proof.Proof.Gen.Kernel10Ideal.Value
public import proofs.«01_k».proof.Proof.Gen.Reference10Ideal.Read
public import proofs.«01_k».proof.Proof.Gen.Reference10Ideal.Run

/-!
The MLP's down product, the final norm, the loss and the loss's gradient. The kernel halves and divides a block's sum of squared
errors; the reference divides each row's sum and halves the total. Both multiply by a positive real number, and that may be taken
out of a sum of extended reals.
-/

@[expose] public section
noncomputable section
namespace Cert.Proof.DownLoss
open Idealize.ShloMosaic Idealize.ShloMosaic.TcCoe Idealize.SL.Sem Idealize.ShloMosaic.Pipeline Cert.Kernel10Ideal Cert.Kernel10Ideal.Gen Cert.Kernel10Ideal.Value
open Cert.Proof.UpBwd (wide small mhalf varE rsE ldD0 ldD1 ldX0 ldX1 halves)

/-! ## The constants -/

/-- A half, one and two, as both programs write them. -/
abbrev half : EReal := Scalar.ofBits (F := Ideal) .f32 0x3F000000#32
abbrev one : EReal := Scalar.ofBits (F := Ideal) .f32 0x3F800000#32
abbrev two : EReal := Scalar.ofBits (F := Ideal) .f32 0x40000000#32

theorem wide_eq : wide = ((1024 : ℝ) : EReal) := by
  show Ideal.ofBits .f32 _ = _
  simp [Ideal.ofBits, Ideal.ieee, -EReal.coe_mul]; norm_num
theorem half_eq : half = ((1 / 2 : ℝ) : EReal) := by
  show Ideal.ofBits .f32 _ = _
  simp [Ideal.ofBits, Ideal.ieee, -EReal.coe_mul]; norm_num
theorem one_eq : one = ((1 : ℝ) : EReal) := by
  show Ideal.ofBits .f32 _ = _
  simp [Ideal.ofBits, Ideal.ieee, -EReal.coe_mul]; try norm_num
theorem two_eq : two = ((2 : ℝ) : EReal) := by
  show Ideal.ofBits .f32 _ = _
  simp [Ideal.ofBits, Ideal.ieee, -EReal.coe_mul]; try norm_num

/-- To divide by the width is to multiply by a real number. -/
theorem div_wide (a : EReal) : Ideal.div a wide = ((1 / 1024 : ℝ) : EReal) * a := by
  unfold Ideal.div
  rw [wide_eq, if_neg (by norm_num [← EReal.coe_zero, EReal.coe_eq_coe_iff]), ← EReal.coe_inv, mul_comm, one_div]

/-- A row's part of the loss is its sum of squared errors times this. -/
def kap : EReal := ((1 / 2048 : ℝ) : EReal)

theorem kap_first (s : EReal) : Ideal.div (half * s) wide = kap * s := by
  rw [div_wide, half_eq, ← mul_assoc, ← EReal.coe_mul, kap]
  norm_num

theorem kap_last (s : EReal) : half * Ideal.div s wide = kap * s := by
  rw [div_wide, half_eq, ← mul_assoc, ← EReal.coe_mul, kap]
  norm_num

/-- The gradient of the squared error, halved and averaged, is the error over the width. -/
theorem grad_err (e : EReal) : Ideal.div (half * one) wide * (two * e) = Ideal.div e wide := by
  rw [div_wide, div_wide, half_eq, one_eq, two_eq, ← mul_assoc, ← EReal.coe_mul, ← EReal.coe_mul, ← EReal.coe_mul]
  norm_num

/-- A real number that is not negative, over a sum of extended reals. -/
theorem mul_sum_real {ι : Type} (s : Finset ι) (f : ι → EReal) (r : ℝ) (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

/-! ## The values -/

/-- What the MLP leaves: its input and the down product. -/
def zE (A W X : ℕ → ℕ → EReal) (a j : ℕ) : EReal := X a j + ∑ k : Fin 4096, A a k.val * W k.val j

variable (Z T G : ℕ → ℕ → EReal)

/-- The error of a normed row, and the error over the width. -/
def eE (a j : ℕ) : EReal := Z a j * rsE Z a * G 0 j - T a j
def uE (a j : ℕ) : EReal := Ideal.div (eE Z T G a j) wide

/-- The gradient of a normed row. -/
def qE (a j : ℕ) : EReal := uE Z T G a j * G 0 j

/-- The gradient of the mean of a row's squares. -/
def tE (a : ℕ) : EReal :=
  Ideal.div ((∑ k : Fin 1024, Z a k.val * qE Z T G a k.val) * (mhalf * Ideal.div (rsE Z a) (varE Z a))) wide

/-- The gradient of the input, entry by entry. -/
def dxE (a j : ℕ) : EReal := qE Z T G a j * rsE Z a + Z a j * tE Z T G a + tE Z T G a * Z a j

/-- One row's share of the gradient of the norm's weights, and its sum of squared errors. -/
def wE (a j : ℕ) : EReal := Z a j * rsE Z a * uE Z T G a j
def lE (a : ℕ) : EReal := ∑ k : Fin 1024, eE Z T G a k.val * eE Z T G a k.val

/-! ## What a grid point computes -/

section pay
variable (W A X : ℕ → ℕ → EReal)

theorem pay2_E : k0_pay2 (F := Ideal) (E2 (φ := .bf16) W) (E2 (φ := .bf16) A) (E2 (φ := .f32) X) = E2 (φ := .f32) (zE A W X) := by
  funext j; unfold k0_pay2; pointwise [dot_S256x4096_S4096x1024_S256x1024_1_0_0_1_n_n]
  simp only [E2_apply, zero_add, zE]
  try rfl

theorem pay3_E : k0_pay3 (F := Ideal) (E2 (φ := .bf16) W) (E2 (φ := .bf16) A) (E2 (φ := .f32) X)
    = E2 (φ := .f32) fun a _ => varE (zE A W X) a := by
  funext j; unfold k0_pay3; rw [pay2_E]; pointwise
  simp only [E2_apply, varE]
  try rfl

theorem pay4_E : k0_pay4 (F := Ideal) (E2 (φ := .bf16) W) (E2 (φ := .bf16) A) (E2 (φ := .f32) X)
    = E2 (φ := .f32) fun a _ => rsE (zE A W X) a := by
  funext j; unfold k0_pay4; rw [pay3_E]; pointwise
  try rfl

theorem pay5_E : k0_pay5 (F := Ideal) (E2 (φ := .bf16) W) (E2 (φ := .bf16) A) (E2 (φ := .f32) X)
    = E2 (φ := .f32) fun a _ => mhalf * Ideal.div (rsE (zE A W X) a) (varE (zE A W X) a) := by
  funext j; unfold k0_pay5; rw [pay4_E, pay3_E]; pointwise
  try rfl

theorem pay6_E : k0_pay6 (F := Ideal) (E2 (φ := .bf16) W) (E2 (φ := .bf16) A) (E2 (φ := .f32) X)
    = E2 (φ := .f32) fun a j => zE A W X a j * rsE (zE A W X) a := by
  funext j; unfold k0_pay6; rw [pay4_E, pay2_E]; pointwise
  try rfl

theorem pay7_E : k0_pay7 (F := Ideal) (E2 (φ := .bf16) W) (E2 (φ := .f32) G) (E2 (φ := .bf16) A) (E2 (φ := .f32) X) (E2 (φ := .f32) T)
    = E2 (φ := .f32) (eE (zE A W X) T G) := by
  funext j; unfold k0_pay7; rw [pay6_E]; pointwise
  try rfl

theorem pay8_E : k0_pay8 (F := Ideal) (E2 (φ := .bf16) W) (E2 (φ := .f32) G) (E2 (φ := .bf16) A) (E2 (φ := .f32) X) (E2 (φ := .f32) T)
    = E2 (φ := .f32) fun _ _ => kap * ∑ r : Fin 256, lE (zE A W X) T G r.val := by
  funext j; unfold k0_pay8; rw [pay7_E]; pointwise
  simp only [E2_apply, ← kap_first, lE]
  try rfl

theorem pay9_E : k0_pay9 (F := Ideal) (E2 (φ := .bf16) W) (E2 (φ := .f32) G) (E2 (φ := .bf16) A) (E2 (φ := .f32) X) (E2 (φ := .f32) T)
    = E2 (φ := .f32) (uE (zE A W X) T G) := by
  funext j; unfold k0_pay9; rw [pay7_E]; pointwise
  try rfl

theorem pay10_E : k0_pay10 (F := Ideal) (E2 (φ := .bf16) W) (E2 (φ := .f32) G) (E2 (φ := .bf16) A) (E2 (φ := .f32) X) (E2 (φ := .f32) T)
    = E2 (φ := .f32) fun _ j => ∑ r : Fin 256, wE (zE A W X) T G r.val j := by
  funext j; unfold k0_pay10; rw [pay9_E, pay6_E]; pointwise
  simp only [E2_apply, wE]
  try rfl

theorem pay11_E : k0_pay11 (F := Ideal) (E2 (φ := .f32) G) = E2 (φ := .f32) fun _ j => G 0 j := by
  funext j; unfold k0_pay11; pointwise
  try rfl

theorem pay12_E : k0_pay12 (F := Ideal) (E2 (φ := .f32) Z) (E2 (φ := .f32) fun a _ => rsE Z a)
    (E2 (φ := .f32) fun a _ => mhalf * Ideal.div (rsE Z a) (varE Z a)) (E2 (φ := .f32) (uE Z T G)) (E2 (φ := .f32) fun _ j => G 0 j)
    = E2 (φ := .f32) fun a j => dxE Z T G a j := by
  funext j; unfold k0_pay12; pointwise
  simp only [E2_apply, Finset.univ_unique, Finset.sum_singleton, dxE, qE, tE]
  try rfl

theorem pay13_E (B : EReal) : k0_pay13 (F := Ideal) (E2 (φ := .f32) fun _ _ => B) = E2 (φ := .f32) fun _ _ => B := by
  funext j; unfold k0_pay13; pointwise
  try rfl

/-- The second half of a block is computed as the first. -/
theorem pay14_eq : @k0_pay14 Ideal _ = k0_pay2 := rfl
theorem pay16_eq : @k0_pay16 Ideal _ = k0_pay4 := rfl
theorem pay17_eq : @k0_pay17 Ideal _ = k0_pay5 := rfl
theorem pay18_eq : @k0_pay18 Ideal _ = k0_pay6 := rfl
theorem pay19_eq : @k0_pay19 Ideal _ = k0_pay7 := rfl

theorem pay21_E : k0_pay21 (F := Ideal) (E2 (φ := .f32) (eE Z T G)) = E2 (φ := .f32) (uE Z T G) := by
  funext j; unfold k0_pay21; pointwise
  try rfl

theorem pay22_E : k0_pay22 (F := Ideal) (E2 (φ := .f32) G) (E2 (φ := .f32) Z) (E2 (φ := .f32) fun a _ => rsE Z a)
    (E2 (φ := .f32) fun a _ => mhalf * Ideal.div (rsE Z a) (varE Z a)) (E2 (φ := .f32) (eE Z T G))
    = E2 (φ := .f32) fun a j => dxE Z T G a j := by
  funext j; unfold k0_pay22; rw [pay21_E]; pointwise
  simp only [E2_apply, Finset.univ_unique, Finset.sum_singleton, dxE, qE, tE]
  try rfl

theorem pay23_E (B : ℕ → ℕ → EReal) : k0_pay23 (F := Ideal) (E2 (φ := .f32) B) (k0_pay20 (F := Ideal) (E2 (φ := .bf16) W) (E2 (φ := .f32) G) (E2 (φ := .bf16) A) (E2 (φ := .f32) X) (E2 (φ := .f32) T))
    = E2 (φ := .f32) fun a j => B a j + kap * ∑ r : Fin 256, lE (zE A W X) T G r.val := by
  funext j; unfold k0_pay23 k0_pay20; rw [pay19_eq, pay7_E]; pointwise
  simp only [E2_apply, ← kap_first, lE]
  try rfl

theorem pay24_E (C : ℕ → ℕ → EReal) : k0_pay24 (F := Ideal) (E2 (φ := .f32) C) (E2 (φ := .f32) fun a j => Z a j * rsE Z a) (E2 (φ := .f32) (eE Z T G))
    = E2 (φ := .f32) fun a j => C a j + ∑ r : Fin 256, wE Z T G r.val j := by
  funext j; unfold k0_pay24; rw [pay21_E]; pointwise
  simp only [E2_apply, wE]
  try rfl

theorem pay25_E (B C : ℕ → ℕ → EReal) : k0_pay25 (F := Ideal) (E2 (φ := .f32) B) (k0_pay20 (F := Ideal) (E2 (φ := .bf16) W) (E2 (φ := .f32) G) (E2 (φ := .bf16) A) (E2 (φ := .f32) X) (E2 (φ := .f32) T)) (E2 (φ := .f32) C)
    = E2 (φ := .f32) fun a j => C a j + (B a j + kap * ∑ r : Fin 256, lE (zE A W X) T G r.val) := by
  funext j; unfold k0_pay25; rw [pay23_E]; pointwise
  try rfl

theorem pay1_E (B C : ℕ → ℕ → EReal) : k0_pay1 (F := Ideal) (E2 (φ := .f32) B) (E2 (φ := .f32) C) = E2 (φ := .f32) fun a j => C a j + B a j := by
  funext j; unfold k0_pay1; pointwise
  try rfl

end pay

section point
variable (c : Dev nD) (i : grid0.Coords)
  (arg1 : Memref sig .tc .vmem S512x4096 .bf16) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S4096x1024 .bf16) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S1x128 .f32) (harg7 : arg7.IsWhole)
  (arg8 : Memref sig .tc .vmem S1x1024 .f32) (harg8 : arg8.IsWhole)
  (A W X B C : ℕ → ℕ → EReal) (xo6 : Vec Ideal S1x128 .f32) (xo7 : Vec Ideal S1x1024 .f32)

/-- The rows of the first result a grid point leaves. -/
theorem rowsA (hc0 : cond0_0 i) (hc1 : ¬cond0_1 i) (hc2 : cond0_2 i) (hc3 : ¬cond0_3 i) :
    out0_A_5 (F := Ideal) c i arg1 harg1 arg2 harg2 arg3 harg3 arg4 harg4 arg5 harg5 arg6 harg6 arg7 harg7 arg8 harg8 hc0 hc1 hc2 hc3 (E2 (φ := .bf16) A) (E2 (φ := .f32) X) (E2 (φ := .f32) T) (E2 (φ := .bf16) W) (E2 (φ := .f32) G)
      = E2 (n := 512) (m := 1024) (φ := .f32) fun a j => dxE (zE A W X) T G a j := by
  unfold out0_A_5
  rw [View.read_writes_eq_canon _ _ _ (cover0_A_5 (F := Ideal) c i arg1 harg1 arg2 harg2 arg3 harg3 arg4 harg4 arg5 harg5 arg6 harg6 arg7 harg7 arg8 harg8 hc0 hc1 hc2 hc3 _ _ _ _ _)]
  unfold kernelRun0_A
  dsimp only
  sl_unfold_words
  simp only [View.readAt_eq_ld, harg1.read_unread, harg2.read_unread, harg3.read_unread, harg4.read_unread, harg5.read_unread, harg7.read_unread, harg8.read_unread,
    ldD0, ldD1, ldX0, ldX1, View.ld_unit_zero (S := S4096x1024) off2, View.ld_unit_zero (S := S1x1024) off2, View.ld_unit_zero (S := S1x128) off2, pay14_eq, pay16_eq, pay17_eq, pay19_eq, pay2_E, pay4_E, pay5_E, pay7_E, pay9_E, pay11_E, pay12_E, pay22_E]
  exact halves (dxE (zE A W X) T G) _ _

/-- The rows of the first result a grid point leaves. -/
theorem rowsB (hc0 : ¬cond0_0 i) (hc1 : cond0_1 i) (hc2 : ¬cond0_2 i) (hc3 : cond0_3 i) :
    out0_B_5 (F := Ideal) c i arg1 harg1 arg2 harg2 arg3 harg3 arg4 harg4 arg5 harg5 arg6 harg6 arg7 harg7 arg8 harg8 hc0 hc1 hc2 hc3 (E2 (φ := .bf16) A) (E2 (φ := .f32) X) (E2 (φ := .f32) T) (E2 (φ := .bf16) W) (E2 (φ := .f32) G) xo6 xo7
      = E2 (n := 512) (m := 1024) (φ := .f32) fun a j => dxE (zE A W X) T G a j := by
  unfold out0_B_5
  rw [View.read_writes_eq_canon _ _ _ (cover0_B_5 (F := Ideal) c i arg1 harg1 arg2 harg2 arg3 harg3 arg4 harg4 arg5 harg5 arg6 harg6 arg7 harg7 arg8 harg8 hc0 hc1 hc2 hc3 _ _ _ _ _ _ _)]
  unfold kernelRun0_B
  dsimp only
  sl_unfold_words
  simp only [View.readAt_eq_ld, harg1.read_unread, harg2.read_unread, harg3.read_unread, harg4.read_unread, harg5.read_unread, harg7.read_unread, harg8.read_unread,
    ldD0, ldD1, ldX0, ldX1, View.ld_unit_zero (S := S4096x1024) off2, View.ld_unit_zero (S := S1x1024) off2, View.ld_unit_zero (S := S1x128) off2, pay14_eq, pay16_eq, pay17_eq, pay19_eq, pay2_E, pay4_E, pay5_E, pay7_E, pay9_E, pay11_E, pay12_E, pay22_E]
  exact halves (dxE (zE A W X) T G) _ _

/-- The loss over the rows so far. -/
theorem lossA (hc0 : cond0_0 i) (hc1 : ¬cond0_1 i) (hc2 : cond0_2 i) (hc3 : ¬cond0_3 i) :
    out0_A_6 (F := Ideal) c i arg1 harg1 arg2 harg2 arg3 harg3 arg4 harg4 arg5 harg5 arg6 harg6 arg7 harg7 arg8 harg8 hc0 hc1 hc2 hc3 (E2 (φ := .bf16) A) (E2 (φ := .f32) X) (E2 (φ := .f32) T) (E2 (φ := .bf16) W) (E2 (φ := .f32) G)
      = E2 (n := 1) (m := 128) (φ := .f32) fun _ _ => (kap * (∑ r : Fin 256, lE (zE A W X) T G (0 + r.val)) + kap * ∑ r : Fin 256, lE (zE A W X) T G (256 + r.val)) := by
  unfold out0_A_6
  rw [View.read_writes_eq_canon _ _ _ (cover0_A_6 (F := Ideal) c i arg1 harg1 arg2 harg2 arg3 harg3 arg4 harg4 arg5 harg5 arg6 harg6 arg7 harg7 arg8 harg8 hc0 hc1 hc2 hc3 _ _ _ _ _)]
  unfold kernelRun0_A
  dsimp only
  sl_unfold_words
  rw [View.canon_cons_unit_zero (S := S1x128) off2]
  simp only [View.readAt_eq_ld, harg1.read_unread, harg2.read_unread, harg3.read_unread, harg4.read_unread, harg5.read_unread, harg7.read_unread, harg8.read_unread,
    ldD0, ldD1, ldX0, ldX1, View.ld_unit_zero (S := S4096x1024) off2, View.ld_unit_zero (S := S1x1024) off2, View.ld_unit_zero (S := S1x128) off2, pay8_E, pay13_E, pay23_E]
  rfl

/-- The loss over the rows so far. -/
theorem lossB (hc0 : ¬cond0_0 i) (hc1 : cond0_1 i) (hc2 : ¬cond0_2 i) (hc3 : cond0_3 i) :
    out0_B_6 (F := Ideal) c i arg1 harg1 arg2 harg2 arg3 harg3 arg4 harg4 arg5 harg5 arg6 harg6 arg7 harg7 arg8 harg8 hc0 hc1 hc2 hc3 (E2 (φ := .bf16) A) (E2 (φ := .f32) X) (E2 (φ := .f32) T) (E2 (φ := .bf16) W) (E2 (φ := .f32) G) (E2 (φ := .f32) B) xo7
      = E2 (n := 1) (m := 128) (φ := .f32) fun a j => B a j + (kap * (∑ r : Fin 256, lE (zE A W X) T G (0 + r.val)) + kap * ∑ r : Fin 256, lE (zE A W X) T G (256 + r.val)) := by
  unfold out0_B_6
  rw [View.read_writes_eq_canon _ _ _ (cover0_B_6 (F := Ideal) c i arg1 harg1 arg2 harg2 arg3 harg3 arg4 harg4 arg5 harg5 arg6 harg6 arg7 harg7 arg8 harg8 hc0 hc1 hc2 hc3 _ _ _ _ _ _ _)]
  unfold kernelRun0_B
  dsimp only
  sl_unfold_words
  rw [View.canon_cons_unit_zero (S := S1x128) off2]
  simp only [View.readAt_eq_ld, harg1.read_unread, harg2.read_unread, harg3.read_unread, harg4.read_unread, harg5.read_unread, harg7.read_unread, harg8.read_unread,
    ldD0, ldD1, ldX0, ldX1, View.ld_unit_zero (S := S4096x1024) off2, View.ld_unit_zero (S := S1x1024) off2, View.ld_unit_zero (S := S1x128) off2, pay8_E, pay13_E, pay25_E]
  rfl

/-- The sum over the rows so far of the gradient of the weights. -/
theorem sumA (hc0 : cond0_0 i) (hc1 : ¬cond0_1 i) (hc2 : cond0_2 i) (hc3 : ¬cond0_3 i) :
    out0_A_7 (F := Ideal) c i arg1 harg1 arg2 harg2 arg3 harg3 arg4 harg4 arg5 harg5 arg6 harg6 arg7 harg7 arg8 harg8 hc0 hc1 hc2 hc3 (E2 (φ := .bf16) A) (E2 (φ := .f32) X) (E2 (φ := .f32) T) (E2 (φ := .bf16) W) (E2 (φ := .f32) G)
      = E2 (n := 1) (m := 1024) (φ := .f32) fun _ j => ((∑ r : Fin 256, wE (zE A W X) T G (0 + r.val) j) + ∑ r : Fin 256, wE (zE A W X) T G (256 + r.val) j) := by
  unfold out0_A_7
  rw [View.read_writes_eq_canon _ _ _ (cover0_A_7 (F := Ideal) c i arg1 harg1 arg2 harg2 arg3 harg3 arg4 harg4 arg5 harg5 arg6 harg6 arg7 harg7 arg8 harg8 hc0 hc1 hc2 hc3 _ _ _ _ _)]
  unfold kernelRun0_A
  dsimp only
  sl_unfold_words
  rw [View.canon_cons_unit_zero (S := S1x1024) off2]
  simp only [View.readAt_eq_ld, harg1.read_unread, harg2.read_unread, harg3.read_unread, harg4.read_unread, harg5.read_unread, harg7.read_unread, harg8.read_unread,
    ldD0, ldD1, ldX0, ldX1, View.ld_unit_zero (S := S4096x1024) off2, View.ld_unit_zero (S := S1x1024) off2, View.ld_unit_zero (S := S1x128) off2, pay18_eq, pay19_eq, pay6_E, pay7_E, pay10_E, pay24_E, pay1_E]
  rfl

/-- The sum over the rows so far of the gradient of the weights. -/
theorem sumB (hc0 : ¬cond0_0 i) (hc1 : cond0_1 i) (hc2 : ¬cond0_2 i) (hc3 : cond0_3 i) :
    out0_B_7 (F := Ideal) c i arg1 harg1 arg2 harg2 arg3 harg3 arg4 harg4 arg5 harg5 arg6 harg6 arg7 harg7 arg8 harg8 hc0 hc1 hc2 hc3 (E2 (φ := .bf16) A) (E2 (φ := .f32) X) (E2 (φ := .f32) T) (E2 (φ := .bf16) W) (E2 (φ := .f32) G) xo6 (E2 (φ := .f32) C)
      = E2 (n := 1) (m := 1024) (φ := .f32) fun a j => C a j + ((∑ r : Fin 256, wE (zE A W X) T G (0 + r.val) j) + ∑ r : Fin 256, wE (zE A W X) T G (256 + r.val) j) := by
  unfold out0_B_7
  rw [View.read_writes_eq_canon _ _ _ (cover0_B_7 (F := Ideal) c i arg1 harg1 arg2 harg2 arg3 harg3 arg4 harg4 arg5 harg5 arg6 harg6 arg7 harg7 arg8 harg8 hc0 hc1 hc2 hc3 _ _ _ _ _ _ _)]
  unfold kernelRun0_B
  dsimp only
  sl_unfold_words
  rw [View.canon_cons_unit_zero (S := S1x1024) off2]
  simp only [View.readAt_eq_ld, harg1.read_unread, harg2.read_unread, harg3.read_unread, harg4.read_unread, harg5.read_unread, harg7.read_unread, harg8.read_unread,
    ldD0, ldD1, ldX0, ldX1, View.ld_unit_zero (S := S4096x1024) off2, View.ld_unit_zero (S := S1x1024) off2, View.ld_unit_zero (S := S1x128) off2, pay18_eq, pay19_eq, pay6_E, pay7_E, pay10_E, pay24_E, pay1_E]
  rfl

end point

/-- The loss, and the gradient of the norm's weights, over the first `n` rows. -/
def lossE (n : ℕ) : EReal := ∑ a ∈ Finset.range n, kap * lE Z T G a
def dgE (n j : ℕ) : EReal := ∑ a ∈ Finset.range n, wE Z T G a j

theorem lossE_zero : lossE Z T G 0 = 0 := Finset.sum_range_zero _
theorem dgE_zero (j : ℕ) : dgE Z T G 0 j = 0 := Finset.sum_range_zero _

/-- The next block of rows. -/
theorem sum_step (f : ℕ → EReal) (n : ℕ) :
    (∑ a ∈ Finset.range n, f a) + ((∑ r : Fin 256, f (n + (0 + r.val))) + ∑ r : Fin 256, f (n + (256 + r.val))) = ∑ a ∈ Finset.range (n + 512), f a := by
  rw [show n + 512 = n + (256 + 256) from rfl, Finset.sum_range_add _ n, Finset.sum_range_add _ 256, Finset.sum_range fun r => f (n + r),
    Finset.sum_range fun r => f (n + (256 + r))]
  refine congrArg (_ + ·) (congrArg (· + _) (Finset.sum_congr rfl fun r _ => ?_))
  rw [Nat.zero_add]

theorem dgE_step (n j : ℕ) :
    dgE Z T G n j + ((∑ r : Fin 256, wE Z T G (n + (0 + r.val)) j) + ∑ r : Fin 256, wE Z T G (n + (256 + r.val)) j) = dgE Z T G (n + 512) j :=
  sum_step (fun a => wE Z T G a j) n

theorem lossE_step (n : ℕ) :
    lossE Z T G n + (kap * (∑ r : Fin 256, lE Z T G (n + (0 + r.val))) + kap * ∑ r : Fin 256, lE Z T G (n + (256 + r.val))) = lossE Z T G (n + 512) := by
  unfold kap
  rw [mul_sum_real _ _ _ (by norm_num), mul_sum_real _ _ _ (by norm_num)]
  exact sum_step (fun a => kap * lE Z T G a) n

/-! ## The run -/

/-- An index's place in its block. -/
def at2 (a b : ℕ) : S512x1024.Idx := fun d => match d with
  | ⟨0, _⟩ => ⟨a % 512, Nat.mod_lt _ (by norm_num)⟩
  | ⟨1, _⟩ => ⟨b % 1024, Nat.mod_lt _ (by norm_num)⟩

section run
variable (m : (ℓ : Loc nD τ sig) → Buf (Elt Ideal) ℓ) (c : Dev nD) (A W X : ℕ → ℕ → EReal)
  (hA : ∀ i : S8192x4096.Idx, V m c main_arg0 i = A (i 0).val (i 1).val)
  (hW : ∀ i : S4096x1024.Idx, V m c main_arg1 i = W (i 0).val (i 1).val)
  (hX : ∀ i : S8192x1024.Idx, V m c main_arg2 i = X (i 0).val (i 1).val)
  (hT : ∀ i : S8192x1024.Idx, V m c main_arg3 i = T (i 0).val (i 1).val)
  (hG : ∀ i : S1x1024.Idx, V m c main_arg4 i = G (i 0).val (i 1).val)

theorem ix0 : ∀ t : Fin cfg0.N, cc0_transform_0 (grid0.coords t) = ![t.val, 0] := by decide +kernel
theorem ix1 : ∀ t : Fin cfg0.N, cc0_transform_1 (grid0.coords t) = ![t.val, 0] := by decide +kernel
theorem ix2 : ∀ t : Fin cfg0.N, cc0_transform_2 (grid0.coords t) = ![t.val, 0] := by decide +kernel
theorem ix3 : ∀ t : Fin cfg0.N, cc0_transform_3 (grid0.coords t) = ![0, 0] := by decide +kernel
theorem ix4 : ∀ t : Fin cfg0.N, cc0_transform_4 (grid0.coords t) = ![0, 0] := by decide +kernel
theorem ix5 : ∀ t : Fin cfg0.N, cc0_transform_5 (grid0.coords t) = ![t.val, 0] := by decide +kernel
theorem ix6 : ∀ t : Fin cfg0.N, cc0_transform_6 (grid0.coords t) = ![0, 0] := by decide +kernel
theorem ix7 : ∀ t : Fin cfg0.N, cc0_transform_7 (grid0.coords t) = ![0, 0] := by decide +kernel

include hA in
theorem blk0 (t : Fin cfg0.N) : (iblk m c 0 t : Vec Ideal S512x4096 .bf16) = E2 (φ := .bf16) fun a k => A (512 * t.val + a) k := by
  funext y
  refine (hA (((cfg0.win 0).rect t).emb y)).trans ?_
  rw [(cfg0.win 0).rect_emb_val t y (0 : Fin 2), (cfg0.win 0).rect_emb_val t y (1 : Fin 2)]
  have i0 : (cfg0.win 0).index t (0 : Fin 2) = t.val := congrFun (ix0 t) 0
  have i1 : (cfg0.win 0).index t (1 : Fin 2) = 0 := congrFun (ix0 t) 1
  rw [i0, i1]
  show A (t.val * 512 + (y 0).val) (0 * 4096 + (y 1).val) = A (512 * t.val + (y 0).val) (y 1).val
  rw [Nat.mul_comm, Nat.zero_mul, Nat.zero_add]

include hX in
theorem blk1 (t : Fin cfg0.N) : (iblk m c 1 t : Vec Ideal S512x1024 .f32) = E2 (φ := .f32) fun a k => X (512 * t.val + a) k := by
  funext y
  refine (hX (((cfg0.win 1).rect t).emb y)).trans ?_
  rw [(cfg0.win 1).rect_emb_val t y (0 : Fin 2), (cfg0.win 1).rect_emb_val t y (1 : Fin 2)]
  have i0 : (cfg0.win 1).index t (0 : Fin 2) = t.val := congrFun (ix1 t) 0
  have i1 : (cfg0.win 1).index t (1 : Fin 2) = 0 := congrFun (ix1 t) 1
  rw [i0, i1]
  show X (t.val * 512 + (y 0).val) (0 * 1024 + (y 1).val) = X (512 * t.val + (y 0).val) (y 1).val
  rw [Nat.mul_comm, Nat.zero_mul, Nat.zero_add]

include hT in
theorem blk2 (t : Fin cfg0.N) : (iblk m c 2 t : Vec Ideal S512x1024 .f32) = E2 (φ := .f32) fun a k => T (512 * t.val + a) k := by
  funext y
  refine (hT (((cfg0.win 2).rect t).emb y)).trans ?_
  rw [(cfg0.win 2).rect_emb_val t y (0 : Fin 2), (cfg0.win 2).rect_emb_val t y (1 : Fin 2)]
  have i0 : (cfg0.win 2).index t (0 : Fin 2) = t.val := congrFun (ix2 t) 0
  have i1 : (cfg0.win 2).index t (1 : Fin 2) = 0 := congrFun (ix2 t) 1
  rw [i0, i1]
  show T (t.val * 512 + (y 0).val) (0 * 1024 + (y 1).val) = T (512 * t.val + (y 0).val) (y 1).val
  rw [Nat.mul_comm, Nat.zero_mul, Nat.zero_add]

include hW in
theorem blk3 (t : Fin cfg0.N) : (iblk m c 3 t : Vec Ideal S4096x1024 .bf16) = E2 (φ := .bf16) W := by
  funext y
  refine (hW (((cfg0.win 3).rect t).emb y)).trans ?_
  rw [(cfg0.win 3).rect_emb_val t y (0 : Fin 2), (cfg0.win 3).rect_emb_val t y (1 : Fin 2)]
  have i0 : (cfg0.win 3).index t (0 : Fin 2) = 0 := congrFun (ix3 t) 0
  have i1 : (cfg0.win 3).index t (1 : Fin 2) = 0 := congrFun (ix3 t) 1
  rw [i0, i1]
  show W (0 * 4096 + (y 0).val) (0 * 1024 + (y 1).val) = W (y 0).val (y 1).val
  simp only [Nat.zero_mul, Nat.zero_add]

include hG in
theorem blk4 (t : Fin cfg0.N) : (iblk m c 4 t : Vec Ideal S1x1024 .f32) = E2 (φ := .f32) G := by
  funext y
  refine (hG (((cfg0.win 4).rect t).emb y)).trans ?_
  rw [(cfg0.win 4).rect_emb_val t y (0 : Fin 2), (cfg0.win 4).rect_emb_val t y (1 : Fin 2)]
  have i0 : (cfg0.win 4).index t (0 : Fin 2) = 0 := congrFun (ix4 t) 0
  have i1 : (cfg0.win 4).index t (1 : Fin 2) = 0 := congrFun (ix4 t) 1
  rw [i0, i1]
  show G (0 * 1 + (y 0).val) (0 * 1024 + (y 1).val) = G (y 0).val (y 1).val
  simp only [Nat.zero_mul, Nat.zero_add]

/-- Where a point's block lies in the results. -/
theorem emb5 (t : Fin cfg0.N) (y : S512x1024.Idx) :
    (((cfg0.win 5).rect t).emb y (0 : Fin 2)).val = 512 * t.val + (y 0).val
    ∧ (((cfg0.win 5).rect t).emb y (1 : Fin 2)).val = (y 1).val := by
  rw [(cfg0.win 5).rect_emb_val t y (0 : Fin 2), (cfg0.win 5).rect_emb_val t y (1 : Fin 2)]
  have i0 : (cfg0.win 5).index t (0 : Fin 2) = t.val := congrFun (ix5 t) 0
  have i1 : (cfg0.win 5).index t (1 : Fin 2) = 0 := congrFun (ix5 t) 1
  rw [i0, i1]
  show t.val * 512 + (y 0).val = _ ∧ 0 * 1024 + (y 1).val = _
  rw [Nat.mul_comm, Nat.zero_mul, Nat.zero_add]
  exact ⟨rfl, rfl⟩

theorem emb6 (t : Fin cfg0.N) (y : S1x128.Idx) :
    (((cfg0.win 6).rect t).emb y (0 : Fin 2)).val = (y 0).val ∧ (((cfg0.win 6).rect t).emb y (1 : Fin 2)).val = (y 1).val := by
  rw [(cfg0.win 6).rect_emb_val t y (0 : Fin 2), (cfg0.win 6).rect_emb_val t y (1 : Fin 2)]
  have i0 : (cfg0.win 6).index t (0 : Fin 2) = 0 := congrFun (ix6 t) 0
  have i1 : (cfg0.win 6).index t (1 : Fin 2) = 0 := congrFun (ix6 t) 1
  rw [i0, i1]
  exact ⟨(show 0 * 1 + (y 0).val = (y 0).val by omega), (show 0 * 128 + (y 1).val = (y 1).val by omega)⟩

theorem emb7 (t : Fin cfg0.N) (y : S1x1024.Idx) :
    (((cfg0.win 7).rect t).emb y (0 : Fin 2)).val = (y 0).val ∧ (((cfg0.win 7).rect t).emb y (1 : Fin 2)).val = (y 1).val := by
  rw [(cfg0.win 7).rect_emb_val t y (0 : Fin 2), (cfg0.win 7).rect_emb_val t y (1 : Fin 2)]
  have i0 : (cfg0.win 7).index t (0 : Fin 2) = 0 := congrFun (ix7 t) 0
  have i1 : (cfg0.win 7).index t (1 : Fin 2) = 0 := congrFun (ix7 t) 1
  rw [i0, i1]
  exact ⟨(show 0 * 1 + (y 0).val = (y 0).val by omega), (show 0 * 1024 + (y 1).val = (y 1).val by omega)⟩

include hA hW hX hT hG

/-- What a grid point writes of the first result. -/
theorem written5 (t : Fin cfg0.N) : (outsAt0 m c t.val t.isLt).1
    = E2 (n := 512) (m := 1024) (φ := .f32) fun a j => dxE (zE A W X) T G (512 * t.val + a) j := by
  have l : t.val < 16 := t.isLt.trans_eq N_0
  by_cases h0 : t.val % 16 = 0
  · rw [outsAt0_A m c t h0 (by omega) h0 (by omega)]
    dsimp only
    rw [blk0 m c A hA, blk1 m c X hX, blk2 T m c hT, blk3 m c W hW, blk4 G m c hG, rowsA]
    rfl
  · rw [outsAt0_B m c t h0 (by omega) h0 (by omega)]
    dsimp only
    rw [blk0 m c A hA, blk1 m c X hX, blk2 T m c hT, blk3 m c W hW, blk4 G m c hG, rowsB]
    rfl

/-- The running loss. -/
theorem losses : ∀ (n : ℕ) (hn : n < cfg0.N), (outsAt0 m c n hn).2.1
    = E2 (n := 1) (m := 128) (φ := .f32) fun _ _ => lossE (zE A W X) T G (512 * n + 512) := by
  intro n
  induction n with
  | zero =>
    intro hn
    rw [outsAt0_A m c ⟨0, hn⟩ rfl (show ¬ 1 ≤ 0 by decide) rfl (show ¬ 1 ≤ 0 by decide)]
    dsimp only
    rw [blk0 m c A hA, blk1 m c X hX, blk2 T m c hT, blk3 m c W hW, blk4 G m c hG, lossA]
    refine congrArg (E2 (n := 1) (m := 128) (φ := .f32)) (funext fun a => funext fun j => ?_)
    rw [← lossE_step, Nat.mul_zero, lossE_zero, zero_add]
    rfl
  | succ n ih =>
    intro hn
    have l : n + 1 < 16 := hn.trans_eq N_0
    have ih := ih (Nat.lt_of_succ_lt hn)
    rw [outsAt0_B m c ⟨n + 1, hn⟩ (show ¬ (n + 1) % 16 = 0 by omega) (show 1 ≤ n + 1 by omega) (show ¬ (n + 1) % 16 = 0 by omega) (show 1 ≤ n + 1 by omega)]
    dsimp only
    rw [blk0 m c A hA, blk1 m c X hX, blk2 T m c hT, blk3 m c W hW, blk4 G m c hG, show (outsAt0 m c (n + 1 - 1) _).2.1 = _ from ih, lossB]
    refine congrArg (E2 (n := 1) (m := 128) (φ := .f32)) (funext fun a => funext fun j => ?_)
    rw [← lossE_step (zE A W X) T G (512 * (n + 1)), show 512 * n + 512 = 512 * (n + 1) by omega]
    rfl

/-- The running sum of the gradient of the weights. -/
theorem sums : ∀ (n : ℕ) (hn : n < cfg0.N), (outsAt0 m c n hn).2.2
    = E2 (n := 1) (m := 1024) (φ := .f32) fun _ j => dgE (zE A W X) T G (512 * n + 512) j := by
  intro n
  induction n with
  | zero =>
    intro hn
    rw [outsAt0_A m c ⟨0, hn⟩ rfl (show ¬ 1 ≤ 0 by decide) rfl (show ¬ 1 ≤ 0 by decide)]
    dsimp only
    rw [blk0 m c A hA, blk1 m c X hX, blk2 T m c hT, blk3 m c W hW, blk4 G m c hG, sumA]
    refine congrArg (E2 (n := 1) (m := 1024) (φ := .f32)) (funext fun a => funext fun j => ?_)
    rw [← dgE_step, Nat.mul_zero, dgE_zero, zero_add]
    rfl
  | succ n ih =>
    intro hn
    have l : n + 1 < 16 := hn.trans_eq N_0
    have ih := ih (Nat.lt_of_succ_lt hn)
    rw [outsAt0_B m c ⟨n + 1, hn⟩ (show ¬ (n + 1) % 16 = 0 by omega) (show 1 ≤ n + 1 by omega) (show ¬ (n + 1) % 16 = 0 by omega) (show 1 ≤ n + 1 by omega)]
    dsimp only
    rw [blk0 m c A hA, blk1 m c X hX, blk2 T m c hT, blk3 m c W hW, blk4 G m c hG, show (outsAt0 m c (n + 1 - 1) _).2.2 = _ from ih, sumB]
    refine congrArg (E2 (n := 1) (m := 1024) (φ := .f32)) (funext fun a => funext fun j => ?_)
    rw [← dgE_step (zE A W X) T G (512 * (n + 1)), show 512 * n + 512 = 512 * (n + 1) by omega]
    rfl

/-- The first array after the run. -/
theorem result5 : ((dats m 0 c).arrAt 5 cfg0.N : S8192x1024.Idx → EReal)
    = E2 (n := 8192) (m := 1024) (φ := .f32) fun a j => dxE (zE A W X) T G a j := by
  refine (dats m 0 c).arrAt_eq_of_cover 5 (E2 (n := 8192) (m := 1024) (φ := .f32) fun a j => dxE (zE A W X) T G a j) ?_ ?_
  · intro t _
    rw [flushed5, written5 T G m c A W X hA hW hX hT hG]
    funext y
    obtain ⟨e0, e1⟩ := emb5 t y
    show dxE (zE A W X) T G (512 * t.val + (y 0).val) (y 1).val
      = dxE (zE A W X) T G (((cfg0.win 5).rect t).emb y (0 : Fin 2)).val (((cfg0.win 5).rect t).emb y (1 : Fin 2)).val
    rw [e0, e1]
  · intro i
    have l0 : (i (0 : Fin 2)).val < 8192 := (i (0 : Fin 2)).isLt
    have l1 : (i (1 : Fin 2)).val < 1024 := (i (1 : Fin 2)).isLt
    have ht : (i (0 : Fin 2)).val / 512 < cfg0.N := by rw [show cfg0.N = 16 from N_0]; omega
    refine ⟨⟨_, ht⟩, flush0_5 _, ?_⟩
    have hi : ((cfg0.win 5).blk ⟨_, ht⟩).view.emb (at2 (i (0 : Fin 2)).val (i (1 : Fin 2)).val) = i := by
      obtain ⟨e0, e1⟩ := emb5 ⟨_, ht⟩ (at2 (i (0 : Fin 2)).val (i (1 : Fin 2)).val)
      funext a
      match a with
      | ⟨0, _⟩ => exact Fin.ext (e0.trans (show 512 * ((i (0 : Fin 2)).val / 512) + (i (0 : Fin 2)).val % 512 = (i (0 : Fin 2)).val by omega))
      | ⟨1, _⟩ => exact Fin.ext (e1.trans (show (i (1 : Fin 2)).val % 1024 = (i (1 : Fin 2)).val by omega))
    have hm := ((cfg0.win 5).blk ⟨_, ht⟩).view.emb_mem_set (at2 (i (0 : Fin 2)).val (i (1 : Fin 2)).val : Shape.Idx S512x1024)
    exact Eq.mp (congrArg (· ∈ ((cfg0.win 5).blk ⟨_, ht⟩).view.set) hi) hm

/-- The second array after the run. -/
theorem result6 : ((dats m 0 c).arrAt 6 cfg0.N : S1x128.Idx → EReal)
    = E2 (n := 1) (m := 128) (φ := .f32) fun _ _ => lossE (zE A W X) T G 8192 := by
  refine (dats m 0 c).arrAt_eq_of_cover 6 (E2 (n := 1) (m := 128) (φ := .f32) fun _ _ => lossE (zE A W X) T G 8192) ?_ ?_
  · intro t ht
    have l : t.val < 16 := t.isLt.trans_eq N_0
    have e15 : t.val % 16 = 15 := (flush0_6 t).mp ht
    rw [flushed6, losses T G m c A W X hA hW hX hT hG, show 512 * t.val + 512 = 8192 by omega]
    generalize lossE (zE A W X) T G 8192 = f
    rfl
  · intro i
    have ht : 15 < cfg0.N := by rw [show cfg0.N = 16 from N_0]; omega
    refine ⟨⟨15, ht⟩, (flush0_6 _).mpr rfl, ?_⟩
    have hi : ((cfg0.win 6).blk ⟨15, ht⟩).view.emb i = i := by
      obtain ⟨e0, e1⟩ := emb6 ⟨15, ht⟩ i
      funext a
      match a with
      | ⟨0, _⟩ => exact Fin.ext e0
      | ⟨1, _⟩ => exact Fin.ext e1
    have hm := ((cfg0.win 6).blk ⟨15, ht⟩).view.emb_mem_set (i : Shape.Idx S1x128)
    exact Eq.mp (congrArg (· ∈ ((cfg0.win 6).blk ⟨15, ht⟩).view.set) hi) hm

/-- The third array after the run. -/
theorem result7 : ((dats m 0 c).arrAt 7 cfg0.N : S1x1024.Idx → EReal)
    = E2 (n := 1) (m := 1024) (φ := .f32) fun _ j => dgE (zE A W X) T G 8192 j := by
  refine (dats m 0 c).arrAt_eq_of_cover 7 (E2 (n := 1) (m := 1024) (φ := .f32) fun _ j => dgE (zE A W X) T G 8192 j) ?_ ?_
  · intro t ht
    have l : t.val < 16 := t.isLt.trans_eq N_0
    have e15 : t.val % 16 = 15 := (flush0_7 t).mp ht
    rw [flushed7, sums T G m c A W X hA hW hX hT hG, show 512 * t.val + 512 = 8192 by omega]
    generalize dgE (zE A W X) T G 8192 = f
    funext y
    exact congrArg f (emb7 t y).2.symm
  · intro i
    have ht : 15 < cfg0.N := by rw [show cfg0.N = 16 from N_0]; omega
    refine ⟨⟨15, ht⟩, (flush0_7 _).mpr rfl, ?_⟩
    have hi : ((cfg0.win 7).blk ⟨15, ht⟩).view.emb i = i := by
      obtain ⟨e0, e1⟩ := emb7 ⟨15, ht⟩ i
      funext a
      match a with
      | ⟨0, _⟩ => exact Fin.ext e0
      | ⟨1, _⟩ => exact Fin.ext e1
    have hm := ((cfg0.win 7).blk ⟨15, ht⟩).view.emb_mem_set (i : Shape.Idx S1x1024)
    exact Eq.mp (congrArg (· ∈ ((cfg0.win 7).blk ⟨15, ht⟩).view.set) hi) hm

end run

/-! ## The reference -/

/-- A sum over the indices of an array of one axis. -/
theorem sum_axis {n : ℕ} (f : Shape.Idx ⟨1, ![n]⟩ → EReal) (h : ℕ → EReal) (e : ∀ j, f j = h (j 0).val) : ∑ j, f j = ∑ a : Fin n, h a.val :=
  Fintype.sum_equiv ⟨fun j => j 0, fun a b => match b with | ⟨0, _⟩ => a, fun j => funext fun b => match b with | ⟨0, _⟩ => rfl, fun _ => rfl⟩ _ _ e

section ref
open Cert.Reference10Ideal.Read
variable (av : (⟨S8192x4096, .bf16⟩ : BufTy).Contents (Elt Ideal)) (w : (⟨S4096x1024, .bf16⟩ : BufTy).Contents (Elt Ideal))
  (x tg : (⟨S8192x1024, .f32⟩ : BufTy).Contents (Elt Ideal)) (g : (⟨S1x1024, .f32⟩ : BufTy).Contents (Elt Ideal))
  (A W X : ℕ → ℕ → EReal)
  (hA : ∀ i : S8192x4096.Idx, av i = A (i 0).val (i 1).val) (hW : ∀ i : S4096x1024.Idx, w i = W (i 0).val (i 1).val)
  (hX : ∀ i : S8192x1024.Idx, x i = X (i 0).val (i 1).val) (hT : ∀ i : S8192x1024.Idx, tg i = T (i 0).val (i 1).val)
  (hG : ∀ i : S1x1024.Idx, g i = G (i 0).val (i 1).val)

include hA hW hX

theorem ref_z (i : S8192x1024.Idx) : val_main_v3 (F := Ideal) av w x i = zE A W X (i 0).val (i 1).val :=
  (val_main_v3_apply av w x i).trans (congrArg₂ (· + ·) (hX i) ((val_main_v2_apply av w i).trans
    (Finset.sum_congr rfl fun k _ => congrArg₂ (· * ·) (hA (lidx_main_v2 i k)) (hW (ridx_main_v2 i k)))))

theorem ref_var (i : Cert.Reference10Ideal.S8192x1.Idx) : val_main_v11 (F := Ideal) av w x i = varE (zE A W X) (i 0).val := by
  rw [val_main_v11_apply, val_main_v9_apply, val_main_v7_apply, val_main_v6_apply, val_main_cst_apply, val_main_v8_apply, val_main_cst_0_apply,
    val_main_v10_apply, val_main_cst_1_apply]
  have e : ∑ k : Fin 1024, val_main_v5 (F := Ideal) av w x (idx_main_v6 (idx_main_v7 i) k)
      = ∑ k : Fin 1024, zE A W X (i 0).val k.val * zE A W X (i 0).val k.val :=
    Finset.sum_congr rfl fun k _ => congrArg₂ (· * ·) (ref_z av w x A W X hA hW hX (idx_main_v6 (idx_main_v7 i) k))
      (ref_z av w x A W X hA hW hX (idx_main_v6 (idx_main_v7 i) k))
  rw [e]
  show Ideal.div (Ideal.ofBits .f32 0x00000000#32 + _) wide + small = varE (zE A W X) (i 0).val
  rw [Ideal.ofBits_zero_f32, zero_add]
  rfl

theorem ref_rs (i : Cert.Reference10Ideal.S8192x1.Idx) : val_main_v12 (F := Ideal) av w x i = rsE (zE A W X) (i 0).val := by
  rw [val_main_v12_apply, ref_var av w x A W X hA hW hX]
  rfl

theorem ref_normed (i : S8192x1024.Idx) : val_main_v17 (F := Ideal) av w x i = zE A W X (i 0).val (i 1).val * rsE (zE A W X) (i 0).val := by
  rw [val_main_v17_apply, val_main_v16_apply, ref_z av w x A W X hA hW hX, ref_rs av w x A W X hA hW hX]
  rfl

omit hA hW hX in
include hG in
theorem ref_g (i : S1x1024.Idx) : val_main_v18 (F := Ideal) g i = G 0 (i 1).val := by
  rw [val_main_v18_apply, val_main_v4_apply, hG]
  exact congrArg (G 0) (Nat.mod_eq_of_lt (i 1).isLt)

include hG

include hT in
theorem ref_e (i : S8192x1024.Idx) : val_main_v21 (F := Ideal) av w x tg g i = eE (zE A W X) T G (i 0).val (i 1).val := by
  rw [val_main_v21_apply, val_main_v20_apply, val_main_v19_apply, ref_normed av w x A W X hA hW hX, ref_g G g hG, hT]
  rfl

include hT

theorem ref_u (i : S8192x1024.Idx) : val_main_v35 (F := Ideal) av w x tg g i = uE (zE A W X) T G (i 0).val (i 1).val := by
  rw [val_main_v35_apply, val_main_v34_apply, val_main_v33_apply, val_main_v31_apply, val_main_v30_apply, val_main_cst_8_apply, val_main_cst_9_apply,
    val_main_v32_apply, val_main_cst_10_apply, val_main_v24_apply, val_main_v23_apply, val_main_cst_3_apply, ref_e T G av w x tg g A W X hA hW hX hT hG]
  exact grad_err _

theorem ref_q (i : S8192x1024.Idx) : val_main_v40 (F := Ideal) av w x tg g i = qE (zE A W X) T G (i 0).val (i 1).val := by
  rw [val_main_v40_apply, ref_u T G av w x tg g A W X hA hW hX hT hG, val_main_v39_apply, ref_g G g hG]
  rfl

theorem ref_t (i : S8192x1024.Idx) : val_main_v51 (F := Ideal) av w x tg g i = tE (zE A W X) T G (i 0).val := by
  rw [val_main_v51_apply, val_main_v50_apply, val_main_cst_15_apply, Finset.univ_unique, Finset.sum_singleton, val_main_v49_apply,
    val_main_v48_apply, val_main_cst_14_apply, val_main_v47_apply, val_main_v44_apply, val_main_v43_apply, val_main_cst_13_apply,
    val_main_v15_apply, val_main_v14_apply, val_main_cst_2_apply, val_main_v13_apply, ref_rs av w x A W X hA hW hX, ref_var av w x A W X hA hW hX]
  have e : ∀ n : Cert.Reference10Ideal.S8192.Idx, ∑ k : Fin 1024, val_main_v42 (F := Ideal) av w x tg g (idx_main_v43 n k)
      = ∑ k : Fin 1024, zE A W X (n 0).val k.val * qE (zE A W X) T G (n 0).val k.val := fun n =>
    Finset.sum_congr rfl fun k _ => congrArg₂ (· * ·) (ref_z av w x A W X hA hW hX (idx_main_v43 n k))
      (ref_q T G av w x tg g A W X hA hW hX hT hG (idx_main_v43 n k))
  rw [e]
  have en : ((idx_main_v44 (idx_main_v50 (idx_main_v51 i) default)) 0).val = (i 0).val := Nat.mul_one (i 0).val
  rw [en]
  show Ideal.ofBits .f32 0x00000000#32 + Ideal.div ((Ideal.ofBits .f32 0x00000000#32 + _)
    * (mhalf * Ideal.div (rsE (zE A W X) (i 0).val) (varE (zE A W X) (i 0).val))) wide = _
  rw [Ideal.ofBits_zero_f32, zero_add, zero_add]
  rfl

/-- The reference's first result at an index. -/
theorem reference_dx : (val_main_v55 (F := Ideal) av w x tg g : S8192x1024.Idx → EReal)
    = E2 (n := 8192) (m := 1024) (φ := .f32) fun a j => dxE (zE A W X) T G a j := by
  funext i
  rw [val_main_v55_apply, val_main_v54_apply, val_main_v53_apply, val_main_v52_apply, val_main_v46_apply, val_main_v45_apply,
    ref_t T G av w x tg g A W X hA hW hX hT hG, ref_q T G av w x tg g A W X hA hW hX hT hG, ref_rs av w x A W X hA hW hX, ref_z av w x A W X hA hW hX]
  rfl

theorem ref_row (i : Cert.Reference10Ideal.S8192.Idx) : val_main_v27 (F := Ideal) av w x tg g i = Ideal.div (lE (zE A W X) T G (i 0).val) wide := by
  rw [val_main_v27_apply, val_main_v25_apply, val_main_cst_4_apply, val_main_v26_apply, val_main_cst_5_apply]
  have e : ∑ k : Fin 1024, val_main_v22 (F := Ideal) av w x tg g (idx_main_v25 i k) = lE (zE A W X) T G (i 0).val :=
    Finset.sum_congr rfl fun k _ => congrArg₂ (· * ·) (ref_e T G av w x tg g A W X hA hW hX hT hG (idx_main_v25 i k))
      (ref_e T G av w x tg g A W X hA hW hX hT hG (idx_main_v25 i k))
  rw [e]
  show Ideal.div (Ideal.ofBits .f32 0x00000000#32 + _) wide = _
  rw [Ideal.ofBits_zero_f32, zero_add]

/-- The reference's second result at an index. -/
theorem reference_loss : (val_main_v57 (F := Ideal) av w x tg g : S1x128.Idx → EReal)
    = E2 (n := 1) (m := 128) (φ := .f32) fun _ _ => lossE (zE A W X) T G 8192 := by
  funext i
  rw [val_main_v57_apply, val_main_v29_apply, val_main_cst_7_apply, val_main_v28_apply, val_main_cst_6_apply]
  have e : ∑ j : Cert.Reference10Ideal.S8192.Idx, val_main_v27 (F := Ideal) av w x tg g j
      = ∑ a : Fin 8192, Ideal.div (lE (zE A W X) T G a.val) wide :=
    sum_axis _ (fun a => Ideal.div (lE (zE A W X) T G a) wide) fun j => ref_row T G av w x tg g A W X hA hW hX hT hG j
  rw [e]
  show half * (Ideal.ofBits .f32 0x00000000#32 + _) = _
  rw [Ideal.ofBits_zero_f32, zero_add, E2_apply, lossE, Finset.sum_range, half_eq, mul_sum_real _ _ _ (by norm_num)]
  refine Finset.sum_congr rfl fun a _ => ?_
  rw [← half_eq, kap_last]

theorem ref_rows (i : Cert.Reference10Ideal.S1024.Idx) : val_main_v37 (F := Ideal) av w x tg g i = dgE (zE A W X) T G 8192 (i 0).val := by
  rw [val_main_v37_apply, val_main_cst_11_apply, dgE, Finset.sum_range]
  have e : ∀ k : Fin 8192, val_main_v36 (F := Ideal) av w x tg g (idx_main_v37 i k) = wE (zE A W X) T G k.val (i 0).val := fun k => by
    rw [val_main_v36_apply, ref_normed av w x A W X hA hW hX, ref_u T G av w x tg g A W X hA hW hX hT hG]
    rfl
  simp only [e]
  show Ideal.ofBits .f32 0x00000000#32 + _ = _
  rw [Ideal.ofBits_zero_f32, zero_add]

/-- The reference's third result at an index. -/
theorem reference_dg : (val_main_v56 (F := Ideal) av w x tg g : S1x1024.Idx → EReal)
    = E2 (n := 1) (m := 1024) (φ := .f32) fun _ j => dgE (zE A W X) T G 8192 j := by
  funext i
  rw [val_main_v56_apply, val_main_v41_apply, val_main_cst_12_apply, Finset.univ_unique, Finset.sum_singleton, val_main_v38_apply,
    ref_rows T G av w x tg g A W X hA hW hX hT hG]
  have en : ((idx_main_v38 (idx_main_v41 (idx_main_v56 i) default)) 0).val = (i 1).val := by
    show 0 * 1024 + (i 1).val = (i 1).val
    rw [Nat.zero_mul, Nat.zero_add]
  rw [en]
  show Ideal.ofBits .f32 0x00000000#32 + _ = _
  rw [Ideal.ofBits_zero_f32, zero_add]
  rfl

end ref

/-! ## The claim -/

/-- The kernel's results are the reference's. -/
theorem algebraic : Cert.algebraic_Kernel10Ideal_Reference10Ideal := by
  intro m ρ m' ρ' _ hargs
  refine ⟨fun c => (dats m 0 c).arrAt 5 cfg0.N, fun c => (dats m 0 c).arrAt 6 cfg0.N, fun c => (dats m 0 c).arrAt 7 cfg0.N, run_blocks m ρ,
    (θ_run _ _ _).mono (fun r h c => ?_) (Cert.Reference10Ideal.Value.run m' ρ')⟩
  obtain ⟨h0, h1, h2, kept⟩ := h c
  obtain ⟨e0, e1, e2, e3, e4⟩ := hargs c
  obtain ⟨A, hA⟩ := entries (d := ![8192, 4096]) (m ((c.tc : Thread nD τ).loc main_arg0))
  obtain ⟨W, hW⟩ := entries (d := ![4096, 1024]) (m ((c.tc : Thread nD τ).loc main_arg1))
  obtain ⟨X, hX⟩ := entries (d := ![8192, 1024]) (m ((c.tc : Thread nD τ).loc main_arg2))
  obtain ⟨T, hT⟩ := entries (d := ![8192, 1024]) (m ((c.tc : Thread nD τ).loc main_arg3))
  obtain ⟨G, hG⟩ := entries (d := ![1, 1024]) (m ((c.tc : Thread nD τ).loc main_arg4))
  have kA := fun i => (congrFun (V_main_arg0 m c) i).trans (hA i)
  have kW := fun i => (congrFun (V_main_arg1 m c) i).trans (hW i)
  have kX := fun i => (congrFun (V_main_arg2 m c) i).trans (hX i)
  have kT := fun i => (congrFun (V_main_arg3 m c) i).trans (hT i)
  have kG := fun i => (congrFun (V_main_arg4 m c) i).trans (hG i)
  refine ⟨h0.trans ((Cert.Reference10Ideal.Read.val_main_v55_eq m' c).trans (Eq.trans ?_ (result5 T G m c A W X kA kW kX kT kG).symm)),
    h1.trans ((Cert.Reference10Ideal.Read.val_main_v57_eq _ _ _ _ _).trans (Eq.trans ?_ (result6 T G m c A W X kA kW kX kT kG).symm)),
    h2.trans ((Cert.Reference10Ideal.Read.val_main_v56_eq _ _ _ _ _).trans (Eq.trans ?_ (result7 T G m c A W X kA kW kX kT kG).symm)), kept⟩
  · refine Eq.trans ?_ (reference_dx T G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) A W X hA hW hX hT hG)
    rw [← e0, ← e1, ← e2, ← e3, ← e4]
  · refine Eq.trans ?_ (reference_loss T G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) A W X hA hW hX hT hG)
    rw [← e0, ← e1, ← e2, ← e3, ← e4]
  · refine Eq.trans ?_ (reference_dg T G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) A W X hA hW hX hT hG)
    rw [← e0, ← e1, ← e2, ← e3, ← e4]

/-- The reference's frame: its run read at the arguments; it declares no semaphore. -/
theorem reference_frame : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

end Cert.Proof.DownLoss
-- ==== Proof.AdamW.lean ====
module

public import proofs.«01_k».proof.Proof.Products

/-!
One step of AdamW on one entry of a weight, over the extended reals, from the eight devices' shares of the gradient. The reference
divides the two moments by a number; the kernel multiplies them by that number's reciprocal.
-/

@[expose] public section
noncomputable section
namespace Cert.Proof.AdamW
open Idealize.ShloMosaic

/-- The entries of an array of three axes, by natural indices. -/
theorem entries3 {d : Fin 3 → ℕ} (x : (⟨3, d⟩ : Shape).Idx → EReal) :
    ∃ A : ℕ → ℕ → ℕ → EReal, ∀ i : (⟨3, d⟩ : Shape).Idx, x i = A (i 0).val (i 1).val (i 2).val := by
  classical
  refine ⟨fun a b c => if e : ∃ i : (⟨3, d⟩ : Shape).Idx, (i 0).val = a ∧ (i 1).val = b ∧ (i 2).val = c then x e.choose else 0, fun i => ?_⟩
  have e : ∃ k : (⟨3, d⟩ : Shape).Idx, (k 0).val = (i 0).val ∧ (k 1).val = (i 1).val ∧ (k 2).val = (i 2).val := ⟨i, rfl, rfl, rfl⟩
  have he : e.choose = i := funext fun a => match a with
    | ⟨0, _⟩ => Fin.ext e.choose_spec.1
    | ⟨1, _⟩ => Fin.ext e.choose_spec.2.1
    | ⟨2, _⟩ => Fin.ext e.choose_spec.2.2
  simp only [dif_pos e, he]

/-- The devices' shares of a gradient, as an array: the device first. -/
def E3 {n m l : ℕ} {φ : FTy} (f : ℕ → ℕ → ℕ → EReal) : FVec Ideal ⟨3, ![n, m, l]⟩ φ := fun i => f (i 0).val (i 1).val (i 2).val

theorem E3_apply {n m l : ℕ} {φ : FTy} (f : ℕ → ℕ → ℕ → EReal) (i : Shape.Idx ⟨3, ![n, m, l]⟩) :
    (E3 f : FVec Ideal ⟨3, ![n, m, l]⟩ φ) i = f (i 0).val (i 1).val (i 2).val := rfl

/-- One device's share, read from the block of all shares. -/
theorem share {n m l : ℕ} {e : EltTy} (f : ℕ → ℕ → ℕ → Elt Ideal e) (s : ℕ)
    (inb : ∀ a, (![s, 0, 0] : Fin 3 → ℕ) a + (⟨3, ![1, m, l]⟩ : Shape).size a ≤ (⟨3, ![n, m, l]⟩ : Shape).size a) :
    View.ld (Val := Elt Ideal) (e' := e) (S := ⟨3, ![n, m, l]⟩) (fun i => f (i 0).val (i 1).val (i 2).val)
        (Rect.unit (s := ⟨3, ![n, m, l]⟩) ![s, 0, 0] (⟨3, ![1, m, l]⟩ : Shape).size inb)
      = fun i : Shape.Idx ⟨3, ![1, m, l]⟩ => f s (i 1).val (i 2).val := by
  funext y
  have h0 : (y 0).val < 1 := (y 0).isLt
  have e0 : (y 0).val = 0 := by omega
  show f (s + 1 * (y 0).val) (0 + 1 * (y 1).val) (0 + 1 * (y 2).val) = f s (y 1).val (y 2).val
  simp only [e0, Nat.one_mul, Nat.mul_zero, Nat.add_zero, Nat.zero_add]

/-! ## The constants -/

/-- The number by which the first moment is divided, and the one by which the second is. -/
abbrev unit1 : EReal := Scalar.ofBits (F := Ideal) .f32 0x3F26BD02#32
abbrev unit2 : EReal := Scalar.ofBits (F := Ideal) .f32 0x3C231ACC#32

theorem unit1_eq : unit1 = ((5463681 / 8388608 : ℝ) : EReal) := by
  show Ideal.ofBits .f32 _ = _
  simp [Ideal.ofBits, Ideal.ieee, -EReal.coe_mul]; norm_num
theorem unit2_eq : unit2 = ((2672307 / 268435456 : ℝ) : EReal) := by
  show Ideal.ofBits .f32 _ = _
  simp [Ideal.ofBits, Ideal.ieee, -EReal.coe_mul]; norm_num

/-- To divide by a real number that is not zero is to multiply by its reciprocal. -/
theorem div_real (a : EReal) {d c : ℝ} (hd : d ≠ 0) (h : d⁻¹ = c) : Ideal.div a (d : EReal) = a * (c : EReal) := by
  unfold Ideal.div
  rw [if_neg (fun e => hd (EReal.coe_eq_zero.mp e)), ← EReal.coe_inv, h]

theorem div_unit1 (a : EReal) : Ideal.div a unit1 = a * ((8388608 / 5463681 : ℝ) : EReal) := by
  rw [unit1_eq]; exact div_real a (by norm_num) (by norm_num)
theorem div_unit2 (a : EReal) : Ideal.div a unit2 = a * ((268435456 / 2672307 : ℝ) : EReal) := by
  rw [unit2_eq]; exact div_real a (by norm_num) (by norm_num)

/-! ## The step -/

/-- The sum of the devices' shares of the gradient. -/
def gradE (P : ℕ → ℕ → ℕ → EReal) (a b : ℕ) : EReal := ∑ s : Fin 8, P s.val a b

/-- The shares one after another. -/
theorem gradE_eq (P : ℕ → ℕ → ℕ → EReal) (a b : ℕ) :
    P 0 a b + P 1 a b + P 2 a b + P 3 a b + P 4 a b + P 5 a b + P 6 a b + P 7 a b = gradE P a b := by
  unfold gradE; rw [Fin.sum_univ_eight]; rfl

/-- The new first moment, from the gradient and the old one. -/
def momS (g m : EReal) : EReal :=
  Scalar.ofBits (F := Ideal) .f32 0x3F666666#32 * m + Scalar.ofBits (F := Ideal) .f32 0x3DCCCCCD#32 * g

/-- The new second moment, from the gradient and the old one. -/
def sqS (g v : EReal) : EReal :=
  Scalar.ofBits (F := Ideal) .f32 0x3F7FBE77#32 * v + Scalar.ofBits (F := Ideal) .f32 0x3A83126F#32 * (g * g)

/-- The change of the weight, from the gradient, the weight and the old moments. -/
def deltaS (g w m v : EReal) : EReal :=
  Scalar.ofBits (F := Ideal) .f32 0xBA83126F#32
    * (Ideal.div (Ideal.div (momS g m) unit1) (Ideal.sqrt (Ideal.div (sqS g v) unit2) + Scalar.ofBits (F := Ideal) .f32 0x322BCC77#32)
      + Scalar.ofBits (F := Ideal) .f32 0x3C23D70A#32 * w)

end Cert.Proof.AdamW
-- ==== Proof.AdamUp.lean ====
module

public import Idealize.ShloMosaic.Lib.Pipeline.ValueKit
public import proofs.«01_k».proof.Defs
public import proofs.«01_k».proof.Proof.AdamW
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Reference11Ideal.Run

/-!
The optimiser's call for w_up: the sum of the devices' shares of the gradient, the change of the weights, and the two new moments.
-/

@[expose] public section
noncomputable section
namespace Cert.Proof.AdamUp
open Idealize.ShloMosaic Idealize.ShloMosaic.TcCoe Idealize.SL.Sem Idealize.ShloMosaic.Pipeline Cert.Kernel11Ideal Cert.Kernel11Ideal.Gen Cert.Kernel11Ideal.Value
open Cert.Proof.AdamW

/-- The named factors are the reciprocals that the reference divides by. -/
theorem c1_eq : Named.named (F := Ideal) Cert.Kernel11Ideal.κ "c1" (φ := .f32) 0x3FC48605#32 = ((8388608 / 5463681 : ℝ) : EReal) :=
  IdealRules.named_const.ideal_named_scalar _ _ _ _ rfl
theorem c2_eq : Named.named (F := Ideal) Cert.Kernel11Ideal.κ "c2" (φ := .f32) 0x42C8E6D3#32 = ((268435456 / 2672307 : ℝ) : EReal) :=
  IdealRules.named_const.ideal_named_scalar _ _ _ _ rfl

/-- The idealization names those two numbers and changes nothing else. -/
theorem preserves : Cert.preserves_Kernel11_Kernel11Ideal :=
  ⟨IdealRules.named_const.statement Cert.Kernel11Ideal.κ "c1" .f32 0x3FC48605#32 _ rfl,
    IdealRules.named_const.statement Cert.Kernel11Ideal.κ "c2" .f32 0x42C8E6D3#32 _ rfl⟩

/-! ## One block -/

section block
variable (P : ℕ → ℕ → ℕ → EReal) (W M S : ℕ → ℕ → EReal)

theorem grad_block (x1 x2 x3 : Vec Ideal S256x512 .f32) :
    k0_pay5 (F := Ideal) (E3 (n := 8) (m := 256) (l := 512) (φ := .bf16) P) x1 x2 x3 = E2 (n := 256) (m := 512) (φ := .f32) (gradE P) := by
  funext j
  unfold k0_pay5 k0_pay4
  unfold E3
  simp only [share (e := .bf16) P]
  pointwise
  exact gradE_eq P (j 0).val (j 1).val

theorem mom_block (G : ℕ → ℕ → EReal) : k0_pay1 (F := Ideal) (E2 (n := 256) (m := 512) (φ := .f32) G) (E2 (n := 256) (m := 512) (φ := .f32) M)
    (Scalar.ofBits .f32 0x3F666666#32) = E2 (n := 256) (m := 512) (φ := .f32) fun a b => momS (G a b) (M a b) := by
  funext j; unfold k0_pay1; pointwise; rfl

theorem sq_block (G : ℕ → ℕ → EReal) : k0_pay2 (F := Ideal) (E2 (n := 256) (m := 512) (φ := .f32) G) (E2 (n := 256) (m := 512) (φ := .f32) S)
    = E2 (n := 256) (m := 512) (φ := .f32) fun a b => sqS (G a b) (S a b) := by
  funext j; unfold k0_pay2; pointwise; rfl

theorem delta_block (G : ℕ → ℕ → EReal) : k0_pay3 (F := Ideal) (E2 (n := 256) (m := 512) (φ := .f32) G) (E2 (n := 256) (m := 512) (φ := .f32) M)
    (Scalar.ofBits .f32 0x3F666666#32) (E2 (n := 256) (m := 512) (φ := .f32) S) (E2 (n := 256) (m := 512) (φ := .f32) W)
    = E2 (n := 256) (m := 512) (φ := .f32) fun a b => deltaS (G a b) (W a b) (M a b) (S a b) := by
  funext j; unfold k0_pay3; rw [mom_block, sq_block, c1_eq, c2_eq]; pointwise
  simp only [E2_apply, deltaS, div_unit1, div_unit2]
  rfl

end block

/-! ## The run -/

section run
variable (m : (ℓ : Loc nD τ sig) → Buf (Elt Ideal) ℓ) (c : Dev nD) (P : ℕ → ℕ → ℕ → EReal) (W M S : ℕ → ℕ → EReal)
  (hP : ∀ i : S8x1024x512.Idx, V m c main_arg0 i = P (i 0).val (i 1).val (i 2).val)
  (hW : ∀ i : S1024x512.Idx, V m c main_arg1 i = W (i 0).val (i 1).val)
  (hM : ∀ i : S1024x512.Idx, V m c main_arg2 i = M (i 0).val (i 1).val)
  (hS : ∀ i : S1024x512.Idx, V m c main_arg3 i = S (i 0).val (i 1).val)

theorem ix0 : ∀ t : Fin cfg0.N, cc0_transform_0 (grid0.coords t) = ![0, t.val, 0] := by decide +kernel
theorem ix1 : ∀ t : Fin cfg0.N, cc0_transform_1 (grid0.coords t) = ![t.val, 0] := by decide +kernel
theorem ix2 : ∀ t : Fin cfg0.N, cc0_transform_2 (grid0.coords t) = ![t.val, 0] := by decide +kernel
theorem ix3 : ∀ t : Fin cfg0.N, cc0_transform_3 (grid0.coords t) = ![t.val, 0] := by decide +kernel
theorem ix4 : ∀ t : Fin cfg0.N, cc0_transform_4 (grid0.coords t) = ![t.val, 0] := by decide +kernel
theorem ix5 : ∀ t : Fin cfg0.N, cc0_transform_5 (grid0.coords t) = ![t.val, 0] := by decide +kernel
theorem ix6 : ∀ t : Fin cfg0.N, cc0_transform_6 (grid0.coords t) = ![t.val, 0] := by decide +kernel
theorem ix7 : ∀ t : Fin cfg0.N, cc0_transform_7 (grid0.coords t) = ![t.val, 0] := by decide +kernel

include hP in
theorem blk0 (t : Fin cfg0.N) : (iblk m c 0 t : Vec Ideal S8x256x512 .bf16) = E3 (φ := .bf16) fun s a b => P s (256 * t.val + a) b := by
  funext y
  refine (hP (((cfg0.win 0).rect t).emb y)).trans ?_
  rw [(cfg0.win 0).rect_emb_val t y (0 : Fin 3), (cfg0.win 0).rect_emb_val t y (1 : Fin 3), (cfg0.win 0).rect_emb_val t y (2 : Fin 3)]
  have i0 : (cfg0.win 0).index t (0 : Fin 3) = 0 := congrFun (ix0 t) 0
  have i1 : (cfg0.win 0).index t (1 : Fin 3) = t.val := congrFun (ix0 t) 1
  have i2 : (cfg0.win 0).index t (2 : Fin 3) = 0 := congrFun (ix0 t) 2
  rw [i0, i1, i2]
  show P (0 * 8 + (y 0).val) (t.val * 256 + (y 1).val) (0 * 512 + (y 2).val) = P (y 0).val (256 * t.val + (y 1).val) (y 2).val
  simp only [Nat.mul_comm t.val, Nat.zero_mul, Nat.zero_add]

include hW in
theorem blk1 (t : Fin cfg0.N) : (iblk m c 1 t : Vec Ideal S256x512 .f32) = E2 (φ := .f32) fun a b => W (256 * t.val + a) b := by
  funext y
  refine (hW (((cfg0.win 1).rect t).emb y)).trans ?_
  rw [(cfg0.win 1).rect_emb_val t y (0 : Fin 2), (cfg0.win 1).rect_emb_val t y (1 : Fin 2)]
  have i0 : (cfg0.win 1).index t (0 : Fin 2) = t.val := congrFun (ix1 t) 0
  have i1 : (cfg0.win 1).index t (1 : Fin 2) = 0 := congrFun (ix1 t) 1
  rw [i0, i1]
  show W (t.val * 256 + (y 0).val) (0 * 512 + (y 1).val) = W (256 * t.val + (y 0).val) (y 1).val
  rw [Nat.mul_comm, Nat.zero_mul, Nat.zero_add]

include hM in
theorem blk2 (t : Fin cfg0.N) : (iblk m c 2 t : Vec Ideal S256x512 .f32) = E2 (φ := .f32) fun a b => M (256 * t.val + a) b := by
  funext y
  refine (hM (((cfg0.win 2).rect t).emb y)).trans ?_
  rw [(cfg0.win 2).rect_emb_val t y (0 : Fin 2), (cfg0.win 2).rect_emb_val t y (1 : Fin 2)]
  have i0 : (cfg0.win 2).index t (0 : Fin 2) = t.val := congrFun (ix2 t) 0
  have i1 : (cfg0.win 2).index t (1 : Fin 2) = 0 := congrFun (ix2 t) 1
  rw [i0, i1]
  show M (t.val * 256 + (y 0).val) (0 * 512 + (y 1).val) = M (256 * t.val + (y 0).val) (y 1).val
  rw [Nat.mul_comm, Nat.zero_mul, Nat.zero_add]

include hS in
theorem blk3 (t : Fin cfg0.N) : (iblk m c 3 t : Vec Ideal S256x512 .f32) = E2 (φ := .f32) fun a b => S (256 * t.val + a) b := by
  funext y
  refine (hS (((cfg0.win 3).rect t).emb y)).trans ?_
  rw [(cfg0.win 3).rect_emb_val t y (0 : Fin 2), (cfg0.win 3).rect_emb_val t y (1 : Fin 2)]
  have i0 : (cfg0.win 3).index t (0 : Fin 2) = t.val := congrFun (ix3 t) 0
  have i1 : (cfg0.win 3).index t (1 : Fin 2) = 0 := congrFun (ix3 t) 1
  rw [i0, i1]
  show S (t.val * 256 + (y 0).val) (0 * 512 + (y 1).val) = S (256 * t.val + (y 0).val) (y 1).val
  rw [Nat.mul_comm, Nat.zero_mul, Nat.zero_add]

/-- Where a point's block lies in the result. -/
theorem emb4 (t : Fin cfg0.N) (y : S256x512.Idx) :
    (((cfg0.win 4).rect t).emb y (0 : Fin 2)).val = 256 * t.val + (y 0).val ∧ (((cfg0.win 4).rect t).emb y (1 : Fin 2)).val = (y 1).val := by
  rw [(cfg0.win 4).rect_emb_val t y (0 : Fin 2), (cfg0.win 4).rect_emb_val t y (1 : Fin 2)]
  have i0 : (cfg0.win 4).index t (0 : Fin 2) = t.val := congrFun (ix4 t) 0
  have i1 : (cfg0.win 4).index t (1 : Fin 2) = 0 := congrFun (ix4 t) 1
  rw [i0, i1]
  show t.val * 256 + (y 0).val = _ ∧ 0 * 512 + (y 1).val = _
  rw [Nat.mul_comm, Nat.zero_mul, Nat.zero_add]
  exact ⟨rfl, rfl⟩

/-- Where a point's block lies in the result. -/
theorem emb5 (t : Fin cfg0.N) (y : S256x512.Idx) :
    (((cfg0.win 5).rect t).emb y (0 : Fin 2)).val = 256 * t.val + (y 0).val ∧ (((cfg0.win 5).rect t).emb y (1 : Fin 2)).val = (y 1).val := by
  rw [(cfg0.win 5).rect_emb_val t y (0 : Fin 2), (cfg0.win 5).rect_emb_val t y (1 : Fin 2)]
  have i0 : (cfg0.win 5).index t (0 : Fin 2) = t.val := congrFun (ix5 t) 0
  have i1 : (cfg0.win 5).index t (1 : Fin 2) = 0 := congrFun (ix5 t) 1
  rw [i0, i1]
  show t.val * 256 + (y 0).val = _ ∧ 0 * 512 + (y 1).val = _
  rw [Nat.mul_comm, Nat.zero_mul, Nat.zero_add]
  exact ⟨rfl, rfl⟩

/-- Where a point's block lies in the result. -/
theorem emb6 (t : Fin cfg0.N) (y : S256x512.Idx) :
    (((cfg0.win 6).rect t).emb y (0 : Fin 2)).val = 256 * t.val + (y 0).val ∧ (((cfg0.win 6).rect t).emb y (1 : Fin 2)).val = (y 1).val := by
  rw [(cfg0.win 6).rect_emb_val t y (0 : Fin 2), (cfg0.win 6).rect_emb_val t y (1 : Fin 2)]
  have i0 : (cfg0.win 6).index t (0 : Fin 2) = t.val := congrFun (ix6 t) 0
  have i1 : (cfg0.win 6).index t (1 : Fin 2) = 0 := congrFun (ix6 t) 1
  rw [i0, i1]
  show t.val * 256 + (y 0).val = _ ∧ 0 * 512 + (y 1).val = _
  rw [Nat.mul_comm, Nat.zero_mul, Nat.zero_add]
  exact ⟨rfl, rfl⟩

/-- Where a point's block lies in the result. -/
theorem emb7 (t : Fin cfg0.N) (y : S256x512.Idx) :
    (((cfg0.win 7).rect t).emb y (0 : Fin 2)).val = 256 * t.val + (y 0).val ∧ (((cfg0.win 7).rect t).emb y (1 : Fin 2)).val = (y 1).val := by
  rw [(cfg0.win 7).rect_emb_val t y (0 : Fin 2), (cfg0.win 7).rect_emb_val t y (1 : Fin 2)]
  have i0 : (cfg0.win 7).index t (0 : Fin 2) = t.val := congrFun (ix7 t) 0
  have i1 : (cfg0.win 7).index t (1 : Fin 2) = 0 := congrFun (ix7 t) 1
  rw [i0, i1]
  show t.val * 256 + (y 0).val = _ ∧ 0 * 512 + (y 1).val = _
  rw [Nat.mul_comm, Nat.zero_mul, Nat.zero_add]
  exact ⟨rfl, rfl⟩

include hP hW hM hS

/-- The block of the gradient at a grid point. -/
theorem sum_block (t : Fin cfg0.N) : k0_pay5 (F := Ideal) (iblk m c 0 t) (iblk m c 1 t) (iblk m c 2 t) (iblk m c 3 t)
    = E2 (n := 256) (m := 512) (φ := .f32) fun a b => gradE P (256 * t.val + a) b := by
  rw [blk0 m c P hP]
  exact grad_block (fun s a b => P s (256 * t.val + a) b) _ _ _

/-- What a grid point writes of the gradient. -/
theorem written4 (t : Fin cfg0.N) : out0_4 (F := Ideal) (iblk m c 0 t) (iblk m c 1 t) (iblk m c 2 t) (iblk m c 3 t)
    = E2 (n := 256) (m := 512) (φ := .f32) fun a b => gradE P (256 * t.val + a) b := by
  unfold out0_4
  rw [View.canon_unit_zero off2]
  rw [sum_block m c P W M S hP hW hM hS]

/-- The array of the gradient after the run. -/
theorem result4 : ((dats m 0 c).arrAt 4 cfg0.N : S1024x512.Idx → EReal) = E2 (n := 1024) (m := 512) (φ := .f32) fun a b => gradE P a b := by
  refine (dats m 0 c).arrAt_eq_of_cover 4 (E2 (n := 1024) (m := 512) (φ := .f32) fun a b => gradE P a b) ?_ ?_
  · intro t _
    rw [flushed4, written4 m c P W M S hP hW hM hS]
    funext y
    obtain ⟨e0, e1⟩ := emb4 t y
    show gradE P (256 * t.val + (y 0).val) (y 1).val
      = gradE P (((cfg0.win 4).rect t).emb y (0 : Fin 2)).val (((cfg0.win 4).rect t).emb y (1 : Fin 2)).val
    rw [e0, e1]
  · exact (show (cfg0.win 4).Covers by decide +kernel).cover _ (Memref.isWhole_whole _)

/-- What a grid point writes of the change of the weights. -/
theorem written5 (t : Fin cfg0.N) : out0_5 (F := Ideal) (iblk m c 0 t) (iblk m c 1 t) (iblk m c 2 t) (iblk m c 3 t)
    = E2 (n := 256) (m := 512) (φ := .f32) fun a b => deltaS (gradE P (256 * t.val + a) b) (W (256 * t.val + a) b) (M (256 * t.val + a) b) (S (256 * t.val + a) b) := by
  unfold out0_5
  rw [View.canon_unit_zero off2]
  rw [sum_block m c P W M S hP hW hM hS, blk1 m c W hW, blk2 m c M hM, blk3 m c S hS]
  simp only [View.ld_unit_zero (S := S256x512) off2]
  rw [delta_block]

/-- The array of the change of the weights after the run. -/
theorem result5 : ((dats m 0 c).arrAt 5 cfg0.N : S1024x512.Idx → EReal) = E2 (n := 1024) (m := 512) (φ := .f32) fun a b => deltaS (gradE P a b) (W a b) (M a b) (S a b) := by
  refine (dats m 0 c).arrAt_eq_of_cover 5 (E2 (n := 1024) (m := 512) (φ := .f32) fun a b => deltaS (gradE P a b) (W a b) (M a b) (S a b)) ?_ ?_
  · intro t _
    rw [flushed5, written5 m c P W M S hP hW hM hS]
    funext y
    obtain ⟨e0, e1⟩ := emb5 t y
    show deltaS (gradE P (256 * t.val + (y 0).val) (y 1).val) (W (256 * t.val + (y 0).val) (y 1).val) (M (256 * t.val + (y 0).val) (y 1).val) (S (256 * t.val + (y 0).val) (y 1).val)
      = deltaS (gradE P (((cfg0.win 5).rect t).emb y (0 : Fin 2)).val (((cfg0.win 5).rect t).emb y (1 : Fin 2)).val) (W (((cfg0.win 5).rect t).emb y (0 : Fin 2)).val (((cfg0.win 5).rect t).emb y (1 : Fin 2)).val) (M (((cfg0.win 5).rect t).emb y (0 : Fin 2)).val (((cfg0.win 5).rect t).emb y (1 : Fin 2)).val) (S (((cfg0.win 5).rect t).emb y (0 : Fin 2)).val (((cfg0.win 5).rect t).emb y (1 : Fin 2)).val)
    rw [e0, e1]
  · exact (show (cfg0.win 5).Covers by decide +kernel).cover _ (Memref.isWhole_whole _)

/-- What a grid point writes of the first moment. -/
theorem written6 (t : Fin cfg0.N) : out0_6 (F := Ideal) (iblk m c 0 t) (iblk m c 1 t) (iblk m c 2 t) (iblk m c 3 t)
    = E2 (n := 256) (m := 512) (φ := .f32) fun a b => momS (gradE P (256 * t.val + a) b) (M (256 * t.val + a) b) := by
  unfold out0_6
  rw [View.canon_unit_zero off2]
  rw [sum_block m c P W M S hP hW hM hS, blk2 m c M hM]
  simp only [View.ld_unit_zero (S := S256x512) off2]
  rw [mom_block]

/-- The array of the first moment after the run. -/
theorem result6 : ((dats m 0 c).arrAt 6 cfg0.N : S1024x512.Idx → EReal) = E2 (n := 1024) (m := 512) (φ := .f32) fun a b => momS (gradE P a b) (M a b) := by
  refine (dats m 0 c).arrAt_eq_of_cover 6 (E2 (n := 1024) (m := 512) (φ := .f32) fun a b => momS (gradE P a b) (M a b)) ?_ ?_
  · intro t _
    rw [flushed6, written6 m c P W M S hP hW hM hS]
    funext y
    obtain ⟨e0, e1⟩ := emb6 t y
    show momS (gradE P (256 * t.val + (y 0).val) (y 1).val) (M (256 * t.val + (y 0).val) (y 1).val)
      = momS (gradE P (((cfg0.win 6).rect t).emb y (0 : Fin 2)).val (((cfg0.win 6).rect t).emb y (1 : Fin 2)).val) (M (((cfg0.win 6).rect t).emb y (0 : Fin 2)).val (((cfg0.win 6).rect t).emb y (1 : Fin 2)).val)
    rw [e0, e1]
  · exact (show (cfg0.win 6).Covers by decide +kernel).cover _ (Memref.isWhole_whole _)

/-- What a grid point writes of the second moment. -/
theorem written7 (t : Fin cfg0.N) : out0_7 (F := Ideal) (iblk m c 0 t) (iblk m c 1 t) (iblk m c 2 t) (iblk m c 3 t)
    = E2 (n := 256) (m := 512) (φ := .f32) fun a b => sqS (gradE P (256 * t.val + a) b) (S (256 * t.val + a) b) := by
  unfold out0_7
  rw [View.canon_unit_zero off2]
  rw [sum_block m c P W M S hP hW hM hS, blk3 m c S hS]
  simp only [View.ld_unit_zero (S := S256x512) off2]
  rw [sq_block]

/-- The array of the second moment after the run. -/
theorem result7 : ((dats m 0 c).arrAt 7 cfg0.N : S1024x512.Idx → EReal) = E2 (n := 1024) (m := 512) (φ := .f32) fun a b => sqS (gradE P a b) (S a b) := by
  refine (dats m 0 c).arrAt_eq_of_cover 7 (E2 (n := 1024) (m := 512) (φ := .f32) fun a b => sqS (gradE P a b) (S a b)) ?_ ?_
  · intro t _
    rw [flushed7, written7 m c P W M S hP hW hM hS]
    funext y
    obtain ⟨e0, e1⟩ := emb7 t y
    show sqS (gradE P (256 * t.val + (y 0).val) (y 1).val) (S (256 * t.val + (y 0).val) (y 1).val)
      = sqS (gradE P (((cfg0.win 7).rect t).emb y (0 : Fin 2)).val (((cfg0.win 7).rect t).emb y (1 : Fin 2)).val) (S (((cfg0.win 7).rect t).emb y (0 : Fin 2)).val (((cfg0.win 7).rect t).emb y (1 : Fin 2)).val)
    rw [e0, e1]
  · exact (show (cfg0.win 7).Covers by decide +kernel).cover _ (Memref.isWhole_whole _)

end run

/-! ## The reference -/

section ref
open Cert.Reference11Ideal.Read
variable (x : (⟨S8x1024x512, .bf16⟩ : BufTy).Contents (Elt Ideal)) (w mo sq : (⟨S1024x512, .f32⟩ : BufTy).Contents (Elt Ideal))
  (P : ℕ → ℕ → ℕ → EReal) (W M S : ℕ → ℕ → EReal)
  (hP : ∀ i : S8x1024x512.Idx, x i = P (i 0).val (i 1).val (i 2).val)
  (hW : ∀ i : S1024x512.Idx, w i = W (i 0).val (i 1).val)
  (hM : ∀ i : S1024x512.Idx, mo i = M (i 0).val (i 1).val) (hS : ∀ i : S1024x512.Idx, sq i = S (i 0).val (i 1).val)
include hP

/-- The sum of the shares at an index. -/
theorem ref_grad (i : S1024x512.Idx) : val_main_v1 (F := Ideal) x i = gradE P (i 0).val (i 1).val := by
  rw [val_main_v1_apply, val_main_cst_apply]
  show Ideal.ofBits .f32 0x00000000#32 + _ = _
  rw [Ideal.ofBits_zero_f32, zero_add]
  exact Finset.sum_congr rfl fun s _ => hP (idx_main_v1 i s)

include hM in
/-- The first moment at an index. -/
theorem ref_mom (i : S1024x512.Idx) : val_main_v6 (F := Ideal) x mo i = momS (gradE P (i 0).val (i 1).val) (M (i 0).val (i 1).val) := by
  rw [val_main_v6_apply, val_main_v3_apply, val_main_v5_apply, val_main_v2_apply, val_main_v4_apply, val_main_cst_0_apply, val_main_cst_1_apply,
    ref_grad x P hP, hM]
  rfl

include hS in
/-- The second moment at an index. -/
theorem ref_sq (i : S1024x512.Idx) : val_main_v12 (F := Ideal) x sq i = sqS (gradE P (i 0).val (i 1).val) (S (i 0).val (i 1).val) := by
  rw [val_main_v12_apply, val_main_v8_apply, val_main_v11_apply, val_main_v9_apply, val_main_v7_apply, val_main_v10_apply, val_main_cst_2_apply,
    val_main_cst_3_apply, ref_grad x P hP, hS]
  rfl

include hW hM hS in
/-- The change of the weights at an index. -/
theorem ref_delta (i : S1024x512.Idx) : val_main_v25 (F := Ideal) x w mo sq i
    = deltaS (gradE P (i 0).val (i 1).val) (W (i 0).val (i 1).val) (M (i 0).val (i 1).val) (S (i 0).val (i 1).val) := by
  rw [val_main_v25_apply, val_main_v24_apply, val_main_cst_8_apply, val_main_v23_apply, val_main_v22_apply, val_main_v21_apply, val_main_cst_7_apply,
    val_main_v20_apply, val_main_v19_apply, val_main_v18_apply, val_main_cst_6_apply, val_main_v17_apply, val_main_v16_apply, val_main_v15_apply,
    val_main_cst_5_apply, val_main_v14_apply, val_main_v13_apply, val_main_cst_4_apply, ref_mom x mo P M hP hM, ref_sq x sq P S hP hS, hW]
  rfl

end ref

/-! ## The claim -/

/-- The kernel's results are the reference's. -/
theorem algebraic : Cert.algebraic_Kernel11Ideal_Reference11Ideal := by
  intro m ρ m' ρ' _ hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, (θ_run _ _ _).mono (fun r h c => ?_) (Cert.Reference11Ideal.Value.run m' ρ')⟩
  obtain ⟨h0, h1, h2, h3, kept⟩ := h c
  obtain ⟨e0, e1, e2, e3⟩ := hargs c
  obtain ⟨P, hP⟩ := entries3 (d := ![8, 1024, 512]) (m ((c.tc : Thread nD τ).loc main_arg0))
  obtain ⟨W, hW⟩ := entries (d := ![1024, 512]) (m ((c.tc : Thread nD τ).loc main_arg1))
  obtain ⟨M, hM⟩ := entries (d := ![1024, 512]) (m ((c.tc : Thread nD τ).loc main_arg2))
  obtain ⟨S, hS⟩ := entries (d := ![1024, 512]) (m ((c.tc : Thread nD τ).loc main_arg3))
  have kP := fun i => (congrFun (V_main_arg0 m c) i).trans (hP i)
  have kW := fun i => (congrFun (V_main_arg1 m c) i).trans (hW i)
  have kM := fun i => (congrFun (V_main_arg2 m c) i).trans (hM i)
  have kS := fun i => (congrFun (V_main_arg3 m c) i).trans (hS i)
  refine ⟨h0.trans ((Cert.Reference11Ideal.Read.val_main_v1_eq _).trans (Eq.trans ?_ (result4 m c P W M S kP kW kM kS).symm)),
    h1.trans ((Cert.Reference11Ideal.Read.val_main_v25_eq _ _ _ _).trans (Eq.trans ?_ (result5 m c P W M S kP kW kM kS).symm)),
    h2.trans ((Cert.Reference11Ideal.Read.val_main_v6_eq _ _).trans (Eq.trans ?_ (result6 m c P W M S kP kW kM kS).symm)),
    h3.trans ((Cert.Reference11Ideal.Read.val_main_v12_eq _ _).trans (Eq.trans ?_ (result7 m c P W M S kP kW kM kS).symm)), kept⟩
  · rw [e0]; exact funext fun i => ref_grad _ P hP i
  · rw [e0, e1, e2, e3]; exact funext fun i => ref_delta _ _ _ _ P W M S hP hW hM hS i
  · rw [e0, e2]; exact funext fun i => ref_mom _ _ P M hP hM i
  · rw [e0, e3]; exact funext fun i => ref_sq _ _ P S hP hS i

/-- The reference's frame: its run read at the arguments; it declares no semaphore. -/
theorem reference_frame : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

end Cert.Proof.AdamUp
-- ==== Proof.AdamIn.lean ====
module

public import Idealize.ShloMosaic.Lib.Pipeline.ValueKit
public import proofs.«01_k».proof.Defs
public import proofs.«01_k».proof.Proof.AdamW
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Reference12Ideal.Run

/-!
The optimiser's call for w_in: the sum of the devices' shares of the gradient, the change of the weights, and the two new moments.
-/

@[expose] public section
noncomputable section
namespace Cert.Proof.AdamIn
open Idealize.ShloMosaic Idealize.ShloMosaic.TcCoe Idealize.SL.Sem Idealize.ShloMosaic.Pipeline Cert.Kernel12Ideal Cert.Kernel12Ideal.Gen Cert.Kernel12Ideal.Value
open Cert.Proof.AdamW

/-- The named factors are the reciprocals that the reference divides by. -/
theorem c1_eq : Named.named (F := Ideal) Cert.Kernel12Ideal.κ "c1" (φ := .f32) 0x3FC48605#32 = ((8388608 / 5463681 : ℝ) : EReal) :=
  IdealRules.named_const.ideal_named_scalar _ _ _ _ rfl
theorem c2_eq : Named.named (F := Ideal) Cert.Kernel12Ideal.κ "c2" (φ := .f32) 0x42C8E6D3#32 = ((268435456 / 2672307 : ℝ) : EReal) :=
  IdealRules.named_const.ideal_named_scalar _ _ _ _ rfl

/-- The idealization names those two numbers and changes nothing else. -/
theorem preserves : Cert.preserves_Kernel12_Kernel12Ideal :=
  ⟨IdealRules.named_const.statement Cert.Kernel12Ideal.κ "c1" .f32 0x3FC48605#32 _ rfl,
    IdealRules.named_const.statement Cert.Kernel12Ideal.κ "c2" .f32 0x42C8E6D3#32 _ rfl⟩

/-! ## One block -/

section block
variable (P : ℕ → ℕ → ℕ → EReal) (W M S : ℕ → ℕ → EReal)

theorem grad_block (x1 x2 x3 : Vec Ideal S256x320 .f32) :
    k0_pay5 (F := Ideal) (E3 (n := 8) (m := 256) (l := 320) (φ := .bf16) P) x1 x2 x3 = E2 (n := 256) (m := 320) (φ := .f32) (gradE P) := by
  funext j
  unfold k0_pay5 k0_pay4
  unfold E3
  simp only [share (e := .bf16) P]
  pointwise
  exact gradE_eq P (j 0).val (j 1).val

theorem mom_block (G : ℕ → ℕ → EReal) : k0_pay1 (F := Ideal) (E2 (n := 256) (m := 320) (φ := .f32) G) (E2 (n := 256) (m := 320) (φ := .f32) M)
    (Scalar.ofBits .f32 0x3F666666#32) = E2 (n := 256) (m := 320) (φ := .f32) fun a b => momS (G a b) (M a b) := by
  funext j; unfold k0_pay1; pointwise; rfl

theorem sq_block (G : ℕ → ℕ → EReal) : k0_pay2 (F := Ideal) (E2 (n := 256) (m := 320) (φ := .f32) G) (E2 (n := 256) (m := 320) (φ := .f32) S)
    = E2 (n := 256) (m := 320) (φ := .f32) fun a b => sqS (G a b) (S a b) := by
  funext j; unfold k0_pay2; pointwise; rfl

theorem delta_block (G : ℕ → ℕ → EReal) : k0_pay3 (F := Ideal) (E2 (n := 256) (m := 320) (φ := .f32) G) (E2 (n := 256) (m := 320) (φ := .f32) M)
    (Scalar.ofBits .f32 0x3F666666#32) (E2 (n := 256) (m := 320) (φ := .f32) S) (E2 (n := 256) (m := 320) (φ := .f32) W)
    = E2 (n := 256) (m := 320) (φ := .f32) fun a b => deltaS (G a b) (W a b) (M a b) (S a b) := by
  funext j; unfold k0_pay3; rw [mom_block, sq_block, c1_eq, c2_eq]; pointwise
  simp only [E2_apply, deltaS, div_unit1, div_unit2]
  rfl

end block

/-! ## The run -/

section run
variable (m : (ℓ : Loc nD τ sig) → Buf (Elt Ideal) ℓ) (c : Dev nD) (P : ℕ → ℕ → ℕ → EReal) (W M S : ℕ → ℕ → EReal)
  (hP : ∀ i : S8x1024x320.Idx, V m c main_arg0 i = P (i 0).val (i 1).val (i 2).val)
  (hW : ∀ i : S1024x320.Idx, V m c main_arg1 i = W (i 0).val (i 1).val)
  (hM : ∀ i : S1024x320.Idx, V m c main_arg2 i = M (i 0).val (i 1).val)
  (hS : ∀ i : S1024x320.Idx, V m c main_arg3 i = S (i 0).val (i 1).val)

theorem ix0 : ∀ t : Fin cfg0.N, cc0_transform_0 (grid0.coords t) = ![0, t.val, 0] := by decide +kernel
theorem ix1 : ∀ t : Fin cfg0.N, cc0_transform_1 (grid0.coords t) = ![t.val, 0] := by decide +kernel
theorem ix2 : ∀ t : Fin cfg0.N, cc0_transform_2 (grid0.coords t) = ![t.val, 0] := by decide +kernel
theorem ix3 : ∀ t : Fin cfg0.N, cc0_transform_3 (grid0.coords t) = ![t.val, 0] := by decide +kernel
theorem ix4 : ∀ t : Fin cfg0.N, cc0_transform_4 (grid0.coords t) = ![t.val, 0] := by decide +kernel
theorem ix5 : ∀ t : Fin cfg0.N, cc0_transform_5 (grid0.coords t) = ![t.val, 0] := by decide +kernel
theorem ix6 : ∀ t : Fin cfg0.N, cc0_transform_6 (grid0.coords t) = ![t.val, 0] := by decide +kernel
theorem ix7 : ∀ t : Fin cfg0.N, cc0_transform_7 (grid0.coords t) = ![t.val, 0] := by decide +kernel

include hP in
theorem blk0 (t : Fin cfg0.N) : (iblk m c 0 t : Vec Ideal S8x256x320 .bf16) = E3 (φ := .bf16) fun s a b => P s (256 * t.val + a) b := by
  funext y
  refine (hP (((cfg0.win 0).rect t).emb y)).trans ?_
  rw [(cfg0.win 0).rect_emb_val t y (0 : Fin 3), (cfg0.win 0).rect_emb_val t y (1 : Fin 3), (cfg0.win 0).rect_emb_val t y (2 : Fin 3)]
  have i0 : (cfg0.win 0).index t (0 : Fin 3) = 0 := congrFun (ix0 t) 0
  have i1 : (cfg0.win 0).index t (1 : Fin 3) = t.val := congrFun (ix0 t) 1
  have i2 : (cfg0.win 0).index t (2 : Fin 3) = 0 := congrFun (ix0 t) 2
  rw [i0, i1, i2]
  show P (0 * 8 + (y 0).val) (t.val * 256 + (y 1).val) (0 * 320 + (y 2).val) = P (y 0).val (256 * t.val + (y 1).val) (y 2).val
  simp only [Nat.mul_comm t.val, Nat.zero_mul, Nat.zero_add]

include hW in
theorem blk1 (t : Fin cfg0.N) : (iblk m c 1 t : Vec Ideal S256x320 .f32) = E2 (φ := .f32) fun a b => W (256 * t.val + a) b := by
  funext y
  refine (hW (((cfg0.win 1).rect t).emb y)).trans ?_
  rw [(cfg0.win 1).rect_emb_val t y (0 : Fin 2), (cfg0.win 1).rect_emb_val t y (1 : Fin 2)]
  have i0 : (cfg0.win 1).index t (0 : Fin 2) = t.val := congrFun (ix1 t) 0
  have i1 : (cfg0.win 1).index t (1 : Fin 2) = 0 := congrFun (ix1 t) 1
  rw [i0, i1]
  show W (t.val * 256 + (y 0).val) (0 * 320 + (y 1).val) = W (256 * t.val + (y 0).val) (y 1).val
  rw [Nat.mul_comm, Nat.zero_mul, Nat.zero_add]

include hM in
theorem blk2 (t : Fin cfg0.N) : (iblk m c 2 t : Vec Ideal S256x320 .f32) = E2 (φ := .f32) fun a b => M (256 * t.val + a) b := by
  funext y
  refine (hM (((cfg0.win 2).rect t).emb y)).trans ?_
  rw [(cfg0.win 2).rect_emb_val t y (0 : Fin 2), (cfg0.win 2).rect_emb_val t y (1 : Fin 2)]
  have i0 : (cfg0.win 2).index t (0 : Fin 2) = t.val := congrFun (ix2 t) 0
  have i1 : (cfg0.win 2).index t (1 : Fin 2) = 0 := congrFun (ix2 t) 1
  rw [i0, i1]
  show M (t.val * 256 + (y 0).val) (0 * 320 + (y 1).val) = M (256 * t.val + (y 0).val) (y 1).val
  rw [Nat.mul_comm, Nat.zero_mul, Nat.zero_add]

include hS in
theorem blk3 (t : Fin cfg0.N) : (iblk m c 3 t : Vec Ideal S256x320 .f32) = E2 (φ := .f32) fun a b => S (256 * t.val + a) b := by
  funext y
  refine (hS (((cfg0.win 3).rect t).emb y)).trans ?_
  rw [(cfg0.win 3).rect_emb_val t y (0 : Fin 2), (cfg0.win 3).rect_emb_val t y (1 : Fin 2)]
  have i0 : (cfg0.win 3).index t (0 : Fin 2) = t.val := congrFun (ix3 t) 0
  have i1 : (cfg0.win 3).index t (1 : Fin 2) = 0 := congrFun (ix3 t) 1
  rw [i0, i1]
  show S (t.val * 256 + (y 0).val) (0 * 320 + (y 1).val) = S (256 * t.val + (y 0).val) (y 1).val
  rw [Nat.mul_comm, Nat.zero_mul, Nat.zero_add]

/-- Where a point's block lies in the result. -/
theorem emb4 (t : Fin cfg0.N) (y : S256x320.Idx) :
    (((cfg0.win 4).rect t).emb y (0 : Fin 2)).val = 256 * t.val + (y 0).val ∧ (((cfg0.win 4).rect t).emb y (1 : Fin 2)).val = (y 1).val := by
  rw [(cfg0.win 4).rect_emb_val t y (0 : Fin 2), (cfg0.win 4).rect_emb_val t y (1 : Fin 2)]
  have i0 : (cfg0.win 4).index t (0 : Fin 2) = t.val := congrFun (ix4 t) 0
  have i1 : (cfg0.win 4).index t (1 : Fin 2) = 0 := congrFun (ix4 t) 1
  rw [i0, i1]
  show t.val * 256 + (y 0).val = _ ∧ 0 * 320 + (y 1).val = _
  rw [Nat.mul_comm, Nat.zero_mul, Nat.zero_add]
  exact ⟨rfl, rfl⟩

/-- Where a point's block lies in the result. -/
theorem emb5 (t : Fin cfg0.N) (y : S256x320.Idx) :
    (((cfg0.win 5).rect t).emb y (0 : Fin 2)).val = 256 * t.val + (y 0).val ∧ (((cfg0.win 5).rect t).emb y (1 : Fin 2)).val = (y 1).val := by
  rw [(cfg0.win 5).rect_emb_val t y (0 : Fin 2), (cfg0.win 5).rect_emb_val t y (1 : Fin 2)]
  have i0 : (cfg0.win 5).index t (0 : Fin 2) = t.val := congrFun (ix5 t) 0
  have i1 : (cfg0.win 5).index t (1 : Fin 2) = 0 := congrFun (ix5 t) 1
  rw [i0, i1]
  show t.val * 256 + (y 0).val = _ ∧ 0 * 320 + (y 1).val = _
  rw [Nat.mul_comm, Nat.zero_mul, Nat.zero_add]
  exact ⟨rfl, rfl⟩

/-- Where a point's block lies in the result. -/
theorem emb6 (t : Fin cfg0.N) (y : S256x320.Idx) :
    (((cfg0.win 6).rect t).emb y (0 : Fin 2)).val = 256 * t.val + (y 0).val ∧ (((cfg0.win 6).rect t).emb y (1 : Fin 2)).val = (y 1).val := by
  rw [(cfg0.win 6).rect_emb_val t y (0 : Fin 2), (cfg0.win 6).rect_emb_val t y (1 : Fin 2)]
  have i0 : (cfg0.win 6).index t (0 : Fin 2) = t.val := congrFun (ix6 t) 0
  have i1 : (cfg0.win 6).index t (1 : Fin 2) = 0 := congrFun (ix6 t) 1
  rw [i0, i1]
  show t.val * 256 + (y 0).val = _ ∧ 0 * 320 + (y 1).val = _
  rw [Nat.mul_comm, Nat.zero_mul, Nat.zero_add]
  exact ⟨rfl, rfl⟩

/-- Where a point's block lies in the result. -/
theorem emb7 (t : Fin cfg0.N) (y : S256x320.Idx) :
    (((cfg0.win 7).rect t).emb y (0 : Fin 2)).val = 256 * t.val + (y 0).val ∧ (((cfg0.win 7).rect t).emb y (1 : Fin 2)).val = (y 1).val := by
  rw [(cfg0.win 7).rect_emb_val t y (0 : Fin 2), (cfg0.win 7).rect_emb_val t y (1 : Fin 2)]
  have i0 : (cfg0.win 7).index t (0 : Fin 2) = t.val := congrFun (ix7 t) 0
  have i1 : (cfg0.win 7).index t (1 : Fin 2) = 0 := congrFun (ix7 t) 1
  rw [i0, i1]
  show t.val * 256 + (y 0).val = _ ∧ 0 * 320 + (y 1).val = _
  rw [Nat.mul_comm, Nat.zero_mul, Nat.zero_add]
  exact ⟨rfl, rfl⟩

include hP hW hM hS

/-- The block of the gradient at a grid point. -/
theorem sum_block (t : Fin cfg0.N) : k0_pay5 (F := Ideal) (iblk m c 0 t) (iblk m c 1 t) (iblk m c 2 t) (iblk m c 3 t)
    = E2 (n := 256) (m := 320) (φ := .f32) fun a b => gradE P (256 * t.val + a) b := by
  rw [blk0 m c P hP]
  exact grad_block (fun s a b => P s (256 * t.val + a) b) _ _ _

/-- What a grid point writes of the gradient. -/
theorem written4 (t : Fin cfg0.N) : out0_4 (F := Ideal) (iblk m c 0 t) (iblk m c 1 t) (iblk m c 2 t) (iblk m c 3 t)
    = E2 (n := 256) (m := 320) (φ := .f32) fun a b => gradE P (256 * t.val + a) b := by
  unfold out0_4
  rw [View.canon_unit_zero off2]
  rw [sum_block m c P W M S hP hW hM hS]

/-- The array of the gradient after the run. -/
theorem result4 : ((dats m 0 c).arrAt 4 cfg0.N : S1024x320.Idx → EReal) = E2 (n := 1024) (m := 320) (φ := .f32) fun a b => gradE P a b := by
  refine (dats m 0 c).arrAt_eq_of_cover 4 (E2 (n := 1024) (m := 320) (φ := .f32) fun a b => gradE P a b) ?_ ?_
  · intro t _
    rw [flushed4, written4 m c P W M S hP hW hM hS]
    funext y
    obtain ⟨e0, e1⟩ := emb4 t y
    show gradE P (256 * t.val + (y 0).val) (y 1).val
      = gradE P (((cfg0.win 4).rect t).emb y (0 : Fin 2)).val (((cfg0.win 4).rect t).emb y (1 : Fin 2)).val
    rw [e0, e1]
  · exact (show (cfg0.win 4).Covers by decide +kernel).cover _ (Memref.isWhole_whole _)

/-- What a grid point writes of the change of the weights. -/
theorem written5 (t : Fin cfg0.N) : out0_5 (F := Ideal) (iblk m c 0 t) (iblk m c 1 t) (iblk m c 2 t) (iblk m c 3 t)
    = E2 (n := 256) (m := 320) (φ := .f32) fun a b => deltaS (gradE P (256 * t.val + a) b) (W (256 * t.val + a) b) (M (256 * t.val + a) b) (S (256 * t.val + a) b) := by
  unfold out0_5
  rw [View.canon_unit_zero off2]
  rw [sum_block m c P W M S hP hW hM hS, blk1 m c W hW, blk2 m c M hM, blk3 m c S hS]
  simp only [View.ld_unit_zero (S := S256x320) off2]
  rw [delta_block]

/-- The array of the change of the weights after the run. -/
theorem result5 : ((dats m 0 c).arrAt 5 cfg0.N : S1024x320.Idx → EReal) = E2 (n := 1024) (m := 320) (φ := .f32) fun a b => deltaS (gradE P a b) (W a b) (M a b) (S a b) := by
  refine (dats m 0 c).arrAt_eq_of_cover 5 (E2 (n := 1024) (m := 320) (φ := .f32) fun a b => deltaS (gradE P a b) (W a b) (M a b) (S a b)) ?_ ?_
  · intro t _
    rw [flushed5, written5 m c P W M S hP hW hM hS]
    funext y
    obtain ⟨e0, e1⟩ := emb5 t y
    show deltaS (gradE P (256 * t.val + (y 0).val) (y 1).val) (W (256 * t.val + (y 0).val) (y 1).val) (M (256 * t.val + (y 0).val) (y 1).val) (S (256 * t.val + (y 0).val) (y 1).val)
      = deltaS (gradE P (((cfg0.win 5).rect t).emb y (0 : Fin 2)).val (((cfg0.win 5).rect t).emb y (1 : Fin 2)).val) (W (((cfg0.win 5).rect t).emb y (0 : Fin 2)).val (((cfg0.win 5).rect t).emb y (1 : Fin 2)).val) (M (((cfg0.win 5).rect t).emb y (0 : Fin 2)).val (((cfg0.win 5).rect t).emb y (1 : Fin 2)).val) (S (((cfg0.win 5).rect t).emb y (0 : Fin 2)).val (((cfg0.win 5).rect t).emb y (1 : Fin 2)).val)
    rw [e0, e1]
  · exact (show (cfg0.win 5).Covers by decide +kernel).cover _ (Memref.isWhole_whole _)

/-- What a grid point writes of the first moment. -/
theorem written6 (t : Fin cfg0.N) : out0_6 (F := Ideal) (iblk m c 0 t) (iblk m c 1 t) (iblk m c 2 t) (iblk m c 3 t)
    = E2 (n := 256) (m := 320) (φ := .f32) fun a b => momS (gradE P (256 * t.val + a) b) (M (256 * t.val + a) b) := by
  unfold out0_6
  rw [View.canon_unit_zero off2]
  rw [sum_block m c P W M S hP hW hM hS, blk2 m c M hM]
  simp only [View.ld_unit_zero (S := S256x320) off2]
  rw [mom_block]

/-- The array of the first moment after the run. -/
theorem result6 : ((dats m 0 c).arrAt 6 cfg0.N : S1024x320.Idx → EReal) = E2 (n := 1024) (m := 320) (φ := .f32) fun a b => momS (gradE P a b) (M a b) := by
  refine (dats m 0 c).arrAt_eq_of_cover 6 (E2 (n := 1024) (m := 320) (φ := .f32) fun a b => momS (gradE P a b) (M a b)) ?_ ?_
  · intro t _
    rw [flushed6, written6 m c P W M S hP hW hM hS]
    funext y
    obtain ⟨e0, e1⟩ := emb6 t y
    show momS (gradE P (256 * t.val + (y 0).val) (y 1).val) (M (256 * t.val + (y 0).val) (y 1).val)
      = momS (gradE P (((cfg0.win 6).rect t).emb y (0 : Fin 2)).val (((cfg0.win 6).rect t).emb y (1 : Fin 2)).val) (M (((cfg0.win 6).rect t).emb y (0 : Fin 2)).val (((cfg0.win 6).rect t).emb y (1 : Fin 2)).val)
    rw [e0, e1]
  · exact (show (cfg0.win 6).Covers by decide +kernel).cover _ (Memref.isWhole_whole _)

/-- What a grid point writes of the second moment. -/
theorem written7 (t : Fin cfg0.N) : out0_7 (F := Ideal) (iblk m c 0 t) (iblk m c 1 t) (iblk m c 2 t) (iblk m c 3 t)
    = E2 (n := 256) (m := 320) (φ := .f32) fun a b => sqS (gradE P (256 * t.val + a) b) (S (256 * t.val + a) b) := by
  unfold out0_7
  rw [View.canon_unit_zero off2]
  rw [sum_block m c P W M S hP hW hM hS, blk3 m c S hS]
  simp only [View.ld_unit_zero (S := S256x320) off2]
  rw [sq_block]

/-- The array of the second moment after the run. -/
theorem result7 : ((dats m 0 c).arrAt 7 cfg0.N : S1024x320.Idx → EReal) = E2 (n := 1024) (m := 320) (φ := .f32) fun a b => sqS (gradE P a b) (S a b) := by
  refine (dats m 0 c).arrAt_eq_of_cover 7 (E2 (n := 1024) (m := 320) (φ := .f32) fun a b => sqS (gradE P a b) (S a b)) ?_ ?_
  · intro t _
    rw [flushed7, written7 m c P W M S hP hW hM hS]
    funext y
    obtain ⟨e0, e1⟩ := emb7 t y
    show sqS (gradE P (256 * t.val + (y 0).val) (y 1).val) (S (256 * t.val + (y 0).val) (y 1).val)
      = sqS (gradE P (((cfg0.win 7).rect t).emb y (0 : Fin 2)).val (((cfg0.win 7).rect t).emb y (1 : Fin 2)).val) (S (((cfg0.win 7).rect t).emb y (0 : Fin 2)).val (((cfg0.win 7).rect t).emb y (1 : Fin 2)).val)
    rw [e0, e1]
  · exact (show (cfg0.win 7).Covers by decide +kernel).cover _ (Memref.isWhole_whole _)

end run

/-! ## The reference -/

section ref
open Cert.Reference12Ideal.Read
variable (x : (⟨S8x1024x320, .bf16⟩ : BufTy).Contents (Elt Ideal)) (w mo sq : (⟨S1024x320, .f32⟩ : BufTy).Contents (Elt Ideal))
  (P : ℕ → ℕ → ℕ → EReal) (W M S : ℕ → ℕ → EReal)
  (hP : ∀ i : S8x1024x320.Idx, x i = P (i 0).val (i 1).val (i 2).val)
  (hW : ∀ i : S1024x320.Idx, w i = W (i 0).val (i 1).val)
  (hM : ∀ i : S1024x320.Idx, mo i = M (i 0).val (i 1).val) (hS : ∀ i : S1024x320.Idx, sq i = S (i 0).val (i 1).val)
include hP

/-- The sum of the shares at an index. -/
theorem ref_grad (i : S1024x320.Idx) : val_main_v1 (F := Ideal) x i = gradE P (i 0).val (i 1).val := by
  rw [val_main_v1_apply, val_main_cst_apply]
  show Ideal.ofBits .f32 0x00000000#32 + _ = _
  rw [Ideal.ofBits_zero_f32, zero_add]
  exact Finset.sum_congr rfl fun s _ => hP (idx_main_v1 i s)

include hM in
/-- The first moment at an index. -/
theorem ref_mom (i : S1024x320.Idx) : val_main_v6 (F := Ideal) x mo i = momS (gradE P (i 0).val (i 1).val) (M (i 0).val (i 1).val) := by
  rw [val_main_v6_apply, val_main_v3_apply, val_main_v5_apply, val_main_v2_apply, val_main_v4_apply, val_main_cst_0_apply, val_main_cst_1_apply,
    ref_grad x P hP, hM]
  rfl

include hS in
/-- The second moment at an index. -/
theorem ref_sq (i : S1024x320.Idx) : val_main_v12 (F := Ideal) x sq i = sqS (gradE P (i 0).val (i 1).val) (S (i 0).val (i 1).val) := by
  rw [val_main_v12_apply, val_main_v8_apply, val_main_v11_apply, val_main_v9_apply, val_main_v7_apply, val_main_v10_apply, val_main_cst_2_apply,
    val_main_cst_3_apply, ref_grad x P hP, hS]
  rfl

include hW hM hS in
/-- The change of the weights at an index. -/
theorem ref_delta (i : S1024x320.Idx) : val_main_v25 (F := Ideal) x w mo sq i
    = deltaS (gradE P (i 0).val (i 1).val) (W (i 0).val (i 1).val) (M (i 0).val (i 1).val) (S (i 0).val (i 1).val) := by
  rw [val_main_v25_apply, val_main_v24_apply, val_main_cst_8_apply, val_main_v23_apply, val_main_v22_apply, val_main_v21_apply, val_main_cst_7_apply,
    val_main_v20_apply, val_main_v19_apply, val_main_v18_apply, val_main_cst_6_apply, val_main_v17_apply, val_main_v16_apply, val_main_v15_apply,
    val_main_cst_5_apply, val_main_v14_apply, val_main_v13_apply, val_main_cst_4_apply, ref_mom x mo P M hP hM, ref_sq x sq P S hP hS, hW]
  rfl

end ref

/-! ## The claim -/

/-- The kernel's results are the reference's. -/
theorem algebraic : Cert.algebraic_Kernel12Ideal_Reference12Ideal := by
  intro m ρ m' ρ' _ hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, (θ_run _ _ _).mono (fun r h c => ?_) (Cert.Reference12Ideal.Value.run m' ρ')⟩
  obtain ⟨h0, h1, h2, h3, kept⟩ := h c
  obtain ⟨e0, e1, e2, e3⟩ := hargs c
  obtain ⟨P, hP⟩ := entries3 (d := ![8, 1024, 320]) (m ((c.tc : Thread nD τ).loc main_arg0))
  obtain ⟨W, hW⟩ := entries (d := ![1024, 320]) (m ((c.tc : Thread nD τ).loc main_arg1))
  obtain ⟨M, hM⟩ := entries (d := ![1024, 320]) (m ((c.tc : Thread nD τ).loc main_arg2))
  obtain ⟨S, hS⟩ := entries (d := ![1024, 320]) (m ((c.tc : Thread nD τ).loc main_arg3))
  have kP := fun i => (congrFun (V_main_arg0 m c) i).trans (hP i)
  have kW := fun i => (congrFun (V_main_arg1 m c) i).trans (hW i)
  have kM := fun i => (congrFun (V_main_arg2 m c) i).trans (hM i)
  have kS := fun i => (congrFun (V_main_arg3 m c) i).trans (hS i)
  refine ⟨h0.trans ((Cert.Reference12Ideal.Read.val_main_v1_eq _).trans (Eq.trans ?_ (result4 m c P W M S kP kW kM kS).symm)),
    h1.trans ((Cert.Reference12Ideal.Read.val_main_v25_eq _ _ _ _).trans (Eq.trans ?_ (result5 m c P W M S kP kW kM kS).symm)),
    h2.trans ((Cert.Reference12Ideal.Read.val_main_v6_eq _ _).trans (Eq.trans ?_ (result6 m c P W M S kP kW kM kS).symm)),
    h3.trans ((Cert.Reference12Ideal.Read.val_main_v12_eq _ _).trans (Eq.trans ?_ (result7 m c P W M S kP kW kM kS).symm)), kept⟩
  · rw [e0]; exact funext fun i => ref_grad _ P hP i
  · rw [e0, e1, e2, e3]; exact funext fun i => ref_delta _ _ _ _ P W M S hP hW hM hS i
  · rw [e0, e2]; exact funext fun i => ref_mom _ _ P M hP hM i
  · rw [e0, e3]; exact funext fun i => ref_sq _ _ P S hP hS i

/-- The reference's frame: its run read at the arguments; it declares no semaphore. -/
theorem reference_frame : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

end Cert.Proof.AdamIn
-- ==== Proof.AdamOut.lean ====
module

public import Idealize.ShloMosaic.Lib.Pipeline.ValueKit
public import proofs.«01_k».proof.Defs
public import proofs.«01_k».proof.Proof.AdamW
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Reference13Ideal.Run

/-!
The optimiser's call for w_out: the sum of the devices' shares of the gradient, the change of the weights, and the two new moments.
-/

@[expose] public section
noncomputable section
namespace Cert.Proof.AdamOut
open Idealize.ShloMosaic Idealize.ShloMosaic.TcCoe Idealize.SL.Sem Idealize.ShloMosaic.Pipeline Cert.Kernel13Ideal Cert.Kernel13Ideal.Gen Cert.Kernel13Ideal.Value
open Cert.Proof.AdamW

/-- The named factors are the reciprocals that the reference divides by. -/
theorem c1_eq : Named.named (F := Ideal) Cert.Kernel13Ideal.κ "c1" (φ := .f32) 0x3FC48605#32 = ((8388608 / 5463681 : ℝ) : EReal) :=
  IdealRules.named_const.ideal_named_scalar _ _ _ _ rfl
theorem c2_eq : Named.named (F := Ideal) Cert.Kernel13Ideal.κ "c2" (φ := .f32) 0x42C8E6D3#32 = ((268435456 / 2672307 : ℝ) : EReal) :=
  IdealRules.named_const.ideal_named_scalar _ _ _ _ rfl

/-- The idealization names those two numbers and changes nothing else. -/
theorem preserves : Cert.preserves_Kernel13_Kernel13Ideal :=
  ⟨IdealRules.named_const.statement Cert.Kernel13Ideal.κ "c1" .f32 0x3FC48605#32 _ rfl,
    IdealRules.named_const.statement Cert.Kernel13Ideal.κ "c2" .f32 0x42C8E6D3#32 _ rfl⟩

/-! ## One block -/

section block
variable (P : ℕ → ℕ → ℕ → EReal) (W M S : ℕ → ℕ → EReal)

theorem grad_block (x1 x2 x3 : Vec Ideal S128x1024 .f32) :
    k0_pay5 (F := Ideal) (E3 (n := 8) (m := 128) (l := 1024) (φ := .bf16) P) x1 x2 x3 = E2 (n := 128) (m := 1024) (φ := .f32) (gradE P) := by
  funext j
  unfold k0_pay5 k0_pay4
  unfold E3
  simp only [share (e := .bf16) P]
  pointwise
  exact gradE_eq P (j 0).val (j 1).val

theorem mom_block (G : ℕ → ℕ → EReal) : k0_pay1 (F := Ideal) (E2 (n := 128) (m := 1024) (φ := .f32) G) (E2 (n := 128) (m := 1024) (φ := .f32) M)
    (Scalar.ofBits .f32 0x3F666666#32) = E2 (n := 128) (m := 1024) (φ := .f32) fun a b => momS (G a b) (M a b) := by
  funext j; unfold k0_pay1; pointwise; rfl

theorem sq_block (G : ℕ → ℕ → EReal) : k0_pay2 (F := Ideal) (E2 (n := 128) (m := 1024) (φ := .f32) G) (E2 (n := 128) (m := 1024) (φ := .f32) S)
    = E2 (n := 128) (m := 1024) (φ := .f32) fun a b => sqS (G a b) (S a b) := by
  funext j; unfold k0_pay2; pointwise; rfl

theorem delta_block (G : ℕ → ℕ → EReal) : k0_pay3 (F := Ideal) (E2 (n := 128) (m := 1024) (φ := .f32) G) (E2 (n := 128) (m := 1024) (φ := .f32) M)
    (Scalar.ofBits .f32 0x3F666666#32) (E2 (n := 128) (m := 1024) (φ := .f32) S) (E2 (n := 128) (m := 1024) (φ := .f32) W)
    = E2 (n := 128) (m := 1024) (φ := .f32) fun a b => deltaS (G a b) (W a b) (M a b) (S a b) := by
  funext j; unfold k0_pay3; rw [mom_block, sq_block, c1_eq, c2_eq]; pointwise
  simp only [E2_apply, deltaS, div_unit1, div_unit2]
  rfl

end block

/-! ## The run -/

section run
variable (m : (ℓ : Loc nD τ sig) → Buf (Elt Ideal) ℓ) (c : Dev nD) (P : ℕ → ℕ → ℕ → EReal) (W M S : ℕ → ℕ → EReal)
  (hP : ∀ i : S8x128x1024.Idx, V m c main_arg0 i = P (i 0).val (i 1).val (i 2).val)
  (hW : ∀ i : S128x1024.Idx, V m c main_arg1 i = W (i 0).val (i 1).val)
  (hM : ∀ i : S128x1024.Idx, V m c main_arg2 i = M (i 0).val (i 1).val)
  (hS : ∀ i : S128x1024.Idx, V m c main_arg3 i = S (i 0).val (i 1).val)

theorem ix0 : ∀ t : Fin cfg0.N, cc0_transform_0 (grid0.coords t) = ![0, t.val, 0] := by decide +kernel
theorem ix1 : ∀ t : Fin cfg0.N, cc0_transform_1 (grid0.coords t) = ![t.val, 0] := by decide +kernel
theorem ix2 : ∀ t : Fin cfg0.N, cc0_transform_2 (grid0.coords t) = ![t.val, 0] := by decide +kernel
theorem ix3 : ∀ t : Fin cfg0.N, cc0_transform_3 (grid0.coords t) = ![t.val, 0] := by decide +kernel
theorem ix4 : ∀ t : Fin cfg0.N, cc0_transform_4 (grid0.coords t) = ![t.val, 0] := by decide +kernel
theorem ix5 : ∀ t : Fin cfg0.N, cc0_transform_5 (grid0.coords t) = ![t.val, 0] := by decide +kernel
theorem ix6 : ∀ t : Fin cfg0.N, cc0_transform_6 (grid0.coords t) = ![t.val, 0] := by decide +kernel
theorem ix7 : ∀ t : Fin cfg0.N, cc0_transform_7 (grid0.coords t) = ![t.val, 0] := by decide +kernel

include hP in
theorem blk0 (t : Fin cfg0.N) : (iblk m c 0 t : Vec Ideal S8x128x1024 .bf16) = E3 (φ := .bf16) fun s a b => P s (128 * t.val + a) b := by
  funext y
  refine (hP (((cfg0.win 0).rect t).emb y)).trans ?_
  rw [(cfg0.win 0).rect_emb_val t y (0 : Fin 3), (cfg0.win 0).rect_emb_val t y (1 : Fin 3), (cfg0.win 0).rect_emb_val t y (2 : Fin 3)]
  have i0 : (cfg0.win 0).index t (0 : Fin 3) = 0 := congrFun (ix0 t) 0
  have i1 : (cfg0.win 0).index t (1 : Fin 3) = t.val := congrFun (ix0 t) 1
  have i2 : (cfg0.win 0).index t (2 : Fin 3) = 0 := congrFun (ix0 t) 2
  rw [i0, i1, i2]
  show P (0 * 8 + (y 0).val) (t.val * 128 + (y 1).val) (0 * 1024 + (y 2).val) = P (y 0).val (128 * t.val + (y 1).val) (y 2).val
  simp only [Nat.mul_comm t.val, Nat.zero_mul, Nat.zero_add]

include hW in
theorem blk1 (t : Fin cfg0.N) : (iblk m c 1 t : Vec Ideal S128x1024 .f32) = E2 (φ := .f32) fun a b => W (128 * t.val + a) b := by
  funext y
  refine (hW (((cfg0.win 1).rect t).emb y)).trans ?_
  rw [(cfg0.win 1).rect_emb_val t y (0 : Fin 2), (cfg0.win 1).rect_emb_val t y (1 : Fin 2)]
  have i0 : (cfg0.win 1).index t (0 : Fin 2) = t.val := congrFun (ix1 t) 0
  have i1 : (cfg0.win 1).index t (1 : Fin 2) = 0 := congrFun (ix1 t) 1
  rw [i0, i1]
  show W (t.val * 128 + (y 0).val) (0 * 1024 + (y 1).val) = W (128 * t.val + (y 0).val) (y 1).val
  rw [Nat.mul_comm, Nat.zero_mul, Nat.zero_add]

include hM in
theorem blk2 (t : Fin cfg0.N) : (iblk m c 2 t : Vec Ideal S128x1024 .f32) = E2 (φ := .f32) fun a b => M (128 * t.val + a) b := by
  funext y
  refine (hM (((cfg0.win 2).rect t).emb y)).trans ?_
  rw [(cfg0.win 2).rect_emb_val t y (0 : Fin 2), (cfg0.win 2).rect_emb_val t y (1 : Fin 2)]
  have i0 : (cfg0.win 2).index t (0 : Fin 2) = t.val := congrFun (ix2 t) 0
  have i1 : (cfg0.win 2).index t (1 : Fin 2) = 0 := congrFun (ix2 t) 1
  rw [i0, i1]
  show M (t.val * 128 + (y 0).val) (0 * 1024 + (y 1).val) = M (128 * t.val + (y 0).val) (y 1).val
  rw [Nat.mul_comm, Nat.zero_mul, Nat.zero_add]

include hS in
theorem blk3 (t : Fin cfg0.N) : (iblk m c 3 t : Vec Ideal S128x1024 .f32) = E2 (φ := .f32) fun a b => S (128 * t.val + a) b := by
  funext y
  refine (hS (((cfg0.win 3).rect t).emb y)).trans ?_
  rw [(cfg0.win 3).rect_emb_val t y (0 : Fin 2), (cfg0.win 3).rect_emb_val t y (1 : Fin 2)]
  have i0 : (cfg0.win 3).index t (0 : Fin 2) = t.val := congrFun (ix3 t) 0
  have i1 : (cfg0.win 3).index t (1 : Fin 2) = 0 := congrFun (ix3 t) 1
  rw [i0, i1]
  show S (t.val * 128 + (y 0).val) (0 * 1024 + (y 1).val) = S (128 * t.val + (y 0).val) (y 1).val
  rw [Nat.mul_comm, Nat.zero_mul, Nat.zero_add]

/-- Where a point's block lies in the result. -/
theorem emb4 (t : Fin cfg0.N) (y : S128x1024.Idx) :
    (((cfg0.win 4).rect t).emb y (0 : Fin 2)).val = 128 * t.val + (y 0).val ∧ (((cfg0.win 4).rect t).emb y (1 : Fin 2)).val = (y 1).val := by
  rw [(cfg0.win 4).rect_emb_val t y (0 : Fin 2), (cfg0.win 4).rect_emb_val t y (1 : Fin 2)]
  have i0 : (cfg0.win 4).index t (0 : Fin 2) = t.val := congrFun (ix4 t) 0
  have i1 : (cfg0.win 4).index t (1 : Fin 2) = 0 := congrFun (ix4 t) 1
  rw [i0, i1]
  show t.val * 128 + (y 0).val = _ ∧ 0 * 1024 + (y 1).val = _
  rw [Nat.mul_comm, Nat.zero_mul, Nat.zero_add]
  exact ⟨rfl, rfl⟩

/-- Where a point's block lies in the result. -/
theorem emb5 (t : Fin cfg0.N) (y : S128x1024.Idx) :
    (((cfg0.win 5).rect t).emb y (0 : Fin 2)).val = 128 * t.val + (y 0).val ∧ (((cfg0.win 5).rect t).emb y (1 : Fin 2)).val = (y 1).val := by
  rw [(cfg0.win 5).rect_emb_val t y (0 : Fin 2), (cfg0.win 5).rect_emb_val t y (1 : Fin 2)]
  have i0 : (cfg0.win 5).index t (0 : Fin 2) = t.val := congrFun (ix5 t) 0
  have i1 : (cfg0.win 5).index t (1 : Fin 2) = 0 := congrFun (ix5 t) 1
  rw [i0, i1]
  show t.val * 128 + (y 0).val = _ ∧ 0 * 1024 + (y 1).val = _
  rw [Nat.mul_comm, Nat.zero_mul, Nat.zero_add]
  exact ⟨rfl, rfl⟩

/-- Where a point's block lies in the result. -/
theorem emb6 (t : Fin cfg0.N) (y : S128x1024.Idx) :
    (((cfg0.win 6).rect t).emb y (0 : Fin 2)).val = 128 * t.val + (y 0).val ∧ (((cfg0.win 6).rect t).emb y (1 : Fin 2)).val = (y 1).val := by
  rw [(cfg0.win 6).rect_emb_val t y (0 : Fin 2), (cfg0.win 6).rect_emb_val t y (1 : Fin 2)]
  have i0 : (cfg0.win 6).index t (0 : Fin 2) = t.val := congrFun (ix6 t) 0
  have i1 : (cfg0.win 6).index t (1 : Fin 2) = 0 := congrFun (ix6 t) 1
  rw [i0, i1]
  show t.val * 128 + (y 0).val = _ ∧ 0 * 1024 + (y 1).val = _
  rw [Nat.mul_comm, Nat.zero_mul, Nat.zero_add]
  exact ⟨rfl, rfl⟩

/-- Where a point's block lies in the result. -/
theorem emb7 (t : Fin cfg0.N) (y : S128x1024.Idx) :
    (((cfg0.win 7).rect t).emb y (0 : Fin 2)).val = 128 * t.val + (y 0).val ∧ (((cfg0.win 7).rect t).emb y (1 : Fin 2)).val = (y 1).val := by
  rw [(cfg0.win 7).rect_emb_val t y (0 : Fin 2), (cfg0.win 7).rect_emb_val t y (1 : Fin 2)]
  have i0 : (cfg0.win 7).index t (0 : Fin 2) = t.val := congrFun (ix7 t) 0
  have i1 : (cfg0.win 7).index t (1 : Fin 2) = 0 := congrFun (ix7 t) 1
  rw [i0, i1]
  show t.val * 128 + (y 0).val = _ ∧ 0 * 1024 + (y 1).val = _
  rw [Nat.mul_comm, Nat.zero_mul, Nat.zero_add]
  exact ⟨rfl, rfl⟩

include hP hW hM hS

/-- The block of the gradient at a grid point. -/
theorem sum_block (t : Fin cfg0.N) : k0_pay5 (F := Ideal) (iblk m c 0 t) (iblk m c 1 t) (iblk m c 2 t) (iblk m c 3 t)
    = E2 (n := 128) (m := 1024) (φ := .f32) fun a b => gradE P (128 * t.val + a) b := by
  rw [blk0 m c P hP]
  exact grad_block (fun s a b => P s (128 * t.val + a) b) _ _ _

/-- What a grid point writes of the gradient. -/
theorem written4 (t : Fin cfg0.N) : out0_4 (F := Ideal) (iblk m c 0 t) (iblk m c 1 t) (iblk m c 2 t) (iblk m c 3 t)
    = E2 (n := 128) (m := 1024) (φ := .f32) fun a b => gradE P (128 * t.val + a) b := by
  unfold out0_4
  rw [View.canon_unit_zero off2]
  rw [sum_block m c P W M S hP hW hM hS]

/-- The array of the gradient after the run. -/
theorem result4 : ((dats m 0 c).arrAt 4 cfg0.N : S128x1024.Idx → EReal) = E2 (n := 128) (m := 1024) (φ := .f32) fun a b => gradE P a b := by
  refine (dats m 0 c).arrAt_eq_of_cover 4 (E2 (n := 128) (m := 1024) (φ := .f32) fun a b => gradE P a b) ?_ ?_
  · intro t _
    rw [flushed4, written4 m c P W M S hP hW hM hS]
    funext y
    obtain ⟨e0, e1⟩ := emb4 t y
    show gradE P (128 * t.val + (y 0).val) (y 1).val
      = gradE P (((cfg0.win 4).rect t).emb y (0 : Fin 2)).val (((cfg0.win 4).rect t).emb y (1 : Fin 2)).val
    rw [e0, e1]
  · exact (show (cfg0.win 4).Covers by decide +kernel).cover _ (Memref.isWhole_whole _)

/-- What a grid point writes of the change of the weights. -/
theorem written5 (t : Fin cfg0.N) : out0_5 (F := Ideal) (iblk m c 0 t) (iblk m c 1 t) (iblk m c 2 t) (iblk m c 3 t)
    = E2 (n := 128) (m := 1024) (φ := .f32) fun a b => deltaS (gradE P (128 * t.val + a) b) (W (128 * t.val + a) b) (M (128 * t.val + a) b) (S (128 * t.val + a) b) := by
  unfold out0_5
  rw [View.canon_unit_zero off2]
  rw [sum_block m c P W M S hP hW hM hS, blk1 m c W hW, blk2 m c M hM, blk3 m c S hS]
  simp only [View.ld_unit_zero (S := S128x1024) off2]
  rw [delta_block]

/-- The array of the change of the weights after the run. -/
theorem result5 : ((dats m 0 c).arrAt 5 cfg0.N : S128x1024.Idx → EReal) = E2 (n := 128) (m := 1024) (φ := .f32) fun a b => deltaS (gradE P a b) (W a b) (M a b) (S a b) := by
  refine (dats m 0 c).arrAt_eq_of_cover 5 (E2 (n := 128) (m := 1024) (φ := .f32) fun a b => deltaS (gradE P a b) (W a b) (M a b) (S a b)) ?_ ?_
  · intro t _
    rw [flushed5, written5 m c P W M S hP hW hM hS]
    funext y
    obtain ⟨e0, e1⟩ := emb5 t y
    show deltaS (gradE P (128 * t.val + (y 0).val) (y 1).val) (W (128 * t.val + (y 0).val) (y 1).val) (M (128 * t.val + (y 0).val) (y 1).val) (S (128 * t.val + (y 0).val) (y 1).val)
      = deltaS (gradE P (((cfg0.win 5).rect t).emb y (0 : Fin 2)).val (((cfg0.win 5).rect t).emb y (1 : Fin 2)).val) (W (((cfg0.win 5).rect t).emb y (0 : Fin 2)).val (((cfg0.win 5).rect t).emb y (1 : Fin 2)).val) (M (((cfg0.win 5).rect t).emb y (0 : Fin 2)).val (((cfg0.win 5).rect t).emb y (1 : Fin 2)).val) (S (((cfg0.win 5).rect t).emb y (0 : Fin 2)).val (((cfg0.win 5).rect t).emb y (1 : Fin 2)).val)
    rw [e0, e1]
  · exact (show (cfg0.win 5).Covers by decide +kernel).cover _ (Memref.isWhole_whole _)

/-- What a grid point writes of the first moment. -/
theorem written6 (t : Fin cfg0.N) : out0_6 (F := Ideal) (iblk m c 0 t) (iblk m c 1 t) (iblk m c 2 t) (iblk m c 3 t)
    = E2 (n := 128) (m := 1024) (φ := .f32) fun a b => momS (gradE P (128 * t.val + a) b) (M (128 * t.val + a) b) := by
  unfold out0_6
  rw [View.canon_unit_zero off2]
  rw [sum_block m c P W M S hP hW hM hS, blk2 m c M hM]
  simp only [View.ld_unit_zero (S := S128x1024) off2]
  rw [mom_block]

/-- The array of the first moment after the run. -/
theorem result6 : ((dats m 0 c).arrAt 6 cfg0.N : S128x1024.Idx → EReal) = E2 (n := 128) (m := 1024) (φ := .f32) fun a b => momS (gradE P a b) (M a b) := by
  refine (dats m 0 c).arrAt_eq_of_cover 6 (E2 (n := 128) (m := 1024) (φ := .f32) fun a b => momS (gradE P a b) (M a b)) ?_ ?_
  · intro t _
    rw [flushed6, written6 m c P W M S hP hW hM hS]
    funext y
    obtain ⟨e0, e1⟩ := emb6 t y
    show momS (gradE P (128 * t.val + (y 0).val) (y 1).val) (M (128 * t.val + (y 0).val) (y 1).val)
      = momS (gradE P (((cfg0.win 6).rect t).emb y (0 : Fin 2)).val (((cfg0.win 6).rect t).emb y (1 : Fin 2)).val) (M (((cfg0.win 6).rect t).emb y (0 : Fin 2)).val (((cfg0.win 6).rect t).emb y (1 : Fin 2)).val)
    rw [e0, e1]
  · exact (show (cfg0.win 6).Covers by decide +kernel).cover _ (Memref.isWhole_whole _)

/-- What a grid point writes of the second moment. -/
theorem written7 (t : Fin cfg0.N) : out0_7 (F := Ideal) (iblk m c 0 t) (iblk m c 1 t) (iblk m c 2 t) (iblk m c 3 t)
    = E2 (n := 128) (m := 1024) (φ := .f32) fun a b => sqS (gradE P (128 * t.val + a) b) (S (128 * t.val + a) b) := by
  unfold out0_7
  rw [View.canon_unit_zero off2]
  rw [sum_block m c P W M S hP hW hM hS, blk3 m c S hS]
  simp only [View.ld_unit_zero (S := S128x1024) off2]
  rw [sq_block]

/-- The array of the second moment after the run. -/
theorem result7 : ((dats m 0 c).arrAt 7 cfg0.N : S128x1024.Idx → EReal) = E2 (n := 128) (m := 1024) (φ := .f32) fun a b => sqS (gradE P a b) (S a b) := by
  refine (dats m 0 c).arrAt_eq_of_cover 7 (E2 (n := 128) (m := 1024) (φ := .f32) fun a b => sqS (gradE P a b) (S a b)) ?_ ?_
  · intro t _
    rw [flushed7, written7 m c P W M S hP hW hM hS]
    funext y
    obtain ⟨e0, e1⟩ := emb7 t y
    show sqS (gradE P (128 * t.val + (y 0).val) (y 1).val) (S (128 * t.val + (y 0).val) (y 1).val)
      = sqS (gradE P (((cfg0.win 7).rect t).emb y (0 : Fin 2)).val (((cfg0.win 7).rect t).emb y (1 : Fin 2)).val) (S (((cfg0.win 7).rect t).emb y (0 : Fin 2)).val (((cfg0.win 7).rect t).emb y (1 : Fin 2)).val)
    rw [e0, e1]
  · exact (show (cfg0.win 7).Covers by decide +kernel).cover _ (Memref.isWhole_whole _)

end run

/-! ## The reference -/

section ref
open Cert.Reference13Ideal.Read
variable (x : (⟨S8x128x1024, .bf16⟩ : BufTy).Contents (Elt Ideal)) (w mo sq : (⟨S128x1024, .f32⟩ : BufTy).Contents (Elt Ideal))
  (P : ℕ → ℕ → ℕ → EReal) (W M S : ℕ → ℕ → EReal)
  (hP : ∀ i : S8x128x1024.Idx, x i = P (i 0).val (i 1).val (i 2).val)
  (hW : ∀ i : S128x1024.Idx, w i = W (i 0).val (i 1).val)
  (hM : ∀ i : S128x1024.Idx, mo i = M (i 0).val (i 1).val) (hS : ∀ i : S128x1024.Idx, sq i = S (i 0).val (i 1).val)
include hP

/-- The sum of the shares at an index. -/
theorem ref_grad (i : S128x1024.Idx) : val_main_v1 (F := Ideal) x i = gradE P (i 0).val (i 1).val := by
  rw [val_main_v1_apply, val_main_cst_apply]
  show Ideal.ofBits .f32 0x00000000#32 + _ = _
  rw [Ideal.ofBits_zero_f32, zero_add]
  exact Finset.sum_congr rfl fun s _ => hP (idx_main_v1 i s)

include hM in
/-- The first moment at an index. -/
theorem ref_mom (i : S128x1024.Idx) : val_main_v6 (F := Ideal) x mo i = momS (gradE P (i 0).val (i 1).val) (M (i 0).val (i 1).val) := by
  rw [val_main_v6_apply, val_main_v3_apply, val_main_v5_apply, val_main_v2_apply, val_main_v4_apply, val_main_cst_0_apply, val_main_cst_1_apply,
    ref_grad x P hP, hM]
  rfl

include hS in
/-- The second moment at an index. -/
theorem ref_sq (i : S128x1024.Idx) : val_main_v12 (F := Ideal) x sq i = sqS (gradE P (i 0).val (i 1).val) (S (i 0).val (i 1).val) := by
  rw [val_main_v12_apply, val_main_v8_apply, val_main_v11_apply, val_main_v9_apply, val_main_v7_apply, val_main_v10_apply, val_main_cst_2_apply,
    val_main_cst_3_apply, ref_grad x P hP, hS]
  rfl

include hW hM hS in
/-- The change of the weights at an index. -/
theorem ref_delta (i : S128x1024.Idx) : val_main_v25 (F := Ideal) x w mo sq i
    = deltaS (gradE P (i 0).val (i 1).val) (W (i 0).val (i 1).val) (M (i 0).val (i 1).val) (S (i 0).val (i 1).val) := by
  rw [val_main_v25_apply, val_main_v24_apply, val_main_cst_8_apply, val_main_v23_apply, val_main_v22_apply, val_main_v21_apply, val_main_cst_7_apply,
    val_main_v20_apply, val_main_v19_apply, val_main_v18_apply, val_main_cst_6_apply, val_main_v17_apply, val_main_v16_apply, val_main_v15_apply,
    val_main_cst_5_apply, val_main_v14_apply, val_main_v13_apply, val_main_cst_4_apply, ref_mom x mo P M hP hM, ref_sq x sq P S hP hS, hW]
  rfl

end ref

/-! ## The claim -/

/-- The kernel's results are the reference's. -/
theorem algebraic : Cert.algebraic_Kernel13Ideal_Reference13Ideal := by
  intro m ρ m' ρ' _ hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, (θ_run _ _ _).mono (fun r h c => ?_) (Cert.Reference13Ideal.Value.run m' ρ')⟩
  obtain ⟨h0, h1, h2, h3, kept⟩ := h c
  obtain ⟨e0, e1, e2, e3⟩ := hargs c
  obtain ⟨P, hP⟩ := entries3 (d := ![8, 128, 1024]) (m ((c.tc : Thread nD τ).loc main_arg0))
  obtain ⟨W, hW⟩ := entries (d := ![128, 1024]) (m ((c.tc : Thread nD τ).loc main_arg1))
  obtain ⟨M, hM⟩ := entries (d := ![128, 1024]) (m ((c.tc : Thread nD τ).loc main_arg2))
  obtain ⟨S, hS⟩ := entries (d := ![128, 1024]) (m ((c.tc : Thread nD τ).loc main_arg3))
  have kP := fun i => (congrFun (V_main_arg0 m c) i).trans (hP i)
  have kW := fun i => (congrFun (V_main_arg1 m c) i).trans (hW i)
  have kM := fun i => (congrFun (V_main_arg2 m c) i).trans (hM i)
  have kS := fun i => (congrFun (V_main_arg3 m c) i).trans (hS i)
  refine ⟨h0.trans ((Cert.Reference13Ideal.Read.val_main_v1_eq _).trans (Eq.trans ?_ (result4 m c P W M S kP kW kM kS).symm)),
    h1.trans ((Cert.Reference13Ideal.Read.val_main_v25_eq _ _ _ _).trans (Eq.trans ?_ (result5 m c P W M S kP kW kM kS).symm)),
    h2.trans ((Cert.Reference13Ideal.Read.val_main_v6_eq _ _).trans (Eq.trans ?_ (result6 m c P W M S kP kW kM kS).symm)),
    h3.trans ((Cert.Reference13Ideal.Read.val_main_v12_eq _ _).trans (Eq.trans ?_ (result7 m c P W M S kP kW kM kS).symm)), kept⟩
  · rw [e0]; exact funext fun i => ref_grad _ P hP i
  · rw [e0, e1, e2, e3]; exact funext fun i => ref_delta _ _ _ _ P W M S hP hW hM hS i
  · rw [e0, e2]; exact funext fun i => ref_mom _ _ P M hP hM i
  · rw [e0, e3]; exact funext fun i => ref_sq _ _ P S hP hS i

/-- The reference's frame: its run read at the arguments; it declares no semaphore. -/
theorem reference_frame : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

end Cert.Proof.AdamOut
-- ==== Proof.AdamDown.lean ====
module

public import Idealize.ShloMosaic.Lib.Pipeline.ValueKit
public import proofs.«01_k».proof.Defs
public import proofs.«01_k».proof.Proof.AdamW
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Reference14Ideal.Run

/-!
The optimiser's call for w_down: the sum of the devices' shares of the gradient, the change of the weights, and the two new moments.
-/

@[expose] public section
noncomputable section
namespace Cert.Proof.AdamDown
open Idealize.ShloMosaic Idealize.ShloMosaic.TcCoe Idealize.SL.Sem Idealize.ShloMosaic.Pipeline Cert.Kernel14Ideal Cert.Kernel14Ideal.Gen Cert.Kernel14Ideal.Value
open Cert.Proof.AdamW

/-- The named factors are the reciprocals that the reference divides by. -/
theorem c1_eq : Named.named (F := Ideal) Cert.Kernel14Ideal.κ "c1" (φ := .f32) 0x3FC48605#32 = ((8388608 / 5463681 : ℝ) : EReal) :=
  IdealRules.named_const.ideal_named_scalar _ _ _ _ rfl
theorem c2_eq : Named.named (F := Ideal) Cert.Kernel14Ideal.κ "c2" (φ := .f32) 0x42C8E6D3#32 = ((268435456 / 2672307 : ℝ) : EReal) :=
  IdealRules.named_const.ideal_named_scalar _ _ _ _ rfl

/-- The idealization names those two numbers and changes nothing else. -/
theorem preserves : Cert.preserves_Kernel14_Kernel14Ideal :=
  ⟨IdealRules.named_const.statement Cert.Kernel14Ideal.κ "c1" .f32 0x3FC48605#32 _ rfl,
    IdealRules.named_const.statement Cert.Kernel14Ideal.κ "c2" .f32 0x42C8E6D3#32 _ rfl⟩

/-! ## One block -/

section block
variable (P : ℕ → ℕ → ℕ → EReal) (W M S : ℕ → ℕ → EReal)

theorem grad_block (x1 x2 x3 : Vec Ideal S256x1024 .f32) :
    k0_pay5 (F := Ideal) (E3 (n := 8) (m := 256) (l := 1024) (φ := .bf16) P) x1 x2 x3 = E2 (n := 256) (m := 1024) (φ := .f32) (gradE P) := by
  funext j
  unfold k0_pay5 k0_pay4
  unfold E3
  simp only [share (e := .bf16) P]
  pointwise
  exact gradE_eq P (j 0).val (j 1).val

theorem mom_block (G : ℕ → ℕ → EReal) : k0_pay1 (F := Ideal) (E2 (n := 256) (m := 1024) (φ := .f32) G) (E2 (n := 256) (m := 1024) (φ := .f32) M)
    (Scalar.ofBits .f32 0x3F666666#32) = E2 (n := 256) (m := 1024) (φ := .f32) fun a b => momS (G a b) (M a b) := by
  funext j; unfold k0_pay1; pointwise; rfl

theorem sq_block (G : ℕ → ℕ → EReal) : k0_pay2 (F := Ideal) (E2 (n := 256) (m := 1024) (φ := .f32) G) (E2 (n := 256) (m := 1024) (φ := .f32) S)
    = E2 (n := 256) (m := 1024) (φ := .f32) fun a b => sqS (G a b) (S a b) := by
  funext j; unfold k0_pay2; pointwise; rfl

theorem delta_block (G : ℕ → ℕ → EReal) : k0_pay3 (F := Ideal) (E2 (n := 256) (m := 1024) (φ := .f32) G) (E2 (n := 256) (m := 1024) (φ := .f32) M)
    (Scalar.ofBits .f32 0x3F666666#32) (E2 (n := 256) (m := 1024) (φ := .f32) S) (E2 (n := 256) (m := 1024) (φ := .f32) W)
    = E2 (n := 256) (m := 1024) (φ := .f32) fun a b => deltaS (G a b) (W a b) (M a b) (S a b) := by
  funext j; unfold k0_pay3; rw [mom_block, sq_block, c1_eq, c2_eq]; pointwise
  simp only [E2_apply, deltaS, div_unit1, div_unit2]
  rfl

end block

/-! ## The run -/

section run
variable (m : (ℓ : Loc nD τ sig) → Buf (Elt Ideal) ℓ) (c : Dev nD) (P : ℕ → ℕ → ℕ → EReal) (W M S : ℕ → ℕ → EReal)
  (hP : ∀ i : S8x512x1024.Idx, V m c main_arg0 i = P (i 0).val (i 1).val (i 2).val)
  (hW : ∀ i : S512x1024.Idx, V m c main_arg1 i = W (i 0).val (i 1).val)
  (hM : ∀ i : S512x1024.Idx, V m c main_arg2 i = M (i 0).val (i 1).val)
  (hS : ∀ i : S512x1024.Idx, V m c main_arg3 i = S (i 0).val (i 1).val)

theorem ix0 : ∀ t : Fin cfg0.N, cc0_transform_0 (grid0.coords t) = ![0, t.val, 0] := by decide +kernel
theorem ix1 : ∀ t : Fin cfg0.N, cc0_transform_1 (grid0.coords t) = ![t.val, 0] := by decide +kernel
theorem ix2 : ∀ t : Fin cfg0.N, cc0_transform_2 (grid0.coords t) = ![t.val, 0] := by decide +kernel
theorem ix3 : ∀ t : Fin cfg0.N, cc0_transform_3 (grid0.coords t) = ![t.val, 0] := by decide +kernel
theorem ix4 : ∀ t : Fin cfg0.N, cc0_transform_4 (grid0.coords t) = ![t.val, 0] := by decide +kernel
theorem ix5 : ∀ t : Fin cfg0.N, cc0_transform_5 (grid0.coords t) = ![t.val, 0] := by decide +kernel
theorem ix6 : ∀ t : Fin cfg0.N, cc0_transform_6 (grid0.coords t) = ![t.val, 0] := by decide +kernel
theorem ix7 : ∀ t : Fin cfg0.N, cc0_transform_7 (grid0.coords t) = ![t.val, 0] := by decide +kernel

include hP in
theorem blk0 (t : Fin cfg0.N) : (iblk m c 0 t : Vec Ideal S8x256x1024 .bf16) = E3 (φ := .bf16) fun s a b => P s (256 * t.val + a) b := by
  funext y
  refine (hP (((cfg0.win 0).rect t).emb y)).trans ?_
  rw [(cfg0.win 0).rect_emb_val t y (0 : Fin 3), (cfg0.win 0).rect_emb_val t y (1 : Fin 3), (cfg0.win 0).rect_emb_val t y (2 : Fin 3)]
  have i0 : (cfg0.win 0).index t (0 : Fin 3) = 0 := congrFun (ix0 t) 0
  have i1 : (cfg0.win 0).index t (1 : Fin 3) = t.val := congrFun (ix0 t) 1
  have i2 : (cfg0.win 0).index t (2 : Fin 3) = 0 := congrFun (ix0 t) 2
  rw [i0, i1, i2]
  show P (0 * 8 + (y 0).val) (t.val * 256 + (y 1).val) (0 * 1024 + (y 2).val) = P (y 0).val (256 * t.val + (y 1).val) (y 2).val
  simp only [Nat.mul_comm t.val, Nat.zero_mul, Nat.zero_add]

include hW in
theorem blk1 (t : Fin cfg0.N) : (iblk m c 1 t : Vec Ideal S256x1024 .f32) = E2 (φ := .f32) fun a b => W (256 * t.val + a) b := by
  funext y
  refine (hW (((cfg0.win 1).rect t).emb y)).trans ?_
  rw [(cfg0.win 1).rect_emb_val t y (0 : Fin 2), (cfg0.win 1).rect_emb_val t y (1 : Fin 2)]
  have i0 : (cfg0.win 1).index t (0 : Fin 2) = t.val := congrFun (ix1 t) 0
  have i1 : (cfg0.win 1).index t (1 : Fin 2) = 0 := congrFun (ix1 t) 1
  rw [i0, i1]
  show W (t.val * 256 + (y 0).val) (0 * 1024 + (y 1).val) = W (256 * t.val + (y 0).val) (y 1).val
  rw [Nat.mul_comm, Nat.zero_mul, Nat.zero_add]

include hM in
theorem blk2 (t : Fin cfg0.N) : (iblk m c 2 t : Vec Ideal S256x1024 .f32) = E2 (φ := .f32) fun a b => M (256 * t.val + a) b := by
  funext y
  refine (hM (((cfg0.win 2).rect t).emb y)).trans ?_
  rw [(cfg0.win 2).rect_emb_val t y (0 : Fin 2), (cfg0.win 2).rect_emb_val t y (1 : Fin 2)]
  have i0 : (cfg0.win 2).index t (0 : Fin 2) = t.val := congrFun (ix2 t) 0
  have i1 : (cfg0.win 2).index t (1 : Fin 2) = 0 := congrFun (ix2 t) 1
  rw [i0, i1]
  show M (t.val * 256 + (y 0).val) (0 * 1024 + (y 1).val) = M (256 * t.val + (y 0).val) (y 1).val
  rw [Nat.mul_comm, Nat.zero_mul, Nat.zero_add]

include hS in
theorem blk3 (t : Fin cfg0.N) : (iblk m c 3 t : Vec Ideal S256x1024 .f32) = E2 (φ := .f32) fun a b => S (256 * t.val + a) b := by
  funext y
  refine (hS (((cfg0.win 3).rect t).emb y)).trans ?_
  rw [(cfg0.win 3).rect_emb_val t y (0 : Fin 2), (cfg0.win 3).rect_emb_val t y (1 : Fin 2)]
  have i0 : (cfg0.win 3).index t (0 : Fin 2) = t.val := congrFun (ix3 t) 0
  have i1 : (cfg0.win 3).index t (1 : Fin 2) = 0 := congrFun (ix3 t) 1
  rw [i0, i1]
  show S (t.val * 256 + (y 0).val) (0 * 1024 + (y 1).val) = S (256 * t.val + (y 0).val) (y 1).val
  rw [Nat.mul_comm, Nat.zero_mul, Nat.zero_add]

/-- Where a point's block lies in the result. -/
theorem emb4 (t : Fin cfg0.N) (y : S256x1024.Idx) :
    (((cfg0.win 4).rect t).emb y (0 : Fin 2)).val = 256 * t.val + (y 0).val ∧ (((cfg0.win 4).rect t).emb y (1 : Fin 2)).val = (y 1).val := by
  rw [(cfg0.win 4).rect_emb_val t y (0 : Fin 2), (cfg0.win 4).rect_emb_val t y (1 : Fin 2)]
  have i0 : (cfg0.win 4).index t (0 : Fin 2) = t.val := congrFun (ix4 t) 0
  have i1 : (cfg0.win 4).index t (1 : Fin 2) = 0 := congrFun (ix4 t) 1
  rw [i0, i1]
  show t.val * 256 + (y 0).val = _ ∧ 0 * 1024 + (y 1).val = _
  rw [Nat.mul_comm, Nat.zero_mul, Nat.zero_add]
  exact ⟨rfl, rfl⟩

/-- Where a point's block lies in the result. -/
theorem emb5 (t : Fin cfg0.N) (y : S256x1024.Idx) :
    (((cfg0.win 5).rect t).emb y (0 : Fin 2)).val = 256 * t.val + (y 0).val ∧ (((cfg0.win 5).rect t).emb y (1 : Fin 2)).val = (y 1).val := by
  rw [(cfg0.win 5).rect_emb_val t y (0 : Fin 2), (cfg0.win 5).rect_emb_val t y (1 : Fin 2)]
  have i0 : (cfg0.win 5).index t (0 : Fin 2) = t.val := congrFun (ix5 t) 0
  have i1 : (cfg0.win 5).index t (1 : Fin 2) = 0 := congrFun (ix5 t) 1
  rw [i0, i1]
  show t.val * 256 + (y 0).val = _ ∧ 0 * 1024 + (y 1).val = _
  rw [Nat.mul_comm, Nat.zero_mul, Nat.zero_add]
  exact ⟨rfl, rfl⟩

/-- Where a point's block lies in the result. -/
theorem emb6 (t : Fin cfg0.N) (y : S256x1024.Idx) :
    (((cfg0.win 6).rect t).emb y (0 : Fin 2)).val = 256 * t.val + (y 0).val ∧ (((cfg0.win 6).rect t).emb y (1 : Fin 2)).val = (y 1).val := by
  rw [(cfg0.win 6).rect_emb_val t y (0 : Fin 2), (cfg0.win 6).rect_emb_val t y (1 : Fin 2)]
  have i0 : (cfg0.win 6).index t (0 : Fin 2) = t.val := congrFun (ix6 t) 0
  have i1 : (cfg0.win 6).index t (1 : Fin 2) = 0 := congrFun (ix6 t) 1
  rw [i0, i1]
  show t.val * 256 + (y 0).val = _ ∧ 0 * 1024 + (y 1).val = _
  rw [Nat.mul_comm, Nat.zero_mul, Nat.zero_add]
  exact ⟨rfl, rfl⟩

/-- Where a point's block lies in the result. -/
theorem emb7 (t : Fin cfg0.N) (y : S256x1024.Idx) :
    (((cfg0.win 7).rect t).emb y (0 : Fin 2)).val = 256 * t.val + (y 0).val ∧ (((cfg0.win 7).rect t).emb y (1 : Fin 2)).val = (y 1).val := by
  rw [(cfg0.win 7).rect_emb_val t y (0 : Fin 2), (cfg0.win 7).rect_emb_val t y (1 : Fin 2)]
  have i0 : (cfg0.win 7).index t (0 : Fin 2) = t.val := congrFun (ix7 t) 0
  have i1 : (cfg0.win 7).index t (1 : Fin 2) = 0 := congrFun (ix7 t) 1
  rw [i0, i1]
  show t.val * 256 + (y 0).val = _ ∧ 0 * 1024 + (y 1).val = _
  rw [Nat.mul_comm, Nat.zero_mul, Nat.zero_add]
  exact ⟨rfl, rfl⟩

include hP hW hM hS

/-- The block of the gradient at a grid point. -/
theorem sum_block (t : Fin cfg0.N) : k0_pay5 (F := Ideal) (iblk m c 0 t) (iblk m c 1 t) (iblk m c 2 t) (iblk m c 3 t)
    = E2 (n := 256) (m := 1024) (φ := .f32) fun a b => gradE P (256 * t.val + a) b := by
  rw [blk0 m c P hP]
  exact grad_block (fun s a b => P s (256 * t.val + a) b) _ _ _

/-- What a grid point writes of the gradient. -/
theorem written4 (t : Fin cfg0.N) : out0_4 (F := Ideal) (iblk m c 0 t) (iblk m c 1 t) (iblk m c 2 t) (iblk m c 3 t)
    = E2 (n := 256) (m := 1024) (φ := .f32) fun a b => gradE P (256 * t.val + a) b := by
  unfold out0_4
  rw [View.canon_unit_zero off2]
  rw [sum_block m c P W M S hP hW hM hS]

/-- The array of the gradient after the run. -/
theorem result4 : ((dats m 0 c).arrAt 4 cfg0.N : S512x1024.Idx → EReal) = E2 (n := 512) (m := 1024) (φ := .f32) fun a b => gradE P a b := by
  refine (dats m 0 c).arrAt_eq_of_cover 4 (E2 (n := 512) (m := 1024) (φ := .f32) fun a b => gradE P a b) ?_ ?_
  · intro t _
    rw [flushed4, written4 m c P W M S hP hW hM hS]
    funext y
    obtain ⟨e0, e1⟩ := emb4 t y
    show gradE P (256 * t.val + (y 0).val) (y 1).val
      = gradE P (((cfg0.win 4).rect t).emb y (0 : Fin 2)).val (((cfg0.win 4).rect t).emb y (1 : Fin 2)).val
    rw [e0, e1]
  · exact (show (cfg0.win 4).Covers by decide +kernel).cover _ (Memref.isWhole_whole _)

/-- What a grid point writes of the change of the weights. -/
theorem written5 (t : Fin cfg0.N) : out0_5 (F := Ideal) (iblk m c 0 t) (iblk m c 1 t) (iblk m c 2 t) (iblk m c 3 t)
    = E2 (n := 256) (m := 1024) (φ := .f32) fun a b => deltaS (gradE P (256 * t.val + a) b) (W (256 * t.val + a) b) (M (256 * t.val + a) b) (S (256 * t.val + a) b) := by
  unfold out0_5
  rw [View.canon_unit_zero off2]
  rw [sum_block m c P W M S hP hW hM hS, blk1 m c W hW, blk2 m c M hM, blk3 m c S hS]
  simp only [View.ld_unit_zero (S := S256x1024) off2]
  rw [delta_block]

/-- The array of the change of the weights after the run. -/
theorem result5 : ((dats m 0 c).arrAt 5 cfg0.N : S512x1024.Idx → EReal) = E2 (n := 512) (m := 1024) (φ := .f32) fun a b => deltaS (gradE P a b) (W a b) (M a b) (S a b) := by
  refine (dats m 0 c).arrAt_eq_of_cover 5 (E2 (n := 512) (m := 1024) (φ := .f32) fun a b => deltaS (gradE P a b) (W a b) (M a b) (S a b)) ?_ ?_
  · intro t _
    rw [flushed5, written5 m c P W M S hP hW hM hS]
    funext y
    obtain ⟨e0, e1⟩ := emb5 t y
    show deltaS (gradE P (256 * t.val + (y 0).val) (y 1).val) (W (256 * t.val + (y 0).val) (y 1).val) (M (256 * t.val + (y 0).val) (y 1).val) (S (256 * t.val + (y 0).val) (y 1).val)
      = deltaS (gradE P (((cfg0.win 5).rect t).emb y (0 : Fin 2)).val (((cfg0.win 5).rect t).emb y (1 : Fin 2)).val) (W (((cfg0.win 5).rect t).emb y (0 : Fin 2)).val (((cfg0.win 5).rect t).emb y (1 : Fin 2)).val) (M (((cfg0.win 5).rect t).emb y (0 : Fin 2)).val (((cfg0.win 5).rect t).emb y (1 : Fin 2)).val) (S (((cfg0.win 5).rect t).emb y (0 : Fin 2)).val (((cfg0.win 5).rect t).emb y (1 : Fin 2)).val)
    rw [e0, e1]
  · exact (show (cfg0.win 5).Covers by decide +kernel).cover _ (Memref.isWhole_whole _)

/-- What a grid point writes of the first moment. -/
theorem written6 (t : Fin cfg0.N) : out0_6 (F := Ideal) (iblk m c 0 t) (iblk m c 1 t) (iblk m c 2 t) (iblk m c 3 t)
    = E2 (n := 256) (m := 1024) (φ := .f32) fun a b => momS (gradE P (256 * t.val + a) b) (M (256 * t.val + a) b) := by
  unfold out0_6
  rw [View.canon_unit_zero off2]
  rw [sum_block m c P W M S hP hW hM hS, blk2 m c M hM]
  simp only [View.ld_unit_zero (S := S256x1024) off2]
  rw [mom_block]

/-- The array of the first moment after the run. -/
theorem result6 : ((dats m 0 c).arrAt 6 cfg0.N : S512x1024.Idx → EReal) = E2 (n := 512) (m := 1024) (φ := .f32) fun a b => momS (gradE P a b) (M a b) := by
  refine (dats m 0 c).arrAt_eq_of_cover 6 (E2 (n := 512) (m := 1024) (φ := .f32) fun a b => momS (gradE P a b) (M a b)) ?_ ?_
  · intro t _
    rw [flushed6, written6 m c P W M S hP hW hM hS]
    funext y
    obtain ⟨e0, e1⟩ := emb6 t y
    show momS (gradE P (256 * t.val + (y 0).val) (y 1).val) (M (256 * t.val + (y 0).val) (y 1).val)
      = momS (gradE P (((cfg0.win 6).rect t).emb y (0 : Fin 2)).val (((cfg0.win 6).rect t).emb y (1 : Fin 2)).val) (M (((cfg0.win 6).rect t).emb y (0 : Fin 2)).val (((cfg0.win 6).rect t).emb y (1 : Fin 2)).val)
    rw [e0, e1]
  · exact (show (cfg0.win 6).Covers by decide +kernel).cover _ (Memref.isWhole_whole _)

/-- What a grid point writes of the second moment. -/
theorem written7 (t : Fin cfg0.N) : out0_7 (F := Ideal) (iblk m c 0 t) (iblk m c 1 t) (iblk m c 2 t) (iblk m c 3 t)
    = E2 (n := 256) (m := 1024) (φ := .f32) fun a b => sqS (gradE P (256 * t.val + a) b) (S (256 * t.val + a) b) := by
  unfold out0_7
  rw [View.canon_unit_zero off2]
  rw [sum_block m c P W M S hP hW hM hS, blk3 m c S hS]
  simp only [View.ld_unit_zero (S := S256x1024) off2]
  rw [sq_block]

/-- The array of the second moment after the run. -/
theorem result7 : ((dats m 0 c).arrAt 7 cfg0.N : S512x1024.Idx → EReal) = E2 (n := 512) (m := 1024) (φ := .f32) fun a b => sqS (gradE P a b) (S a b) := by
  refine (dats m 0 c).arrAt_eq_of_cover 7 (E2 (n := 512) (m := 1024) (φ := .f32) fun a b => sqS (gradE P a b) (S a b)) ?_ ?_
  · intro t _
    rw [flushed7, written7 m c P W M S hP hW hM hS]
    funext y
    obtain ⟨e0, e1⟩ := emb7 t y
    show sqS (gradE P (256 * t.val + (y 0).val) (y 1).val) (S (256 * t.val + (y 0).val) (y 1).val)
      = sqS (gradE P (((cfg0.win 7).rect t).emb y (0 : Fin 2)).val (((cfg0.win 7).rect t).emb y (1 : Fin 2)).val) (S (((cfg0.win 7).rect t).emb y (0 : Fin 2)).val (((cfg0.win 7).rect t).emb y (1 : Fin 2)).val)
    rw [e0, e1]
  · exact (show (cfg0.win 7).Covers by decide +kernel).cover _ (Memref.isWhole_whole _)

end run

/-! ## The reference -/

section ref
open Cert.Reference14Ideal.Read
variable (x : (⟨S8x512x1024, .bf16⟩ : BufTy).Contents (Elt Ideal)) (w mo sq : (⟨S512x1024, .f32⟩ : BufTy).Contents (Elt Ideal))
  (P : ℕ → ℕ → ℕ → EReal) (W M S : ℕ → ℕ → EReal)
  (hP : ∀ i : S8x512x1024.Idx, x i = P (i 0).val (i 1).val (i 2).val)
  (hW : ∀ i : S512x1024.Idx, w i = W (i 0).val (i 1).val)
  (hM : ∀ i : S512x1024.Idx, mo i = M (i 0).val (i 1).val) (hS : ∀ i : S512x1024.Idx, sq i = S (i 0).val (i 1).val)
include hP

/-- The sum of the shares at an index. -/
theorem ref_grad (i : S512x1024.Idx) : val_main_v1 (F := Ideal) x i = gradE P (i 0).val (i 1).val := by
  rw [val_main_v1_apply, val_main_cst_apply]
  show Ideal.ofBits .f32 0x00000000#32 + _ = _
  rw [Ideal.ofBits_zero_f32, zero_add]
  exact Finset.sum_congr rfl fun s _ => hP (idx_main_v1 i s)

include hM in
/-- The first moment at an index. -/
theorem ref_mom (i : S512x1024.Idx) : val_main_v6 (F := Ideal) x mo i = momS (gradE P (i 0).val (i 1).val) (M (i 0).val (i 1).val) := by
  rw [val_main_v6_apply, val_main_v3_apply, val_main_v5_apply, val_main_v2_apply, val_main_v4_apply, val_main_cst_0_apply, val_main_cst_1_apply,
    ref_grad x P hP, hM]
  rfl

include hS in
/-- The second moment at an index. -/
theorem ref_sq (i : S512x1024.Idx) : val_main_v12 (F := Ideal) x sq i = sqS (gradE P (i 0).val (i 1).val) (S (i 0).val (i 1).val) := by
  rw [val_main_v12_apply, val_main_v8_apply, val_main_v11_apply, val_main_v9_apply, val_main_v7_apply, val_main_v10_apply, val_main_cst_2_apply,
    val_main_cst_3_apply, ref_grad x P hP, hS]
  rfl

include hW hM hS in
/-- The change of the weights at an index. -/
theorem ref_delta (i : S512x1024.Idx) : val_main_v25 (F := Ideal) x w mo sq i
    = deltaS (gradE P (i 0).val (i 1).val) (W (i 0).val (i 1).val) (M (i 0).val (i 1).val) (S (i 0).val (i 1).val) := by
  rw [val_main_v25_apply, val_main_v24_apply, val_main_cst_8_apply, val_main_v23_apply, val_main_v22_apply, val_main_v21_apply, val_main_cst_7_apply,
    val_main_v20_apply, val_main_v19_apply, val_main_v18_apply, val_main_cst_6_apply, val_main_v17_apply, val_main_v16_apply, val_main_v15_apply,
    val_main_cst_5_apply, val_main_v14_apply, val_main_v13_apply, val_main_cst_4_apply, ref_mom x mo P M hP hM, ref_sq x sq P S hP hS, hW]
  rfl

end ref

/-! ## The claim -/

/-- The kernel's results are the reference's. -/
theorem algebraic : Cert.algebraic_Kernel14Ideal_Reference14Ideal := by
  intro m ρ m' ρ' _ hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, (θ_run _ _ _).mono (fun r h c => ?_) (Cert.Reference14Ideal.Value.run m' ρ')⟩
  obtain ⟨h0, h1, h2, h3, kept⟩ := h c
  obtain ⟨e0, e1, e2, e3⟩ := hargs c
  obtain ⟨P, hP⟩ := entries3 (d := ![8, 512, 1024]) (m ((c.tc : Thread nD τ).loc main_arg0))
  obtain ⟨W, hW⟩ := entries (d := ![512, 1024]) (m ((c.tc : Thread nD τ).loc main_arg1))
  obtain ⟨M, hM⟩ := entries (d := ![512, 1024]) (m ((c.tc : Thread nD τ).loc main_arg2))
  obtain ⟨S, hS⟩ := entries (d := ![512, 1024]) (m ((c.tc : Thread nD τ).loc main_arg3))
  have kP := fun i => (congrFun (V_main_arg0 m c) i).trans (hP i)
  have kW := fun i => (congrFun (V_main_arg1 m c) i).trans (hW i)
  have kM := fun i => (congrFun (V_main_arg2 m c) i).trans (hM i)
  have kS := fun i => (congrFun (V_main_arg3 m c) i).trans (hS i)
  refine ⟨h0.trans ((Cert.Reference14Ideal.Read.val_main_v1_eq _).trans (Eq.trans ?_ (result4 m c P W M S kP kW kM kS).symm)),
    h1.trans ((Cert.Reference14Ideal.Read.val_main_v25_eq _ _ _ _).trans (Eq.trans ?_ (result5 m c P W M S kP kW kM kS).symm)),
    h2.trans ((Cert.Reference14Ideal.Read.val_main_v6_eq _ _).trans (Eq.trans ?_ (result6 m c P W M S kP kW kM kS).symm)),
    h3.trans ((Cert.Reference14Ideal.Read.val_main_v12_eq _ _).trans (Eq.trans ?_ (result7 m c P W M S kP kW kM kS).symm)), kept⟩
  · rw [e0]; exact funext fun i => ref_grad _ P hP i
  · rw [e0, e1, e2, e3]; exact funext fun i => ref_delta _ _ _ _ P W M S hP hW hM hS i
  · rw [e0, e2]; exact funext fun i => ref_mom _ _ P M hP hM i
  · rw [e0, e3]; exact funext fun i => ref_sq _ _ P S hP hS i

/-- The reference's frame: its run read at the arguments; it declares no semaphore. -/
theorem reference_frame : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

end Cert.Proof.AdamDown
-- ==== Proof.AdamLora.lean ====
module

public import Idealize.ShloMosaic.Lib.Pipeline.ValueKit
public import proofs.«01_k».proof.Defs
public import proofs.«01_k».proof.Proof.AdamW
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Reference15Ideal.Run

/-!
The optimiser's call for the three low-rank weights w2, a2 and g2, one under the other: the sum of the devices' shares of the gradient, the change of the weights, and the two new moments.
-/

@[expose] public section
noncomputable section
namespace Cert.Proof.AdamLora
open Idealize.ShloMosaic Idealize.ShloMosaic.TcCoe Idealize.SL.Sem Idealize.ShloMosaic.Pipeline Cert.Kernel15Ideal Cert.Kernel15Ideal.Gen Cert.Kernel15Ideal.Value
open Cert.Proof.AdamW

/-- The named factors are the reciprocals that the reference divides by. -/
theorem c1_eq : Named.named (F := Ideal) Cert.Kernel15Ideal.κ "c1" (φ := .f32) 0x3FC48605#32 = ((8388608 / 5463681 : ℝ) : EReal) :=
  IdealRules.named_const.ideal_named_scalar _ _ _ _ rfl
theorem c2_eq : Named.named (F := Ideal) Cert.Kernel15Ideal.κ "c2" (φ := .f32) 0x42C8E6D3#32 = ((268435456 / 2672307 : ℝ) : EReal) :=
  IdealRules.named_const.ideal_named_scalar _ _ _ _ rfl

/-- The idealization names those two numbers and changes nothing else. -/
theorem preserves : Cert.preserves_Kernel15_Kernel15Ideal :=
  ⟨IdealRules.named_const.statement Cert.Kernel15Ideal.κ "c1" .f32 0x3FC48605#32 _ rfl,
    IdealRules.named_const.statement Cert.Kernel15Ideal.κ "c2" .f32 0x42C8E6D3#32 _ rfl⟩

/-! ## One block -/

section block
variable (P : ℕ → ℕ → ℕ → EReal) (W M S : ℕ → ℕ → EReal)

theorem grad_block (x1 x2 x3 : Vec Ideal S256x64 .f32) :
    k0_pay5 (F := Ideal) (E3 (n := 8) (m := 256) (l := 64) (φ := .f32) P) x1 x2 x3 = E2 (n := 256) (m := 64) (φ := .f32) (gradE P) := by
  funext j
  unfold k0_pay5 k0_pay3
  unfold E3
  simp only [share (e := .f32) P]
  pointwise
  exact gradE_eq P (j 0).val (j 1).val

theorem mom_block (x1 x3 : Vec Ideal S256x64 .f32) : k0_pay6 (F := Ideal) (E3 (n := 8) (m := 256) (l := 64) (φ := .f32) P) x1 (E2 (n := 256) (m := 64) (φ := .f32) M) x3
    = E2 (n := 256) (m := 64) (φ := .f32) fun a b => momS (gradE P a b) (M a b) := by
  have g := grad_block P x1 (E2 (n := 256) (m := 64) (φ := .f32) M) x3
  funext j
  unfold k0_pay6 k0_pay4
  rw [View.ld_unit_zero (S := S256x64) off2]
  exact congrArg (fun y : FVec Ideal S256x64 .f32 => momS (y j) (M (j 0).val (j 1).val)) g

theorem sq_block (G : ℕ → ℕ → EReal) : k0_pay1 (F := Ideal) (E2 (n := 256) (m := 64) (φ := .f32) G) (E2 (n := 256) (m := 64) (φ := .f32) S) = E2 (n := 256) (m := 64) (φ := .f32) fun a b => sqS (G a b) (S a b) := by
  funext j; unfold k0_pay1; pointwise; rfl

theorem delta_block (G : ℕ → ℕ → EReal) : k0_pay2 (F := Ideal) (E2 (n := 256) (m := 64) (φ := .f32) G) (E2 (n := 256) (m := 64) (φ := .f32) fun a b => momS (G a b) (M a b)) (E2 (n := 256) (m := 64) (φ := .f32) S) (E2 (n := 256) (m := 64) (φ := .f32) W)
    = E2 (n := 256) (m := 64) (φ := .f32) fun a b => deltaS (G a b) (W a b) (M a b) (S a b) := by
  funext j; unfold k0_pay2; rw [sq_block, c1_eq, c2_eq]; pointwise
  simp only [E2_apply, deltaS, div_unit1, div_unit2]
  rfl

end block

/-! ## The run -/

section run
variable (m : (ℓ : Loc nD τ sig) → Buf (Elt Ideal) ℓ) (c : Dev nD) (P : ℕ → ℕ → ℕ → EReal) (W M S : ℕ → ℕ → EReal)
  (hP : ∀ i : S8x256x64.Idx, V m c main_arg0 i = P (i 0).val (i 1).val (i 2).val)
  (hW : ∀ i : S256x64.Idx, V m c main_arg1 i = W (i 0).val (i 1).val)
  (hM : ∀ i : S256x64.Idx, V m c main_arg2 i = M (i 0).val (i 1).val)
  (hS : ∀ i : S256x64.Idx, V m c main_arg3 i = S (i 0).val (i 1).val)

theorem ix0 : ∀ t : Fin cfg0.N, cc0_transform_0 (grid0.coords t) = ![0, t.val, 0] := by decide +kernel
theorem ix1 : ∀ t : Fin cfg0.N, cc0_transform_1 (grid0.coords t) = ![t.val, 0] := by decide +kernel
theorem ix2 : ∀ t : Fin cfg0.N, cc0_transform_2 (grid0.coords t) = ![t.val, 0] := by decide +kernel
theorem ix3 : ∀ t : Fin cfg0.N, cc0_transform_3 (grid0.coords t) = ![t.val, 0] := by decide +kernel
theorem ix4 : ∀ t : Fin cfg0.N, cc0_transform_4 (grid0.coords t) = ![t.val, 0] := by decide +kernel
theorem ix5 : ∀ t : Fin cfg0.N, cc0_transform_5 (grid0.coords t) = ![t.val, 0] := by decide +kernel
theorem ix6 : ∀ t : Fin cfg0.N, cc0_transform_6 (grid0.coords t) = ![t.val, 0] := by decide +kernel
theorem ix7 : ∀ t : Fin cfg0.N, cc0_transform_7 (grid0.coords t) = ![t.val, 0] := by decide +kernel

include hP in
theorem blk0 (t : Fin cfg0.N) : (iblk m c 0 t : Vec Ideal S8x256x64 .f32) = E3 (φ := .f32) fun s a b => P s (256 * t.val + a) b := by
  funext y
  refine (hP (((cfg0.win 0).rect t).emb y)).trans ?_
  rw [(cfg0.win 0).rect_emb_val t y (0 : Fin 3), (cfg0.win 0).rect_emb_val t y (1 : Fin 3), (cfg0.win 0).rect_emb_val t y (2 : Fin 3)]
  have i0 : (cfg0.win 0).index t (0 : Fin 3) = 0 := congrFun (ix0 t) 0
  have i1 : (cfg0.win 0).index t (1 : Fin 3) = t.val := congrFun (ix0 t) 1
  have i2 : (cfg0.win 0).index t (2 : Fin 3) = 0 := congrFun (ix0 t) 2
  rw [i0, i1, i2]
  show P (0 * 8 + (y 0).val) (t.val * 256 + (y 1).val) (0 * 64 + (y 2).val) = P (y 0).val (256 * t.val + (y 1).val) (y 2).val
  simp only [Nat.mul_comm t.val, Nat.zero_mul, Nat.zero_add]

include hW in
theorem blk1 (t : Fin cfg0.N) : (iblk m c 1 t : Vec Ideal S256x64 .f32) = E2 (φ := .f32) fun a b => W (256 * t.val + a) b := by
  funext y
  refine (hW (((cfg0.win 1).rect t).emb y)).trans ?_
  rw [(cfg0.win 1).rect_emb_val t y (0 : Fin 2), (cfg0.win 1).rect_emb_val t y (1 : Fin 2)]
  have i0 : (cfg0.win 1).index t (0 : Fin 2) = t.val := congrFun (ix1 t) 0
  have i1 : (cfg0.win 1).index t (1 : Fin 2) = 0 := congrFun (ix1 t) 1
  rw [i0, i1]
  show W (t.val * 256 + (y 0).val) (0 * 64 + (y 1).val) = W (256 * t.val + (y 0).val) (y 1).val
  rw [Nat.mul_comm, Nat.zero_mul, Nat.zero_add]

include hM in
theorem blk2 (t : Fin cfg0.N) : (iblk m c 2 t : Vec Ideal S256x64 .f32) = E2 (φ := .f32) fun a b => M (256 * t.val + a) b := by
  funext y
  refine (hM (((cfg0.win 2).rect t).emb y)).trans ?_
  rw [(cfg0.win 2).rect_emb_val t y (0 : Fin 2), (cfg0.win 2).rect_emb_val t y (1 : Fin 2)]
  have i0 : (cfg0.win 2).index t (0 : Fin 2) = t.val := congrFun (ix2 t) 0
  have i1 : (cfg0.win 2).index t (1 : Fin 2) = 0 := congrFun (ix2 t) 1
  rw [i0, i1]
  show M (t.val * 256 + (y 0).val) (0 * 64 + (y 1).val) = M (256 * t.val + (y 0).val) (y 1).val
  rw [Nat.mul_comm, Nat.zero_mul, Nat.zero_add]

include hS in
theorem blk3 (t : Fin cfg0.N) : (iblk m c 3 t : Vec Ideal S256x64 .f32) = E2 (φ := .f32) fun a b => S (256 * t.val + a) b := by
  funext y
  refine (hS (((cfg0.win 3).rect t).emb y)).trans ?_
  rw [(cfg0.win 3).rect_emb_val t y (0 : Fin 2), (cfg0.win 3).rect_emb_val t y (1 : Fin 2)]
  have i0 : (cfg0.win 3).index t (0 : Fin 2) = t.val := congrFun (ix3 t) 0
  have i1 : (cfg0.win 3).index t (1 : Fin 2) = 0 := congrFun (ix3 t) 1
  rw [i0, i1]
  show S (t.val * 256 + (y 0).val) (0 * 64 + (y 1).val) = S (256 * t.val + (y 0).val) (y 1).val
  rw [Nat.mul_comm, Nat.zero_mul, Nat.zero_add]

/-- Where a point's block lies in the result. -/
theorem emb4 (t : Fin cfg0.N) (y : S256x64.Idx) :
    (((cfg0.win 4).rect t).emb y (0 : Fin 2)).val = 256 * t.val + (y 0).val ∧ (((cfg0.win 4).rect t).emb y (1 : Fin 2)).val = (y 1).val := by
  rw [(cfg0.win 4).rect_emb_val t y (0 : Fin 2), (cfg0.win 4).rect_emb_val t y (1 : Fin 2)]
  have i0 : (cfg0.win 4).index t (0 : Fin 2) = t.val := congrFun (ix4 t) 0
  have i1 : (cfg0.win 4).index t (1 : Fin 2) = 0 := congrFun (ix4 t) 1
  rw [i0, i1]
  show t.val * 256 + (y 0).val = _ ∧ 0 * 64 + (y 1).val = _
  rw [Nat.mul_comm, Nat.zero_mul, Nat.zero_add]
  exact ⟨rfl, rfl⟩

/-- Where a point's block lies in the result. -/
theorem emb5 (t : Fin cfg0.N) (y : S256x64.Idx) :
    (((cfg0.win 5).rect t).emb y (0 : Fin 2)).val = 256 * t.val + (y 0).val ∧ (((cfg0.win 5).rect t).emb y (1 : Fin 2)).val = (y 1).val := by
  rw [(cfg0.win 5).rect_emb_val t y (0 : Fin 2), (cfg0.win 5).rect_emb_val t y (1 : Fin 2)]
  have i0 : (cfg0.win 5).index t (0 : Fin 2) = t.val := congrFun (ix5 t) 0
  have i1 : (cfg0.win 5).index t (1 : Fin 2) = 0 := congrFun (ix5 t) 1
  rw [i0, i1]
  show t.val * 256 + (y 0).val = _ ∧ 0 * 64 + (y 1).val = _
  rw [Nat.mul_comm, Nat.zero_mul, Nat.zero_add]
  exact ⟨rfl, rfl⟩

/-- Where a point's block lies in the result. -/
theorem emb6 (t : Fin cfg0.N) (y : S256x64.Idx) :
    (((cfg0.win 6).rect t).emb y (0 : Fin 2)).val = 256 * t.val + (y 0).val ∧ (((cfg0.win 6).rect t).emb y (1 : Fin 2)).val = (y 1).val := by
  rw [(cfg0.win 6).rect_emb_val t y (0 : Fin 2), (cfg0.win 6).rect_emb_val t y (1 : Fin 2)]
  have i0 : (cfg0.win 6).index t (0 : Fin 2) = t.val := congrFun (ix6 t) 0
  have i1 : (cfg0.win 6).index t (1 : Fin 2) = 0 := congrFun (ix6 t) 1
  rw [i0, i1]
  show t.val * 256 + (y 0).val = _ ∧ 0 * 64 + (y 1).val = _
  rw [Nat.mul_comm, Nat.zero_mul, Nat.zero_add]
  exact ⟨rfl, rfl⟩

/-- Where a point's block lies in the result. -/
theorem emb7 (t : Fin cfg0.N) (y : S256x64.Idx) :
    (((cfg0.win 7).rect t).emb y (0 : Fin 2)).val = 256 * t.val + (y 0).val ∧ (((cfg0.win 7).rect t).emb y (1 : Fin 2)).val = (y 1).val := by
  rw [(cfg0.win 7).rect_emb_val t y (0 : Fin 2), (cfg0.win 7).rect_emb_val t y (1 : Fin 2)]
  have i0 : (cfg0.win 7).index t (0 : Fin 2) = t.val := congrFun (ix7 t) 0
  have i1 : (cfg0.win 7).index t (1 : Fin 2) = 0 := congrFun (ix7 t) 1
  rw [i0, i1]
  show t.val * 256 + (y 0).val = _ ∧ 0 * 64 + (y 1).val = _
  rw [Nat.mul_comm, Nat.zero_mul, Nat.zero_add]
  exact ⟨rfl, rfl⟩

include hP hW hM hS

/-- The block of the gradient at a grid point. -/
theorem sum_block (t : Fin cfg0.N) : k0_pay5 (F := Ideal) (iblk m c 0 t) (iblk m c 1 t) (iblk m c 2 t) (iblk m c 3 t)
    = E2 (n := 256) (m := 64) (φ := .f32) fun a b => gradE P (256 * t.val + a) b := by
  rw [blk0 m c P hP]
  exact grad_block (fun s a b => P s (256 * t.val + a) b) _ _ _

/-- The block of the first moment at a grid point. -/
theorem mom_point (t : Fin cfg0.N) : k0_pay6 (F := Ideal) (iblk m c 0 t) (iblk m c 1 t) (iblk m c 2 t) (iblk m c 3 t)
    = E2 (n := 256) (m := 64) (φ := .f32) fun a b => momS (gradE P (256 * t.val + a) b) (M (256 * t.val + a) b) := by
  rw [blk0 m c P hP, blk2 m c M hM]
  exact mom_block (fun s a b => P s (256 * t.val + a) b) (fun a b => M (256 * t.val + a) b) _ _

/-- What a grid point writes of the gradient. -/
theorem written4 (t : Fin cfg0.N) : out0_4 (F := Ideal) (iblk m c 0 t) (iblk m c 1 t) (iblk m c 2 t) (iblk m c 3 t)
    = E2 (n := 256) (m := 64) (φ := .f32) fun a b => gradE P (256 * t.val + a) b := by
  unfold out0_4
  rw [View.canon_unit_zero off2]
  rw [sum_block m c P W M S hP hW hM hS]

/-- The array of the gradient after the run. -/
theorem result4 : ((dats m 0 c).arrAt 4 cfg0.N : S256x64.Idx → EReal) = E2 (n := 256) (m := 64) (φ := .f32) fun a b => gradE P a b := by
  refine (dats m 0 c).arrAt_eq_of_cover 4 (E2 (n := 256) (m := 64) (φ := .f32) fun a b => gradE P a b) ?_ ?_
  · intro t _
    rw [flushed4, written4 m c P W M S hP hW hM hS]
    funext y
    obtain ⟨e0, e1⟩ := emb4 t y
    show gradE P (256 * t.val + (y 0).val) (y 1).val
      = gradE P (((cfg0.win 4).rect t).emb y (0 : Fin 2)).val (((cfg0.win 4).rect t).emb y (1 : Fin 2)).val
    rw [e0, e1]
  · exact (show (cfg0.win 4).Covers by decide +kernel).cover _ (Memref.isWhole_whole _)

/-- What a grid point writes of the change of the weights. -/
theorem written5 (t : Fin cfg0.N) : out0_5 (F := Ideal) (iblk m c 0 t) (iblk m c 1 t) (iblk m c 2 t) (iblk m c 3 t)
    = E2 (n := 256) (m := 64) (φ := .f32) fun a b => deltaS (gradE P (256 * t.val + a) b) (W (256 * t.val + a) b) (M (256 * t.val + a) b) (S (256 * t.val + a) b) := by
  unfold out0_5
  rw [View.canon_unit_zero off2]
  rw [sum_block m c P W M S hP hW hM hS, mom_point m c P W M S hP hW hM hS, blk1 m c W hW, blk3 m c S hS]
  simp only [View.ld_unit_zero (S := S256x64) off2]
  exact delta_block _ _ _ _

/-- The array of the change of the weights after the run. -/
theorem result5 : ((dats m 0 c).arrAt 5 cfg0.N : S256x64.Idx → EReal) = E2 (n := 256) (m := 64) (φ := .f32) fun a b => deltaS (gradE P a b) (W a b) (M a b) (S a b) := by
  refine (dats m 0 c).arrAt_eq_of_cover 5 (E2 (n := 256) (m := 64) (φ := .f32) fun a b => deltaS (gradE P a b) (W a b) (M a b) (S a b)) ?_ ?_
  · intro t _
    rw [flushed5, written5 m c P W M S hP hW hM hS]
    funext y
    obtain ⟨e0, e1⟩ := emb5 t y
    show deltaS (gradE P (256 * t.val + (y 0).val) (y 1).val) (W (256 * t.val + (y 0).val) (y 1).val) (M (256 * t.val + (y 0).val) (y 1).val) (S (256 * t.val + (y 0).val) (y 1).val)
      = deltaS (gradE P (((cfg0.win 5).rect t).emb y (0 : Fin 2)).val (((cfg0.win 5).rect t).emb y (1 : Fin 2)).val) (W (((cfg0.win 5).rect t).emb y (0 : Fin 2)).val (((cfg0.win 5).rect t).emb y (1 : Fin 2)).val) (M (((cfg0.win 5).rect t).emb y (0 : Fin 2)).val (((cfg0.win 5).rect t).emb y (1 : Fin 2)).val) (S (((cfg0.win 5).rect t).emb y (0 : Fin 2)).val (((cfg0.win 5).rect t).emb y (1 : Fin 2)).val)
    rw [e0, e1]
  · exact (show (cfg0.win 5).Covers by decide +kernel).cover _ (Memref.isWhole_whole _)

/-- What a grid point writes of the first moment. -/
theorem written6 (t : Fin cfg0.N) : out0_6 (F := Ideal) (iblk m c 0 t) (iblk m c 1 t) (iblk m c 2 t) (iblk m c 3 t)
    = E2 (n := 256) (m := 64) (φ := .f32) fun a b => momS (gradE P (256 * t.val + a) b) (M (256 * t.val + a) b) := by
  unfold out0_6
  rw [View.canon_unit_zero off2]
  rw [mom_point m c P W M S hP hW hM hS]

/-- The array of the first moment after the run. -/
theorem result6 : ((dats m 0 c).arrAt 6 cfg0.N : S256x64.Idx → EReal) = E2 (n := 256) (m := 64) (φ := .f32) fun a b => momS (gradE P a b) (M a b) := by
  refine (dats m 0 c).arrAt_eq_of_cover 6 (E2 (n := 256) (m := 64) (φ := .f32) fun a b => momS (gradE P a b) (M a b)) ?_ ?_
  · intro t _
    rw [flushed6, written6 m c P W M S hP hW hM hS]
    funext y
    obtain ⟨e0, e1⟩ := emb6 t y
    show momS (gradE P (256 * t.val + (y 0).val) (y 1).val) (M (256 * t.val + (y 0).val) (y 1).val)
      = momS (gradE P (((cfg0.win 6).rect t).emb y (0 : Fin 2)).val (((cfg0.win 6).rect t).emb y (1 : Fin 2)).val) (M (((cfg0.win 6).rect t).emb y (0 : Fin 2)).val (((cfg0.win 6).rect t).emb y (1 : Fin 2)).val)
    rw [e0, e1]
  · exact (show (cfg0.win 6).Covers by decide +kernel).cover _ (Memref.isWhole_whole _)

/-- What a grid point writes of the second moment. -/
theorem written7 (t : Fin cfg0.N) : out0_7 (F := Ideal) (iblk m c 0 t) (iblk m c 1 t) (iblk m c 2 t) (iblk m c 3 t)
    = E2 (n := 256) (m := 64) (φ := .f32) fun a b => sqS (gradE P (256 * t.val + a) b) (S (256 * t.val + a) b) := by
  unfold out0_7
  rw [View.canon_unit_zero off2]
  rw [sum_block m c P W M S hP hW hM hS, blk3 m c S hS]
  simp only [View.ld_unit_zero (S := S256x64) off2]
  rw [sq_block]

/-- The array of the second moment after the run. -/
theorem result7 : ((dats m 0 c).arrAt 7 cfg0.N : S256x64.Idx → EReal) = E2 (n := 256) (m := 64) (φ := .f32) fun a b => sqS (gradE P a b) (S a b) := by
  refine (dats m 0 c).arrAt_eq_of_cover 7 (E2 (n := 256) (m := 64) (φ := .f32) fun a b => sqS (gradE P a b) (S a b)) ?_ ?_
  · intro t _
    rw [flushed7, written7 m c P W M S hP hW hM hS]
    funext y
    obtain ⟨e0, e1⟩ := emb7 t y
    show sqS (gradE P (256 * t.val + (y 0).val) (y 1).val) (S (256 * t.val + (y 0).val) (y 1).val)
      = sqS (gradE P (((cfg0.win 7).rect t).emb y (0 : Fin 2)).val (((cfg0.win 7).rect t).emb y (1 : Fin 2)).val) (S (((cfg0.win 7).rect t).emb y (0 : Fin 2)).val (((cfg0.win 7).rect t).emb y (1 : Fin 2)).val)
    rw [e0, e1]
  · exact (show (cfg0.win 7).Covers by decide +kernel).cover _ (Memref.isWhole_whole _)

end run

/-! ## The reference -/

section ref
open Cert.Reference15Ideal.Read
variable (x : (⟨S8x256x64, .f32⟩ : BufTy).Contents (Elt Ideal)) (w mo sq : (⟨S256x64, .f32⟩ : BufTy).Contents (Elt Ideal))
  (P : ℕ → ℕ → ℕ → EReal) (W M S : ℕ → ℕ → EReal)
  (hP : ∀ i : S8x256x64.Idx, x i = P (i 0).val (i 1).val (i 2).val)
  (hW : ∀ i : S256x64.Idx, w i = W (i 0).val (i 1).val)
  (hM : ∀ i : S256x64.Idx, mo i = M (i 0).val (i 1).val) (hS : ∀ i : S256x64.Idx, sq i = S (i 0).val (i 1).val)
include hP

/-- The sum of the shares at an index. -/
theorem ref_grad (i : S256x64.Idx) : val_main_v0 (F := Ideal) x i = gradE P (i 0).val (i 1).val := by
  rw [val_main_v0_apply, val_main_cst_apply]
  show Ideal.ofBits .f32 0x00000000#32 + _ = _
  rw [Ideal.ofBits_zero_f32, zero_add]
  exact Finset.sum_congr rfl fun s _ => hP (idx_main_v0 i s)

include hM in
/-- The first moment at an index. -/
theorem ref_mom (i : S256x64.Idx) : val_main_v5 (F := Ideal) x mo i = momS (gradE P (i 0).val (i 1).val) (M (i 0).val (i 1).val) := by
  rw [val_main_v5_apply, val_main_v2_apply, val_main_v4_apply, val_main_v1_apply, val_main_v3_apply, val_main_cst_0_apply, val_main_cst_1_apply,
    ref_grad x P hP, hM]
  rfl

include hS in
/-- The second moment at an index. -/
theorem ref_sq (i : S256x64.Idx) : val_main_v11 (F := Ideal) x sq i = sqS (gradE P (i 0).val (i 1).val) (S (i 0).val (i 1).val) := by
  rw [val_main_v11_apply, val_main_v7_apply, val_main_v10_apply, val_main_v8_apply, val_main_v6_apply, val_main_v9_apply, val_main_cst_2_apply,
    val_main_cst_3_apply, ref_grad x P hP, hS]
  rfl

include hW hM hS in
/-- The change of the weights at an index. -/
theorem ref_delta (i : S256x64.Idx) : val_main_v24 (F := Ideal) x w mo sq i
    = deltaS (gradE P (i 0).val (i 1).val) (W (i 0).val (i 1).val) (M (i 0).val (i 1).val) (S (i 0).val (i 1).val) := by
  rw [val_main_v24_apply, val_main_v23_apply, val_main_cst_8_apply, val_main_v22_apply, val_main_v21_apply, val_main_v20_apply, val_main_cst_7_apply,
    val_main_v19_apply, val_main_v18_apply, val_main_v17_apply, val_main_cst_6_apply, val_main_v16_apply, val_main_v15_apply, val_main_v14_apply,
    val_main_cst_5_apply, val_main_v13_apply, val_main_v12_apply, val_main_cst_4_apply, ref_mom x mo P M hP hM, ref_sq x sq P S hP hS, hW]
  rfl

end ref

/-! ## The claim -/

/-- The kernel's results are the reference's. -/
theorem algebraic : Cert.algebraic_Kernel15Ideal_Reference15Ideal := by
  intro m ρ m' ρ' _ hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, (θ_run _ _ _).mono (fun r h c => ?_) (Cert.Reference15Ideal.Value.run m' ρ')⟩
  obtain ⟨h0, h1, h2, h3, kept⟩ := h c
  obtain ⟨e0, e1, e2, e3⟩ := hargs c
  obtain ⟨P, hP⟩ := entries3 (d := ![8, 256, 64]) (m ((c.tc : Thread nD τ).loc main_arg0))
  obtain ⟨W, hW⟩ := entries (d := ![256, 64]) (m ((c.tc : Thread nD τ).loc main_arg1))
  obtain ⟨M, hM⟩ := entries (d := ![256, 64]) (m ((c.tc : Thread nD τ).loc main_arg2))
  obtain ⟨S, hS⟩ := entries (d := ![256, 64]) (m ((c.tc : Thread nD τ).loc main_arg3))
  have kP := fun i => (congrFun (V_main_arg0 m c) i).trans (hP i)
  have kW := fun i => (congrFun (V_main_arg1 m c) i).trans (hW i)
  have kM := fun i => (congrFun (V_main_arg2 m c) i).trans (hM i)
  have kS := fun i => (congrFun (V_main_arg3 m c) i).trans (hS i)
  refine ⟨h0.trans ((Cert.Reference15Ideal.Read.val_main_v0_eq _).trans (Eq.trans ?_ (result4 m c P W M S kP kW kM kS).symm)),
    h1.trans ((Cert.Reference15Ideal.Read.val_main_v24_eq _ _ _ _).trans (Eq.trans ?_ (result5 m c P W M S kP kW kM kS).symm)),
    h2.trans ((Cert.Reference15Ideal.Read.val_main_v5_eq _ _).trans (Eq.trans ?_ (result6 m c P W M S kP kW kM kS).symm)),
    h3.trans ((Cert.Reference15Ideal.Read.val_main_v11_eq _ _).trans (Eq.trans ?_ (result7 m c P W M S kP kW kM kS).symm)), kept⟩
  · rw [e0]; exact funext fun i => ref_grad _ P hP i
  · rw [e0, e1, e2, e3]; exact funext fun i => ref_delta _ _ _ _ P W M S hP hW hM hS i
  · rw [e0, e2]; exact funext fun i => ref_mom _ _ P M hP hM i
  · rw [e0, e3]; exact funext fun i => ref_sq _ _ P S hP hS i

/-- The reference's frame: its run read at the arguments; it declares no semaphore. -/
theorem reference_frame : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

end Cert.Proof.AdamLora
-- ==== Proof.AdamVectors.lean ====
module

public import Idealize.ShloMosaic.Lib.Pipeline.ValueKit
public import proofs.«01_k».proof.Defs
public import proofs.«01_k».proof.Proof.AdamW
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Reference16Ideal.Run

/-!
The optimiser's call for the vectors, side by side in one row: the sum of the devices' shares of the gradient, the change of the weights, and the two new moments.
-/

@[expose] public section
noncomputable section
namespace Cert.Proof.AdamVectors
open Idealize.ShloMosaic Idealize.ShloMosaic.TcCoe Idealize.SL.Sem Idealize.ShloMosaic.Pipeline Cert.Kernel16Ideal Cert.Kernel16Ideal.Gen Cert.Kernel16Ideal.Value
open Cert.Proof.AdamW

/-- The named factors are the reciprocals that the reference divides by. -/
theorem c1_eq : Named.named (F := Ideal) Cert.Kernel16Ideal.κ "c1" (φ := .f32) 0x3FC48605#32 = ((8388608 / 5463681 : ℝ) : EReal) :=
  IdealRules.named_const.ideal_named_scalar _ _ _ _ rfl
theorem c2_eq : Named.named (F := Ideal) Cert.Kernel16Ideal.κ "c2" (φ := .f32) 0x42C8E6D3#32 = ((268435456 / 2672307 : ℝ) : EReal) :=
  IdealRules.named_const.ideal_named_scalar _ _ _ _ rfl

/-- The idealization names those two numbers and changes nothing else. -/
theorem preserves : Cert.preserves_Kernel16_Kernel16Ideal :=
  ⟨IdealRules.named_const.statement Cert.Kernel16Ideal.κ "c1" .f32 0x3FC48605#32 _ rfl,
    IdealRules.named_const.statement Cert.Kernel16Ideal.κ "c2" .f32 0x42C8E6D3#32 _ rfl⟩

/-! ## One block -/

section block
variable (P : ℕ → ℕ → ℕ → EReal) (W M S : ℕ → ℕ → EReal)

theorem grad_block (x1 x2 x3 : Vec Ideal S1x8576 .f32) :
    k0_pay5 (F := Ideal) (E3 (n := 8) (m := 1) (l := 8576) (φ := .f32) P) x1 x2 x3 = E2 (n := 1) (m := 8576) (φ := .f32) (gradE P) := by
  funext j
  unfold k0_pay5 k0_pay3
  unfold E3
  simp only [share (e := .f32) P]
  pointwise
  have e0 : (j 0).val = 0 := Nat.lt_one_iff.mp (j 0).isLt
  simpa only [e0, E2_apply] using gradE_eq P (j 0).val (j 1).val

theorem mom_block (x1 x3 : Vec Ideal S1x8576 .f32) : k0_pay6 (F := Ideal) (E3 (n := 8) (m := 1) (l := 8576) (φ := .f32) P) x1 (E2 (n := 1) (m := 8576) (φ := .f32) M) x3
    = E2 (n := 1) (m := 8576) (φ := .f32) fun a b => momS (gradE P a b) (M a b) := by
  have g := grad_block P x1 (E2 (n := 1) (m := 8576) (φ := .f32) M) x3
  funext j
  unfold k0_pay6 k0_pay4
  rw [View.ld_unit_zero (S := S1x8576) off2]
  exact congrArg (fun y : FVec Ideal S1x8576 .f32 => momS (y j) (M (j 0).val (j 1).val)) g

theorem sq_block (G : ℕ → ℕ → EReal) : k0_pay1 (F := Ideal) (E2 (n := 1) (m := 8576) (φ := .f32) G) (E2 (n := 1) (m := 8576) (φ := .f32) S) = E2 (n := 1) (m := 8576) (φ := .f32) fun a b => sqS (G a b) (S a b) := by
  funext j; unfold k0_pay1; pointwise; rfl

theorem delta_block (G : ℕ → ℕ → EReal) : k0_pay2 (F := Ideal) (E2 (n := 1) (m := 8576) (φ := .f32) G) (E2 (n := 1) (m := 8576) (φ := .f32) fun a b => momS (G a b) (M a b)) (E2 (n := 1) (m := 8576) (φ := .f32) S) (E2 (n := 1) (m := 8576) (φ := .f32) W)
    = E2 (n := 1) (m := 8576) (φ := .f32) fun a b => deltaS (G a b) (W a b) (M a b) (S a b) := by
  funext j; unfold k0_pay2; rw [sq_block, c1_eq, c2_eq]; pointwise
  simp only [E2_apply, deltaS, div_unit1, div_unit2]
  rfl

end block

/-! ## The run -/

section run
variable (m : (ℓ : Loc nD τ sig) → Buf (Elt Ideal) ℓ) (c : Dev nD) (P : ℕ → ℕ → ℕ → EReal) (W M S : ℕ → ℕ → EReal)
  (hP : ∀ i : S8x1x8576.Idx, V m c main_arg0 i = P (i 0).val (i 1).val (i 2).val)
  (hW : ∀ i : S1x8576.Idx, V m c main_arg1 i = W (i 0).val (i 1).val)
  (hM : ∀ i : S1x8576.Idx, V m c main_arg2 i = M (i 0).val (i 1).val)
  (hS : ∀ i : S1x8576.Idx, V m c main_arg3 i = S (i 0).val (i 1).val)

theorem ix0 : ∀ t : Fin cfg0.N, cc0_transform_0 (grid0.coords t) = ![0, t.val, 0] := by decide +kernel
theorem ix1 : ∀ t : Fin cfg0.N, cc0_transform_1 (grid0.coords t) = ![t.val, 0] := by decide +kernel
theorem ix2 : ∀ t : Fin cfg0.N, cc0_transform_2 (grid0.coords t) = ![t.val, 0] := by decide +kernel
theorem ix3 : ∀ t : Fin cfg0.N, cc0_transform_3 (grid0.coords t) = ![t.val, 0] := by decide +kernel
theorem ix4 : ∀ t : Fin cfg0.N, cc0_transform_4 (grid0.coords t) = ![t.val, 0] := by decide +kernel
theorem ix5 : ∀ t : Fin cfg0.N, cc0_transform_5 (grid0.coords t) = ![t.val, 0] := by decide +kernel
theorem ix6 : ∀ t : Fin cfg0.N, cc0_transform_6 (grid0.coords t) = ![t.val, 0] := by decide +kernel
theorem ix7 : ∀ t : Fin cfg0.N, cc0_transform_7 (grid0.coords t) = ![t.val, 0] := by decide +kernel

include hP in
theorem blk0 (t : Fin cfg0.N) : (iblk m c 0 t : Vec Ideal S8x1x8576 .f32) = E3 (φ := .f32) fun s a b => P s (1 * t.val + a) b := by
  funext y
  refine (hP (((cfg0.win 0).rect t).emb y)).trans ?_
  rw [(cfg0.win 0).rect_emb_val t y (0 : Fin 3), (cfg0.win 0).rect_emb_val t y (1 : Fin 3), (cfg0.win 0).rect_emb_val t y (2 : Fin 3)]
  have i0 : (cfg0.win 0).index t (0 : Fin 3) = 0 := congrFun (ix0 t) 0
  have i1 : (cfg0.win 0).index t (1 : Fin 3) = t.val := congrFun (ix0 t) 1
  have i2 : (cfg0.win 0).index t (2 : Fin 3) = 0 := congrFun (ix0 t) 2
  rw [i0, i1, i2]
  show P (0 * 8 + (y 0).val) (t.val * 1 + (y 1).val) (0 * 8576 + (y 2).val) = P (y 0).val (1 * t.val + (y 1).val) (y 2).val
  simp only [Nat.mul_comm t.val, Nat.zero_mul, Nat.zero_add]

include hW in
theorem blk1 (t : Fin cfg0.N) : (iblk m c 1 t : Vec Ideal S1x8576 .f32) = E2 (φ := .f32) fun a b => W (1 * t.val + a) b := by
  funext y
  refine (hW (((cfg0.win 1).rect t).emb y)).trans ?_
  rw [(cfg0.win 1).rect_emb_val t y (0 : Fin 2), (cfg0.win 1).rect_emb_val t y (1 : Fin 2)]
  have i0 : (cfg0.win 1).index t (0 : Fin 2) = t.val := congrFun (ix1 t) 0
  have i1 : (cfg0.win 1).index t (1 : Fin 2) = 0 := congrFun (ix1 t) 1
  rw [i0, i1]
  show W (t.val * 1 + (y 0).val) (0 * 8576 + (y 1).val) = W (1 * t.val + (y 0).val) (y 1).val
  rw [Nat.mul_comm, Nat.zero_mul, Nat.zero_add]

include hM in
theorem blk2 (t : Fin cfg0.N) : (iblk m c 2 t : Vec Ideal S1x8576 .f32) = E2 (φ := .f32) fun a b => M (1 * t.val + a) b := by
  funext y
  refine (hM (((cfg0.win 2).rect t).emb y)).trans ?_
  rw [(cfg0.win 2).rect_emb_val t y (0 : Fin 2), (cfg0.win 2).rect_emb_val t y (1 : Fin 2)]
  have i0 : (cfg0.win 2).index t (0 : Fin 2) = t.val := congrFun (ix2 t) 0
  have i1 : (cfg0.win 2).index t (1 : Fin 2) = 0 := congrFun (ix2 t) 1
  rw [i0, i1]
  show M (t.val * 1 + (y 0).val) (0 * 8576 + (y 1).val) = M (1 * t.val + (y 0).val) (y 1).val
  rw [Nat.mul_comm, Nat.zero_mul, Nat.zero_add]

include hS in
theorem blk3 (t : Fin cfg0.N) : (iblk m c 3 t : Vec Ideal S1x8576 .f32) = E2 (φ := .f32) fun a b => S (1 * t.val + a) b := by
  funext y
  refine (hS (((cfg0.win 3).rect t).emb y)).trans ?_
  rw [(cfg0.win 3).rect_emb_val t y (0 : Fin 2), (cfg0.win 3).rect_emb_val t y (1 : Fin 2)]
  have i0 : (cfg0.win 3).index t (0 : Fin 2) = t.val := congrFun (ix3 t) 0
  have i1 : (cfg0.win 3).index t (1 : Fin 2) = 0 := congrFun (ix3 t) 1
  rw [i0, i1]
  show S (t.val * 1 + (y 0).val) (0 * 8576 + (y 1).val) = S (1 * t.val + (y 0).val) (y 1).val
  rw [Nat.mul_comm, Nat.zero_mul, Nat.zero_add]

/-- Where a point's block lies in the result. -/
theorem emb4 (t : Fin cfg0.N) (y : S1x8576.Idx) :
    (((cfg0.win 4).rect t).emb y (0 : Fin 2)).val = 1 * t.val + (y 0).val ∧ (((cfg0.win 4).rect t).emb y (1 : Fin 2)).val = (y 1).val := by
  rw [(cfg0.win 4).rect_emb_val t y (0 : Fin 2), (cfg0.win 4).rect_emb_val t y (1 : Fin 2)]
  have i0 : (cfg0.win 4).index t (0 : Fin 2) = t.val := congrFun (ix4 t) 0
  have i1 : (cfg0.win 4).index t (1 : Fin 2) = 0 := congrFun (ix4 t) 1
  rw [i0, i1]
  show t.val * 1 + (y 0).val = _ ∧ 0 * 8576 + (y 1).val = _
  rw [Nat.mul_comm, Nat.zero_mul, Nat.zero_add]
  exact ⟨rfl, rfl⟩

/-- Where a point's block lies in the result. -/
theorem emb5 (t : Fin cfg0.N) (y : S1x8576.Idx) :
    (((cfg0.win 5).rect t).emb y (0 : Fin 2)).val = 1 * t.val + (y 0).val ∧ (((cfg0.win 5).rect t).emb y (1 : Fin 2)).val = (y 1).val := by
  rw [(cfg0.win 5).rect_emb_val t y (0 : Fin 2), (cfg0.win 5).rect_emb_val t y (1 : Fin 2)]
  have i0 : (cfg0.win 5).index t (0 : Fin 2) = t.val := congrFun (ix5 t) 0
  have i1 : (cfg0.win 5).index t (1 : Fin 2) = 0 := congrFun (ix5 t) 1
  rw [i0, i1]
  show t.val * 1 + (y 0).val = _ ∧ 0 * 8576 + (y 1).val = _
  rw [Nat.mul_comm, Nat.zero_mul, Nat.zero_add]
  exact ⟨rfl, rfl⟩

/-- Where a point's block lies in the result. -/
theorem emb6 (t : Fin cfg0.N) (y : S1x8576.Idx) :
    (((cfg0.win 6).rect t).emb y (0 : Fin 2)).val = 1 * t.val + (y 0).val ∧ (((cfg0.win 6).rect t).emb y (1 : Fin 2)).val = (y 1).val := by
  rw [(cfg0.win 6).rect_emb_val t y (0 : Fin 2), (cfg0.win 6).rect_emb_val t y (1 : Fin 2)]
  have i0 : (cfg0.win 6).index t (0 : Fin 2) = t.val := congrFun (ix6 t) 0
  have i1 : (cfg0.win 6).index t (1 : Fin 2) = 0 := congrFun (ix6 t) 1
  rw [i0, i1]
  show t.val * 1 + (y 0).val = _ ∧ 0 * 8576 + (y 1).val = _
  rw [Nat.mul_comm, Nat.zero_mul, Nat.zero_add]
  exact ⟨rfl, rfl⟩

/-- Where a point's block lies in the result. -/
theorem emb7 (t : Fin cfg0.N) (y : S1x8576.Idx) :
    (((cfg0.win 7).rect t).emb y (0 : Fin 2)).val = 1 * t.val + (y 0).val ∧ (((cfg0.win 7).rect t).emb y (1 : Fin 2)).val = (y 1).val := by
  rw [(cfg0.win 7).rect_emb_val t y (0 : Fin 2), (cfg0.win 7).rect_emb_val t y (1 : Fin 2)]
  have i0 : (cfg0.win 7).index t (0 : Fin 2) = t.val := congrFun (ix7 t) 0
  have i1 : (cfg0.win 7).index t (1 : Fin 2) = 0 := congrFun (ix7 t) 1
  rw [i0, i1]
  show t.val * 1 + (y 0).val = _ ∧ 0 * 8576 + (y 1).val = _
  rw [Nat.mul_comm, Nat.zero_mul, Nat.zero_add]
  exact ⟨rfl, rfl⟩

include hP hW hM hS

/-- The block of the gradient at a grid point. -/
theorem sum_block (t : Fin cfg0.N) : k0_pay5 (F := Ideal) (iblk m c 0 t) (iblk m c 1 t) (iblk m c 2 t) (iblk m c 3 t)
    = E2 (n := 1) (m := 8576) (φ := .f32) fun a b => gradE P (1 * t.val + a) b := by
  rw [blk0 m c P hP]
  exact grad_block (fun s a b => P s (1 * t.val + a) b) _ _ _

/-- The block of the first moment at a grid point. -/
theorem mom_point (t : Fin cfg0.N) : k0_pay6 (F := Ideal) (iblk m c 0 t) (iblk m c 1 t) (iblk m c 2 t) (iblk m c 3 t)
    = E2 (n := 1) (m := 8576) (φ := .f32) fun a b => momS (gradE P (1 * t.val + a) b) (M (1 * t.val + a) b) := by
  rw [blk0 m c P hP, blk2 m c M hM]
  exact mom_block (fun s a b => P s (1 * t.val + a) b) (fun a b => M (1 * t.val + a) b) _ _

/-- What a grid point writes of the gradient. -/
theorem written4 (t : Fin cfg0.N) : out0_4 (F := Ideal) (iblk m c 0 t) (iblk m c 1 t) (iblk m c 2 t) (iblk m c 3 t)
    = E2 (n := 1) (m := 8576) (φ := .f32) fun a b => gradE P (1 * t.val + a) b := by
  unfold out0_4
  rw [View.canon_unit_zero off2]
  rw [sum_block m c P W M S hP hW hM hS]

/-- The array of the gradient after the run. -/
theorem result4 : ((dats m 0 c).arrAt 4 cfg0.N : S1x8576.Idx → EReal) = E2 (n := 1) (m := 8576) (φ := .f32) fun a b => gradE P a b := by
  refine (dats m 0 c).arrAt_eq_of_cover 4 (E2 (n := 1) (m := 8576) (φ := .f32) fun a b => gradE P a b) ?_ ?_
  · intro t _
    rw [flushed4, written4 m c P W M S hP hW hM hS]
    funext y
    obtain ⟨e0, e1⟩ := emb4 t y
    show gradE P (1 * t.val + (y 0).val) (y 1).val
      = gradE P (((cfg0.win 4).rect t).emb y (0 : Fin 2)).val (((cfg0.win 4).rect t).emb y (1 : Fin 2)).val
    rw [e0, e1]
  · exact (show (cfg0.win 4).Covers by decide +kernel).cover _ (Memref.isWhole_whole _)

/-- What a grid point writes of the change of the weights. -/
theorem written5 (t : Fin cfg0.N) : out0_5 (F := Ideal) (iblk m c 0 t) (iblk m c 1 t) (iblk m c 2 t) (iblk m c 3 t)
    = E2 (n := 1) (m := 8576) (φ := .f32) fun a b => deltaS (gradE P (1 * t.val + a) b) (W (1 * t.val + a) b) (M (1 * t.val + a) b) (S (1 * t.val + a) b) := by
  unfold out0_5
  rw [View.canon_unit_zero off2]
  rw [sum_block m c P W M S hP hW hM hS, mom_point m c P W M S hP hW hM hS, blk1 m c W hW, blk3 m c S hS]
  simp only [View.ld_unit_zero (S := S1x8576) off2]
  exact delta_block _ _ _ _

/-- The array of the change of the weights after the run. -/
theorem result5 : ((dats m 0 c).arrAt 5 cfg0.N : S1x8576.Idx → EReal) = E2 (n := 1) (m := 8576) (φ := .f32) fun a b => deltaS (gradE P a b) (W a b) (M a b) (S a b) := by
  refine (dats m 0 c).arrAt_eq_of_cover 5 (E2 (n := 1) (m := 8576) (φ := .f32) fun a b => deltaS (gradE P a b) (W a b) (M a b) (S a b)) ?_ ?_
  · intro t _
    rw [flushed5, written5 m c P W M S hP hW hM hS]
    funext y
    obtain ⟨e0, e1⟩ := emb5 t y
    show deltaS (gradE P (1 * t.val + (y 0).val) (y 1).val) (W (1 * t.val + (y 0).val) (y 1).val) (M (1 * t.val + (y 0).val) (y 1).val) (S (1 * t.val + (y 0).val) (y 1).val)
      = deltaS (gradE P (((cfg0.win 5).rect t).emb y (0 : Fin 2)).val (((cfg0.win 5).rect t).emb y (1 : Fin 2)).val) (W (((cfg0.win 5).rect t).emb y (0 : Fin 2)).val (((cfg0.win 5).rect t).emb y (1 : Fin 2)).val) (M (((cfg0.win 5).rect t).emb y (0 : Fin 2)).val (((cfg0.win 5).rect t).emb y (1 : Fin 2)).val) (S (((cfg0.win 5).rect t).emb y (0 : Fin 2)).val (((cfg0.win 5).rect t).emb y (1 : Fin 2)).val)
    rw [e0, e1]
  · exact (show (cfg0.win 5).Covers by decide +kernel).cover _ (Memref.isWhole_whole _)

/-- What a grid point writes of the first moment. -/
theorem written6 (t : Fin cfg0.N) : out0_6 (F := Ideal) (iblk m c 0 t) (iblk m c 1 t) (iblk m c 2 t) (iblk m c 3 t)
    = E2 (n := 1) (m := 8576) (φ := .f32) fun a b => momS (gradE P (1 * t.val + a) b) (M (1 * t.val + a) b) := by
  unfold out0_6
  rw [View.canon_unit_zero off2]
  rw [mom_point m c P W M S hP hW hM hS]

/-- The array of the first moment after the run. -/
theorem result6 : ((dats m 0 c).arrAt 6 cfg0.N : S1x8576.Idx → EReal) = E2 (n := 1) (m := 8576) (φ := .f32) fun a b => momS (gradE P a b) (M a b) := by
  refine (dats m 0 c).arrAt_eq_of_cover 6 (E2 (n := 1) (m := 8576) (φ := .f32) fun a b => momS (gradE P a b) (M a b)) ?_ ?_
  · intro t _
    rw [flushed6, written6 m c P W M S hP hW hM hS]
    funext y
    obtain ⟨e0, e1⟩ := emb6 t y
    show momS (gradE P (1 * t.val + (y 0).val) (y 1).val) (M (1 * t.val + (y 0).val) (y 1).val)
      = momS (gradE P (((cfg0.win 6).rect t).emb y (0 : Fin 2)).val (((cfg0.win 6).rect t).emb y (1 : Fin 2)).val) (M (((cfg0.win 6).rect t).emb y (0 : Fin 2)).val (((cfg0.win 6).rect t).emb y (1 : Fin 2)).val)
    rw [e0, e1]
  · exact (show (cfg0.win 6).Covers by decide +kernel).cover _ (Memref.isWhole_whole _)

/-- What a grid point writes of the second moment. -/
theorem written7 (t : Fin cfg0.N) : out0_7 (F := Ideal) (iblk m c 0 t) (iblk m c 1 t) (iblk m c 2 t) (iblk m c 3 t)
    = E2 (n := 1) (m := 8576) (φ := .f32) fun a b => sqS (gradE P (1 * t.val + a) b) (S (1 * t.val + a) b) := by
  unfold out0_7
  rw [View.canon_unit_zero off2]
  rw [sum_block m c P W M S hP hW hM hS, blk3 m c S hS]
  simp only [View.ld_unit_zero (S := S1x8576) off2]
  rw [sq_block]

/-- The array of the second moment after the run. -/
theorem result7 : ((dats m 0 c).arrAt 7 cfg0.N : S1x8576.Idx → EReal) = E2 (n := 1) (m := 8576) (φ := .f32) fun a b => sqS (gradE P a b) (S a b) := by
  refine (dats m 0 c).arrAt_eq_of_cover 7 (E2 (n := 1) (m := 8576) (φ := .f32) fun a b => sqS (gradE P a b) (S a b)) ?_ ?_
  · intro t _
    rw [flushed7, written7 m c P W M S hP hW hM hS]
    funext y
    obtain ⟨e0, e1⟩ := emb7 t y
    show sqS (gradE P (1 * t.val + (y 0).val) (y 1).val) (S (1 * t.val + (y 0).val) (y 1).val)
      = sqS (gradE P (((cfg0.win 7).rect t).emb y (0 : Fin 2)).val (((cfg0.win 7).rect t).emb y (1 : Fin 2)).val) (S (((cfg0.win 7).rect t).emb y (0 : Fin 2)).val (((cfg0.win 7).rect t).emb y (1 : Fin 2)).val)
    rw [e0, e1]
  · exact (show (cfg0.win 7).Covers by decide +kernel).cover _ (Memref.isWhole_whole _)

end run

/-! ## The reference -/

section ref
open Cert.Reference16Ideal.Read
variable (x : (⟨S8x1x8576, .f32⟩ : BufTy).Contents (Elt Ideal)) (w mo sq : (⟨S1x8576, .f32⟩ : BufTy).Contents (Elt Ideal))
  (P : ℕ → ℕ → ℕ → EReal) (W M S : ℕ → ℕ → EReal)
  (hP : ∀ i : S8x1x8576.Idx, x i = P (i 0).val (i 1).val (i 2).val)
  (hW : ∀ i : S1x8576.Idx, w i = W (i 0).val (i 1).val)
  (hM : ∀ i : S1x8576.Idx, mo i = M (i 0).val (i 1).val) (hS : ∀ i : S1x8576.Idx, sq i = S (i 0).val (i 1).val)
include hP

/-- The sum of the shares at an index. -/
theorem ref_grad (i : S1x8576.Idx) : val_main_v0 (F := Ideal) x i = gradE P (i 0).val (i 1).val := by
  rw [val_main_v0_apply, val_main_cst_apply]
  show Ideal.ofBits .f32 0x00000000#32 + _ = _
  rw [Ideal.ofBits_zero_f32, zero_add]
  exact Finset.sum_congr rfl fun s _ => hP (idx_main_v0 i s)

include hM in
/-- The first moment at an index. -/
theorem ref_mom (i : S1x8576.Idx) : val_main_v5 (F := Ideal) x mo i = momS (gradE P (i 0).val (i 1).val) (M (i 0).val (i 1).val) := by
  rw [val_main_v5_apply, val_main_v2_apply, val_main_v4_apply, val_main_v1_apply, val_main_v3_apply, val_main_cst_0_apply, val_main_cst_1_apply,
    ref_grad x P hP, hM]
  rfl

include hS in
/-- The second moment at an index. -/
theorem ref_sq (i : S1x8576.Idx) : val_main_v11 (F := Ideal) x sq i = sqS (gradE P (i 0).val (i 1).val) (S (i 0).val (i 1).val) := by
  rw [val_main_v11_apply, val_main_v7_apply, val_main_v10_apply, val_main_v8_apply, val_main_v6_apply, val_main_v9_apply, val_main_cst_2_apply,
    val_main_cst_3_apply, ref_grad x P hP, hS]
  rfl

include hW hM hS in
/-- The change of the weights at an index. -/
theorem ref_delta (i : S1x8576.Idx) : val_main_v24 (F := Ideal) x w mo sq i
    = deltaS (gradE P (i 0).val (i 1).val) (W (i 0).val (i 1).val) (M (i 0).val (i 1).val) (S (i 0).val (i 1).val) := by
  rw [val_main_v24_apply, val_main_v23_apply, val_main_cst_8_apply, val_main_v22_apply, val_main_v21_apply, val_main_v20_apply, val_main_cst_7_apply,
    val_main_v19_apply, val_main_v18_apply, val_main_v17_apply, val_main_cst_6_apply, val_main_v16_apply, val_main_v15_apply, val_main_v14_apply,
    val_main_cst_5_apply, val_main_v13_apply, val_main_v12_apply, val_main_cst_4_apply, ref_mom x mo P M hP hM, ref_sq x sq P S hP hS, hW]
  rfl

end ref

/-! ## The claim -/

/-- The kernel's results are the reference's. -/
theorem algebraic : Cert.algebraic_Kernel16Ideal_Reference16Ideal := by
  intro m ρ m' ρ' _ hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, (θ_run _ _ _).mono (fun r h c => ?_) (Cert.Reference16Ideal.Value.run m' ρ')⟩
  obtain ⟨h0, h1, h2, h3, kept⟩ := h c
  obtain ⟨e0, e1, e2, e3⟩ := hargs c
  obtain ⟨P, hP⟩ := entries3 (d := ![8, 1, 8576]) (m ((c.tc : Thread nD τ).loc main_arg0))
  obtain ⟨W, hW⟩ := entries (d := ![1, 8576]) (m ((c.tc : Thread nD τ).loc main_arg1))
  obtain ⟨M, hM⟩ := entries (d := ![1, 8576]) (m ((c.tc : Thread nD τ).loc main_arg2))
  obtain ⟨S, hS⟩ := entries (d := ![1, 8576]) (m ((c.tc : Thread nD τ).loc main_arg3))
  have kP := fun i => (congrFun (V_main_arg0 m c) i).trans (hP i)
  have kW := fun i => (congrFun (V_main_arg1 m c) i).trans (hW i)
  have kM := fun i => (congrFun (V_main_arg2 m c) i).trans (hM i)
  have kS := fun i => (congrFun (V_main_arg3 m c) i).trans (hS i)
  refine ⟨h0.trans ((Cert.Reference16Ideal.Read.val_main_v0_eq _).trans (Eq.trans ?_ (result4 m c P W M S kP kW kM kS).symm)),
    h1.trans ((Cert.Reference16Ideal.Read.val_main_v24_eq _ _ _ _).trans (Eq.trans ?_ (result5 m c P W M S kP kW kM kS).symm)),
    h2.trans ((Cert.Reference16Ideal.Read.val_main_v5_eq _ _).trans (Eq.trans ?_ (result6 m c P W M S kP kW kM kS).symm)),
    h3.trans ((Cert.Reference16Ideal.Read.val_main_v11_eq _ _).trans (Eq.trans ?_ (result7 m c P W M S kP kW kM kS).symm)), kept⟩
  · rw [e0]; exact funext fun i => ref_grad _ P hP i
  · rw [e0, e1, e2, e3]; exact funext fun i => ref_delta _ _ _ _ P W M S hP hW hM hS i
  · rw [e0, e2]; exact funext fun i => ref_mom _ _ P M hP hM i
  · rw [e0, e3]; exact funext fun i => ref_sq _ _ P S hP hS i

/-- The reference's frame: its run read at the arguments; it declares no semaphore. -/
theorem reference_frame : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

end Cert.Proof.AdamVectors
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Fold
public import proofs.«01_k».proof.Proof.Match
public import proofs.«01_k».proof.Proof.Inputs
public import proofs.«01_k».proof.Proof.Host
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.GradUp
public import proofs.«01_k».proof.Proof.GradDown
public import proofs.«01_k».proof.Proof.DownBwd
public import proofs.«01_k».proof.Proof.MlpUp
public import proofs.«01_k».proof.Proof.UpBwd
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.GradOut
public import proofs.«01_k».proof.Proof.GradInAttn
public import proofs.«01_k».proof.Proof.GradInRwkv
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.DownLoss
public import proofs.«01_k».proof.Proof.AdamUp
public import proofs.«01_k».proof.Proof.AdamIn
public import proofs.«01_k».proof.Proof.AdamOut
public import proofs.«01_k».proof.Proof.AdamDown
public import proofs.«01_k».proof.Proof.AdamLora
public import proofs.«01_k».proof.Proof.AdamVectors
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Adequacy
public import Idealize.ShloMosaic.Init

/-!
The proof of `Cert.Claim`: the kernel's two results, the gradients of the queries, keys and values of sliding-window attention
in one array and the gradient of the sinks in the other, are what `jax.vjp` of the attention gives. The claims about the calls
of the MLP and of the optimiser, proved in the modules named after them, follow.
-/

@[expose] public section

namespace Cert.Proof

open Idealize.ShloMosaic Idealize.SL.Sem
open Cert.KernelIdeal (main_arg0 main_arg1 main_arg2 main_v87 main_v91)
open Cert.KernelIdeal.Gen (dats V V_main_arg0 V_main_arg2)

variable (m : (ℓ : Loc Cert.KernelIdeal.nD Cert.KernelIdeal.τ Cert.KernelIdeal.sig) → Buf (Elt Ideal) ℓ)
  (c : Dev Cert.KernelIdeal.nD)

/-- What the precondition says: every element of the arguments is a real number. -/
theorem args_finite [Cert.Pre_finite.Facts] (h : Cert.Pre_KernelIdeal_finite m) :
    (∀ i : Cert.KernelIdeal.S2x4096x768.Idx, Finite (m ((c.tc : Thread Cert.KernelIdeal.nD Cert.KernelIdeal.τ).loc main_arg0) i))
    ∧ (∀ i : Cert.KernelIdeal.S8.Idx, Finite (m ((c.tc : Thread Cert.KernelIdeal.nD Cert.KernelIdeal.τ).loc main_arg1) i))
    ∧ (∀ i : Cert.KernelIdeal.S2x4096x512.Idx, Finite (m ((c.tc : Thread Cert.KernelIdeal.nD Cert.KernelIdeal.τ).loc main_arg2) i)) :=
  ⟨fun i => finite_of_lt (congrFun (h c).1 i), fun i => finite_of_lt (congrFun (h c).2.1 i),
    fun i => finite_of_lt (congrFun (h c).2.2 i)⟩

/-- The arrays the kernel's run leaves are the reference's results at the kernel's arguments. -/
theorem values [Cert.Pre_finite.Facts] (h : Cert.Pre_KernelIdeal_finite m) :
    ((dats m 0 c).arrAt 8 Cert.KernelIdeal.cfg0.N : Cert.KernelIdeal.S2x4096x768.Idx → EReal)
      = Cert.ReferenceIdeal.Read.val_main_v195 (F := Ideal) (m ((c.tc : Thread Cert.KernelIdeal.nD Cert.KernelIdeal.τ).loc main_arg0))
          (m ((c.tc : Thread Cert.KernelIdeal.nD Cert.KernelIdeal.τ).loc main_arg1))
          (m ((c.tc : Thread Cert.KernelIdeal.nD Cert.KernelIdeal.τ).loc main_arg2))
    ∧ ((dats m 0 c).arrAt 9 Cert.KernelIdeal.cfg0.N : Cert.KernelIdeal.S1x128.Idx → EReal)
      = Cert.ReferenceIdeal.Read.val_main_v197 (F := Ideal) (m ((c.tc : Thread Cert.KernelIdeal.nD Cert.KernelIdeal.τ).loc main_arg0))
          (m ((c.tc : Thread Cert.KernelIdeal.nD Cert.KernelIdeal.τ).loc main_arg1))
          (m ((c.tc : Thread Cert.KernelIdeal.nD Cert.KernelIdeal.τ).loc main_arg2)) := by
  obtain ⟨f0, f1, f2⟩ := args_finite m c h
  obtain ⟨Z, hz⟩ := reals3 (d := ![2, 4096, 768]) _ f0
  obtain ⟨D, hd⟩ := reals3 (d := ![2, 4096, 512]) _ f2
  have kz : ∀ i : Cert.KernelIdeal.S2x4096x768.Idx, V m c main_arg0 i = ((Z (i 0) (i 1) (i 2) : ℝ) : EReal) := fun i =>
    (congrFun (V_main_arg0 m c) i).trans (hz i)
  have kd : ∀ i : Cert.KernelIdeal.S2x4096x512.Idx, V m c main_arg2 i = ((D (i 0) (i 1) (i 2) : ℝ) : EReal) := fun i =>
    (congrFun (V_main_arg2 m c) i).trans (hd i)
  have kp : ∀ i : Cert.KernelIdeal.S2x32x8x128x256.Idx, V m c main_v87 i
      = ((probK (m ((c.tc : Thread Cert.KernelIdeal.nD Cert.KernelIdeal.τ).loc main_arg0))
          (m ((c.tc : Thread Cert.KernelIdeal.nD Cert.KernelIdeal.τ).loc main_arg1)) (i 0) (i 1) (i 2) (i 3) (i 4) : ℝ) : EReal) := fun i =>
    (congrFun (host87 fun b => m (c, b)) i).trans (probs_real _ _ Z hz f1 i)
  have ks : ∀ i : Cert.KernelIdeal.S2x4096x128.Idx, V m c main_v91 i
      = ((sinkK (m ((c.tc : Thread Cert.KernelIdeal.nD Cert.KernelIdeal.τ).loc main_arg0))
          (m ((c.tc : Thread Cert.KernelIdeal.nD Cert.KernelIdeal.τ).loc main_arg1)) (i 0) (i 1) (i 2) : ℝ) : EReal) := fun i =>
    (congrFun (host91 fun b => m (c, b)) i).trans (sinks_real _ _ Z hz f1 i)
  constructor
  · refine (arr8 m c Z D _ _ kz kd kp ks).trans (funext fun i => ?_)
    rw [rg195 _ _ _ Z D hz f1 hd]
    exact congrArg _ (blk_eq _ _ Z D hz f1 (i 0).val (i 1).val (i 2).val (i 0).isLt (i 1).isLt (i 2).isLt)
  · refine (arr9 m c Z D _ _ kz kd kp ks).trans (funext fun i => ?_)
    rw [rg197 _ _ _ Z D hz f1 hd]
    exact congrArg _ (sinks_eq _ _ Z D hz f1 (i 1).val)

/-- The kernel's results are the reference's. -/
theorem algebraic [Cert.Pre_finite.Facts] : Cert.algebraic_KernelIdeal_ReferenceIdeal_pre_finite := by
  intro m ρ m' ρ' hpre hargs
  refine ⟨fun c => (dats m 0 c).arrAt 8 Cert.KernelIdeal.cfg0.N, fun c => (dats m 0 c).arrAt 9 Cert.KernelIdeal.cfg0.N,
    Cert.KernelIdeal.Value.run_blocks m ρ, (θ_run _ _ _).mono (fun r h c => ?_) (Cert.ReferenceIdeal.Value.run m' ρ')⟩
  obtain ⟨h0, h1, k0, k1, k2⟩ := h c
  obtain ⟨e0, e1, e2⟩ := hargs c
  obtain ⟨v0, v1⟩ := values m c hpre
  refine ⟨h0.trans ((Cert.ReferenceIdeal.Read.val_main_v195_eq _).trans (Eq.trans ?_ v0.symm)),
    h1.trans ((Cert.ReferenceIdeal.Read.val_main_v197_eq _).trans (Eq.trans ?_ v1.symm)), k0, k1, k2⟩
  · rw [← e0, ← e1, ← e2]
  · rw [← e0, ← e1, ← e2]

/-- The reference's frame: its run read at the arguments; it declares no semaphore. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The certificate's claims, in order. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, GradUp.reference_frame,
    fun m ρ _ => Cert.Kernel3.Gen.frame m ρ, fun m ρ _ => Cert.Kernel3Ideal.Gen.frame m ρ, GradDown.reference_frame,
    fun m ρ _ => Cert.Kernel4.Gen.frame m ρ, fun m ρ _ => Cert.Kernel4Ideal.Gen.frame m ρ, DownBwd.reference_frame,
    fun m ρ _ => Cert.Kernel5.Gen.frame m ρ, fun m ρ _ => Cert.Kernel5Ideal.Gen.frame m ρ, MlpUp.reference_frame,
    fun m ρ _ => Cert.Kernel6.Gen.frame m ρ, fun m ρ _ => Cert.Kernel6Ideal.Gen.frame m ρ, UpBwd.reference_frame,
    fun m ρ _ => Cert.Kernel7.Gen.frame m ρ, fun m ρ _ => Cert.Kernel7Ideal.Gen.frame m ρ, GradOut.reference_frame,
    fun m ρ _ => Cert.Kernel8.Gen.frame m ρ, fun m ρ _ => Cert.Kernel8Ideal.Gen.frame m ρ, GradInAttn.reference_frame,
    fun m ρ _ => Cert.Kernel9.Gen.frame m ρ, fun m ρ _ => Cert.Kernel9Ideal.Gen.frame m ρ, GradInRwkv.reference_frame,
    fun m ρ _ => Cert.Kernel10.Gen.frame m ρ, fun m ρ _ => Cert.Kernel10Ideal.Gen.frame m ρ, DownLoss.reference_frame,
    fun m ρ _ => Cert.Kernel11.Gen.frame m ρ, fun m ρ _ => Cert.Kernel11Ideal.Gen.frame m ρ, AdamUp.reference_frame,
    fun m ρ _ => Cert.Kernel12.Gen.frame m ρ, fun m ρ _ => Cert.Kernel12Ideal.Gen.frame m ρ, AdamIn.reference_frame,
    fun m ρ _ => Cert.Kernel13.Gen.frame m ρ, fun m ρ _ => Cert.Kernel13Ideal.Gen.frame m ρ, AdamOut.reference_frame,
    fun m ρ _ => Cert.Kernel14.Gen.frame m ρ, fun m ρ _ => Cert.Kernel14Ideal.Gen.frame m ρ, AdamDown.reference_frame,
    fun m ρ _ => Cert.Kernel15.Gen.frame m ρ, fun m ρ _ => Cert.Kernel15Ideal.Gen.frame m ρ, AdamLora.reference_frame,
    fun m ρ _ => Cert.Kernel16.Gen.frame m ρ, fun m ρ _ => Cert.Kernel16Ideal.Gen.frame m ρ, AdamVectors.reference_frame,
    trivial, algebraic, trivial, GradUp.algebraic, trivial, GradDown.algebraic, trivial, DownBwd.algebraic, trivial, MlpUp.algebraic, trivial, UpBwd.algebraic, trivial, GradOut.algebraic, trivial, GradInAttn.algebraic, trivial, GradInRwkv.algebraic, trivial, DownLoss.algebraic,
    AdamUp.preserves, AdamUp.algebraic,
    AdamIn.preserves, AdamIn.algebraic,
    AdamOut.preserves, AdamOut.algebraic,
    AdamDown.preserves, AdamDown.algebraic,
    AdamLora.preserves, AdamLora.algebraic,
    AdamVectors.preserves, AdamVectors.algebraic⟩

end Cert.Proof
